-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v188) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite2.lean ====
abbrev S8x4096x1024 : Shape := ⟨3, ![8, 4096, 1024]⟩
abbrev S1x1024x2560 : Shape := ⟨3, ![1, 1024, 2560]⟩
abbrev S1x4x128x128 : Shape := ⟨4, ![1, 4, 128, 128]⟩
abbrev S1x512 : Shape := ⟨2, ![1, 512]⟩
abbrev S2x512 : Shape := ⟨2, ![2, 512]⟩
abbrev S1x128 : Shape := ⟨2, ![1, 128]⟩
abbrev S1x1024x1024 : Shape := ⟨3, ![1, 1024, 1024]⟩
abbrev S1x1024 : Shape := ⟨2, ![1, 1024]⟩
abbrev S_ : Shape := ⟨0, ![]⟩

class Facts : Prop where
  bcast_S_S8x4096x1024 : S_.BroadcastsInDim S8x4096x1024 (![] : Fin 0 → Fin S8x4096x1024.rank)
  bcast_S_S1x1024x2560 : S_.BroadcastsInDim S1x1024x2560 (![] : Fin 0 → Fin S1x1024x2560.rank)
  bcast_S_S2x512 : S_.BroadcastsInDim S2x512 (![] : Fin 0 → Fin S2x512.rank)

variable [Facts]

def fn {F : FTy → Type} [FloatOps F] (main_arg0 : FVec F S8x4096x1024 .f32) (main_arg1 : FVec F S1x1024x2560 .f32) (main_arg2 : FVec F S1x4x128x128 .f32) (main_arg3 : FVec F S1x512 .f32) (main_arg4 : FVec F S2x512 .f32) (main_arg5 : FVec F S1x128 .f32) (main_arg6 : FVec F S1x1024x1024 .f32) (main_arg7 : FVec F S1x1024 .f32) (main_arg8 : FVec F S1x1024 .f32) : IVec S8x4096x1024 1 × IVec S1x1024x2560 1 × IVec S2x512 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1x1024x2560 .f32 := Host.absf main_arg1
  let main_cst_0 : FVec F S_ .f32 := constant S_ .f32 0x7F800000#32
  let main_v4 : FVec F S1x1024x2560 .f32 := broadcastInDim S1x1024x2560 ![] bcast_S_S1x1024x2560 main_cst_0
  let main_v5 : IVec S1x1024x2560 1 := cmpf .olt main_v3 main_v4
  let main_v6 : FVec F S2x512 .f32 := Host.absf main_arg4
  let main_cst_1 : FVec F S_ .f32 := constant S_ .f32 0x7F800000#32
  let main_v7 : FVec F S2x512 .f32 := broadcastInDim S2x512 ![] bcast_S_S2x512 main_cst_1
  let main_v8 : IVec S2x512 1 := cmpf .olt main_v6 main_v7
  (main_v2, main_v5, main_v8)
-- ==== Kernel.lean ====
abbrev S8x4096x1024 : Shape := ⟨3, ![8, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S2x256x1024 : Shape := ⟨3, ![2, 256, 1024]⟩
abbrev S2x2x8x5632 : Shape := ⟨4, ![2, 2, 8, 5632]⟩
abbrev S2x8x256x128 : Shape := ⟨4, ![2, 8, 256, 128]⟩
abbrev S2x256x2816 : Shape := ⟨3, ![2, 256, 2816]⟩
abbrev S1x256x128 : Shape := ⟨3, ![1, 256, 128]⟩
abbrev S256x128 : Shape := ⟨2, ![256, 128]⟩
abbrev S1x1x256x128 : Shape := ⟨4, ![1, 1, 256, 128]⟩
abbrev S1x1x32x128 : Shape := ⟨4, ![1, 1, 32, 128]⟩
abbrev S32x128 : Shape := ⟨2, ![32, 128]⟩
abbrev S32x1024 : Shape := ⟨2, ![32, 1024]⟩
abbrev S256x1024 : Shape := ⟨2, ![256, 1024]⟩
abbrev S1024x256 : Shape := ⟨2, ![1024, 256]⟩
abbrev S256x256 : Shape := ⟨2, ![256, 256]⟩
abbrev S32x256 : Shape := ⟨2, ![32, 256]⟩
abbrev S1x1x8x256 : Shape := ⟨4, ![1, 1, 8, 256]⟩
abbrev S8x256 : Shape := ⟨2, ![8, 256]⟩
abbrev S40x256 : Shape := ⟨2, ![40, 256]⟩
abbrev S224x256 : Shape := ⟨2, ![224, 256]⟩
abbrev S192x256 : Shape := ⟨2, ![192, 256]⟩
abbrev S3x256 : Shape := ⟨2, ![3, 256]⟩
abbrev S1x256 : Shape := ⟨2, ![1, 256]⟩
abbrev S1x256x256 : Shape := ⟨3, ![1, 256, 256]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S3x5632, .f32⟩
  | .hbm, ⟨10, _⟩ => ⟨S2816x1024, .f32⟩
  | .hbm, ⟨11, _⟩ => ⟨S2816x1024, .bf16⟩
  | .hbm, ⟨12, _⟩ => ⟨S8x4096x1024, .f32⟩
  | .local _ .vmem, ⟨0, _⟩ => ⟨S2x256x1024, .f32⟩
  | .local _ .vmem, ⟨1, _⟩ => ⟨S2x256x1024, .f32⟩
  | .local _ .vmem, ⟨2, _⟩ => ⟨S1024x5632, .bf16⟩
  | .local _ .vmem, ⟨3, _⟩ => ⟨S3x5632, .f32⟩
  | .local _ .vmem, ⟨4, _⟩ => ⟨S1x5632, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S2x256x1024, .f32⟩
  | .local _ .vmem, ⟨9, _⟩ => ⟨S2x256x1024, .f32⟩
  | .local _ .vmem, ⟨10, _⟩ => ⟨S2x2x8x5632, .f32⟩
  | .local _ .vmem, ⟨11, _⟩ => ⟨S2x8x256x128, .f32⟩
  | .local _ .vmem, ⟨12, _⟩ => ⟨S2x8x256x128, .f32⟩
  | .local _ .vmem, ⟨13, _⟩ => ⟨S2x256x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x4096x1024 : Shape := ⟨3, ![8, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x4096x5632 : Shape := ⟨3, ![8, 4096, 5632]⟩
abbrev S_ : Shape := ⟨0, ![]⟩
abbrev S8x4098x5632 : Shape := ⟨3, ![8, 4098, 5632]⟩
abbrev S1x1x5632 : Shape := ⟨3, ![1, 1, 5632]⟩
abbrev S8x4096x2816 : Shape := ⟨3, ![8, 4096, 2816]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S8x4096x5632, .f32⟩
  | .hbm, ⟨12, _⟩ => ⟨S_, .i32⟩
  | .hbm, ⟨13, _⟩ => ⟨S_, .f32⟩
  | .hbm, ⟨14, _⟩ => ⟨S8x4098x5632, .f32⟩
  | .hbm, ⟨15, _⟩ => ⟨S1x5632, .f32⟩
  | .hbm, ⟨16, _⟩ => ⟨S5632, .f32⟩
  | .hbm, ⟨17, _⟩ => ⟨S8x4096x5632, .f32⟩
  | .hbm, ⟨18, _⟩ => ⟨S1x1x5632, .f32⟩
  | .hbm, ⟨19, _⟩ => ⟨S8x4096x5632, .f32⟩
  | .hbm, ⟨20, _⟩ => ⟨S8x4096x5632, .f32⟩
  | .hbm, ⟨21, _⟩ => ⟨S_, .f32⟩
  | .hbm, ⟨22, _⟩ => ⟨S8x4096x5632, .f32⟩
  | .hbm, ⟨23, _⟩ => ⟨S8x4096x5632, .f32⟩
  | .hbm, ⟨24, _⟩ => ⟨S1x5632, .f32⟩
  | .hbm, ⟨25, _⟩ => ⟨S5632, .f32⟩
  | .hbm, ⟨26, _⟩ => ⟨S8x4096x5632, .f32⟩
  | .hbm, ⟨27, _⟩ => ⟨S1x1x5632, .f32⟩
  | .hbm, ⟨28, _⟩ => ⟨S8x4096x5632, .f32⟩
  | .hbm, ⟨29, _⟩ => ⟨S8x4096x5632, .f32⟩
  | .hbm, ⟨30, _⟩ => ⟨S8x4096x5632, .f32⟩
  | .hbm, ⟨31, _⟩ => ⟨S1x5632, .f32⟩
  | .hbm, ⟨32, _⟩ => ⟨S5632, .f32⟩
  | .hbm, ⟨33, _⟩ => ⟨S8x4096x5632, .f32⟩
  | .hbm, ⟨34, _⟩ => ⟨S1x1x5632, .f32⟩
  | .hbm, ⟨35, _⟩ => ⟨S8x4096x5632, .f32⟩
  | .hbm, ⟨36, _⟩ => ⟨S8x4096x5632, .f32⟩
  | .hbm, ⟨37, _⟩ => ⟨S8x4096x5632, .f32⟩
  | .hbm, ⟨38, _⟩ => ⟨S1x1x5632, .f32⟩
  | .hbm, ⟨39, _⟩ => ⟨S8x4096x5632, .f32⟩
  | .hbm, ⟨40, _⟩ => ⟨S8x4096x5632, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S_, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S_, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x1024, .f32⟩
  | .hbm, ⟨62, _⟩ => ⟨S_, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S_, .f32⟩
  | .hbm, ⟨81, _⟩ => ⟨S8x4096x1, .f32⟩
  | .hbm, ⟨82, _⟩ => ⟨S8x4096x1, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096x1, .f32⟩
  | .hbm, ⟨87, _⟩ => ⟨S8x4096x1, .f32⟩
  | .hbm, ⟨88, _⟩ => ⟨S8x4096x1, .f32⟩
  | .hbm, ⟨89, _⟩ => ⟨S8x4096x1024, .f32⟩
  | .hbm, ⟨90, _⟩ => ⟨S8x4096x1024, .f32⟩
  | .hbm, ⟨91, _⟩ => ⟨S1x1x1024, .f32⟩
  | .hbm, ⟨92, _⟩ => ⟨S8x4096x1024, .f32⟩
  | .hbm, ⟨93, _⟩ => ⟨S8x4096x1024, .f32⟩
  | .hbm, ⟨94, _⟩ => ⟨S1x1x1024, .f32⟩
  | .hbm, ⟨95, _⟩ => ⟨S8x4096x1024, .f32⟩
  | .hbm, ⟨96, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024x2560 : Shape := ⟨3, ![1, 1024, 2560]⟩
abbrev S1x4x128x128 : Shape := ⟨4, ![1, 4, 128, 128]⟩
abbrev S1x512 : Shape := ⟨2, ![1, 512]⟩
abbrev S2x512 : Shape := ⟨2, ![2, 512]⟩
abbrev S1x128 : Shape := ⟨2, ![1, 128]⟩
abbrev S1x1024x1024 : Shape := ⟨3, ![1, 1024, 1024]⟩
abbrev S1x1024 : Shape := ⟨2, ![1, 1024]⟩
abbrev S1024x2560 : Shape := ⟨2, ![1024, 2560]⟩
abbrev S4x128x128 : Shape := ⟨3, ![4, 128, 128]⟩
abbrev S1024x1024 : Shape := ⟨2, ![1024, 1024]⟩
abbrev S2x256x1024 : Shape := ⟨3, ![2, 256, 1024]⟩
abbrev S2x256x512 : Shape := ⟨3, ![2, 256, 512]⟩
abbrev S1 : Shape := ⟨1, ![1]⟩
abbrev S2x4x128x128 : Shape := ⟨4, ![2, 4, 128, 128]⟩
abbrev S2x16x512 : Shape := ⟨3, ![2, 16, 512]⟩
abbrev S512 : Shape := ⟨1, ![512]⟩
abbrev S256x1 : Shape := ⟨2, ![256, 1]⟩
abbrev S64x64 : Shape := ⟨2, ![64, 64]⟩
abbrev S1x256x1024 : Shape := ⟨3, ![1, 256, 1024]⟩
abbrev S256x1024 : Shape := ⟨2, ![256, 1024]⟩
abbrev S1024x512 : Shape := ⟨2, ![1024, 512]⟩
abbrev S256x512 : Shape := ⟨2, ![256, 512]⟩
abbrev S1x256x512 : Shape := ⟨3, ![1, 256, 512]⟩
abbrev S1x1x512 : Shape := ⟨3, ![1, 1, 512]⟩
abbrev S1x1x1 : Shape := ⟨3, ![1, 1, 1]⟩
abbrev S1x16x512 : Shape := ⟨3, ![1, 16, 512]⟩
abbrev S16x512 : Shape := ⟨2, ![16, 512]⟩
abbrev S272x512 : Shape := ⟨2, ![272, 512]⟩
abbrev S272x128 : Shape := ⟨2, ![272, 128]⟩
abbrev S256x128 : Shape := ⟨2, ![256, 128]⟩
abbrev S32x8x512 : Shape := ⟨3, ![32, 8, 512]⟩
abbrev S1x8x1 : Shape := ⟨3, ![1, 8, 1]⟩
abbrev S4x8x8x512 : Shape := ⟨4, ![4, 8, 8, 512]⟩
abbrev S4x1x8x512 : Shape := ⟨4, ![4, 1, 8, 512]⟩
abbrev S4x8x512 : Shape := ⟨3, ![4, 8, 512]⟩
abbrev S4x1x512 : Shape := ⟨3, ![4, 1, 512]⟩
abbrev S1x128x128 : Shape := ⟨3, ![1, 128, 128]⟩
abbrev S128x128 : Shape := ⟨2, ![128, 128]⟩
abbrev S4x2x32x512 : Shape := ⟨4, ![4, 2, 32, 512]⟩
abbrev S4x1x1x512 : Shape := ⟨4, ![4, 1, 1, 512]⟩
abbrev S4x1x32x512 : Shape := ⟨4, ![4, 1, 32, 512]⟩
abbrev S4x32x512 : Shape := ⟨3, ![4, 32, 512]⟩
abbrev S8x2x16x512 : Shape := ⟨4, ![8, 2, 16, 512]⟩
abbrev S8x1x1x512 : Shape := ⟨4, ![8, 1, 1, 512]⟩
abbrev S8x1x512 : Shape := ⟨3, ![8, 1, 512]⟩
abbrev S8x1x16x512 : Shape := ⟨4, ![8, 1, 16, 512]⟩
abbrev S8x16x512 : Shape := ⟨3, ![8, 16, 512]⟩
abbrev S4x4x16x512 : Shape := ⟨4, ![4, 4, 16, 512]⟩
abbrev S4x3x1x512 : Shape := ⟨4, ![4, 3, 1, 512]⟩
abbrev S4x4x1x512 : Shape := ⟨4, ![4, 4, 1, 512]⟩
abbrev S64x512 : Shape := ⟨2, ![64, 512]⟩
abbrev S64x128 : Shape := ⟨2, ![64, 128]⟩
abbrev S32x128 : Shape := ⟨2, ![32, 128]⟩
abbrev S16x128 : Shape := ⟨2, ![16, 128]⟩
abbrev S48x128 : Shape := ⟨2, ![48, 128]⟩
abbrev S64x384 : Shape := ⟨2, ![64, 384]⟩
abbrev S1x1x128x128 : Shape := ⟨4, ![1, 1, 128, 128]⟩
abbrev S256 : Shape := ⟨1, ![256]⟩
abbrev S16x2x8x512 : Shape := ⟨4, ![16, 2, 8, 512]⟩
abbrev S16x1x1x512 : Shape := ⟨4, ![16, 1, 1, 512]⟩
abbrev S16x1x512 : Shape := ⟨3, ![16, 1, 512]⟩
abbrev S16x1x8x512 : Shape := ⟨4, ![16, 1, 8, 512]⟩
abbrev S16x8x512 : Shape := ⟨3, ![16, 8, 512]⟩
abbrev S32x1x512 : Shape := ⟨3, ![32, 1, 512]⟩

abbrev nBuf : Space → Nat
  | .hbm => 16
  | .vmem => 17
  | .smem => 1
  | _ => 0

abbrev bufTy : (tb : Table) → Fin (tcTables nBuf tb) → BufTy
  | .hbm, ⟨0, _⟩ => ⟨S8x4096x1024, .f32⟩
  | .hbm, ⟨1, _⟩ => ⟨S1x1024x2560, .f32⟩
  | .hbm, ⟨2, _⟩ => ⟨S1x4x128x128, .f32⟩
  | .hbm, ⟨3, _⟩ => ⟨S1x512, .f32⟩
  | .hbm, ⟨4, _⟩ => ⟨S2x512, .f32⟩
  | .hbm, ⟨5, _⟩ => ⟨S1x128, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1024x2560, .f32⟩
  | .hbm, ⟨10, _⟩ => ⟨S1024x2560, .bf16⟩
  | .hbm, ⟨11, _⟩ => ⟨S4x128x128, .f32⟩
  | .hbm, ⟨12, _⟩ => ⟨S4x128x128, .bf16⟩
  | .hbm, ⟨13, _⟩ => ⟨S1024x1024, .f32⟩
  | .hbm, ⟨14, _⟩ => ⟨S1024x1024, .bf16⟩
  | .hbm, ⟨15, _⟩ => ⟨S8x4096x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S1024x2560, .bf16⟩
  | .local _ .vmem, ⟨5, _⟩ => ⟨S4x128x128, .bf16⟩
  | .local _ .vmem, ⟨6, _⟩ => ⟨S1x512, .f32⟩
  | .local _ .vmem, ⟨7, _⟩ => ⟨S2x512, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S2x256x1024, .f32⟩
  | .local _ .vmem, ⟨13, _⟩ => ⟨S2x256x1024, .f32⟩
  | .local _ .vmem, ⟨14, _⟩ => ⟨S2x256x512, .f32⟩
  | .local _ .vmem, ⟨15, _⟩ => ⟨S2x4x128x128, .f32⟩
  | .local _ .vmem, ⟨16, _⟩ => ⟨S2x16x512, .f32⟩
  | .local _ .smem, ⟨0, _⟩ => ⟨S1, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c16_i32_0 : BitVec 32 := 16#32
  let v4 : BitVec 32 := Scalar.divsi v3 c16_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c16_i32_0 c0_i32_2
  let v11 : BitVec 32 := Scalar.extui v10
  let c0_i32_3 : BitVec 32 := 0#32
  let v12 : BitVec 1 := Scalar.cmpi .slt c16_i32_0 c0_i32_3
  let v13 : BitVec 32 := Scalar.extui v12
  let v14 : BitVec 32 := Scalar.subi v11 v13
  let v15 : BitVec 1 := Scalar.cmpi .ne v9 v14
  let v16 : BitVec 32 := Scalar.remsi v3 c16_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  ![v20.toNat, v30.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8x4096x1024 : Shape := ⟨3, ![8, 4096, 1024]⟩
abbrev S1x1024x2560 : Shape := ⟨3, ![1, 1024, 2560]⟩
abbrev S1x4x128x128 : Shape := ⟨4, ![1, 4, 128, 128]⟩
abbrev S1x512 : Shape := ⟨2, ![1, 512]⟩
abbrev S2x512 : Shape := ⟨2, ![2, 512]⟩
abbrev S1x128 : Shape := ⟨2, ![1, 128]⟩
abbrev S1x1024x1024 : Shape := ⟨3, ![1, 1024, 1024]⟩
abbrev S1x1024 : Shape := ⟨2, ![1, 1024]⟩
abbrev S_ : Shape := ⟨0, ![]⟩
abbrev S512 : Shape := ⟨1, ![512]⟩
abbrev S1024x2560 : Shape := ⟨2, ![1024, 2560]⟩
abbrev S8x4096x2560 : Shape := ⟨3, ![8, 4096, 2560]⟩
abbrev S8x4096x512 : Shape := ⟨3, ![8, 4096, 512]⟩
abbrev S4x128x128 : Shape := ⟨3, ![4, 128, 128]⟩
abbrev S8x4097x512 : Shape := ⟨3, ![8, 4097, 512]⟩
abbrev S4096 : Shape := ⟨1, ![4096]⟩
abbrev S8x4097x128 : Shape := ⟨3, ![8, 4097, 128]⟩
abbrev S8x4098x128 : Shape := ⟨3, ![8, 4098, 128]⟩
abbrev S8x4096x128 : Shape := ⟨3, ![8, 4096, 128]⟩
abbrev S1x4096x1 : Shape := ⟨3, ![1, 4096, 1]⟩
abbrev S1x128x128 : Shape := ⟨3, ![1, 128, 128]⟩
abbrev S128x128 : Shape := ⟨2, ![128, 128]⟩
abbrev S8x4100x128 : Shape := ⟨3, ![8, 4100, 128]⟩
abbrev S8x4104x128 : Shape := ⟨3, ![8, 4104, 128]⟩
abbrev S8x4112x128 : Shape := ⟨3, ![8, 4112, 128]⟩
abbrev S1x1x512 : Shape := ⟨3, ![1, 1, 512]⟩
abbrev S128 : Shape := ⟨1, ![128]⟩
abbrev S8x4096x4x128 : Shape := ⟨4, ![8, 4096, 4, 128]⟩
abbrev S8x4x4096x128 : Shape := ⟨4, ![8, 4, 4096, 128]⟩
abbrev S4096x4096 : Shape := ⟨2, ![4096, 4096]⟩
abbrev S8x4x4096x1x128 : Shape := ⟨5, ![8, 4, 4096, 1, 128]⟩
abbrev S8x4x1x4096x128 : Shape := ⟨5, ![8, 4, 1, 4096, 128]⟩
abbrev S8x4x4096x4096x128 : Shape := ⟨5, ![8, 4, 4096, 4096, 128]⟩
abbrev S4096x4096x1 : Shape := ⟨3, ![4096, 4096, 1]⟩
abbrev S8x4x4096x4096 : Shape := ⟨4, ![8, 4, 4096, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S1024x1024 : Shape := ⟨2, ![1024, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 265
  | .vmem => 0
  | .smem => 0
  | _ => 0

abbrev hbmTy0_0 (i : Nat) : BufTy := match i % 128 with
  | 0 => ⟨S8x4096x1024, .f32⟩
  | 1 => ⟨S1x1024x2560, .f32⟩
  | 2 => ⟨S1x4x128x128, .f32⟩
  | 3 => ⟨S1x512, .f32⟩
  | 4 => ⟨S2x512, .f32⟩
  | 5 => ⟨S1x128, .f32⟩
  | 6 => ⟨S1x1024x1024, .f32⟩
  | 7 => ⟨S1x1024, .f32⟩
  | 8 => ⟨S1x1024, .f32⟩
  | 9 => ⟨S_, .f32⟩
  | 10 => ⟨S512, .f32⟩
  | 11 => ⟨S_, .f32⟩
  | 12 => ⟨S512, .f32⟩
  | 13 => ⟨S512, .f32⟩
  | 14 => ⟨S1x512, .f32⟩
  | 15 => ⟨S2x512, .f32⟩
  | 16 => ⟨S2x512, .f32⟩
  | 17 => ⟨S2x512, .f32⟩
  | 18 => ⟨S_, .f32⟩
  | 19 => ⟨S512, .f32⟩
  | 20 => ⟨S1x512, .f32⟩
  | 21 => ⟨S2x512, .f32⟩
  | 22 => ⟨S2x512, .f32⟩
  | 23 => ⟨S_, .f32⟩
  | 24 => ⟨S_, .f32⟩
  | 25 => ⟨S2x512, .f32⟩
  | 26 => ⟨S1024x2560, .f32⟩
  | 27 => ⟨S8x4096x2560, .f32⟩
  | 28 => ⟨S8x4096x512, .f32⟩
  | 29 => ⟨S8x4096x512, .f32⟩
  | 30 => ⟨S8x4096x512, .f32⟩
  | 31 => ⟨S8x4096x512, .f32⟩
  | 32 => ⟨S8x4096x512, .f32⟩
  | 33 => ⟨S4x128x128, .f32⟩
  | 34 => ⟨S512, .f32⟩
  | 35 => ⟨S_, .f32⟩
  | 36 => ⟨S_, .f32⟩
  | 37 => ⟨S8x4096x512, .f32⟩
  | 38 => ⟨S_, .i32⟩
  | 39 => ⟨S_, .f32⟩
  | 40 => ⟨S8x4097x512, .f32⟩
  | 41 => ⟨S4096, .i32⟩
  | 42 => ⟨S_, .i32⟩
  | 43 => ⟨S4096, .i32⟩
  | 44 => ⟨S4096, .i32⟩
  | 45 => ⟨S4096, .f32⟩
  | 46 => ⟨S8x4097x128, .f32⟩
  | 47 => ⟨S_, .i32⟩
  | 48 => ⟨S_, .f32⟩
  | 49 => ⟨S8x4098x128, .f32⟩
  | 50 => ⟨S8x4096x128, .f32⟩
  | 51 => ⟨S8x4096x128, .f32⟩
  | 52 => ⟨S8x4096x128, .f32⟩
  | 53 => ⟨S_, .f32⟩
  | 54 => ⟨S4096, .f32⟩
  | 55 => ⟨S4096, .f32⟩
  | 56 => ⟨S1x4096x1, .f32⟩
  | 57 => ⟨S8x4096x128, .f32⟩
  | 58 => ⟨S8x4096x128, .f32⟩
  | 59 => ⟨S8x4096x128, .f32⟩
  | 60 => ⟨S8x4096x128, .f32⟩
  | 61 => ⟨S1x128x128, .f32⟩
  | 62 => ⟨S128x128, .f32⟩
  | 63 => ⟨S8x4096x128, .f32⟩
  | 64 => ⟨S8x4097x128, .f32⟩
  | 65 => ⟨S_, .i32⟩
  | 66 => ⟨S_, .f32⟩
  | 67 => ⟨S8x4100x128, .f32⟩
  | 68 => ⟨S8x4096x128, .f32⟩
  | 69 => ⟨S8x4096x128, .f32⟩
  | 70 => ⟨S8x4096x128, .f32⟩
  | 71 => ⟨S_, .f32⟩
  | 72 => ⟨S4096, .f32⟩
  | 73 => ⟨S4096, .f32⟩
  | 74 => ⟨S1x4096x1, .f32⟩
  | 75 => ⟨S8x4096x128, .f32⟩
  | 76 => ⟨S8x4096x128, .f32⟩
  | 77 => ⟨S8x4096x128, .f32⟩
  | 78 => ⟨S8x4096x128, .f32⟩
  | 79 => ⟨S1x128x128, .f32⟩
  | 80 => ⟨S128x128, .f32⟩
  | 81 => ⟨S8x4096x128, .f32⟩
  | 82 => ⟨S8x4097x128, .f32⟩
  | 83 => ⟨S_, .i32⟩
  | 84 => ⟨S_, .f32⟩
  | 85 => ⟨S8x4104x128, .f32⟩
  | 86 => ⟨S8x4096x128, .f32⟩
  | 87 => ⟨S8x4096x128, .f32⟩
  | 88 => ⟨S8x4096x128, .f32⟩
  | 89 => ⟨S_, .f32⟩
  | 90 => ⟨S4096, .f32⟩
  | 91 => ⟨S4096, .f32⟩
  | 92 => ⟨S1x4096x1, .f32⟩
  | 93 => ⟨S8x4096x128, .f32⟩
  | 94 => ⟨S8x4096x128, .f32⟩
  | 95 => ⟨S8x4096x128, .f32⟩
  | 96 => ⟨S8x4096x128, .f32⟩
  | 97 => ⟨S1x128x128, .f32⟩
  | 98 => ⟨S128x128, .f32⟩
  | 99 => ⟨S8x4096x128, .f32⟩
  | 100 => ⟨S8x4097x128, .f32⟩
  | 101 => ⟨S_, .i32⟩
  | 102 => ⟨S_, .f32⟩
  | 103 => ⟨S8x4112x128, .f32⟩
  | 104 => ⟨S8x4096x128, .f32⟩
  | 105 => ⟨S8x4096x128, .f32⟩
  | 106 => ⟨S8x4096x128, .f32⟩
  | 107 => ⟨S_, .f32⟩
  | 108 => ⟨S4096, .f32⟩
  | 109 => ⟨S4096, .f32⟩
  | 110 => ⟨S1x4096x1, .f32⟩
  | 111 => ⟨S8x4096x128, .f32⟩
  | 112 => ⟨S8x4096x128, .f32⟩
  | 113 => ⟨S8x4096x128, .f32⟩
  | 114 => ⟨S8x4096x128, .f32⟩
  | 115 => ⟨S1x128x128, .f32⟩
  | 116 => ⟨S128x128, .f32⟩
  | 117 => ⟨S8x4096x128, .f32⟩
  | 118 => ⟨S8x4096x512, .f32⟩
  | 119 => ⟨S1x1x512, .f32⟩
  | 120 => ⟨S8x4096x512, .f32⟩
  | 121 => ⟨S8x4096x512, .f32⟩
  | 122 => ⟨S1x512, .f32⟩
  | 123 => ⟨S512, .f32⟩
  | 124 => ⟨S128, .f32⟩
  | 125 => ⟨S_, .f32⟩
  | 126 => ⟨S512, .f32⟩
  | 127 => ⟨S512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S_, .f32⟩
  | 3 => ⟨S8x4096x512, .f32⟩
  | 4 => ⟨S8x4096x512, .f32⟩
  | 5 => ⟨S_, .f32⟩
  | 6 => ⟨S8x4096x512, .f32⟩
  | 7 => ⟨S8x4096x512, .f32⟩
  | 8 => ⟨S1x1x512, .f32⟩
  | 9 => ⟨S8x4096x512, .f32⟩
  | 10 => ⟨S8x4096x512, .f32⟩
  | 11 => ⟨S1x1x512, .f32⟩
  | 12 => ⟨S8x4096x512, .f32⟩
  | 13 => ⟨S8x4096x512, .f32⟩
  | 14 => ⟨S8x4096x512, .f32⟩
  | 15 => ⟨S_, .f32⟩
  | 16 => ⟨S8x4096x512, .f32⟩
  | 17 => ⟨S8x4096x512, .f32⟩
  | 18 => ⟨S8x4096x512, .f32⟩
  | 19 => ⟨S8x4096x512, .f32⟩
  | 20 => ⟨S_, .f32⟩
  | 21 => ⟨S8x4096x512, .f32⟩
  | 22 => ⟨S8x4096x512, .f32⟩
  | 23 => ⟨S_, .f32⟩
  | 24 => ⟨S8x4096x512, .f32⟩
  | 25 => ⟨S8x4096x512, .f32⟩
  | 26 => ⟨S8x4096x512, .f32⟩
  | 27 => ⟨S8x4096x4x128, .f32⟩
  | 28 => ⟨S8x4x4096x128, .f32⟩
  | 29 => ⟨S8x4096x4x128, .f32⟩
  | 30 => ⟨S8x4x4096x128, .f32⟩
  | 31 => ⟨S8x4096x4x128, .f32⟩
  | 32 => ⟨S8x4x4096x128, .f32⟩
  | 33 => ⟨S8x4096x4x128, .f32⟩
  | 34 => ⟨S8x4x4096x128, .f32⟩
  | 35 => ⟨S_, .i1⟩
  | 36 => ⟨S4096x4096, .i1⟩
  | 37 => ⟨S4096x4096, .i32⟩
  | 38 => ⟨S_, .i32⟩
  | 39 => ⟨S4096x4096, .i32⟩
  | 40 => ⟨S4096x4096, .i32⟩
  | 41 => ⟨S4096x4096, .i32⟩
  | 42 => ⟨S4096x4096, .i1⟩
  | 43 => ⟨S_, .i1⟩
  | 44 => ⟨S4096x4096, .i1⟩
  | 45 => ⟨S4096x4096, .i1⟩
  | 46 => ⟨S_, .f32⟩
  | 47 => ⟨S_, .f32⟩
  | 48 => ⟨S8x4x4096x128, .f32⟩
  | 49 => ⟨S8x4x4096x1x128, .f32⟩
  | 50 => ⟨S8x4x1x4096x128, .f32⟩
  | 51 => ⟨S8x4x4096x4096x128, .f32⟩
  | 52 => ⟨S8x4x4096x4096x128, .f32⟩
  | 53 => ⟨S8x4x4096x4096x128, .f32⟩
  | 54 => ⟨S4096x4096x1, .i1⟩
  | 55 => ⟨S_, .f32⟩
  | 56 => ⟨S_, .f32⟩
  | 57 => ⟨S8x4x4096x4096x128, .i1⟩
  | 58 => ⟨S8x4x4096x4096x128, .f32⟩
  | 59 => ⟨S8x4x4096x4096x128, .f32⟩
  | 60 => ⟨S8x4x4096x4096x128, .f32⟩
  | 61 => ⟨S8x4x4096x1x128, .f32⟩
  | 62 => ⟨S8x4x1x4096x128, .f32⟩
  | 63 => ⟨S8x4x4096x4096x128, .f32⟩
  | 64 => ⟨S8x4x4096x4096x128, .f32⟩
  | 65 => ⟨S8x4x4096x4096x128, .f32⟩
  | 66 => ⟨S8x4x4096x4096x128, .f32⟩
  | 67 => ⟨S_, .f32⟩
  | 68 => ⟨S8x4x4096x4096, .f32⟩
  | 69 => ⟨S8x4x4096x128, .f32⟩
  | 70 => ⟨S8x4096x4x128, .f32⟩
  | 71 => ⟨S8x4096x4x128, .f32⟩
  | 72 => ⟨S_, .f32⟩
  | 73 => ⟨S8x4096x4, .f32⟩
  | 74 => ⟨S8x4096x4x1, .f32⟩
  | 75 => ⟨S_, .f32⟩
  | 76 => ⟨S8x4096x4x1, .f32⟩
  | 77 => ⟨S8x4096x4x1, .f32⟩
  | 78 => ⟨S_, .f32⟩
  | 79 => ⟨S8x4096x4x1, .f32⟩
  | 80 => ⟨S8x4096x4x1, .f32⟩
  | 81 => ⟨S8x4096x4x1, .f32⟩
  | 82 => ⟨S8x4096x4x128, .f32⟩
  | 83 => ⟨S8x4096x4x128, .f32⟩
  | 84 => ⟨S1x1x1x128, .f32⟩
  | 85 => ⟨S8x4096x4x128, .f32⟩
  | 86 => ⟨S8x4096x4x128, .f32⟩
  | 87 => ⟨S8x4096x4x128, .f32⟩
  | 88 => ⟨S8x4096x4x128, .f32⟩
  | 89 => ⟨S8x4096x4x128, .f32⟩
  | 90 => ⟨S_, .f32⟩
  | 91 => ⟨S8x4096x4x128, .f32⟩
  | 92 => ⟨S8x4096x4x128, .f32⟩
  | 93 => ⟨S_, .f32⟩
  | 94 => ⟨S8x4096x4x128, .f32⟩
  | 95 => ⟨S8x4096x4x128, .f32⟩
  | 96 => ⟨S8x4096x4x128, .f32⟩
  | 97 => ⟨S8x4096x4x128, .f32⟩
  | 98 => ⟨S8x4096x512, .f32⟩
  | 99 => ⟨S8x4096x1024, .f32⟩
  | 100 => ⟨S1024x1024, .f32⟩
  | 101 => ⟨S8x4096x1024, .f32⟩
  | 102 => ⟨S_, .f32⟩
  | 103 => ⟨S8x4096x1024, .f32⟩
  | 104 => ⟨S8x4096x1024, .f32⟩
  | 105 => ⟨S8x4096x1024, .f32⟩
  | 106 => ⟨S1024, .f32⟩
  | 107 => ⟨S1024, .f32⟩
  | 108 => ⟨S_, .f32⟩
  | 109 => ⟨S8x4096, .f32⟩
  | 110 => ⟨S8x4096x1, .f32⟩
  | 111 => ⟨S_, .f32⟩
  | 112 => ⟨S8x4096x1, .f32⟩
  | 113 => ⟨S8x4096x1, .f32⟩
  | 114 => ⟨S8x4096x1024, .f32⟩
  | 115 => ⟨S8x4096x1024, .f32⟩
  | 116 => ⟨S8x4096x1024, .f32⟩
  | 117 => ⟨S_, .f32⟩
  | 118 => ⟨S8x4096, .f32⟩
  | 119 => ⟨S8x4096x1, .f32⟩
  | 120 => ⟨S_, .f32⟩
  | 121 => ⟨S8x4096x1, .f32⟩
  | 122 => ⟨S8x4096x1, .f32⟩
  | 123 => ⟨S8x4096x1024, .f32⟩
  | 124 => ⟨S8x4096x1024, .f32⟩
  | 125 => ⟨S_, .f32⟩
  | 126 => ⟨S8x4096x1, .f32⟩
  | 127 => ⟨S8x4096x1, .f32⟩
  | _ => ⟨S8x4096x1024, .f32⟩

abbrev hbmTy0_2 (i : Nat) : BufTy := match i % 128 with
  | 0 => ⟨S8x4096x1, .f32⟩
  | 1 => ⟨S8x4096x1024, .f32⟩
  | 2 => ⟨S8x4096x1024, .f32⟩
  | 3 => ⟨S1x1x1024, .f32⟩
  | 4 => ⟨S8x4096x1024, .f32⟩
  | 5 => ⟨S8x4096x1024, .f32⟩
  | 6 => ⟨S1x1x1024, .f32⟩
  | 7 => ⟨S8x4096x1024, .f32⟩
  | 8 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_call0_cst : Ref sig .tc := ⟨.hbm, 23, rfl⟩
abbrev main_call0_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_call0_cst : Ref sig .tc := ⟨.hbm, 35, rfl⟩
abbrev main_call1_call0_v0 : Ref sig .tc := ⟨.hbm, 36, rfl⟩
abbrev main_v21 : Ref sig .tc := ⟨.hbm, 37, rfl⟩
abbrev main_c : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_call3_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_5 : Ref sig .tc := ⟨.hbm, 65, rfl⟩
abbrev main_call4_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_7 : Ref sig .tc := ⟨.hbm, 83, rfl⟩
abbrev main_call5_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_9 : Ref sig .tc := ⟨.hbm, 101, rfl⟩
abbrev main_call6_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_10 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_11 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_12 : Ref sig .tc := ⟨.hbm, 130, rfl⟩
abbrev main_v98 : Ref sig .tc := ⟨.hbm, 131, rfl⟩
abbrev main_v99 : Ref sig .tc := ⟨.hbm, 132, rfl⟩
abbrev main_cst_13 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_14 : Ref sig .tc := ⟨.hbm, 143, rfl⟩
abbrev main_v109 : Ref sig .tc := ⟨.hbm, 144, rfl⟩
abbrev main_v110 : Ref sig .tc := ⟨.hbm, 145, rfl⟩
abbrev main_call7_v0 : Ref sig .tc := ⟨.hbm, 146, rfl⟩
abbrev main_call7_v1 : Ref sig .tc := ⟨.hbm, 147, rfl⟩
abbrev main_call7_cst : Ref sig .tc := ⟨.hbm, 148, rfl⟩
abbrev main_call7_v2 : Ref sig .tc := ⟨.hbm, 149, rfl⟩
abbrev main_call7_v3 : Ref sig .tc := ⟨.hbm, 150, rfl⟩
abbrev main_call7_cst_0 : Ref sig .tc := ⟨.hbm, 151, rfl⟩
abbrev main_call7_v4 : Ref sig .tc := ⟨.hbm, 152, rfl⟩
abbrev main_call7_v5 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_15 : Ref sig .tc := ⟨.hbm, 163, rfl⟩
abbrev main_v120 : Ref sig .tc := ⟨.hbm, 164, rfl⟩
abbrev main_call8_v0 : Ref sig .tc := ⟨.hbm, 165, rfl⟩
abbrev main_call8_c : Ref sig .tc := ⟨.hbm, 166, rfl⟩
abbrev main_call8_v1 : Ref sig .tc := ⟨.hbm, 167, rfl⟩
abbrev main_call8_v2 : Ref sig .tc := ⟨.hbm, 168, rfl⟩
abbrev main_call8_v3 : Ref sig .tc := ⟨.hbm, 169, rfl⟩
abbrev main_call8_v4 : Ref sig .tc := ⟨.hbm, 170, rfl⟩
abbrev main_call8_c_0 : Ref sig .tc := ⟨.hbm, 171, rfl⟩
abbrev main_call8_v5 : Ref sig .tc := ⟨.hbm, 172, rfl⟩
abbrev main_v121 : Ref sig .tc := ⟨.hbm, 173, rfl⟩
abbrev main_call9_call0_cst : Ref sig .tc := ⟨.hbm, 174, rfl⟩
abbrev main_call9_call0_v0 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_16 : Ref sig .tc := ⟨.hbm, 183, rfl⟩
abbrev main_call10_v0 : Ref sig .tc := ⟨.hbm, 184, rfl⟩
abbrev main_call10_v1 : Ref sig .tc := ⟨.hbm, 185, rfl⟩
abbrev main_call10_v2 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_17 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_18 : Ref sig .tc := ⟨.hbm, 200, rfl⟩
abbrev main_v141 : Ref sig .tc := ⟨.hbm, 201, rfl⟩
abbrev main_v142 : Ref sig .tc := ⟨.hbm, 202, rfl⟩
abbrev main_cst_19 : Ref sig .tc := ⟨.hbm, 203, rfl⟩
abbrev main_v143 : Ref sig .tc := ⟨.hbm, 204, rfl⟩
abbrev main_v144 : Ref sig .tc := ⟨.hbm, 205, rfl⟩
abbrev main_cst_20 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_call11_v0 : Ref sig .tc := ⟨.hbm, 216, rfl⟩
abbrev main_call11_v1 : Ref sig .tc := ⟨.hbm, 217, rfl⟩
abbrev main_call11_cst : Ref sig .tc := ⟨.hbm, 218, rfl⟩
abbrev main_call11_v2 : Ref sig .tc := ⟨.hbm, 219, rfl⟩
abbrev main_call11_v3 : Ref sig .tc := ⟨.hbm, 220, rfl⟩
abbrev main_call11_cst_0 : Ref sig .tc := ⟨.hbm, 221, rfl⟩
abbrev main_call11_v4 : Ref sig .tc := ⟨.hbm, 222, rfl⟩
abbrev main_call11_v5 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_cst_21 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_22 : Ref sig .tc := ⟨.hbm, 236, rfl⟩
abbrev main_v165 : Ref sig .tc := ⟨.hbm, 237, rfl⟩
abbrev main_v166 : Ref sig .tc := ⟨.hbm, 238, rfl⟩
abbrev main_cst_23 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_cst_24 : Ref sig .tc := ⟨.hbm, 245, rfl⟩
abbrev main_v172 : Ref sig .tc := ⟨.hbm, 246, rfl⟩
abbrev main_v173 : Ref sig .tc := ⟨.hbm, 247, rfl⟩
abbrev main_cst_25 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_cst_26 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩

abbrev nD : Nat := 1
abbrev τ : Topo := Topo.v7x

variable {F : FTy → Type} [FloatOps F]
-- ==== Proof.Ffn.Clean.lean ====
/- The feed-forward kernel's tile computation, written once as a few small functions of the values a grid
   point loads: the row-permuted tile, the projection of one column chunk, the two delayed copies that the
   width-3 convolution adds, the gate, the down-projection with the residual, and the layer normalisation. -/
module

public import proofs.«01_k».proof.Proof.Gen.KernelIdeal.Skeleton

@[expose] public section

set_option maxRecDepth 16384

noncomputable section

namespace Cert.KernelIdeal.Ffn

open Idealize.ShloMosaic Idealize.ShloMosaic.TcCoe
open Cert.KernelIdeal Cert.KernelIdeal.Gen

variable {F : FTy → Type} [FloatOps F]

/-- Eight 128-lane pieces side by side: the 32 rows of one residue class modulo 8. -/
def rowBlk (v : Fin 8 → Vec F S1x1x32x128 .f32) : FVec F S32x1024 .f32 :=
  concatenate S32x1024 1
    [⟨S32x128, shapeCast S32x128 (v 0) shapeCasts_S1x1x32x128_S32x128⟩,
      ⟨S32x128, shapeCast S32x128 (v 1) shapeCasts_S1x1x32x128_S32x128⟩,
      ⟨S32x128, shapeCast S32x128 (v 2) shapeCasts_S1x1x32x128_S32x128⟩,
      ⟨S32x128, shapeCast S32x128 (v 3) shapeCasts_S1x1x32x128_S32x128⟩,
      ⟨S32x128, shapeCast S32x128 (v 4) shapeCasts_S1x1x32x128_S32x128⟩,
      ⟨S32x128, shapeCast S32x128 (v 5) shapeCasts_S1x1x32x128_S32x128⟩,
      ⟨S32x128, shapeCast S32x128 (v 6) shapeCasts_S1x1x32x128_S32x128⟩,
      ⟨S32x128, shapeCast S32x128 (v 7) shapeCasts_S1x1x32x128_S32x128⟩]
    concatenates_S32x128_S32x128_S32x128_S32x128_S32x128_S32x128_S32x128_S32x128_S32x1024_d1

/-- The eight residue classes one under another: the tile with its rows permuted. -/
def permTile (v : Fin 8 → Fin 8 → Vec F S1x1x32x128 .f32) : FVec F S256x1024 .f32 :=
  concatenate S256x1024 0
    [⟨S32x1024, rowBlk (v 0)⟩, ⟨S32x1024, rowBlk (v 1)⟩, ⟨S32x1024, rowBlk (v 2)⟩, ⟨S32x1024, rowBlk (v 3)⟩,
      ⟨S32x1024, rowBlk (v 4)⟩, ⟨S32x1024, rowBlk (v 5)⟩, ⟨S32x1024, rowBlk (v 6)⟩, ⟨S32x1024, rowBlk (v 7)⟩]
    concatenates_S32x1024_S32x1024_S32x1024_S32x1024_S32x1024_S32x1024_S32x1024_S32x1024_S256x1024_d0

/-- A lane chunk of the tile, as it is stored for the strided reads. -/
def pin (w : Vec F S1x256x128 .f32) : FVec F S1x1x256x128 .f32 :=
  shapeCast S1x1x256x128 (shapeCast S256x128 w shapeCasts_S1x256x128_S256x128) shapeCasts_S256x128_S1x1x256x128

/-- A lane chunk of the result, as it is stored into the output tile. -/
def pout (w : Vec F S1x1x256x128 .f32) : FVec F S1x256x128 .f32 :=
  shapeCast S1x256x128 (shapeCast S256x128 w shapeCasts_S1x1x256x128_S256x128) shapeCasts_S256x128_S1x256x128

/-- One residue class of one lane chunk of the result. -/
def cutRows (R : FVec F S256x1024 .f32) (off : Fin 2 → ℕ) (h : S256x1024.Slices off S32x128) : FVec F S1x1x32x128 .f32 :=
  shapeCast S1x1x32x128 (extractStridedSlice S32x128 off R h) shapeCasts_S32x128_S1x1x32x128

/-- The permuted tile in the matmul's input format. -/
def cast16 (h : FVec F S256x1024 .f32) : FVec F S256x1024 .bf16 := truncf .bf16 h bitsLt_bf16_f32

/-- One column chunk of the up-projection. -/
def proj (hb : FVec F S256x1024 .bf16) (w : Vec F S1024x256 .bf16) : FVec F S256x256 .f32 :=
  matmul dot_S256x1024_S1024x256_S256x256_1_0_0_1_n_n none hb
    (shapeCast S1024x256 w shapeCasts_S1024x256_S1024x256) (constant S256x256 .f32 0x00000000#32)

/-- The rows of residue 6. -/
def res6 (u : FVec F S256x256 .f32) : FVec F S32x256 .f32 :=
  extractStridedSlice S32x256 ![192, 0] u slices_S256x256_o192_0_S32x256

/-- The rows of residue 7. -/
def res7 (u : FVec F S256x256 .f32) : FVec F S32x256 .f32 :=
  extractStridedSlice S32x256 ![224, 0] u slices_S256x256_o224_0_S32x256

/-- The last eight rows of a residue class: what is carried to the next tile. -/
def keep8 (b : FVec F S32x256 .f32) : FVec F S1x1x8x256 .f32 :=
  shapeCast S1x1x8x256 (extractStridedSlice S8x256 ![24, 0] b slices_S32x256_o24_0_S8x256) shapeCasts_S8x256_S1x1x8x256

/-- A residue class one step later, its first row taken from the carried rows. -/
def delay (H : Vec F S1x1x8x256 .f32) (b : FVec F S32x256 .f32) : FVec F S32x256 .f32 :=
  extractStridedSlice S32x256 ![8, 0]
    (dynamicRotate 0 1#32 none
      (concatenate S40x256 0 [⟨S8x256, shapeCast S8x256 H shapeCasts_S1x1x8x256_S8x256⟩, ⟨S32x256, b⟩]
        concatenates_S8x256_S32x256_S40x256_d0) rotates_S40x256_d0) slices_S40x256_o8_0_S32x256

/-- The chunk one time step earlier. -/
def back1 (H1 : Vec F S1x1x8x256 .f32) (u : FVec F S256x256 .f32) : FVec F S256x256 .f32 :=
  concatenate S256x256 0
    [⟨S32x256, delay H1 (res7 u)⟩, ⟨S224x256, extractStridedSlice S224x256 ![0, 0] u slices_S256x256_o0_0_S224x256⟩]
    concatenates_S32x256_S224x256_S256x256_d0

/-- The chunk two time steps earlier. -/
def back2 (H0 H1 : Vec F S1x1x8x256 .f32) (u : FVec F S256x256 .f32) : FVec F S256x256 .f32 :=
  concatenate S256x256 0
    [⟨S32x256, delay H0 (res6 u)⟩, ⟨S32x256, delay H1 (res7 u)⟩,
      ⟨S192x256, extractStridedSlice S192x256 ![0, 0] u slices_S256x256_o0_0_S192x256⟩]
    concatenates_S32x256_S32x256_S192x256_S256x256_d0

/-- The width-3 convolution of one chunk. -/
def taps (u : FVec F S256x256 .f32) (H0 H1 : Vec F S1x1x8x256 .f32) (cw : Vec F S3x256 .f32) (cb : Vec F S1x256 .f32) :
    FVec F S256x256 .f32 :=
  addf (addf (addf (broadcastTo S256x256 cb broadcasts_S1x256_S256x256)
      (mulf (broadcastTo S256x256 (extractStridedSlice S1x256 ![0, 0] (shapeCast S3x256 cw shapeCasts_S3x256_S3x256)
        slices_S3x256_o0_0_S1x256) broadcasts_S1x256_S256x256) (back2 H0 H1 u)))
    (mulf (broadcastTo S256x256 (extractStridedSlice S1x256 ![1, 0] (shapeCast S3x256 cw shapeCasts_S3x256_S3x256)
        slices_S3x256_o1_0_S1x256) broadcasts_S1x256_S256x256) (back1 H1 u)))
    (mulf (broadcastTo S256x256 (extractStridedSlice S1x256 ![2, 0] (shapeCast S3x256 cw shapeCasts_S3x256_S3x256)
        slices_S3x256_o2_0_S1x256) broadcasts_S1x256_S256x256) u)

/-- The gate's activation. -/
def act (a : FVec F S256x256 .f32) : FVec F S256x256 .f32 :=
  mulf (mulf (broadcast S256x256 (Scalar.ofBits .f32 0x3F000000#32)) a)
    (addf (broadcast S256x256 (Scalar.ofBits .f32 0x3F800000#32))
      (tanh (mulf (broadcast S256x256 (Scalar.ofBits .f32 0x3F4C422A#32))
        (addf a (mulf (broadcast S256x256 (Scalar.ofBits .f32 0x3D372713#32)) (mulf (mulf a a) a))))))

/-- One gated chunk, as it is stored. -/
def gateBlk (a v : FVec F S256x256 .f32) : FVec F S1x256x256 .bf16 :=
  shapeCast S1x256x256 (truncf .bf16 (mulf (act a) v) bitsLt_bf16_f32) shapeCasts_S256x256_S1x256x256

/-- The residual plus the down-projection. -/
def preNorm (h : FVec F S256x1024 .f32) (G : Vec F S1x256x2816 .bf16) (w : Vec F S2816x1024 .bf16) : FVec F S256x1024 .f32 :=
  addf (mulf (broadcast S256x1024 (Scalar.ofBits .f32 0x3F9837F0#32)) h)
    (matmul dot_S256x2816_S2816x1024_S256x1024_1_0_0_1_n_n none (shapeCast S256x2816 G shapeCasts_S1x256x2816_S256x2816)
      (shapeCast S2816x1024 w shapeCasts_S2816x1024_S2816x1024) (constant S256x1024 .f32 0x00000000#32))

/-- A row's mean, kept as a column. -/
def meanCol (z : FVec F S256x1024 .f32) : FVec F S256x1 .f32 :=
  divf (shapeCast S256x1 (multiReduction .add [1] S256 z 0x00000000#32 reduces_S256x1024_S256 (.inl rfl) rfl)
    shapeCasts_S256_S256x1) (broadcast S256x1 (Scalar.ofBits .f32 0x44800000#32))

/-- The rows less their means. -/
def centred (z : FVec F S256x1024 .f32) : FVec F S256x1024 .f32 :=
  subf z (broadcastTo S256x1024 (meanCol z) broadcasts_S256x1_S256x1024)

/-- Layer normalisation of the tile's rows. -/
def norm (z : FVec F S256x1024 .f32) (g b : Vec F S1x1024 .f32) : FVec F S256x1024 .f32 :=
  addf (mulf (mulf (centred z)
      (broadcastTo S256x1024 (rsqrt (addf (meanCol (mulf (centred z) (centred z)))
        (broadcast S256x1 (Scalar.ofBits .f32 0x3727C5AC#32)))) broadcasts_S256x1_S256x1024))
    (broadcastTo S256x1024 g broadcasts_S1x1024_S256x1024)) (broadcastTo S256x1024 b broadcasts_S1x1024_S256x1024)

end Cert.KernelIdeal.Ffn
-- ==== Proof.Ffn.At.lean ====
/- The tile functions read at one index, over the extended reals. -/
module

public import proofs.«01_k».proof.Proof.Ffn.Clean
public import Idealize.ShloMosaic.Lib.Pointwise

@[expose] public section

set_option maxRecDepth 16384

noncomputable section

namespace Cert.KernelIdeal.Ffn

open Idealize.ShloMosaic Idealize.ShloMosaic.TcCoe
open Cert.KernelIdeal Cert.KernelIdeal.Gen

/-- The time row that stands at row `p` of the permuted tile. -/
abbrev nat (p : Fin 256) : Fin 256 := ⟨8 * (p.val % 32) + p.val / 32, by omega⟩

theorem rowBlk_apply (v : Fin 8 → Vec Ideal S1x1x32x128 .f32) (q : Fin 32) (k : Fin 1024) :
    rowBlk v (ix2 q k) = v ⟨k.val / 128, by omega⟩ (ix4 0 0 q ⟨k.val % 128, by omega⟩) := by
  have key : ∀ (a : Fin 8) (l : Fin 128), k = ⟨128 * a.val + l.val, by omega⟩ → rowBlk v (ix2 q k) = v a (ix4 0 0 q l) := by
    rintro a l rfl
    have fin : ∀ (c : Fin 8) (n : ℕ) (hn : n < 128), c.val = a.val → n = l.val →
        v c (ix4 0 0 q ⟨n, hn⟩) = v a (ix4 0 0 q l) := by
      rintro c n hn hc rfl
      rw [Fin.ext hc]
    pointwise [rowBlk]
    fin_vals a with ha <;>
      (repeat (first | rw [dif_pos (by omega)] | rw [dif_neg (by omega)])) <;>
      exact fin _ _ _ (by rw [ha]; rfl) (by omega)
  exact key ⟨k.val / 128, by omega⟩ ⟨k.val % 128, by omega⟩ (Fin.ext (show k.val = 128 * (k.val / 128) + k.val % 128 by omega))

theorem permTile_apply (v : Fin 8 → Fin 8 → Vec Ideal S1x1x32x128 .f32) (p : Fin 256) (k : Fin 1024) :
    permTile v (ix2 p k)
      = v ⟨p.val / 32, by omega⟩ ⟨k.val / 128, by omega⟩ (ix4 0 0 ⟨p.val % 32, by omega⟩ ⟨k.val % 128, by omega⟩) := by
  have key : ∀ (a : Fin 8) (q : Fin 32), p = ⟨32 * a.val + q.val, by omega⟩ →
      permTile v (ix2 p k) = rowBlk (v a) (ix2 q k) := by
    rintro a q rfl
    have fin : ∀ (c : Fin 8) (n : ℕ) (hn : n < 32), c.val = a.val → n = q.val →
        rowBlk (v c) (ix2 ⟨n, hn⟩ k) = rowBlk (v a) (ix2 q k) := by
      rintro c n hn hc rfl
      rw [Fin.ext hc]
    pointwise [permTile]
    fin_vals a with ha <;>
      (repeat (first | rw [dif_pos (by omega)] | rw [dif_neg (by omega)])) <;>
      exact fin _ _ _ (by rw [ha]; rfl) (by omega)
  rw [key ⟨p.val / 32, by omega⟩ ⟨p.val % 32, by omega⟩
    (Fin.ext (show p.val = 32 * (p.val / 32) + p.val % 32 by omega)), rowBlk_apply]

theorem proj_apply (hb : FVec Ideal S256x1024 .bf16) (w : Vec Ideal S1024x256 .bf16) (p : Fin 256) (j : Fin 256) :
    proj hb w (ix2 p j) = ∑ k : Fin 1024, hb (ix2 p k) * w (ix2 k j) := by
  pointwise [proj]

theorem delay_apply (H : Vec Ideal S1x1x8x256 .f32) (b : FVec Ideal S32x256 .f32) (q : Fin 32) (j : Fin 256) :
    delay H b (ix2 q j) = if h : q.val = 0 then H (ix4 0 0 7 j) else b (ix2 ⟨q.val - 1, by omega⟩ j) := by
  pointwise [delay]
  have hq := q.isLt
  by_cases h : q.val = 0
  · rw [dif_pos (by omega), dif_pos h]
    congr 2
    exact Fin.ext (by show (8 + q.val + 40 - 1) % 40 = 7; omega)
  · rw [dif_neg (by omega), dif_neg h]
    congr 2
    exact Fin.ext (by show (8 + q.val + 40 - 1) % 40 - 8 = q.val - 1; omega)

theorem res6_apply (u : FVec Ideal S256x256 .f32) (q : Fin 32) (j : Fin 256) :
    res6 u (ix2 q j) = u (ix2 ⟨192 + q.val, by omega⟩ j) := by
  pointwise [res6]

theorem res7_apply (u : FVec Ideal S256x256 .f32) (q : Fin 32) (j : Fin 256) :
    res7 u (ix2 q j) = u (ix2 ⟨224 + q.val, by omega⟩ j) := by
  pointwise [res7]

/-- The carried rows of residue 6. -/
theorem keep6_apply (u : FVec Ideal S256x256 .f32) (a b : Fin 1) (r : Fin 8) (j : Fin 256) :
    keep8 (res6 u) (ix4 a b r j) = u (ix2 ⟨216 + r.val, by omega⟩ j) := by
  pointwise [keep8, res6]
  congr 2
  exact Fin.ext (by show 192 + (24 + r.val) = 216 + r.val; omega)

/-- The carried rows of residue 7. -/
theorem keep7_apply (u : FVec Ideal S256x256 .f32) (a b : Fin 1) (r : Fin 8) (j : Fin 256) :
    keep8 (res7 u) (ix4 a b r j) = u (ix2 ⟨248 + r.val, by omega⟩ j) := by
  pointwise [keep8, res7]
  congr 2
  exact Fin.ext (by show 224 + (24 + r.val) = 248 + r.val; omega)

/-- One time step back: the row before, or the carried row. -/
theorem back1_apply (H1 : Vec Ideal S1x1x8x256 .f32) (u : FVec Ideal S256x256 .f32) (U : Fin 256 → Fin 256 → EReal)
    (hu : ∀ p j, u (ix2 p j) = U (nat p) j) (p j : Fin 256) :
    back1 H1 u (ix2 p j)
      = if h : (nat p).val = 0 then H1 (ix4 0 0 7 j) else U ⟨(nat p).val - 1, by omega⟩ j := by
  have hp := p.isLt
  pointwise [back1]
  by_cases h : p.val < 32
  · rw [dif_pos h, delay_apply]
    by_cases h0 : p.val = 0
    · rw [dif_pos (show p.val = 0 from h0), dif_pos (show 8 * (p.val % 32) + p.val / 32 = 0 by omega)]
    · rw [dif_neg (show ¬ p.val = 0 from h0), dif_neg (show ¬ 8 * (p.val % 32) + p.val / 32 = 0 by omega), res7_apply, hu]
      congr 1
      exact Fin.ext (by
        show 8 * ((224 + (p.val - 1)) % 32) + (224 + (p.val - 1)) / 32 = 8 * (p.val % 32) + p.val / 32 - 1; omega)
  · rw [dif_neg h, hu, dif_neg (show ¬ 8 * (p.val % 32) + p.val / 32 = 0 by omega)]
    congr 1
    exact Fin.ext (by
      show 8 * ((p.val - 32) % 32) + (p.val - 32) / 32 = 8 * (p.val % 32) + p.val / 32 - 1; omega)

/-- Two time steps back: two rows before, or one of the two carried rows. -/
theorem back2_apply (H0 H1 : Vec Ideal S1x1x8x256 .f32) (u : FVec Ideal S256x256 .f32) (U : Fin 256 → Fin 256 → EReal)
    (hu : ∀ p j, u (ix2 p j) = U (nat p) j) (p j : Fin 256) :
    back2 H0 H1 u (ix2 p j)
      = if h0 : (nat p).val = 0 then H0 (ix4 0 0 7 j)
        else if h1 : (nat p).val = 1 then H1 (ix4 0 0 7 j) else U ⟨(nat p).val - 2, by omega⟩ j := by
  have hp := p.isLt
  pointwise [back2]
  by_cases h : p.val < 32
  · rw [dif_pos h, delay_apply]
    by_cases h0 : p.val = 0
    · rw [dif_pos (show p.val = 0 from h0), dif_pos (show 8 * (p.val % 32) + p.val / 32 = 0 by omega)]
    · rw [dif_neg (show ¬ p.val = 0 from h0), dif_neg (show ¬ 8 * (p.val % 32) + p.val / 32 = 0 by omega),
        dif_neg (show ¬ 8 * (p.val % 32) + p.val / 32 = 1 by omega), res6_apply, hu]
      congr 1
      exact Fin.ext (by
        show 8 * ((192 + (p.val - 1)) % 32) + (192 + (p.val - 1)) / 32 = 8 * (p.val % 32) + p.val / 32 - 2; omega)
  · rw [dif_neg h]
    by_cases h' : p.val - 32 < 32
    · rw [dif_pos h', delay_apply]
      by_cases h0 : p.val - 32 = 0
      · rw [dif_pos (show p.val - 32 = 0 from h0), dif_neg (show ¬ 8 * (p.val % 32) + p.val / 32 = 0 by omega),
          dif_pos (show 8 * (p.val % 32) + p.val / 32 = 1 by omega)]
      · rw [dif_neg (show ¬ p.val - 32 = 0 from h0), dif_neg (show ¬ 8 * (p.val % 32) + p.val / 32 = 0 by omega),
          dif_neg (show ¬ 8 * (p.val % 32) + p.val / 32 = 1 by omega), res7_apply, hu]
        congr 1
        exact Fin.ext (by
          show 8 * ((224 + (p.val - 32 - 1)) % 32) + (224 + (p.val - 32 - 1)) / 32 = 8 * (p.val % 32) + p.val / 32 - 2
          omega)
    · rw [dif_neg h', hu, dif_neg (show ¬ 8 * (p.val % 32) + p.val / 32 = 0 by omega),
        dif_neg (show ¬ 8 * (p.val % 32) + p.val / 32 = 1 by omega)]
      congr 1
      exact Fin.ext (by
        show 8 * ((p.val - 32 - 32) % 32) + (p.val - 32 - 32) / 32 = 8 * (p.val % 32) + p.val / 32 - 2; omega)

theorem taps_apply (u : FVec Ideal S256x256 .f32) (H0 H1 : Vec Ideal S1x1x8x256 .f32) (cw : Vec Ideal S3x256 .f32)
    (cb : Vec Ideal S1x256 .f32) (p j : Fin 256) :
    taps u H0 H1 cw cb (ix2 p j) = cb (ix2 0 j) + cw (ix2 0 j) * back2 H0 H1 u (ix2 p j)
      + cw (ix2 1 j) * back1 H1 u (ix2 p j) + cw (ix2 2 j) * u (ix2 p j) := by
  pointwise [taps]

/-- The activation on one number. -/
def actS (a : EReal) : EReal :=
  Ideal.ofBits .f32 0x3F000000#32 * a * (1 + Ideal.tanh (Ideal.ofBits .f32 0x3F4C422A#32
    * (a + Ideal.ofBits .f32 0x3D372713#32 * (a * a * a))))

theorem gateBlk_apply (a v : FVec Ideal S256x256 .f32) (z : Fin 1) (p j : Fin 256) :
    gateBlk a v (ix3 z p j) = actS (a (ix2 p j)) * v (ix2 p j) := by
  pointwise [gateBlk, act, actS]

theorem preNorm_apply (h : FVec Ideal S256x1024 .f32) (G : Vec Ideal S1x256x2816 .bf16) (w : Vec Ideal S2816x1024 .bf16)
    (p : Fin 256) (d : Fin 1024) :
    preNorm h G w (ix2 p d)
      = Ideal.ofBits .f32 0x3F9837F0#32 * h (ix2 p d) + ∑ f : Fin 2816, G (ix3 0 p f) * w (ix2 f d) := by
  pointwise [preNorm]

/-- A row's mean. -/
def meanS (z : Fin 1024 → EReal) : EReal := Ideal.div (∑ x, z x) (Ideal.ofBits .f32 0x44800000#32)

/-- A row less its mean. -/
def centS (z : Fin 1024 → EReal) (d : Fin 1024) : EReal := z d - meanS z

/-- Layer normalisation of one row. -/
def normS (z : Fin 1024 → EReal) (g b : EReal) (d : Fin 1024) : EReal :=
  centS z d * Ideal.rsqrt (meanS (fun x => centS z x * centS z x) + Ideal.ofBits .f32 0x3727C5AC#32) * g + b

theorem norm_apply (z : FVec Ideal S256x1024 .f32) (g b : Vec Ideal S1x1024 .f32) (p : Fin 256) (d : Fin 1024) :
    norm z g b (ix2 p d) = normS (fun x => z (ix2 p x)) (g (ix2 0 d)) (b (ix2 0 d)) d := by
  pointwise [norm, centred, meanCol, normS, meanS, centS]

end Cert.KernelIdeal.Ffn
-- ==== Proof.Ffn.Tile.lean ====
/- The values of one tile of two streams, at an index in time order, and the pieces that the tile computation
   stores, each shown to agree with one function of the whole array it is stored into. -/
module

public import proofs.«01_k».proof.Proof.Ffn.At
public import Idealize.ShloMosaic.Lib.WholeRead
public import Idealize.ShloMosaic.Lib.Pipeline.Value

@[expose] public section

set_option maxRecDepth 16384

noncomputable section

namespace Cert.KernelIdeal.Ffn

open Idealize.ShloMosaic Idealize.ShloMosaic.TcCoe
open Cert.KernelIdeal Cert.KernelIdeal.Gen

/-! ## The tile's values -/

/-- The up-projection of row `r` of stream `s`, column `col`. -/
def upAt (x0 : Vec Ideal S2x256x1024 .f32) (x1 : Vec Ideal S1024x5632 .bf16) (s : Fin 2) (r : Fin 256) (col : Fin 5632) : EReal :=
  ∑ k : Fin 1024, x0 (ix3 s r k) * x1 (ix2 k col)

/-- The up-projection one step earlier: the row before, or the carried row. -/
def prev1 (x0 : Vec Ideal S2x256x1024 .f32) (x1 : Vec Ideal S1024x5632 .bf16) (H : Vec Ideal S2x2x8x5632 .f32)
    (s : Fin 2) (r : Fin 256) (col : Fin 5632) : EReal :=
  if h : r.val = 0 then H (ix4 s 1 7 col) else upAt x0 x1 s ⟨r.val - 1, by omega⟩ col

/-- The up-projection two steps earlier. -/
def prev2 (x0 : Vec Ideal S2x256x1024 .f32) (x1 : Vec Ideal S1024x5632 .bf16) (H : Vec Ideal S2x2x8x5632 .f32)
    (s : Fin 2) (r : Fin 256) (col : Fin 5632) : EReal :=
  if h0 : r.val = 0 then H (ix4 s 0 7 col)
  else if h1 : r.val = 1 then H (ix4 s 1 7 col) else upAt x0 x1 s ⟨r.val - 2, by omega⟩ col

/-- The convolved up-projection. -/
def convAt (x0 : Vec Ideal S2x256x1024 .f32) (x1 : Vec Ideal S1024x5632 .bf16) (x2 : Vec Ideal S3x5632 .f32)
    (x3 : Vec Ideal S1x5632 .f32) (H : Vec Ideal S2x2x8x5632 .f32) (s : Fin 2) (r : Fin 256) (col : Fin 5632) : EReal :=
  x3 (ix2 0 col) + x2 (ix2 0 col) * prev2 x0 x1 H s r col + x2 (ix2 1 col) * prev1 x0 x1 H s r col
    + x2 (ix2 2 col) * upAt x0 x1 s r col

/-- The gated value: the activated first half times the second half. -/
def gateAt (x0 : Vec Ideal S2x256x1024 .f32) (x1 : Vec Ideal S1024x5632 .bf16) (x2 : Vec Ideal S3x5632 .f32)
    (x3 : Vec Ideal S1x5632 .f32) (H : Vec Ideal S2x2x8x5632 .f32) (s : Fin 2) (r : Fin 256) (f : Fin 2816) : EReal :=
  actS (convAt x0 x1 x2 x3 H s r ⟨f.val, by omega⟩) * convAt x0 x1 x2 x3 H s r ⟨2816 + f.val, by omega⟩

/-- The residual plus the down-projection. -/
def preAt (x0 : Vec Ideal S2x256x1024 .f32) (x1 : Vec Ideal S1024x5632 .bf16) (x2 : Vec Ideal S3x5632 .f32)
    (x3 : Vec Ideal S1x5632 .f32) (x4 : Vec Ideal S2816x1024 .bf16) (H : Vec Ideal S2x2x8x5632 .f32)
    (s : Fin 2) (r : Fin 256) (d : Fin 1024) : EReal :=
  Ideal.ofBits .f32 0x3F9837F0#32 * x0 (ix3 s r d) + ∑ f : Fin 2816, gateAt x0 x1 x2 x3 H s r f * x4 (ix2 f d)

/-- The tile's result, in time order. -/
def outAt (x0 : Vec Ideal S2x256x1024 .f32) (x1 : Vec Ideal S1024x5632 .bf16) (x2 : Vec Ideal S3x5632 .f32)
    (x3 : Vec Ideal S1x5632 .f32) (x4 : Vec Ideal S2816x1024 .bf16) (x5 x6 : Vec Ideal S1x1024 .f32)
    (H : Vec Ideal S2x2x8x5632 .f32) (s : Fin 2) (r : Fin 256) (d : Fin 1024) : EReal :=
  normS (preAt x0 x1 x2 x3 x4 H s r) (x5 (ix2 0 d)) (x6 (ix2 0 d)) d

/-- What the tile leaves for the next one: of each of the residues 6 and 7, the last eight rows. -/
def haloAt (x0 : Vec Ideal S2x256x1024 .f32) (x1 : Vec Ideal S1024x5632 .bf16) (s : Fin 2) (k : Fin 2) (r : Fin 8)
    (col : Fin 5632) : EReal :=
  upAt x0 x1 s ⟨8 * (24 + r.val) + 6 + k.val, by omega⟩ col

/-! ## The whole arrays the pieces are restrictions of -/

/-- The tile lane chunk by lane chunk. -/
def PIN (x0 : Vec Ideal S2x256x1024 .f32) : S2x8x256x128.Idx → EReal :=
  fun y => x0 (ix3 (y 0) (y 2) ⟨128 * (y 1).val + (y 3).val, by
    have h1 : (y 1).val < 8 := (y 1).isLt
    have h3 : (y 3).val < 128 := (y 3).isLt
    omega⟩)

/-- The gated values, rows permuted. -/
def GATED (x0 : Vec Ideal S2x256x1024 .f32) (x1 : Vec Ideal S1024x5632 .bf16) (x2 : Vec Ideal S3x5632 .f32)
    (x3 : Vec Ideal S1x5632 .f32) (H : Vec Ideal S2x2x8x5632 .f32) : S2x256x2816.Idx → EReal :=
  fun y => gateAt x0 x1 x2 x3 H (y 0) (nat (y 1)) (y 2)

/-- The carried rows. -/
def HALO (x0 : Vec Ideal S2x256x1024 .f32) (x1 : Vec Ideal S1024x5632 .bf16) : Vec Ideal S2x2x8x5632 .f32 :=
  fun y => haloAt x0 x1 (y 0) (y 1) (y 2) (y 3)

/-- The result lane chunk by lane chunk, in time order. -/
def POUT (x0 : Vec Ideal S2x256x1024 .f32) (x1 : Vec Ideal S1024x5632 .bf16) (x2 : Vec Ideal S3x5632 .f32)
    (x3 : Vec Ideal S1x5632 .f32) (x4 : Vec Ideal S2816x1024 .bf16) (x5 x6 : Vec Ideal S1x1024 .f32)
    (H : Vec Ideal S2x2x8x5632 .f32) : S2x8x256x128.Idx → EReal :=
  fun y => outAt x0 x1 x2 x3 x4 x5 x6 H (y 0) (y 2) ⟨128 * (y 1).val + (y 3).val, by
    have h1 : (y 1).val < 8 := (y 1).isLt
    have h3 : (y 3).val < 128 := (y 3).isLt
    omega⟩

/-- The tile's result. -/
def OUT (x0 : Vec Ideal S2x256x1024 .f32) (x1 : Vec Ideal S1024x5632 .bf16) (x2 : Vec Ideal S3x5632 .f32)
    (x3 : Vec Ideal S1x5632 .f32) (x4 : Vec Ideal S2816x1024 .bf16) (x5 x6 : Vec Ideal S1x1024 .f32)
    (H : Vec Ideal S2x2x8x5632 .f32) : Vec Ideal S2x256x1024 .f32 :=
  fun y => outAt x0 x1 x2 x3 x4 x5 x6 H (y 0) (y 1) (y 2)

/-! ## The vectors the computation passes along, against the tile's values -/

section Values

variable {x0 : Vec Ideal S2x256x1024 .f32} {x1 : Vec Ideal S1024x5632 .bf16} {x2 : Vec Ideal S3x5632 .f32}
  {x3 : Vec Ideal S1x5632 .f32} {x4 : Vec Ideal S2816x1024 .bf16} {x5 x6 : Vec Ideal S1x1024 .f32}
  {H : Vec Ideal S2x2x8x5632 .f32}

/-- The permuted tile holds time row `nat p` at row `p`. -/
theorem permTile_nat (s : Fin 2) (v : Fin 8 → Fin 8 → Vec Ideal S1x1x32x128 .f32)
    (hv : ∀ (a c : Fin 8) (q : Fin 32) (l : Fin 128), v a c (ix4 0 0 q l)
      = x0 (ix3 s ⟨8 * q.val + a.val, by omega⟩ ⟨128 * c.val + l.val, by omega⟩)) (p : Fin 256) (k : Fin 1024) :
    permTile v (ix2 p k) = x0 (ix3 s (nat p) k) := by
  rw [permTile_apply, hv]
  congr 2
  exact Fin.ext (by show 128 * (k.val / 128) + k.val % 128 = k.val; omega)

/-- A chunk's projection is the up-projection at time row `nat p`. -/
theorem proj_nat (s : Fin 2) (h : FVec Ideal S256x1024 .f32) (hh : ∀ p k, h (ix2 p k) = x0 (ix3 s (nat p) k))
    (c : ℕ) (hc : c + 256 ≤ 5632) (w : Vec Ideal S1024x256 .bf16)
    (hw : ∀ k (j : Fin 256), w (ix2 k j) = x1 (ix2 k ⟨c + j.val, by omega⟩)) (p j : Fin 256) :
    proj (cast16 h) w (ix2 p j) = upAt x0 x1 s (nat p) ⟨c + j.val, by omega⟩ := by
  rw [proj_apply]
  refine Finset.sum_congr rfl fun k _ => ?_
  rw [hw, ← hh p k]
  rfl

/-- A chunk's convolution is the convolved up-projection at time row `nat p`. -/
theorem taps_nat (s : Fin 2) (h : FVec Ideal S256x1024 .f32) (hh : ∀ p k, h (ix2 p k) = x0 (ix3 s (nat p) k))
    (c : ℕ) (hc : c + 256 ≤ 5632) (w : Vec Ideal S1024x256 .bf16)
    (hw : ∀ k (j : Fin 256), w (ix2 k j) = x1 (ix2 k ⟨c + j.val, by omega⟩))
    (H0 H1 : Vec Ideal S1x1x8x256 .f32)
    (hH0 : ∀ j : Fin 256, H0 (ix4 0 0 7 j) = H (ix4 s 0 7 ⟨c + j.val, by omega⟩))
    (hH1 : ∀ j : Fin 256, H1 (ix4 0 0 7 j) = H (ix4 s 1 7 ⟨c + j.val, by omega⟩))
    (cw : Vec Ideal S3x256 .f32) (hcw : ∀ i (j : Fin 256), cw (ix2 i j) = x2 (ix2 i ⟨c + j.val, by omega⟩))
    (cb : Vec Ideal S1x256 .f32) (hcb : ∀ j : Fin 256, cb (ix2 0 j) = x3 (ix2 0 ⟨c + j.val, by omega⟩)) (p j : Fin 256) :
    taps (proj (cast16 h) w) H0 H1 cw cb (ix2 p j) = convAt x0 x1 x2 x3 H s (nat p) ⟨c + j.val, by omega⟩ := by
  have hu := proj_nat s h hh c hc w hw
  rw [taps_apply, back1_apply _ _ (fun r j => upAt x0 x1 s r ⟨c + j.val, by omega⟩) hu,
    back2_apply _ _ _ (fun r j => upAt x0 x1 s r ⟨c + j.val, by omega⟩) hu, hu, hH0, hH1, hcw, hcw, hcw, hcb]
  unfold convAt prev1 prev2
  rfl

/-- The tile's result at permuted row `p`. -/
theorem norm_nat (s : Fin 2) (h : FVec Ideal S256x1024 .f32) (hh : ∀ p k, h (ix2 p k) = x0 (ix3 s (nat p) k))
    (G : Vec Ideal S1x256x2816 .bf16) (hG : ∀ p f, G (ix3 0 p f) = gateAt x0 x1 x2 x3 H s (nat p) f) (p : Fin 256) (d : Fin 1024) :
    norm (preNorm h G x4) x5 x6 (ix2 p d) = outAt x0 x1 x2 x3 x4 x5 x6 H s (nat p) d := by
  rw [norm_apply]
  unfold outAt
  congr 1
  funext d
  rw [preNorm_apply, hh]
  unfold preAt
  simp only [hG]

end Values

/-! ## The stored pieces -/

section Pieces

variable {x0 : Vec Ideal S2x256x1024 .f32} {x1 : Vec Ideal S1024x5632 .bf16} {x2 : Vec Ideal S3x5632 .f32}
  {x3 : Vec Ideal S1x5632 .f32} {x4 : Vec Ideal S2816x1024 .bf16} {x5 x6 : Vec Ideal S1x1024 .f32}
  {H : Vec Ideal S2x2x8x5632 .f32}

/-- A gated chunk agrees with `GATED`. -/
theorem gateBlk_agrees (s : Fin 2) (c : ℕ) (hc : c + 256 ≤ 2816) (a v : FVec Ideal S256x256 .f32)
    (ha : ∀ p j : Fin 256, a (ix2 p j) = convAt x0 x1 x2 x3 H s (nat p) ⟨c + j.val, by omega⟩)
    (hv : ∀ p j : Fin 256, v (ix2 p j) = convAt x0 x1 x2 x3 H s (nat p) ⟨2816 + c + j.val, by omega⟩)
    (inb) (x : S1x256x256.Idx) :
    gateBlk a v x = GATED x0 x1 x2 x3 H ((Rect.unit (s := S2x256x2816) ![s.val, 0, c] S1x256x256.size inb).emb x) := by
  obtain ⟨z, p, j, rfl⟩ : ∃ (z : Fin 1) (p j : Fin 256), x = ix3 z p j := ⟨x 0, x 1, x 2, eq_ix3 x⟩
  have e : (Rect.unit (s := S2x256x2816) ![s.val, 0, c] S1x256x256.size inb).emb (ix3 z p j)
      = ix3 s p ⟨c + j.val, by omega⟩ := by
    funext i
    match i with
    | ⟨0, _⟩ => exact Fin.ext (by show s.val + 1 * z.val = s.val; omega)
    | ⟨1, _⟩ => exact Fin.ext (by show 0 + 1 * p.val = p.val; omega)
    | ⟨2, _⟩ => exact Fin.ext (by show c + 1 * j.val = c + j.val; omega)
  rw [e, gateBlk_apply, ha, hv]
  show _ = gateAt x0 x1 x2 x3 H s (nat p) ⟨c + j.val, _⟩
  unfold gateAt
  congr 2
  exact Fin.ext (by show 2816 + c + j.val = 2816 + (c + j.val); omega)

/-- The carried rows of residue 6 agree with `HALO`. -/
theorem keep6_agrees (s : Fin 2) (h : FVec Ideal S256x1024 .f32) (hh : ∀ p k, h (ix2 p k) = x0 (ix3 s (nat p) k))
    (c : ℕ) (hc : c + 256 ≤ 5632) (w : Vec Ideal S1024x256 .bf16)
    (hw : ∀ k (j : Fin 256), w (ix2 k j) = x1 (ix2 k ⟨c + j.val, by omega⟩)) (inb) (x : S1x1x8x256.Idx) :
    keep8 (res6 (proj (cast16 h) w)) x
      = HALO x0 x1 ((Rect.unit (s := S2x2x8x5632) ![s.val, 0, 0, c] S1x1x8x256.size inb).emb x) := by
  obtain ⟨z, z', r, j, rfl⟩ : ∃ (z z' : Fin 1) (r : Fin 8) (j : Fin 256), x = ix4 z z' r j :=
    ⟨x 0, x 1, x 2, x 3, eq_ix4 x⟩
  have e : (Rect.unit (s := S2x2x8x5632) ![s.val, 0, 0, c] S1x1x8x256.size inb).emb (ix4 z z' r j)
      = ix4 s 0 r ⟨c + j.val, by omega⟩ := by
    funext i
    match i with
    | ⟨0, _⟩ => exact Fin.ext (by show s.val + 1 * z.val = s.val; omega)
    | ⟨1, _⟩ => exact Fin.ext (by show 0 + 1 * z'.val = 0; omega)
    | ⟨2, _⟩ => exact Fin.ext (by show 0 + 1 * r.val = r.val; omega)
    | ⟨3, _⟩ => exact Fin.ext (by show c + 1 * j.val = c + j.val; omega)
  rw [e, keep6_apply, proj_nat s h hh c hc w hw]
  show _ = upAt x0 x1 s ⟨8 * (24 + r.val) + 6 + 0, _⟩ _
  congr 1
  exact Fin.ext (by show 8 * ((216 + r.val) % 32) + (216 + r.val) / 32 = 8 * (24 + r.val) + 6 + 0; omega)

/-- The carried rows of residue 7 agree with `HALO`. -/
theorem keep7_agrees (s : Fin 2) (h : FVec Ideal S256x1024 .f32) (hh : ∀ p k, h (ix2 p k) = x0 (ix3 s (nat p) k))
    (c : ℕ) (hc : c + 256 ≤ 5632) (w : Vec Ideal S1024x256 .bf16)
    (hw : ∀ k (j : Fin 256), w (ix2 k j) = x1 (ix2 k ⟨c + j.val, by omega⟩)) (inb) (x : S1x1x8x256.Idx) :
    keep8 (res7 (proj (cast16 h) w)) x
      = HALO x0 x1 ((Rect.unit (s := S2x2x8x5632) ![s.val, 1, 0, c] S1x1x8x256.size inb).emb x) := by
  obtain ⟨z, z', r, j, rfl⟩ : ∃ (z z' : Fin 1) (r : Fin 8) (j : Fin 256), x = ix4 z z' r j :=
    ⟨x 0, x 1, x 2, x 3, eq_ix4 x⟩
  have e : (Rect.unit (s := S2x2x8x5632) ![s.val, 1, 0, c] S1x1x8x256.size inb).emb (ix4 z z' r j)
      = ix4 s 1 r ⟨c + j.val, by omega⟩ := by
    funext i
    match i with
    | ⟨0, _⟩ => exact Fin.ext (by show s.val + 1 * z.val = s.val; omega)
    | ⟨1, _⟩ => exact Fin.ext (by show 1 + 1 * z'.val = 1; omega)
    | ⟨2, _⟩ => exact Fin.ext (by show 0 + 1 * r.val = r.val; omega)
    | ⟨3, _⟩ => exact Fin.ext (by show c + 1 * j.val = c + j.val; omega)
  rw [e, keep7_apply, proj_nat s h hh c hc w hw]
  show _ = upAt x0 x1 s ⟨8 * (24 + r.val) + 6 + 1, _⟩ _
  congr 1
  exact Fin.ext (by show 8 * ((248 + r.val) % 32) + (248 + r.val) / 32 = 8 * (24 + r.val) + 6 + 1; omega)

/-- A stored lane chunk of the tile agrees with `PIN`. -/
theorem pin_agrees (s : Fin 2) (c : Fin 8) (w : Vec Ideal S1x256x128 .f32)
    (hw : ∀ (r : Fin 256) (l : Fin 128), w (ix3 0 r l) = x0 (ix3 s r ⟨128 * c.val + l.val, by omega⟩)) (inb)
    (x : S1x1x256x128.Idx) :
    pin w x = PIN x0 ((Rect.unit (s := S2x8x256x128) ![s.val, c.val, 0, 0] S1x1x256x128.size inb).emb x) := by
  obtain ⟨z, z', r, l, rfl⟩ : ∃ (z z' : Fin 1) (r : Fin 256) (l : Fin 128), x = ix4 z z' r l :=
    ⟨x 0, x 1, x 2, x 3, eq_ix4 x⟩
  have e : (Rect.unit (s := S2x8x256x128) ![s.val, c.val, 0, 0] S1x1x256x128.size inb).emb (ix4 z z' r l)
      = ix4 s c r l := by
    funext i
    match i with
    | ⟨0, _⟩ => exact Fin.ext (by show s.val + 1 * z.val = s.val; omega)
    | ⟨1, _⟩ => exact Fin.ext (by show c.val + 1 * z'.val = c.val; omega)
    | ⟨2, _⟩ => exact Fin.ext (by show 0 + 1 * r.val = r.val; omega)
    | ⟨3, _⟩ => exact Fin.ext (by show 0 + 1 * l.val = l.val; omega)
  rw [e]
  pointwise [pin]
  exact hw r l

/-- A stored residue class of a lane chunk of the result agrees with `POUT`. -/
theorem cutRows_agrees (s : Fin 2) (c a : Fin 8) (R : FVec Ideal S256x1024 .f32)
    (hR : ∀ p d, R (ix2 p d) = outAt x0 x1 x2 x3 x4 x5 x6 H s (nat p) d) (h) (inb) (hs)
    (x : S1x1x32x128.Idx) :
    cutRows R ![32 * a.val, 128 * c.val] h x = POUT x0 x1 x2 x3 x4 x5 x6 H
      ((⟨⟨![s.val, c.val, a.val, 0], S1x1x32x128.size, ![1, 1, 8, 1], inb⟩, hs⟩ : Rect S2x8x256x128).emb x) := by
  obtain ⟨z, z', q, l, rfl⟩ : ∃ (z z' : Fin 1) (q : Fin 32) (l : Fin 128), x = ix4 z z' q l :=
    ⟨x 0, x 1, x 2, x 3, eq_ix4 x⟩
  have e : (⟨⟨![s.val, c.val, a.val, 0], S1x1x32x128.size, ![1, 1, 8, 1], inb⟩, hs⟩ : Rect S2x8x256x128).emb (ix4 z z' q l)
      = ix4 s c ⟨8 * q.val + a.val, by omega⟩ l := by
    funext i
    match i with
    | ⟨0, _⟩ => exact Fin.ext (by show s.val + 1 * z.val = s.val; omega)
    | ⟨1, _⟩ => exact Fin.ext (by show c.val + 1 * z'.val = c.val; omega)
    | ⟨2, _⟩ => exact Fin.ext (by show a.val + 8 * q.val = 8 * q.val + a.val; omega)
    | ⟨3, _⟩ => exact Fin.ext (by show 0 + 1 * l.val = l.val; omega)
  rw [e]
  pointwise [cutRows]
  rw [hR]
  show _ = outAt x0 x1 x2 x3 x4 x5 x6 H s ⟨8 * q.val + a.val, _⟩ ⟨128 * c.val + l.val, _⟩
  congr 1
  exact Fin.ext (by show 8 * ((32 * a.val + q.val) % 32) + (32 * a.val + q.val) / 32 = 8 * q.val + a.val; omega)

/-- A stored lane chunk of the output tile agrees with `OUT`. -/
theorem pout_agrees (s : Fin 2) (c : Fin 8) (w : Vec Ideal S1x1x256x128 .f32)
    (hw : ∀ (r : Fin 256) (l : Fin 128), w (ix4 0 0 r l)
      = outAt x0 x1 x2 x3 x4 x5 x6 H s r ⟨128 * c.val + l.val, by omega⟩) (inb) (x : S1x256x128.Idx) :
    pout w x = OUT x0 x1 x2 x3 x4 x5 x6 H
      ((Rect.unit (s := S2x256x1024) ![s.val, 0, 128 * c.val] S1x256x128.size inb).emb x) := by
  obtain ⟨z, r, l, rfl⟩ : ∃ (z : Fin 1) (r : Fin 256) (l : Fin 128), x = ix3 z r l := ⟨x 0, x 1, x 2, eq_ix3 x⟩
  have e : (Rect.unit (s := S2x256x1024) ![s.val, 0, 128 * c.val] S1x256x128.size inb).emb (ix3 z r l)
      = ix3 s r ⟨128 * c.val + l.val, by omega⟩ := by
    funext i
    match i with
    | ⟨0, _⟩ => exact Fin.ext (by show s.val + 1 * z.val = s.val; omega)
    | ⟨1, _⟩ => exact Fin.ext (by show 0 + 1 * r.val = r.val; omega)
    | ⟨2, _⟩ => exact Fin.ext (by show 128 * c.val + 1 * l.val = 128 * c.val + l.val; omega)
  rw [e]
  pointwise [pout]
  exact hw r l

end Pieces

end Cert.KernelIdeal.Ffn
-- ==== Proof.Ffn.Seq.lean ====
/- The feed-forward block over whole sequences, and the tile formula read as a piece of it: row `r` of tile `t` is
   time step `256 * t + r`, and the rows carried into a tile are the two steps before it (zero before the first). -/
module

public import proofs.«01_k».proof.Proof.Ffn.Tile

@[expose] public section

noncomputable section

namespace Cert.KernelIdeal.Ffn

open Idealize.ShloMosaic Idealize.ShloMosaic.TcCoe
open Cert.KernelIdeal Cert.KernelIdeal.Gen

variable (a0 : Vec Ideal S8x4096x1024 .f32) (a1 : Vec Ideal S1x1024x5632 .f32) (a2 : Vec Ideal S1x3x5632 .f32)
  (a3 : Vec Ideal S1x5632 .f32) (a4 : Vec Ideal S1x2816x1024 .f32) (a5 a6 : Vec Ideal S1x1024 .f32)

/-- The up-projection at sequence `b`, step `t`. -/
def upSeq (b : Fin 8) (t : Fin 4096) (col : Fin 5632) : EReal := ∑ k : Fin 1024, a0 (ix3 b t k) * a1 (ix3 0 k col)

/-- The up-projection `d` steps earlier, zero before the sequence starts. -/
def earlier (b : Fin 8) (t : Fin 4096) (d : ℕ) (col : Fin 5632) : EReal :=
  if t.val < d then 0 else upSeq a0 a1 b ⟨t.val - d, by omega⟩ col

/-- The causal convolution of width three. -/
def convSeq (b : Fin 8) (t : Fin 4096) (col : Fin 5632) : EReal :=
  a3 (ix2 0 col) + a2 (ix3 0 0 col) * earlier a0 a1 b t 2 col + a2 (ix3 0 1 col) * earlier a0 a1 b t 1 col
    + a2 (ix3 0 2 col) * upSeq a0 a1 b t col

/-- The gated value. -/
def gateSeq (b : Fin 8) (t : Fin 4096) (f : Fin 2816) : EReal :=
  actS (convSeq a0 a1 a2 a3 b t ⟨f.val, by omega⟩) * convSeq a0 a1 a2 a3 b t ⟨2816 + f.val, by omega⟩

/-- The residual plus the down-projection. -/
def preSeq (b : Fin 8) (t : Fin 4096) (d : Fin 1024) : EReal :=
  Ideal.ofBits .f32 0x3F9837F0#32 * a0 (ix3 b t d) + ∑ f : Fin 2816, gateSeq a0 a1 a2 a3 b t f * a4 (ix3 0 f d)

/-- The block's result. -/
def outSeq (b : Fin 8) (t : Fin 4096) (d : Fin 1024) : EReal :=
  normS (preSeq a0 a1 a2 a3 a4 b t) (a5 (ix2 0 d)) (a6 (ix2 0 d)) d

/-- The result array. -/
def RES : Vec Ideal S8x4096x1024 .f32 := fun y => outSeq a0 a1 a2 a3 a4 a5 a6 (y 0) (y 1) (y 2)

variable {a0 a1 a2 a3 a4 a5 a6}
variable {x0 : Vec Ideal S2x256x1024 .f32} {x1 : Vec Ideal S1024x5632 .bf16} {x2 : Vec Ideal S3x5632 .f32}
  {x3 : Vec Ideal S1x5632 .f32} {x4 : Vec Ideal S2816x1024 .bf16} {x5 x6 : Vec Ideal S1x1024 .f32}
  {H : Vec Ideal S2x2x8x5632 .f32}

/-- Sequence `s` of pair `g`. -/
abbrev seqIx (g : Fin 4) (s : Fin 2) : Fin 8 := ⟨2 * g.val + s.val, by omega⟩

/-- Row `r` of tile `q`. -/
abbrev stepIx (q : Fin 16) (r : Fin 256) : Fin 4096 := ⟨256 * q.val + r.val, by omega⟩

/-- A tile of the hidden state at pair `g`, tile `q`. -/
def IsTile (a0 : Vec Ideal S8x4096x1024 .f32) (g : Fin 4) (q : Fin 16) (x0 : Vec Ideal S2x256x1024 .f32) : Prop :=
  ∀ s r k, x0 (ix3 s r k) = a0 (ix3 (seqIx g s) (stepIx q r) k)

/-- The rows carried into tile `q` of pair `g`: the two steps before it. -/
def IsHalo (a0 : Vec Ideal S8x4096x1024 .f32) (a1 : Vec Ideal S1x1024x5632 .f32) (g : Fin 4) (q : Fin 16)
    (H : Vec Ideal S2x2x8x5632 .f32) : Prop :=
  ∀ (s k : Fin 2) col, H (ix4 s k 7 col) = earlier a0 a1 (seqIx g s) (stepIx q 0) (2 - k.val) col

theorem upAt_seq {g : Fin 4} {q : Fin 16} (h0 : IsTile a0 g q x0) (h1 : ∀ k col, x1 (ix2 k col) = a1 (ix3 0 k col))
    (s : Fin 2) (r : Fin 256) (col : Fin 5632) : upAt x0 x1 s r col = upSeq a0 a1 (seqIx g s) (stepIx q r) col :=
  Finset.sum_congr rfl fun k _ => by rw [h0, h1]

theorem earlier_of_le (b : Fin 8) (t t' : Fin 4096) (d : ℕ) (col : Fin 5632) (h : t'.val + d = t.val) :
    earlier a0 a1 b t d col = upSeq a0 a1 b t' col := by
  unfold earlier
  rw [if_neg (by omega)]
  congr 1
  exact Fin.ext (by show t.val - d = t'.val; omega)

theorem earlier_congr (b : Fin 8) (t t' : Fin 4096) (d d' : ℕ) (col : Fin 5632) (h : t'.val + d = t.val + d') :
    earlier a0 a1 b t d col = earlier a0 a1 b t' d' col := by
  unfold earlier
  by_cases hd : t.val < d
  · rw [if_pos hd, if_pos (by omega)]
  · rw [if_neg hd, if_neg (by omega)]
    congr 1
    exact Fin.ext (by show t.val - d = t'.val - d'; omega)

/-- The rows a tile leaves are the ones the next tile of the pair takes. -/
theorem halo_next {g : Fin 4} {q q' : Fin 16} (hq : q'.val = q.val + 1) (h0 : IsTile a0 g q x0)
    (h1 : ∀ k col, x1 (ix2 k col) = a1 (ix3 0 k col)) : IsHalo a0 a1 g q' (HALO x0 x1) := fun s k col => by
  show haloAt x0 x1 s k 7 col = _
  unfold haloAt
  rw [upAt_seq h0 h1]
  refine (earlier_of_le _ _ _ _ _ ?_).symm
  show 256 * q.val + (8 * (24 + 7) + 6 + k.val) + (2 - k.val) = 256 * q'.val + 0
  omega

/-- Before the first tile of a pair there is nothing. -/
theorem halo_first {g : Fin 4} {q : Fin 16} (hq : q.val = 0) : IsHalo a0 a1 g q (fun _ => (0 : EReal)) := fun s k col => by
  unfold earlier
  rw [if_pos]
  show 256 * q.val + 0 < 2 - k.val
  omega

/-- The tile formula at row `r` of tile `q` is the sequence formula at step `256 * q + r`. -/
theorem convAt_seq {g : Fin 4} {q : Fin 16} (h0 : IsTile a0 g q x0) (h1 : ∀ k col, x1 (ix2 k col) = a1 (ix3 0 k col))
    (h2 : ∀ i col, x2 (ix2 i col) = a2 (ix3 0 i col)) (h3 : ∀ col, x3 (ix2 0 col) = a3 (ix2 0 col))
    (hH : IsHalo a0 a1 g q H) (s : Fin 2) (r : Fin 256) (col : Fin 5632) :
    convAt x0 x1 x2 x3 H s r col = convSeq a0 a1 a2 a3 (seqIx g s) (stepIx q r) col := by
  have e1 : prev1 x0 x1 H s r col = earlier a0 a1 (seqIx g s) (stepIx q r) 1 col := by
    unfold prev1
    by_cases hr : r.val = 0
    · rw [dif_pos hr, hH]
      exact earlier_congr _ _ _ _ _ _ (by show 256 * q.val + r.val + (2 - 1) = 256 * q.val + 0 + 1; omega)
    · rw [dif_neg hr, upAt_seq h0 h1]
      exact (earlier_of_le _ _ _ _ _ (by show 256 * q.val + (r.val - 1) + 1 = 256 * q.val + r.val; omega)).symm
  have e2 : prev2 x0 x1 H s r col = earlier a0 a1 (seqIx g s) (stepIx q r) 2 col := by
    unfold prev2
    by_cases hr : r.val = 0
    · rw [dif_pos hr, hH]
      exact earlier_congr _ _ _ _ _ _ (by show 256 * q.val + r.val + (2 - 0) = 256 * q.val + 0 + 2; omega)
    · rw [dif_neg hr]
      by_cases hr1 : r.val = 1
      · rw [dif_pos hr1, hH]
        exact earlier_congr _ _ _ _ _ _ (by show 256 * q.val + r.val + (2 - 1) = 256 * q.val + 0 + 2; omega)
      · rw [dif_neg hr1, upAt_seq h0 h1]
        exact (earlier_of_le _ _ _ _ _ (by show 256 * q.val + (r.val - 2) + 2 = 256 * q.val + r.val; omega)).symm
  unfold convAt convSeq
  rw [e1, e2, upAt_seq h0 h1, h2, h2, h2, h3]

theorem outAt_seq {g : Fin 4} {q : Fin 16} (h0 : IsTile a0 g q x0) (h1 : ∀ k col, x1 (ix2 k col) = a1 (ix3 0 k col))
    (h2 : ∀ i col, x2 (ix2 i col) = a2 (ix3 0 i col)) (h3 : ∀ col, x3 (ix2 0 col) = a3 (ix2 0 col))
    (h4 : ∀ f d, x4 (ix2 f d) = a4 (ix3 0 f d)) (h5 : ∀ d, x5 (ix2 0 d) = a5 (ix2 0 d)) (h6 : ∀ d, x6 (ix2 0 d) = a6 (ix2 0 d))
    (hH : IsHalo a0 a1 g q H) (s : Fin 2) (r : Fin 256) (d : Fin 1024) :
    outAt x0 x1 x2 x3 x4 x5 x6 H s r d = outSeq a0 a1 a2 a3 a4 a5 a6 (seqIx g s) (stepIx q r) d := by
  have e : preAt x0 x1 x2 x3 x4 H s r = preSeq a0 a1 a2 a3 a4 (seqIx g s) (stepIx q r) := by
    funext d
    unfold preAt preSeq gateAt gateSeq
    rw [h0]
    congr 1
    refine Finset.sum_congr rfl fun f _ => ?_
    rw [convAt_seq h0 h1 h2 h3 hH, convAt_seq h0 h1 h2 h3 hH, h4]
  unfold outAt outSeq
  rw [e, h5, h6]

end Cert.KernelIdeal.Ffn
-- ==== Proof.Ffn.Stores.lean ====
/- The stores of one grid point, buffer by buffer, as lists built from one function of the store's number: the
   tile stored lane chunk by lane chunk, the carried rows, the gated chunks, the result's residue classes, and
   the output tile. Each list's newest store stands first. -/
module

public import proofs.«01_k».proof.Proof.Ffn.Clean
public import proofs.«01_k».proof.Proof.Gen.KernelIdeal.Value

@[expose] public section

set_option maxRecDepth 16384

noncomputable section

namespace Cert.KernelIdeal.Ffn

open Idealize.ShloMosaic Idealize.ShloMosaic.TcCoe
open Cert.KernelIdeal Cert.KernelIdeal.Gen

/-- `f 0`, …, `f (n - 1)` put in front of `base`, the last of them first. -/
def upTo {α : Type} (f : ℕ → α) (base : List α) : ℕ → List α
  | 0 => base
  | n + 1 => f n :: upTo f base n

/-! ## Where each load and store lies -/

/-- The first column of chunk `n`: chunks are counted by stream, column chunk, half and carried row. -/
abbrev colOf (n : ℕ) : ℕ := 2816 * (n % 4 / 2) + 256 * (n % 44 / 4)

theorem inbTile (s c : ℕ) : ∀ a, (![s % 2, 0, 128 * (c % 8)] : Fin 3 → ℕ) a + S1x256x128.size a ≤ S2x256x1024.size a :=
  fun a => match a with
    | ⟨0, _⟩ => by show s % 2 + 1 ≤ 2; omega
    | ⟨1, _⟩ => by show 0 + 256 ≤ 256; omega
    | ⟨2, _⟩ => by show 128 * (c % 8) + 128 ≤ 1024; omega

theorem inbLane (s c : ℕ) : ∀ a, (![s % 2, c % 8, 0, 0] : Fin 4 → ℕ) a + S1x1x256x128.size a ≤ S2x8x256x128.size a :=
  fun a => match a with
    | ⟨0, _⟩ => by show s % 2 + 1 ≤ 2; omega
    | ⟨1, _⟩ => by show c % 8 + 1 ≤ 8; omega
    | ⟨2, _⟩ => by show 0 + 256 ≤ 256; omega
    | ⟨3, _⟩ => by show 0 + 128 ≤ 128; omega

theorem inbStep (s c a : ℕ) : ∀ i, S1x1x32x128.size i = 0 ∨
    (![s % 2, c % 8, a % 8, 0] : Fin 4 → ℕ) i + (![1, 1, 8, 1] : Fin 4 → ℕ) i * (S1x1x32x128.size i - 1) < S2x8x256x128.size i :=
  fun i => match i with
    | ⟨0, _⟩ => .inr (by show s % 2 + 1 * (1 - 1) < 2; omega)
    | ⟨1, _⟩ => .inr (by show c % 8 + 1 * (1 - 1) < 8; omega)
    | ⟨2, _⟩ => .inr (by show a % 8 + 8 * (32 - 1) < 256; omega)
    | ⟨3, _⟩ => .inr (by show 0 + 1 * (128 - 1) < 128; omega)

theorem stepPos : ∀ i, 0 < (![1, 1, 8, 1] : Fin 4 → ℕ) i :=
  fun i => match i with
    | ⟨0, _⟩ => by show 0 < 1; omega
    | ⟨1, _⟩ => by show 0 < 1; omega
    | ⟨2, _⟩ => by show 0 < 8; omega
    | ⟨3, _⟩ => by show 0 < 1; omega

theorem inbUp (n : ℕ) : ∀ a, (![0, colOf n] : Fin 2 → ℕ) a + S1024x256.size a ≤ S1024x5632.size a :=
  fun a => match a with
    | ⟨0, _⟩ => by show 0 + 1024 ≤ 1024; omega
    | ⟨1, _⟩ => by show 2816 * (n % 4 / 2) + 256 * (n % 44 / 4) + 256 ≤ 5632; omega

theorem inbConv (n : ℕ) : ∀ a, (![0, colOf n] : Fin 2 → ℕ) a + S3x256.size a ≤ S3x5632.size a :=
  fun a => match a with
    | ⟨0, _⟩ => by show 0 + 3 ≤ 3; omega
    | ⟨1, _⟩ => by show 2816 * (n % 4 / 2) + 256 * (n % 44 / 4) + 256 ≤ 5632; omega

theorem inbBias (n : ℕ) : ∀ a, (![0, colOf n] : Fin 2 → ℕ) a + S1x256.size a ≤ S1x5632.size a :=
  fun a => match a with
    | ⟨0, _⟩ => by show 0 + 1 ≤ 1; omega
    | ⟨1, _⟩ => by show 2816 * (n % 4 / 2) + 256 * (n % 44 / 4) + 256 ≤ 5632; omega

theorem inbCarry (n : ℕ) : ∀ a, (![n / 44 % 2, n % 2, 0, colOf n] : Fin 4 → ℕ) a + S1x1x8x256.size a ≤ S2x2x8x5632.size a :=
  fun a => match a with
    | ⟨0, _⟩ => by show n / 44 % 2 + 1 ≤ 2; omega
    | ⟨1, _⟩ => by show n % 2 + 1 ≤ 2; omega
    | ⟨2, _⟩ => by show 0 + 8 ≤ 8; omega
    | ⟨3, _⟩ => by show 2816 * (n % 4 / 2) + 256 * (n % 44 / 4) + 256 ≤ 5632; omega

theorem inbGate (n : ℕ) : ∀ a, (![n / 11 % 2, 0, 256 * (n % 11)] : Fin 3 → ℕ) a + S1x256x256.size a ≤ S2x256x2816.size a :=
  fun a => match a with
    | ⟨0, _⟩ => by show n / 11 % 2 + 1 ≤ 2; omega
    | ⟨1, _⟩ => by show 0 + 256 ≤ 256; omega
    | ⟨2, _⟩ => by show 256 * (n % 11) + 256 ≤ 2816; omega

theorem inbGated (s : ℕ) : ∀ a, (![s % 2, 0, 0] : Fin 3 → ℕ) a + S1x256x2816.size a ≤ S2x256x2816.size a :=
  fun a => match a with
    | ⟨0, _⟩ => by show s % 2 + 1 ≤ 2; omega
    | ⟨1, _⟩ => by show 0 + 256 ≤ 256; omega
    | ⟨2, _⟩ => by show 0 + 2816 ≤ 2816; omega

theorem slicesCutFin : ∀ a c : Fin 8, S256x1024.Slices ![32 * a.val, 128 * c.val] S32x128 := by decide

theorem slicesCut (a c : ℕ) : S256x1024.Slices ![32 * (a % 8), 128 * (c % 8)] S32x128 :=
  slicesCutFin ⟨a % 8, by omega⟩ ⟨c % 8, by omega⟩

/-- Rows `a`, `a + 8`, … of lane chunk `c` of stream `s`. -/
abbrev stepRect (s c a : ℕ) : Rect S2x8x256x128 :=
  ⟨⟨![s % 2, c % 8, a % 8, 0], S1x1x32x128.size, ![1, 1, 8, 1], inbStep s c a⟩, stepPos⟩

/-- The carried rows of chunk `n`. -/
abbrev carryRect (n : ℕ) : Rect S2x2x8x5632 :=
  Rect.unit ![n / 44 % 2, n % 2, 0, colOf n] S1x1x8x256.size (inbCarry n)

variable {F : FTy → Type} [FloatOps F]

section Memory

variable (arg2 : Memref sig .tc .vmem S2x256x1024 .f32) (harg2 : arg2.IsWhole)
  (arg3 : Memref sig .tc .vmem S1024x5632 .bf16) (harg3 : arg3.IsWhole)
  (arg4 : Memref sig .tc .vmem S3x5632 .f32) (harg4 : arg4.IsWhole)
  (arg5 : Memref sig .tc .vmem S1x5632 .f32) (harg5 : arg5.IsWhole)
  (arg6 : Memref sig .tc .vmem S2816x1024 .bf16) (harg6 : arg6.IsWhole)
  (arg7 : Memref sig .tc .vmem S1x1024 .f32) (harg7 : arg7.IsWhole)
  (arg8 : Memref sig .tc .vmem S1x1024 .f32) (harg8 : arg8.IsWhole)
  (arg11 arg12 : Memref sig .tc .vmem S2x8x256x128 .f32) (arg13 : Memref sig .tc .vmem S2x256x2816 .bf16)
  (x0 : Vec F S2x256x1024 .f32) (x1 : Vec F S1024x5632 .bf16) (x2 : Vec F S3x5632 .f32) (x3 : Vec F S1x5632 .f32)
  (x4 : Vec F S2816x1024 .bf16) (x5 x6 : Vec F S1x1024 .f32)
  (hl : ℕ → Vec F S1x1x8x256 .f32)

/-- Store `n` of the tile: lane chunk `n % 8` of stream `n / 8`. -/
def pinPiece (n : ℕ) : View.Piece (Elt F) S2x8x256x128 .f32 :=
  ⟨Rect.unit ![n / 8 % 2, n % 8, 0, 0] S1x1x256x128.size (inbLane (n / 8) n),
    pin (View.readAt (Elt F) arg2.view (Rect.unit (s := S2x256x1024) ![n / 8 % 2, 0, 128 * (n % 8)] S1x256x128.size (inbTile (n / 8) n)).toLoadRect
      (harg2.unread x0))⟩

/-- The permuted tile of stream `s`, read back by residue classes. -/
def tileOf (s : ℕ) : FVec F S256x1024 .f32 :=
  permTile fun a c => arg11.view.readCov (upTo (pinPiece arg2 harg2 x0) [] (8 * (s + 1))) (stepRect s c.val a.val).toLoadRect

/-- Up-projection chunk `n`. -/
def upOf (n : ℕ) : FVec F S256x256 .f32 :=
  proj (cast16 (tileOf arg2 harg2 arg11 x0 (n / 44)))
    (View.readAt (Elt F) arg3.view (Rect.unit (s := S1024x5632) ![0, colOf n] S1024x256.size (inbUp n)).toLoadRect (harg3.unread x1))

/-- Store `n` of the carried rows. -/
def carryPiece (n : ℕ) : View.Piece (Elt F) S2x2x8x5632 .f32 :=
  ⟨carryRect n, bif n % 2 == 0 then keep8 (res6 (upOf arg2 harg2 arg3 harg3 arg11 x0 x1 n))
    else keep8 (res7 (upOf arg2 harg2 arg3 harg3 arg11 x0 x1 n))⟩

/-- The convolution of chunk `n`, whose carried rows are the loads `n` and `n + 1`. -/
def convOf (n : ℕ) : FVec F S256x256 .f32 :=
  taps (upOf arg2 harg2 arg3 harg3 arg11 x0 x1 n) (hl n) (hl (n + 1))
    (View.readAt (Elt F) arg4.view (Rect.unit (s := S3x5632) ![0, colOf n] S3x256.size (inbConv n)).toLoadRect (harg4.unread x2))
    (View.readAt (Elt F) arg5.view (Rect.unit (s := S1x5632) ![0, colOf n] S1x256.size (inbBias n)).toLoadRect (harg5.unread x3))

/-- Store `n` of the gated values. -/
def gatePiece (n : ℕ) : View.Piece (Elt F) S2x256x2816 .bf16 :=
  ⟨Rect.unit ![n / 11 % 2, 0, 256 * (n % 11)] S1x256x256.size (inbGate n),
    gateBlk (convOf arg2 harg2 arg3 harg3 arg4 harg4 arg5 harg5 arg11 x0 x1 x2 x3 hl (4 * n))
      (convOf arg2 harg2 arg3 harg3 arg4 harg4 arg5 harg5 arg11 x0 x1 x2 x3 hl (4 * n + 2))⟩

/-- The normalised result of stream `s`. -/
def resOf (s : ℕ) : FVec F S256x1024 .f32 :=
  norm (preNorm (tileOf arg2 harg2 arg11 x0 s)
      (arg13.view.readCov (upTo (gatePiece arg2 harg2 arg3 harg3 arg4 harg4 arg5 harg5 arg11 x0 x1 x2 x3 hl) [] 22)
        (Rect.unit (s := S2x256x2816) ![s % 2, 0, 0] S1x256x2816.size (inbGated s)).toLoadRect)
      (View.readAt (Elt F) arg6.view (Rect.unit (s := S2816x1024) ![0, 0] S2816x1024.size inb_S2816x1024_S2816x1024_0_0).toLoadRect (harg6.unread x4)))
    (View.readAt (Elt F) arg7.view (Rect.unit (s := S1x1024) ![0, 0] S1x1024.size inb_S1x1024_S1x1024_0_0).toLoadRect (harg7.unread x5))
    (View.readAt (Elt F) arg8.view (Rect.unit (s := S1x1024) ![0, 0] S1x1024.size inb_S1x1024_S1x1024_0_0).toLoadRect (harg8.unread x6))

/-- Store `n` of the result: residue class `n % 8` of lane chunk `n / 8 % 8` of stream `n / 64`. -/
def cutPiece (n : ℕ) : View.Piece (Elt F) S2x8x256x128 .f32 :=
  ⟨stepRect (n / 64) (n / 8) n,
    cutRows (resOf arg2 harg2 arg3 harg3 arg4 harg4 arg5 harg5 arg6 harg6 arg7 harg7 arg8 harg8 arg11 arg13 x0 x1 x2 x3 x4 x5 x6 hl (n / 64))
      ![32 * (n % 8), 128 * (n / 8 % 8)] (slicesCut n (n / 8))⟩

/-- Store `n` of the output tile. -/
def outPiece (n : ℕ) : View.Piece (Elt F) S2x256x1024 .f32 :=
  ⟨Rect.unit ![n / 8 % 2, 0, 128 * (n % 8)] S1x256x128.size (inbTile (n / 8) n),
    pout (arg12.view.readCov
      (upTo (cutPiece arg2 harg2 arg3 harg3 arg4 harg4 arg5 harg5 arg6 harg6 arg7 harg7 arg8 harg8 arg11 arg13 x0 x1 x2 x3 x4 x5 x6 hl)
        [] (64 * (n / 8 + 1)))
      (Rect.unit (s := S2x8x256x128) ![n / 8 % 2, n % 8, 0, 0] S1x1x256x128.size (inbLane (n / 8) n)).toLoadRect)⟩

end Memory

end Cert.KernelIdeal.Ffn
-- ==== Proof.Ffn.StoresAt.lean ====
/- What the stores of one grid point leave, at an index: each list of Stores.lean read through the function its
   pieces agree with, from the tile to the output, given what the loads of the carried rows read. -/
module

public import proofs.«01_k».proof.Proof.Ffn.Stores
public import proofs.«01_k».proof.Proof.Ffn.Tile

@[expose] public section

set_option maxRecDepth 16384

noncomputable section

namespace Cert.KernelIdeal.Ffn

open Idealize.ShloMosaic Idealize.ShloMosaic.TcCoe
open Cert.KernelIdeal Cert.KernelIdeal.Gen

/-! ## Reading a list of stores -/

/-- Where one of the stores reaches, the stores leave the function they agree with. -/
theorem canon_upTo {S : Shape} {e : EltTy} {G : S.Idx → Elt Ideal e} (f : ℕ → View.Piece (Elt Ideal) S e)
    (base : List (View.Piece (Elt Ideal) S e)) (y : S.Idx) : ∀ n : ℕ,
    (∀ k < n, ∀ x : (f k).1.shape.Idx, (f k).2 x = G ((f k).1.emb x)) →
    (∃ k < n, ∃ x : (f k).1.shape.Idx, (f k).1.emb x = y) → View.canon (upTo f base n) y = G y
  | 0, _, ⟨_, hk, _⟩ => absurd hk (by omega)
  | n + 1, h, hy => by
    show View.canon (f n :: upTo f base n) y = G y
    by_cases hn : ∃ x : (f n).1.shape.Idx, (f n).1.emb x = y
    · obtain ⟨x, rfl⟩ := hn
      exact (View.canon_cons_emb (f n).1 (f n).2 _ x).trans (h n (by omega) x)
    · rw [View.canon_cons_of_not_mem]
      · refine canon_upTo f base y n (fun k hk => h k (by omega)) ?_
        obtain ⟨k, hk, x, hx⟩ := hy
        rcases Nat.lt_succ_iff_lt_or_eq.mp hk with hk | rfl
        · exact ⟨k, hk, x, hx⟩
        · exact absurd ⟨x, hx⟩ hn
      · intro hm
        rw [← Rect.map_emb_univ, Finset.mem_map] at hm
        obtain ⟨x, -, hx⟩ := hm
        exact hn ⟨x, hx⟩

/-- Where none of the stores reaches, what was stored before stays. -/
theorem canon_upTo_miss {S : Shape} {e : EltTy} (f : ℕ → View.Piece (Elt Ideal) S e)
    (base : List (View.Piece (Elt Ideal) S e)) (y : S.Idx) : ∀ n : ℕ,
    (∀ k < n, y ∉ (f k).1.set) → View.canon (upTo f base n) y = View.canon base y
  | 0, _ => rfl
  | n + 1, h => by
    show View.canon (f n :: upTo f base n) y = _
    rw [View.canon_cons_of_not_mem _ _ (h n (by omega))]
    exact canon_upTo_miss f base y n fun k hk => h k (by omega)

section Memory

variable {arg2 : Memref sig .tc .vmem S2x256x1024 .f32} {harg2 : arg2.IsWhole}
  {arg3 : Memref sig .tc .vmem S1024x5632 .bf16} {harg3 : arg3.IsWhole}
  {arg4 : Memref sig .tc .vmem S3x5632 .f32} {harg4 : arg4.IsWhole}
  {arg5 : Memref sig .tc .vmem S1x5632 .f32} {harg5 : arg5.IsWhole}
  {arg6 : Memref sig .tc .vmem S2816x1024 .bf16} {harg6 : arg6.IsWhole}
  {arg7 : Memref sig .tc .vmem S1x1024 .f32} {harg7 : arg7.IsWhole}
  {arg8 : Memref sig .tc .vmem S1x1024 .f32} {harg8 : arg8.IsWhole}
  {arg11 arg12 : Memref sig .tc .vmem S2x8x256x128 .f32} {arg13 : Memref sig .tc .vmem S2x256x2816 .bf16}
  {x0 : Vec Ideal S2x256x1024 .f32} {x1 : Vec Ideal S1024x5632 .bf16} {x2 : Vec Ideal S3x5632 .f32}
  {x3 : Vec Ideal S1x5632 .f32} {x4 : Vec Ideal S2816x1024 .bf16} {x5 x6 : Vec Ideal S1x1024 .f32}
  {hl : ℕ → Vec Ideal S1x1x8x256 .f32} {H : Vec Ideal S2x2x8x5632 .f32}

/-! ## The tile -/

theorem pinPiece_agrees (n : ℕ) (x : S1x1x256x128.Idx) :
    (pinPiece arg2 harg2 x0 n).2 x = PIN x0 ((pinPiece arg2 harg2 x0 n).1.emb x) := by
  have e : (pinPiece arg2 harg2 x0 n).2 = pin (View.readAt (Elt Ideal) arg2.view
      (Rect.unit (s := S2x256x1024) ![n / 8 % 2, 0, 128 * (n % 8)] S1x256x128.size (inbTile (n / 8) n)).toLoadRect (harg2.unread x0)) := rfl
  rw [e]
  refine pin_agrees ⟨n / 8 % 2, by omega⟩ ⟨n % 8, by omega⟩ _ (fun r l => ?_) (inbLane (n / 8) n) x
  rw [Memref.IsWhole.readAt_unread]
  congr 1
  funext i
  match i with
  | ⟨0, _⟩ => exact Fin.ext (by show n / 8 % 2 + 1 * 0 = n / 8 % 2; omega)
  | ⟨1, _⟩ => exact Fin.ext (by show 0 + 1 * r.val = r.val; omega)
  | ⟨2, _⟩ => exact Fin.ext (by show 128 * (n % 8) + 1 * l.val = 128 * (n % 8) + l.val; omega)

/-- The permuted tile, at an index. -/
theorem tileOf_nat (s : Fin 2) (p : Fin 256) (k : Fin 1024) :
    tileOf arg2 harg2 arg11 x0 s.val (ix2 p k) = x0 (ix3 s (nat p) k) := by
  refine permTile_nat s _ (fun a c q l => ?_) p k
  rw [View.readCov_eq_canon']
  have e : (stepRect s.val c.val a.val).toLoadRect.idx (ix4 0 0 q l) = (ix4 s c ⟨8 * q.val + a.val, by omega⟩ l : S2x8x256x128.Idx) := by
    funext i
    match i with
    | ⟨0, _⟩ => exact Fin.ext (by show s.val % 2 + 1 * 0 = s.val; omega)
    | ⟨1, _⟩ => exact Fin.ext (by show c.val % 8 + 1 * 0 = c.val; omega)
    | ⟨2, _⟩ => exact Fin.ext (by show a.val % 8 + 8 * q.val = 8 * q.val + a.val; omega)
    | ⟨3, _⟩ => exact Fin.ext (by show 0 + 1 * l.val = l.val; omega)
  show View.canon _ ((stepRect s.val c.val a.val).toLoadRect.idx (ix4 0 0 q l)) = _
  rw [e, canon_upTo (G := PIN x0) _ _ _ _ (fun n _ => pinPiece_agrees n)]
  · rfl
  · refine ⟨8 * s.val + c.val, by omega, ix4 0 0 ⟨8 * q.val + a.val, by omega⟩ l, ?_⟩
    funext i
    match i with
    | ⟨0, _⟩ => exact Fin.ext (by show (8 * s.val + c.val) / 8 % 2 + 1 * 0 = s.val; omega)
    | ⟨1, _⟩ => exact Fin.ext (by show (8 * s.val + c.val) % 8 + 1 * 0 = c.val; omega)
    | ⟨2, _⟩ => exact Fin.ext (by show 0 + 1 * (8 * q.val + a.val) = 8 * q.val + a.val; omega)
    | ⟨3, _⟩ => exact Fin.ext (by show 0 + 1 * l.val = l.val; omega)

/-! ## The carried rows and the gate -/

theorem colOf_le (n : ℕ) : colOf n + 256 ≤ 5632 := by
  show 2816 * (n % 4 / 2) + 256 * (n % 44 / 4) + 256 ≤ 5632
  omega

theorem ldUp_apply (n : ℕ) (k : Fin 1024) (j : Fin 256) :
    View.readAt (Elt Ideal) arg3.view (Rect.unit (s := S1024x5632) ![0, colOf n] S1024x256.size (inbUp n)).toLoadRect
      (harg3.unread x1) (ix2 k j : S1024x256.Idx) = x1 (ix2 k ⟨colOf n + j.val, by have := colOf_le n; omega⟩) := by
  rw [Memref.IsWhole.readAt_unread]
  congr 1
  funext i
  match i with
  | ⟨0, _⟩ => exact Fin.ext (by show 0 + 1 * k.val = k.val; omega)
  | ⟨1, _⟩ => exact Fin.ext (by show colOf n + 1 * j.val = colOf n + j.val; omega)

theorem carryPiece_agrees (n : ℕ) (hn : n < 88) (x : S1x1x8x256.Idx) :
    (carryPiece arg2 harg2 arg3 harg3 arg11 x0 x1 n).2 x
      = HALO x0 x1 ((carryPiece arg2 harg2 arg3 harg3 arg11 x0 x1 n).1.emb x) := by
  have hs : n / 44 < 2 := by omega
  have ht := tileOf_nat (arg2 := arg2) (harg2 := harg2) (arg11 := arg11) (x0 := x0) ⟨n / 44, hs⟩
  rcases Nat.mod_two_eq_zero_or_one n with h | h
  · have e : (carryPiece arg2 harg2 arg3 harg3 arg11 x0 x1 n).2 = keep8 (res6 (upOf arg2 harg2 arg3 harg3 arg11 x0 x1 n)) := by
      show (bif n % 2 == 0 then _ else _) = _
      rw [h]; rfl
    rw [e]
    have inb : ∀ a, (![n / 44, 0, 0, colOf n] : Fin 4 → ℕ) a + S1x1x8x256.size a ≤ S2x2x8x5632.size a := fun a =>
      match a with
      | ⟨0, _⟩ => by show n / 44 + 1 ≤ 2; omega
      | ⟨1, _⟩ => by show 0 + 1 ≤ 2; omega
      | ⟨2, _⟩ => by show 0 + 8 ≤ 8; omega
      | ⟨3, _⟩ => colOf_le n
    have e' : (Rect.unit (s := S2x2x8x5632) ![n / 44, 0, 0, colOf n] S1x1x8x256.size inb).emb x = (carryRect n).emb x := by
      funext i
      match i with
      | ⟨0, _⟩ => exact Fin.ext (by show n / 44 + 1 * (x 0).val = n / 44 % 2 + 1 * (x 0).val; omega)
      | ⟨1, _⟩ => exact Fin.ext (by show 0 + 1 * (x 1).val = n % 2 + 1 * (x 1).val; omega)
      | ⟨2, _⟩ => rfl
      | ⟨3, _⟩ => rfl
    exact (keep6_agrees ⟨n / 44, hs⟩ _ ht (colOf n) (colOf_le n) _ (ldUp_apply n) inb x).trans (congrArg (HALO x0 x1) e')
  · have e : (carryPiece arg2 harg2 arg3 harg3 arg11 x0 x1 n).2 = keep8 (res7 (upOf arg2 harg2 arg3 harg3 arg11 x0 x1 n)) := by
      show (bif n % 2 == 0 then _ else _) = _
      rw [h]; rfl
    rw [e]
    have inb : ∀ a, (![n / 44, 1, 0, colOf n] : Fin 4 → ℕ) a + S1x1x8x256.size a ≤ S2x2x8x5632.size a := fun a =>
      match a with
      | ⟨0, _⟩ => by show n / 44 + 1 ≤ 2; omega
      | ⟨1, _⟩ => by show 1 + 1 ≤ 2; omega
      | ⟨2, _⟩ => by show 0 + 8 ≤ 8; omega
      | ⟨3, _⟩ => colOf_le n
    have e' : (Rect.unit (s := S2x2x8x5632) ![n / 44, 1, 0, colOf n] S1x1x8x256.size inb).emb x = (carryRect n).emb x := by
      funext i
      match i with
      | ⟨0, _⟩ => exact Fin.ext (by show n / 44 + 1 * (x 0).val = n / 44 % 2 + 1 * (x 0).val; omega)
      | ⟨1, _⟩ => exact Fin.ext (by show 1 + 1 * (x 1).val = n % 2 + 1 * (x 1).val; omega)
      | ⟨2, _⟩ => rfl
      | ⟨3, _⟩ => rfl
    exact (keep7_agrees ⟨n / 44, hs⟩ _ ht (colOf n) (colOf_le n) _ (ldUp_apply n) inb x).trans (congrArg (HALO x0 x1) e')

/-- The stores of the carried rows leave `HALO`, whatever lay there before. -/
theorem carried_eq (base : List (View.Piece (Elt Ideal) S2x2x8x5632 .f32)) :
    View.canon (upTo (carryPiece arg2 harg2 arg3 harg3 arg11 x0 x1) base 88) = HALO x0 x1 := by
  funext y
  refine canon_upTo (G := HALO x0 x1) _ _ _ _ carryPiece_agrees ?_
  obtain ⟨s, k, r, col, rfl⟩ : ∃ (s k : Fin 2) (r : Fin 8) (col : Fin 5632), y = ix4 s k r col :=
    ⟨y 0, y 1, y 2, y 3, eq_ix4 y⟩
  refine ⟨44 * s.val + 4 * (col.val % 2816 / 256) + 2 * (col.val / 2816) + k.val, by omega,
    ix4 0 0 r ⟨col.val % 2816 % 256, by omega⟩, ?_⟩
  have hb : col.val % 2816 / 256 < 11 := by omega
  have hc : col.val / 2816 < 2 := by omega
  have hcol : 2816 * (col.val / 2816) + 256 * (col.val % 2816 / 256) + col.val % 2816 % 256 = col.val := by omega
  generalize hn : 44 * s.val + 4 * (col.val % 2816 / 256) + 2 * (col.val / 2816) + k.val = n
  generalize col.val % 2816 / 256 = b at *
  generalize col.val / 2816 = h at *
  have h0 : n / 44 = s.val := by omega
  have h1 : n % 4 / 2 = h := by omega
  have h2 : n % 44 / 4 = b := by omega
  funext i
  match i with
  | ⟨0, _⟩ => exact Fin.ext (by show n / 44 % 2 + 1 * 0 = s.val; omega)
  | ⟨1, _⟩ => exact Fin.ext (by show n % 2 + 1 * 0 = k.val; omega)
  | ⟨2, _⟩ => exact Fin.ext (by show 0 + 1 * r.val = r.val; omega)
  | ⟨3, _⟩ => exact Fin.ext (by
      show 2816 * (n % 4 / 2) + 256 * (n % 44 / 4) + 1 * (col.val % 2816 % 256) = col.val
      rw [h1, h2]
      omega)

/-- What the loads of the carried rows have to read. -/
def Carries (hl : ℕ → Vec Ideal S1x1x8x256 .f32) (H : Vec Ideal S2x2x8x5632 .f32) : Prop :=
  ∀ n < 88, ∀ j : Fin 256, hl n (ix4 0 0 7 j)
    = H (ix4 ⟨n / 44 % 2, by omega⟩ ⟨n % 2, by omega⟩ 7 ⟨colOf n + j.val, by have := colOf_le n; omega⟩)

theorem convOf_nat (hh : Carries hl H) (n : ℕ) (hn : n < 88) (h2 : n % 2 = 0) (p j : Fin 256) :
    convOf arg2 harg2 arg3 harg3 arg4 harg4 arg5 harg5 arg11 x0 x1 x2 x3 hl n (ix2 p j)
      = convAt x0 x1 x2 x3 H ⟨n / 44, by omega⟩ (nat p) ⟨colOf n + j.val, by have := colOf_le n; omega⟩ := by
  refine taps_nat ⟨n / 44, by omega⟩ _ (tileOf_nat ⟨n / 44, by omega⟩) (colOf n) (colOf_le n) _ (ldUp_apply n) _ _
    (fun j => ?_) (fun j => ?_) _ (fun i j => ?_) _ (fun j => ?_) p j
  · rw [hh n hn]
    congr 1
    funext i
    match i with
    | ⟨0, _⟩ => exact Fin.ext (by show n / 44 % 2 = n / 44; omega)
    | ⟨1, _⟩ => exact Fin.ext (by show n % 2 = 0; omega)
    | ⟨2, _⟩ => rfl
    | ⟨3, _⟩ => rfl
  · rw [hh (n + 1) (by omega)]
    congr 1
    funext i
    match i with
    | ⟨0, _⟩ => exact Fin.ext (by show (n + 1) / 44 % 2 = n / 44; omega)
    | ⟨1, _⟩ => exact Fin.ext (by show (n + 1) % 2 = 1; omega)
    | ⟨2, _⟩ => rfl
    | ⟨3, _⟩ => exact Fin.ext (by
        show 2816 * ((n + 1) % 4 / 2) + 256 * ((n + 1) % 44 / 4) + j.val = 2816 * (n % 4 / 2) + 256 * (n % 44 / 4) + j.val
        omega)
  · rw [Memref.IsWhole.readAt_unread]
    congr 1
    funext a
    match a with
    | ⟨0, _⟩ => exact Fin.ext (by show 0 + 1 * i.val = i.val; omega)
    | ⟨1, _⟩ => exact Fin.ext (by show colOf n + 1 * j.val = colOf n + j.val; omega)
  · rw [Memref.IsWhole.readAt_unread]
    congr 1
    funext a
    match a with
    | ⟨0, _⟩ => rfl
    | ⟨1, _⟩ => exact Fin.ext (by show colOf n + 1 * j.val = colOf n + j.val; omega)

theorem gatePiece_agrees (hh : Carries hl H) (n : ℕ) (hn : n < 22) (x : S1x256x256.Idx) :
    (gatePiece arg2 harg2 arg3 harg3 arg4 harg4 arg5 harg5 arg11 x0 x1 x2 x3 hl n).2 x
      = GATED x0 x1 x2 x3 H ((gatePiece arg2 harg2 arg3 harg3 arg4 harg4 arg5 harg5 arg11 x0 x1 x2 x3 hl n).1.emb x) := by
  refine gateBlk_agrees ⟨n / 11 % 2, by omega⟩ (256 * (n % 11)) (by omega) _ _ (fun p j => ?_) (fun p j => ?_) (inbGate n) x
  · rw [convOf_nat hh (4 * n) (by omega) (by omega)]
    congr 1
    · exact Fin.ext (by show 4 * n / 44 = n / 11 % 2; omega)
    · exact Fin.ext (by show 2816 * (4 * n % 4 / 2) + 256 * (4 * n % 44 / 4) + j.val = 256 * (n % 11) + j.val; omega)
  · rw [convOf_nat hh (4 * n + 2) (by omega) (by omega)]
    congr 1
    · exact Fin.ext (by show (4 * n + 2) / 44 = n / 11 % 2; omega)
    · exact Fin.ext (by
        show 2816 * ((4 * n + 2) % 4 / 2) + 256 * ((4 * n + 2) % 44 / 4) + j.val = 2816 + 256 * (n % 11) + j.val; omega)

/-! ## The result -/

theorem resOf_nat (hh : Carries hl H) (s : Fin 2) (p : Fin 256) (d : Fin 1024) :
    resOf arg2 harg2 arg3 harg3 arg4 harg4 arg5 harg5 arg6 harg6 arg7 harg7 arg8 harg8 arg11 arg13 x0 x1 x2 x3 x4 x5 x6 hl
      s.val (ix2 p d) = outAt x0 x1 x2 x3 x4 x5 x6 H s (nat p) d := by
  have r4 : View.readAt (Elt Ideal) arg6.view (Rect.unit (s := S2816x1024) ![0, 0] S2816x1024.size
      inb_S2816x1024_S2816x1024_0_0).toLoadRect (harg6.unread x4) = x4 := by
    funext y
    rw [Memref.IsWhole.readAt_unread]
    congr 1
    funext a
    match a with
    | ⟨0, _⟩ => exact Fin.ext (by show 0 + 1 * (y 0).val = (y 0).val; omega)
    | ⟨1, _⟩ => exact Fin.ext (by show 0 + 1 * (y 1).val = (y 1).val; omega)
  have r5 : ∀ (arg : Memref sig .tc .vmem S1x1024 .f32) (harg : arg.IsWhole) (w : Vec Ideal S1x1024 .f32),
      View.readAt (Elt Ideal) arg.view (Rect.unit (s := S1x1024) ![0, 0] S1x1024.size
        inb_S1x1024_S1x1024_0_0).toLoadRect (harg.unread w) = w := by
    intro arg harg w
    funext y
    rw [Memref.IsWhole.readAt_unread]
    congr 1
    funext a
    match a with
    | ⟨0, _⟩ => exact Fin.ext (by show 0 + 1 * (y 0).val = (y 0).val; omega)
    | ⟨1, _⟩ => exact Fin.ext (by show 0 + 1 * (y 1).val = (y 1).val; omega)
  unfold resOf
  rw [r4, r5, r5]
  refine norm_nat s _ (tileOf_nat s) _ (fun p f => ?_) p d
  rw [View.readCov_eq_canon']
  have e : (Rect.unit (s := S2x256x2816) ![s.val % 2, 0, 0] S1x256x2816.size (inbGated s.val)).toLoadRect.idx (ix3 0 p f)
      = (ix3 s p f : S2x256x2816.Idx) := by
    funext i
    match i with
    | ⟨0, _⟩ => exact Fin.ext (by show s.val % 2 + 1 * 0 = s.val; omega)
    | ⟨1, _⟩ => exact Fin.ext (by show 0 + 1 * p.val = p.val; omega)
    | ⟨2, _⟩ => exact Fin.ext (by show 0 + 1 * f.val = f.val; omega)
  show View.canon _ ((Rect.unit (s := S2x256x2816) ![s.val % 2, 0, 0] S1x256x2816.size (inbGated s.val)).toLoadRect.idx (ix3 0 p f)) = _
  rw [e, canon_upTo (G := GATED x0 x1 x2 x3 H) _ _ _ _ (gatePiece_agrees hh)]
  · rfl
  · refine ⟨11 * s.val + f.val / 256, by omega, ix3 0 p ⟨f.val % 256, by omega⟩, ?_⟩
    funext i
    match i with
    | ⟨0, _⟩ => exact Fin.ext (by show (11 * s.val + f.val / 256) / 11 % 2 + 1 * 0 = s.val; omega)
    | ⟨1, _⟩ => exact Fin.ext (by show 0 + 1 * p.val = p.val; omega)
    | ⟨2, _⟩ => exact Fin.ext (by show 256 * ((11 * s.val + f.val / 256) % 11) + 1 * (f.val % 256) = f.val; omega)

theorem cutPiece_agrees (hh : Carries hl H) (n : ℕ) (hn : n < 128) (x : S1x1x32x128.Idx) :
    (cutPiece arg2 harg2 arg3 harg3 arg4 harg4 arg5 harg5 arg6 harg6 arg7 harg7 arg8 harg8 arg11 arg13 x0 x1 x2 x3 x4 x5 x6 hl n).2 x
      = POUT x0 x1 x2 x3 x4 x5 x6 H ((cutPiece arg2 harg2 arg3 harg3 arg4 harg4 arg5 harg5 arg6 harg6 arg7 harg7 arg8 harg8
          arg11 arg13 x0 x1 x2 x3 x4 x5 x6 hl n).1.emb x) := by
  have e : (cutPiece arg2 harg2 arg3 harg3 arg4 harg4 arg5 harg5 arg6 harg6 arg7 harg7 arg8 harg8 arg11 arg13 x0 x1 x2 x3 x4 x5 x6 hl n).2
      = cutRows (resOf arg2 harg2 arg3 harg3 arg4 harg4 arg5 harg5 arg6 harg6 arg7 harg7 arg8 harg8 arg11 arg13 x0 x1 x2 x3 x4 x5 x6 hl (n / 64))
        ![32 * (n % 8), 128 * (n / 8 % 8)] (slicesCut n (n / 8)) := rfl
  rw [e]
  refine cutRows_agrees ⟨n / 64 % 2, by omega⟩ ⟨n / 8 % 8, by omega⟩ ⟨n % 8, by omega⟩ _ (fun p d => ?_)
    (slicesCut n (n / 8)) (inbStep (n / 64) (n / 8) n) stepPos x
  have e := resOf_nat (arg2 := arg2) (harg2 := harg2) (arg3 := arg3) (harg3 := harg3) (arg4 := arg4) (harg4 := harg4)
    (arg5 := arg5) (harg5 := harg5) (arg6 := arg6) (harg6 := harg6) (arg7 := arg7) (harg7 := harg7) (arg8 := arg8)
    (harg8 := harg8) (arg11 := arg11) (arg13 := arg13) (x0 := x0) (x1 := x1) (x2 := x2) (x3 := x3) (x4 := x4)
    (x5 := x5) (x6 := x6) hh ⟨n / 64, by omega⟩ p d
  rw [e]
  congr 1
  exact Fin.ext (by show n / 64 = n / 64 % 2; omega)

theorem outPiece_agrees (hh : Carries hl H) (n : ℕ) (hn : n < 16) (x : S1x256x128.Idx) :
    (outPiece arg2 harg2 arg3 harg3 arg4 harg4 arg5 harg5 arg6 harg6 arg7 harg7 arg8 harg8 arg11 arg12 arg13
        x0 x1 x2 x3 x4 x5 x6 hl n).2 x
      = OUT x0 x1 x2 x3 x4 x5 x6 H ((outPiece arg2 harg2 arg3 harg3 arg4 harg4 arg5 harg5 arg6 harg6 arg7 harg7 arg8 harg8
          arg11 arg12 arg13 x0 x1 x2 x3 x4 x5 x6 hl n).1.emb x) := by
  have e : (outPiece arg2 harg2 arg3 harg3 arg4 harg4 arg5 harg5 arg6 harg6 arg7 harg7 arg8 harg8 arg11 arg12 arg13 x0 x1 x2 x3 x4 x5 x6 hl n).2
      = pout (arg12.view.readCov (upTo (cutPiece arg2 harg2 arg3 harg3 arg4 harg4 arg5 harg5 arg6 harg6 arg7 harg7 arg8 harg8 arg11 arg13 x0 x1 x2 x3 x4 x5 x6 hl) [] (64 * (n / 8 + 1)))
        (Rect.unit (s := S2x8x256x128) ![n / 8 % 2, n % 8, 0, 0] S1x1x256x128.size (inbLane (n / 8) n)).toLoadRect) := rfl
  rw [e]
  refine pout_agrees ⟨n / 8 % 2, by omega⟩ ⟨n % 8, by omega⟩ _ (fun r l => ?_) (inbTile (n / 8) n) x
  rw [View.readCov_eq_canon']
  have e : (Rect.unit (s := S2x8x256x128) ![n / 8 % 2, n % 8, 0, 0] S1x1x256x128.size (inbLane (n / 8) n)).toLoadRect.idx
      (ix4 0 0 r l) = (ix4 ⟨n / 8 % 2, by omega⟩ ⟨n % 8, by omega⟩ r l : S2x8x256x128.Idx) := by
    funext i
    match i with
    | ⟨0, _⟩ => exact Fin.ext (by show n / 8 % 2 + 1 * 0 = n / 8 % 2; omega)
    | ⟨1, _⟩ => exact Fin.ext (by show n % 8 + 1 * 0 = n % 8; omega)
    | ⟨2, _⟩ => exact Fin.ext (by show 0 + 1 * r.val = r.val; omega)
    | ⟨3, _⟩ => exact Fin.ext (by show 0 + 1 * l.val = l.val; omega)
  show View.canon _ ((Rect.unit (s := S2x8x256x128) ![n / 8 % 2, n % 8, 0, 0] S1x1x256x128.size (inbLane (n / 8) n)).toLoadRect.idx
    (ix4 0 0 r l)) = _
  rw [e, canon_upTo (G := POUT x0 x1 x2 x3 x4 x5 x6 H) _ _ _ _ (fun k hk => cutPiece_agrees hh k (by omega))]
  · rfl
  · refine ⟨64 * (n / 8 % 2) + 8 * (n % 8) + r.val % 8, by omega, ix4 0 0 ⟨r.val / 8, by omega⟩ l, ?_⟩
    generalize hm : 64 * (n / 8 % 2) + 8 * (n % 8) + r.val % 8 = m
    funext i
    match i with
    | ⟨0, _⟩ => exact Fin.ext (by show m / 64 % 2 + 1 * 0 = n / 8 % 2; omega)
    | ⟨1, _⟩ => exact Fin.ext (by show m / 8 % 8 + 1 * 0 = n % 8; omega)
    | ⟨2, _⟩ => exact Fin.ext (by show m % 8 + 8 * (r.val / 8) = r.val; omega)
    | ⟨3, _⟩ => exact Fin.ext (by show 0 + 1 * l.val = l.val; omega)

/-- The stores of the output tile leave `OUT`. -/
theorem outs_eq (hh : Carries hl H) :
    View.canon (upTo (outPiece arg2 harg2 arg3 harg3 arg4 harg4 arg5 harg5 arg6 harg6 arg7 harg7 arg8 harg8 arg11 arg12 arg13
        x0 x1 x2 x3 x4 x5 x6 hl) [] 16) = OUT x0 x1 x2 x3 x4 x5 x6 H := by
  funext y
  refine canon_upTo (G := OUT x0 x1 x2 x3 x4 x5 x6 H) _ _ _ _ (outPiece_agrees hh) ?_
  obtain ⟨s, r, d, rfl⟩ : ∃ (s : Fin 2) (r : Fin 256) (d : Fin 1024), y = ix3 s r d := ⟨y 0, y 1, y 2, eq_ix3 y⟩
  refine ⟨8 * s.val + d.val / 128, by omega, ix3 0 r ⟨d.val % 128, by omega⟩, ?_⟩
  generalize hn : 8 * s.val + d.val / 128 = n
  funext i
  match i with
  | ⟨0, _⟩ => exact Fin.ext (by show n / 8 % 2 + 1 * 0 = s.val; omega)
  | ⟨1, _⟩ => exact Fin.ext (by show 0 + 1 * r.val = r.val; omega)
  | ⟨2, _⟩ => exact Fin.ext (by show 128 * (n % 8) + 1 * (d.val % 128) = d.val; omega)

end Memory

end Cert.KernelIdeal.Ffn
-- ==== Proof.Ffn.CaseA.lean ====
/- The stores of a grid point that starts a sequence, as the lists of Stores.lean. -/
module

public import proofs.«01_k».proof.Proof.Ffn.Stores
import all proofs.«01_k».proof.Proof.Gen.KernelIdeal.Frame.RunA

@[expose] public section

set_option maxRecDepth 100000

noncomputable section

namespace Cert.KernelIdeal.Ffn.CaseA

open Idealize.ShloMosaic Idealize.ShloMosaic.TcCoe Idealize.ShloMosaic.Tactic
open Cert.KernelIdeal Cert.KernelIdeal.Gen

variable {F : FTy → Type} [FloatOps F]

/-- The tile's stores of the first stream. -/
theorem pins8 (c : Dev nD) (arg2 : Memref sig .tc .vmem S2x256x1024 .f32) (harg2 : arg2.IsWhole) (x0 : Vec F S2x256x1024 .f32) :
    kernelRun0_A.sl.HS1_8 c arg2 harg2 x0 = (upTo (pinPiece arg2 harg2 x0) [] 8) := by sl_kernel_rfl

/-- The tile's stores of both streams. -/
theorem pins16 (c : Dev nD) (arg2 : Memref sig .tc .vmem S2x256x1024 .f32) (harg2 : arg2.IsWhole) (x0 : Vec F S2x256x1024 .f32) :
    kernelRun0_A.sl.HS1_16 c arg2 harg2 x0 = (upTo (pinPiece arg2 harg2 x0) [] 16) := by sl_kernel_rfl

/-- The second stream's permuted tile. -/
theorem tile1 (c : Dev nD) (arg2 : Memref sig .tc .vmem S2x256x1024 .f32) (harg2 : arg2.IsWhole) (arg11 : Memref sig .tc .vmem S2x8x256x128 .f32) (x0 : Vec F S2x256x1024 .f32) :
    kernelRun0_A.sl.r_104 c arg2 harg2 arg11 x0 = tileOf arg2 harg2 arg11 x0 1 := by sl_kernel_rfl

/-- The stores of the carried rows but the last. -/
theorem carries (c : Dev nD) (arg2 : Memref sig .tc .vmem S2x256x1024 .f32) (harg2 : arg2.IsWhole) (arg3 : Memref sig .tc .vmem S1024x5632 .bf16) (harg3 : arg3.IsWhole) (arg11 : Memref sig .tc .vmem S2x8x256x128 .f32) (x0 : Vec F S2x256x1024 .f32) (x1 : Vec F S1024x5632 .bf16) :
    kernelRun0_A.sl.HS0_88 c arg2 harg2 arg3 harg3 arg11 x0 x1 = upTo (carryPiece arg2 harg2 arg3 harg3 arg11 x0 x1) [⟨Rect.unit ![0, 0, 0, 0] S2x2x8x5632.size inb_S2x2x8x5632_S2x2x8x5632_0_0_0_0, k0_pay4⟩] 87 := by sl_kernel_rfl

/-- The gated values' stores. -/
theorem gates (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg10 : Memref sig .tc .vmem S2x2x8x5632 .f32) (arg11 : Memref sig .tc .vmem S2x8x256x128 .f32) (x0 : Vec F S2x256x1024 .f32) (x1 : Vec F S1024x5632 .bf16) (x2 : Vec F S3x5632 .f32) (x3 : Vec F S1x5632 .f32) :
    kernelRun0_A.sl.HS3_22 c arg2 harg2 arg3 harg3 arg4 harg4 arg5 harg5 arg10 arg11 x0 x1 x2 x3 = upTo (gatePiece arg2 harg2 arg3 harg3 arg4 harg4 arg5 harg5 arg11 x0 x1 x2 x3 (fun n => arg10.view.readCov (upTo (carryPiece arg2 harg2 arg3 harg3 arg11 x0 x1) [⟨Rect.unit ![0, 0, 0, 0] S2x2x8x5632.size inb_S2x2x8x5632_S2x2x8x5632_0_0_0_0, k0_pay4⟩] n) (carryRect n).toLoadRect)) [] 22 := by sl_kernel_rfl

/-- The first stream's result. -/
theorem res0 (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg10 : Memref sig .tc .vmem S2x2x8x5632 .f32) (arg11 : Memref sig .tc .vmem S2x8x256x128 .f32) (arg13 : Memref sig .tc .vmem S2x256x2816 .bf16) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) :
    kernelRun0_A.sl.r_207 c arg2 harg2 arg3 harg3 arg4 harg4 arg5 harg5 arg6 harg6 arg7 harg7 arg8 harg8 arg10 arg11 arg13 x0 x1 x2 x3 x4 x5 x6 = resOf arg2 harg2 arg3 harg3 arg4 harg4 arg5 harg5 arg6 harg6 arg7 harg7 arg8 harg8 arg11 arg13 x0 x1 x2 x3 x4 x5 x6 (fun n => arg10.view.readCov (upTo (carryPiece arg2 harg2 arg3 harg3 arg11 x0 x1) [⟨Rect.unit ![0, 0, 0, 0] S2x2x8x5632.size inb_S2x2x8x5632_S2x2x8x5632_0_0_0_0, k0_pay4⟩] n) (carryRect n).toLoadRect) 0 := by sl_kernel_rfl

/-- The second stream's result. -/
theorem res1 (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg10 : Memref sig .tc .vmem S2x2x8x5632 .f32) (arg11 : Memref sig .tc .vmem S2x8x256x128 .f32) (arg13 : Memref sig .tc .vmem S2x256x2816 .bf16) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) :
    kernelRun0_A.sl.r_210 c arg2 harg2 arg3 harg3 arg4 harg4 arg5 harg5 arg6 harg6 arg7 harg7 arg8 harg8 arg10 arg11 arg13 x0 x1 x2 x3 x4 x5 x6 = resOf arg2 harg2 arg3 harg3 arg4 harg4 arg5 harg5 arg6 harg6 arg7 harg7 arg8 harg8 arg11 arg13 x0 x1 x2 x3 x4 x5 x6 (fun n => arg10.view.readCov (upTo (carryPiece arg2 harg2 arg3 harg3 arg11 x0 x1) [⟨Rect.unit ![0, 0, 0, 0] S2x2x8x5632.size inb_S2x2x8x5632_S2x2x8x5632_0_0_0_0, k0_pay4⟩] n) (carryRect n).toLoadRect) 1 := by sl_kernel_rfl

/-- The first stream's result, stored by residue classes. -/
theorem cuts64 (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg10 : Memref sig .tc .vmem S2x2x8x5632 .f32) (arg11 : Memref sig .tc .vmem S2x8x256x128 .f32) (arg13 : Memref sig .tc .vmem S2x256x2816 .bf16) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) :
    kernelRun0_A.sl.HS2_64 c arg2 harg2 arg3 harg3 arg4 harg4 arg5 harg5 arg6 harg6 arg7 harg7 arg8 harg8 arg10 arg11 arg13 x0 x1 x2 x3 x4 x5 x6 = upTo (cutPiece arg2 harg2 arg3 harg3 arg4 harg4 arg5 harg5 arg6 harg6 arg7 harg7 arg8 harg8 arg11 arg13 x0 x1 x2 x3 x4 x5 x6 (fun n => arg10.view.readCov (upTo (carryPiece arg2 harg2 arg3 harg3 arg11 x0 x1) [⟨Rect.unit ![0, 0, 0, 0] S2x2x8x5632.size inb_S2x2x8x5632_S2x2x8x5632_0_0_0_0, k0_pay4⟩] n) (carryRect n).toLoadRect)) [] 64 := by sl_kernel_rfl

/-- Both streams' results, stored by residue classes. -/
theorem cuts128 (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg10 : Memref sig .tc .vmem S2x2x8x5632 .f32) (arg11 : Memref sig .tc .vmem S2x8x256x128 .f32) (arg13 : Memref sig .tc .vmem S2x256x2816 .bf16) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) :
    kernelRun0_A.sl.HS2_128 c arg2 harg2 arg3 harg3 arg4 harg4 arg5 harg5 arg6 harg6 arg7 harg7 arg8 harg8 arg10 arg11 arg13 x0 x1 x2 x3 x4 x5 x6 = upTo (cutPiece arg2 harg2 arg3 harg3 arg4 harg4 arg5 harg5 arg6 harg6 arg7 harg7 arg8 harg8 arg11 arg13 x0 x1 x2 x3 x4 x5 x6 (fun n => arg10.view.readCov (upTo (carryPiece arg2 harg2 arg3 harg3 arg11 x0 x1) [⟨Rect.unit ![0, 0, 0, 0] S2x2x8x5632.size inb_S2x2x8x5632_S2x2x8x5632_0_0_0_0, k0_pay4⟩] n) (carryRect n).toLoadRect)) [] 128 := by sl_kernel_rfl

/-- The output tile's stores. -/
theorem outs (c : Dev nD) (i : grid0.Coords) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S2x2x8x5632 .f32) (harg10 : arg10.IsWhole) (arg11 : Memref sig .tc .vmem S2x8x256x128 .f32) (harg11 : arg11.IsWhole) (arg12 : Memref sig .tc .vmem S2x8x256x128 .f32) (harg12 : arg12.IsWhole) (arg13 : Memref sig .tc .vmem S2x256x2816 .bf16) (harg13 : arg13.IsWhole) (hc0 : cond0_0 i) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 = upTo (outPiece arg2 harg2 arg3 harg3 arg4 harg4 arg5 harg5 arg6 harg6 arg7 harg7 arg8 harg8 arg11 arg12 arg13 x0 x1 x2 x3 x4 x5 x6 (fun n => arg10.view.readCov (upTo (carryPiece arg2 harg2 arg3 harg3 arg11 x0 x1) [⟨Rect.unit ![0, 0, 0, 0] S2x2x8x5632.size inb_S2x2x8x5632_S2x2x8x5632_0_0_0_0, k0_pay4⟩] n) (carryRect n).toLoadRect)) [] 16 := by sl_kernel_rfl

/-- The carried rows' stores. -/
theorem carried (c : Dev nD) (i : grid0.Coords) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S2x2x8x5632 .f32) (harg10 : arg10.IsWhole) (arg11 : Memref sig .tc .vmem S2x8x256x128 .f32) (harg11 : arg11.IsWhole) (arg12 : Memref sig .tc .vmem S2x8x256x128 .f32) (harg12 : arg12.IsWhole) (arg13 : Memref sig .tc .vmem S2x256x2816 .bf16) (harg13 : arg13.IsWhole) (hc0 : cond0_0 i) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 = upTo (carryPiece arg2 harg2 arg3 harg3 arg11 x0 x1) [⟨Rect.unit ![0, 0, 0, 0] S2x2x8x5632.size inb_S2x2x8x5632_S2x2x8x5632_0_0_0_0, k0_pay4⟩] 88 := by sl_kernel_rfl

end Cert.KernelIdeal.Ffn.CaseA
-- ==== Proof.Ffn.CaseB.lean ====
/- The stores of a grid point that continues a sequence, as the lists of Stores.lean. -/
module

public import proofs.«01_k».proof.Proof.Ffn.Stores
import all proofs.«01_k».proof.Proof.Gen.KernelIdeal.Frame.RunB

@[expose] public section

set_option maxRecDepth 100000

noncomputable section

namespace Cert.KernelIdeal.Ffn.CaseB

open Idealize.ShloMosaic Idealize.ShloMosaic.TcCoe Idealize.ShloMosaic.Tactic
open Cert.KernelIdeal Cert.KernelIdeal.Gen

variable {F : FTy → Type} [FloatOps F]

/-- The tile's stores of the first stream. -/
theorem pins8 (c : Dev nD) (arg2 : Memref sig .tc .vmem S2x256x1024 .f32) (harg2 : arg2.IsWhole) (x0 : Vec F S2x256x1024 .f32) :
    kernelRun0_B.sl.HS1_8 c arg2 harg2 x0 = (upTo (pinPiece arg2 harg2 x0) [] 8) := by sl_kernel_rfl

/-- The tile's stores of both streams. -/
theorem pins16 (c : Dev nD) (arg2 : Memref sig .tc .vmem S2x256x1024 .f32) (harg2 : arg2.IsWhole) (x0 : Vec F S2x256x1024 .f32) :
    kernelRun0_B.sl.HS1_16 c arg2 harg2 x0 = (upTo (pinPiece arg2 harg2 x0) [] 16) := by sl_kernel_rfl

/-- The second stream's permuted tile. -/
theorem tile1 (c : Dev nD) (arg2 : Memref sig .tc .vmem S2x256x1024 .f32) (harg2 : arg2.IsWhole) (arg11 : Memref sig .tc .vmem S2x8x256x128 .f32) (x0 : Vec F S2x256x1024 .f32) :
    kernelRun0_B.sl.r_104 c arg2 harg2 arg11 x0 = tileOf arg2 harg2 arg11 x0 1 := by sl_kernel_rfl

/-- The gated values' stores. -/
theorem gates (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg10 : Memref sig .tc .vmem S2x2x8x5632 .f32) (harg10 : arg10.IsWhole) (arg11 : Memref sig .tc .vmem S2x8x256x128 .f32) (x0 : Vec F S2x256x1024 .f32) (x1 : Vec F S1024x5632 .bf16) (x2 : Vec F S3x5632 .f32) (x3 : Vec F S1x5632 .f32) (xs0 : Vec F S2x2x8x5632 .f32) :
    kernelRun0_B.sl.HS3_22 c arg2 harg2 arg3 harg3 arg4 harg4 arg5 harg5 arg10 harg10 arg11 x0 x1 x2 x3 xs0 = upTo (gatePiece arg2 harg2 arg3 harg3 arg4 harg4 arg5 harg5 arg11 x0 x1 x2 x3 (fun n => View.readAt (Elt F) arg10.view (carryRect n).toLoadRect (harg10.unread xs0))) [] 22 := by sl_kernel_rfl

/-- The first stream's result. -/
theorem res0 (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg10 : Memref sig .tc .vmem S2x2x8x5632 .f32) (harg10 : arg10.IsWhole) (arg11 : Memref sig .tc .vmem S2x8x256x128 .f32) (arg13 : Memref sig .tc .vmem S2x256x2816 .bf16) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) (xs0 : Vec F S2x2x8x5632 .f32) :
    kernelRun0_B.sl.r_207 c arg2 harg2 arg3 harg3 arg4 harg4 arg5 harg5 arg6 harg6 arg7 harg7 arg8 harg8 arg10 harg10 arg11 arg13 x0 x1 x2 x3 x4 x5 x6 xs0 = resOf arg2 harg2 arg3 harg3 arg4 harg4 arg5 harg5 arg6 harg6 arg7 harg7 arg8 harg8 arg11 arg13 x0 x1 x2 x3 x4 x5 x6 (fun n => View.readAt (Elt F) arg10.view (carryRect n).toLoadRect (harg10.unread xs0)) 0 := by sl_kernel_rfl

/-- The second stream's result. -/
theorem res1 (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg10 : Memref sig .tc .vmem S2x2x8x5632 .f32) (harg10 : arg10.IsWhole) (arg11 : Memref sig .tc .vmem S2x8x256x128 .f32) (arg13 : Memref sig .tc .vmem S2x256x2816 .bf16) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) (xs0 : Vec F S2x2x8x5632 .f32) :
    kernelRun0_B.sl.r_210 c arg2 harg2 arg3 harg3 arg4 harg4 arg5 harg5 arg6 harg6 arg7 harg7 arg8 harg8 arg10 harg10 arg11 arg13 x0 x1 x2 x3 x4 x5 x6 xs0 = resOf arg2 harg2 arg3 harg3 arg4 harg4 arg5 harg5 arg6 harg6 arg7 harg7 arg8 harg8 arg11 arg13 x0 x1 x2 x3 x4 x5 x6 (fun n => View.readAt (Elt F) arg10.view (carryRect n).toLoadRect (harg10.unread xs0)) 1 := by sl_kernel_rfl

/-- The first stream's result, stored by residue classes. -/
theorem cuts64 (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg10 : Memref sig .tc .vmem S2x2x8x5632 .f32) (harg10 : arg10.IsWhole) (arg11 : Memref sig .tc .vmem S2x8x256x128 .f32) (arg13 : Memref sig .tc .vmem S2x256x2816 .bf16) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) (xs0 : Vec F S2x2x8x5632 .f32) :
    kernelRun0_B.sl.HS2_64 c arg2 harg2 arg3 harg3 arg4 harg4 arg5 harg5 arg6 harg6 arg7 harg7 arg8 harg8 arg10 harg10 arg11 arg13 x0 x1 x2 x3 x4 x5 x6 xs0 = upTo (cutPiece arg2 harg2 arg3 harg3 arg4 harg4 arg5 harg5 arg6 harg6 arg7 harg7 arg8 harg8 arg11 arg13 x0 x1 x2 x3 x4 x5 x6 (fun n => View.readAt (Elt F) arg10.view (carryRect n).toLoadRect (harg10.unread xs0))) [] 64 := by sl_kernel_rfl

/-- Both streams' results, stored by residue classes. -/
theorem cuts128 (c : Dev nD) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg10 : Memref sig .tc .vmem S2x2x8x5632 .f32) (harg10 : arg10.IsWhole) (arg11 : Memref sig .tc .vmem S2x8x256x128 .f32) (arg13 : Memref sig .tc .vmem S2x256x2816 .bf16) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) (xs0 : Vec F S2x2x8x5632 .f32) :
    kernelRun0_B.sl.HS2_128 c arg2 harg2 arg3 harg3 arg4 harg4 arg5 harg5 arg6 harg6 arg7 harg7 arg8 harg8 arg10 harg10 arg11 arg13 x0 x1 x2 x3 x4 x5 x6 xs0 = upTo (cutPiece arg2 harg2 arg3 harg3 arg4 harg4 arg5 harg5 arg6 harg6 arg7 harg7 arg8 harg8 arg11 arg13 x0 x1 x2 x3 x4 x5 x6 (fun n => View.readAt (Elt F) arg10.view (carryRect n).toLoadRect (harg10.unread xs0))) [] 128 := by sl_kernel_rfl

/-- The output tile's stores. -/
theorem outs (c : Dev nD) (i : grid0.Coords) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S2x2x8x5632 .f32) (harg10 : arg10.IsWhole) (arg11 : Memref sig .tc .vmem S2x8x256x128 .f32) (harg11 : arg11.IsWhole) (arg12 : Memref sig .tc .vmem S2x8x256x128 .f32) (harg12 : arg12.IsWhole) (arg13 : Memref sig .tc .vmem S2x256x2816 .bf16) (harg13 : arg13.IsWhole) (hc0 : ¬ cond0_0 i) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) (xs0 : Vec F S2x2x8x5632 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1 = upTo (outPiece arg2 harg2 arg3 harg3 arg4 harg4 arg5 harg5 arg6 harg6 arg7 harg7 arg8 harg8 arg11 arg12 arg13 x0 x1 x2 x3 x4 x5 x6 (fun n => View.readAt (Elt F) arg10.view (carryRect n).toLoadRect (harg10.unread xs0))) [] 16 := by sl_kernel_rfl

/-- The carried rows' stores. -/
theorem carried (c : Dev nD) (i : grid0.Coords) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S2x2x8x5632 .f32) (harg10 : arg10.IsWhole) (arg11 : Memref sig .tc .vmem S2x8x256x128 .f32) (harg11 : arg11.IsWhole) (arg12 : Memref sig .tc .vmem S2x8x256x128 .f32) (harg12 : arg12.IsWhole) (arg13 : Memref sig .tc .vmem S2x256x2816 .bf16) (harg13 : arg13.IsWhole) (hc0 : ¬ cond0_0 i) (x0 : Vec F S2x256x1024 .f32) (x1 : Vec F S1024x5632 .bf16) (x2 : Vec F S3x5632 .f32) (x3 : Vec F S1x5632 .f32) (x4 : Vec F S2816x1024 .bf16) (x5 : Vec F S1x1024 .f32) (x6 : Vec F S1x1024 .f32) (xs0 : Vec F S2x2x8x5632 .f32) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.1 = upTo (carryPiece arg2 harg2 arg3 harg3 arg11 x0 x1) [] 88 := by sl_kernel_rfl

end Cert.KernelIdeal.Ffn.CaseB
-- ==== Proof.Ffn.Body.lean ====
/- What one grid point computes: the output tile and the carried rows, as functions of the blocks it loads and
   of the rows carried in (zero where a sequence starts). -/
module

public import proofs.«01_k».proof.Proof.Ffn.StoresAt
public import proofs.«01_k».proof.Proof.Ffn.CaseA
public import proofs.«01_k».proof.Proof.Ffn.CaseB

@[expose] public section

set_option maxRecDepth 16384

noncomputable section

namespace Cert.KernelIdeal.Ffn

open Idealize.ShloMosaic Idealize.ShloMosaic.TcCoe
open Cert.KernelIdeal Cert.KernelIdeal.Gen

/-- The zero rows that a sequence starts from, stored over the whole carried buffer. -/
abbrev zeroStore : List (View.Piece (Elt Ideal) S2x2x8x5632 .f32) :=
  [⟨Rect.unit ![0, 0, 0, 0] S2x2x8x5632.size inb_S2x2x8x5632_S2x2x8x5632_0_0_0_0, k0_pay4 (F := Ideal)⟩]

theorem zeroStore_canon (y : S2x2x8x5632.Idx) : View.canon zeroStore y = (0 : EReal) := by
  obtain ⟨s, k, r, col, rfl⟩ : ∃ (s k : Fin 2) (r : Fin 8) (col : Fin 5632), y = ix4 s k r col :=
    ⟨y 0, y 1, y 2, y 3, eq_ix4 y⟩
  have e : (Rect.unit (s := S2x2x8x5632) ![0, 0, 0, 0] S2x2x8x5632.size inb_S2x2x8x5632_S2x2x8x5632_0_0_0_0).emb (ix4 s k r col)
      = ix4 s k r col := by
    funext i
    match i with
    | ⟨0, _⟩ => exact Fin.ext (by show 0 + 1 * s.val = s.val; omega)
    | ⟨1, _⟩ => exact Fin.ext (by show 0 + 1 * k.val = k.val; omega)
    | ⟨2, _⟩ => exact Fin.ext (by show 0 + 1 * r.val = r.val; omega)
    | ⟨3, _⟩ => exact Fin.ext (by show 0 + 1 * col.val = col.val; omega)
  have h := View.canon_cons_emb (Val := Elt Ideal) (e := .f32)
    (Rect.unit (s := S2x2x8x5632) ![0, 0, 0, 0] S2x2x8x5632.size inb_S2x2x8x5632_S2x2x8x5632_0_0_0_0) (k0_pay4 (F := Ideal)) [] (ix4 s k r col)
  rw [e] at h
  refine h.trans ?_
  pointwise [k0_pay4]

/-- The carried rows that chunk `n` loads. -/
theorem carryRect_idx (n : ℕ) (j : Fin 256) : (carryRect n).toLoadRect.idx (ix4 0 0 7 j)
    = (ix4 ⟨n / 44 % 2, by omega⟩ ⟨n % 2, by omega⟩ 7 ⟨colOf n + j.val, by have := colOf_le n; omega⟩ : S2x2x8x5632.Idx) := by
  funext i
  match i with
  | ⟨0, _⟩ => exact Fin.ext (by show n / 44 % 2 + 1 * 0 = n / 44 % 2; omega)
  | ⟨1, _⟩ => exact Fin.ext (by show n % 2 + 1 * 0 = n % 2; omega)
  | ⟨2, _⟩ => rfl
  | ⟨3, _⟩ => exact Fin.ext (by show colOf n + 1 * j.val = colOf n + j.val; omega)

/-- Where a sequence continues, the loads read the rows carried in. -/
theorem carries_unread (arg10 : Memref sig .tc .vmem S2x2x8x5632 .f32) (harg10 : arg10.IsWhole)
    (xs0 : Vec Ideal S2x2x8x5632 .f32) :
    Carries (fun n => View.readAt (Elt Ideal) arg10.view (carryRect n).toLoadRect (harg10.unread xs0)) xs0 := fun n _ j => by
  show View.readAt (Elt Ideal) arg10.view (carryRect n).toLoadRect (harg10.unread xs0) (ix4 0 0 7 j) = _
  rw [Memref.IsWhole.readAt_unread, carryRect_idx]

/-- Where a sequence starts, the loads read zero: no earlier store of the point meets them. -/
theorem carries_zero (arg2 : Memref sig .tc .vmem S2x256x1024 .f32) (harg2 : arg2.IsWhole)
    (arg3 : Memref sig .tc .vmem S1024x5632 .bf16) (harg3 : arg3.IsWhole) (arg10 : Memref sig .tc .vmem S2x2x8x5632 .f32)
    (arg11 : Memref sig .tc .vmem S2x8x256x128 .f32) (x0 : Vec Ideal S2x256x1024 .f32) (x1 : Vec Ideal S1024x5632 .bf16) :
    Carries (fun n => arg10.view.readCov (upTo (carryPiece arg2 harg2 arg3 harg3 arg11 x0 x1) zeroStore n)
      (carryRect n).toLoadRect) (fun _ => 0) := fun n hn j => by
  show arg10.view.readCov (upTo (carryPiece arg2 harg2 arg3 harg3 arg11 x0 x1) zeroStore n)
    (carryRect n).toLoadRect (ix4 0 0 7 j) = (0 : EReal)
  rw [View.readCov_eq_canon']
  show View.canon _ ((carryRect n).toLoadRect.idx (ix4 0 0 7 j)) = _
  rw [carryRect_idx, canon_upTo_miss, zeroStore_canon]
  intro k hk hm
  have hm' := (Rect.mem_set_unit (inb := inbCarry k)).mp hm
  have h0 := hm' 0
  have h1 := hm' 1
  have h3 := hm' 3
  have h0' : k / 44 % 2 ≤ n / 44 % 2 ∧ n / 44 % 2 < k / 44 % 2 + 1 := h0
  have h1' : k % 2 ≤ n % 2 ∧ n % 2 < k % 2 + 1 := h1
  have h3' : 2816 * (k % 4 / 2) + 256 * (k % 44 / 4) ≤ 2816 * (n % 4 / 2) + 256 * (n % 44 / 4) + j.val
      ∧ 2816 * (n % 4 / 2) + 256 * (n % 44 / 4) + j.val < 2816 * (k % 4 / 2) + 256 * (k % 44 / 4) + 256 := h3
  have hj := j.isLt
  clear hm hm' h0 h1 h3
  have parts : ∀ a : ℕ, a < 88 → a = 44 * (a / 44 % 2) + 4 * (a % 44 / 4) + 2 * (a % 4 / 2) + a % 2 ∧ a % 44 / 4 ≤ 10 ∧ a % 4 / 2 ≤ 1 :=
    fun a ha => ⟨by omega, by omega, by omega⟩
  obtain ⟨en, bn, cn⟩ := parts n hn
  obtain ⟨ek, bk, ck⟩ := parts k (by omega)
  generalize n / 44 % 2 = n1 at *
  generalize n % 44 / 4 = n2 at *
  generalize n % 4 / 2 = n3 at *
  generalize n % 2 = n4 at *
  generalize k / 44 % 2 = k1 at *
  generalize k % 44 / 4 = k2 at *
  generalize k % 4 / 2 = k3 at *
  generalize k % 2 = k4 at *
  omega

/-- The rows carried out of a point where a sequence starts. -/
theorem sout_A (c : Dev nD) (i : grid0.Coords) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S2x2x8x5632 .f32) (harg10 : arg10.IsWhole) (arg11 : Memref sig .tc .vmem S2x8x256x128 .f32) (harg11 : arg11.IsWhole) (arg12 : Memref sig .tc .vmem S2x8x256x128 .f32) (harg12 : arg12.IsWhole) (arg13 : Memref sig .tc .vmem S2x256x2816 .bf16) (harg13 : arg13.IsWhole) (hc0 : cond0_0 i) (x0 : Vec Ideal S2x256x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = HALO x0 x1 := by
  unfold sout0_A_0
  rw [View.read_writes_junk_eq_canon, CaseA.carried]
  exact carried_eq _

/-- The output tile of a point where a sequence starts. -/
theorem out_A (c : Dev nD) (i : grid0.Coords) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S2x2x8x5632 .f32) (harg10 : arg10.IsWhole) (arg11 : Memref sig .tc .vmem S2x8x256x128 .f32) (harg11 : arg11.IsWhole) (arg12 : Memref sig .tc .vmem S2x8x256x128 .f32) (harg12 : arg12.IsWhole) (arg13 : Memref sig .tc .vmem S2x256x2816 .bf16) (harg13 : arg13.IsWhole) (hc0 : cond0_0 i) (x0 : Vec Ideal S2x256x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = OUT x0 x1 x2 x3 x4 x5 x6 (fun _ => 0) := by
  unfold out0_A_7
  rw [View.read_writes_junk_eq_canon, CaseA.outs]
  exact outs_eq (carries_zero arg2 harg2 arg3 harg3 arg10 arg11 x0 x1)

/-- The rows carried out of a point where a sequence continues. -/
theorem sout_B (c : Dev nD) (i : grid0.Coords) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S2x2x8x5632 .f32) (harg10 : arg10.IsWhole) (arg11 : Memref sig .tc .vmem S2x8x256x128 .f32) (harg11 : arg11.IsWhole) (arg12 : Memref sig .tc .vmem S2x8x256x128 .f32) (harg12 : arg12.IsWhole) (arg13 : Memref sig .tc .vmem S2x256x2816 .bf16) (harg13 : arg13.IsWhole) (hc0 : ¬ cond0_0 i) (x0 : Vec Ideal S2x256x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) (xs0 : Vec Ideal S2x2x8x5632 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 = HALO x0 x1 := by
  unfold sout0_B_0
  rw [View.read_writes_junk_eq_canon, CaseB.carried]
  exact carried_eq _

/-- The output tile of a point where a sequence continues. -/
theorem out_B (c : Dev nD) (i : grid0.Coords) (arg2 : Memref sig .tc .vmem S2x256x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x256x1024 .f32) (harg9 : arg9.IsWhole) (arg10 : Memref sig .tc .vmem S2x2x8x5632 .f32) (harg10 : arg10.IsWhole) (arg11 : Memref sig .tc .vmem S2x8x256x128 .f32) (harg11 : arg11.IsWhole) (arg12 : Memref sig .tc .vmem S2x8x256x128 .f32) (harg12 : arg12.IsWhole) (arg13 : Memref sig .tc .vmem S2x256x2816 .bf16) (harg13 : arg13.IsWhole) (hc0 : ¬ cond0_0 i) (x0 : Vec Ideal S2x256x1024 .f32) (x1 : Vec Ideal S1024x5632 .bf16) (x2 : Vec Ideal S3x5632 .f32) (x3 : Vec Ideal S1x5632 .f32) (x4 : Vec Ideal S2816x1024 .bf16) (x5 : Vec Ideal S1x1024 .f32) (x6 : Vec Ideal S1x1024 .f32) (xs0 : Vec Ideal S2x2x8x5632 .f32) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 = OUT x0 x1 x2 x3 x4 x5 x6 xs0 := by
  unfold out0_B_7
  rw [View.read_writes_junk_eq_canon, CaseB.outs]
  exact outs_eq (carries_unread arg10 harg10 xs0)

end Cert.KernelIdeal.Ffn
-- ==== Proof.Ffn.Fold.lean ====
/- The result array of the kernel: every tile is its piece of the whole-sequence formula, the carried rows being those
   the tile before left. -/
module

public import proofs.«01_k».proof.Proof.Ffn.Seq
public import proofs.«01_k».proof.Proof.Ffn.Body
public import proofs.«01_k».proof.Proof.Gen.KernelIdeal.Value
public import Idealize.ShloMosaic.Lib.Pipeline.ValueKit.Point

@[expose] public section

noncomputable section

namespace Cert.KernelIdeal.Ffn

open Idealize.ShloMosaic Idealize.ShloMosaic.TcCoe
open Cert.KernelIdeal Cert.KernelIdeal.Gen

variable (m : (ℓ : Loc nD τ sig) → Buf (Elt Ideal) ℓ) (c : Dev nD)

/-- The pair of sequences and the tile of a grid point. -/
abbrev pairOf (t : Fin cfg0.N) : Fin 4 := ⟨t.val / 16, by have h : t.val < 64 := lt_of_lt_of_eq t.isLt N_0; omega⟩
abbrev tileIx (t : Fin cfg0.N) : Fin 16 := ⟨t.val % 16, by omega⟩

theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![t.val / 16, t.val % 16, 0] :=
  (by decide +kernel : ∀ t : Fin grid0.N, win0_7.index t = ![t.val / 16, t.val % 16, 0])

/-! ## The blocks a point loads -/

theorem tile_blk (t : Fin cfg0.N) : IsTile (m ((c : Thread nD τ).loc main_arg0)) (pairOf t) (tileIx t) (iblk m c 0 t) := fun s r k => by
  blk_ext! [iblk, V_main_arg0, idx0 t]

theorem up_blk (t : Fin cfg0.N) (k : Fin 1024) (col : Fin 5632) :
    iblk m c 1 t (ix2 k col) = m ((c : Thread nD τ).loc main_arg1) (ix3 0 k col) := by
  blk_ext! [iblk, V, idx1 t]

theorem taps_blk (t : Fin cfg0.N) (i : Fin 3) (col : Fin 5632) :
    iblk m c 2 t (ix2 i col) = m ((c : Thread nD τ).loc main_arg2) (ix3 0 i col) := by
  blk_ext! [iblk, V, idx2 t]

theorem bias_blk (t : Fin cfg0.N) (col : Fin 5632) :
    iblk m c 3 t (ix2 0 col) = m ((c : Thread nD τ).loc main_arg3) (ix2 0 col) := by
  blk_ext! [iblk, V_main_arg3, idx3 t]

theorem down_blk (t : Fin cfg0.N) (f : Fin 2816) (d : Fin 1024) :
    iblk m c 4 t (ix2 f d) = m ((c : Thread nD τ).loc main_arg4) (ix3 0 f d) := by
  blk_ext! [iblk, V, idx4 t]

theorem gain_blk (t : Fin cfg0.N) (d : Fin 1024) :
    iblk m c 5 t (ix2 0 d) = m ((c : Thread nD τ).loc main_arg5) (ix2 0 d) := by
  blk_ext! [iblk, V_main_arg5, idx5 t]

theorem shift_blk (t : Fin cfg0.N) (d : Fin 1024) :
    iblk m c 6 t (ix2 0 d) = m ((c : Thread nD τ).loc main_arg6) (ix2 0 d) := by
  blk_ext! [iblk, V_main_arg6, idx6 t]

/-! ## What every point leaves -/

/-- The carried rows after a point. -/
theorem carried_at (t : Fin cfg0.N) : (outsAt0 m c t.val t.isLt).2 = HALO (iblk m c 0 t) (iblk m c 1 t) := by
  by_cases h : t.val % 16 = 0
  · rw [outsAt0_A m c t h]
    dsimp only
    rw [sout_A]
  · rw [outsAt0_B m c t h]
    dsimp only
    rw [sout_B]

/-- The output tile of a point, as a piece of the whole-sequence formula. -/
theorem out_at (t : Fin cfg0.N) (s : Fin 2) (r : Fin 256) (d : Fin 1024) :
    (outsAt0 m c t.val t.isLt).1 (ix3 s r d)
      = outSeq (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (seqIx (pairOf t) s) (stepIx (tileIx t) r) d := by
  by_cases h : t.val % 16 = 0
  · rw [outsAt0_A m c t h]
    dsimp only
    rw [out_A]
    show outAt _ _ _ _ _ _ _ _ s r d = _
    exact outAt_seq (tile_blk m c t) (up_blk m c t) (taps_blk m c t) (bias_blk m c t) (down_blk m c t) (gain_blk m c t)
      (shift_blk m c t) (halo_first h) s r d
  · rw [outsAt0_B m c t h]
    dsimp only
    rw [out_B]
    show outAt _ _ _ _ _ _ _ _ s r d = _
    have h1 : 1 ≤ t.val := by omega
    have e := carried_at m c ⟨t.val - 1, Nat.lt_of_le_of_lt (Nat.sub_le _ _) t.isLt⟩
    have eg : pairOf ⟨t.val - 1, Nat.lt_of_le_of_lt (Nat.sub_le _ _) t.isLt⟩ = pairOf t :=
      Fin.ext (by show (t.val - 1) / 16 = t.val / 16; omega)
    have hb := tile_blk m c ⟨t.val - 1, Nat.lt_of_le_of_lt (Nat.sub_le _ _) t.isLt⟩
    rw [eg] at hb
    have hH := halo_next (q' := tileIx t) (by show t.val % 16 = (t.val - 1) % 16 + 1; omega) hb
      (up_blk m c ⟨t.val - 1, Nat.lt_of_le_of_lt (Nat.sub_le _ _) t.isLt⟩)
    rw [← e] at hH
    exact outAt_seq (tile_blk m c t) (up_blk m c t) (taps_blk m c t) (bias_blk m c t) (down_blk m c t) (gain_blk m c t)
      (shift_blk m c t) hH s r d

/-- The result array. -/
theorem result : (dats m 0 c).arrAt 7 cfg0.N
    = RES (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t hf y => ?_
  rw [after0_7]
  obtain ⟨s, r, d, rfl⟩ : ∃ (s : Fin 2) (r : Fin 256) (d : Fin 1024), y = ix3 s r d := ⟨y 0, y 1, y 2, eq_ix3 y⟩
  have e : ((cfg0.win 7).blk t).view.emb (ix3 s r d) = ix3 (seqIx (pairOf t) s) (stepIx (tileIx t) r) d := by
    blk_ext [idx7 t]
  blk_simp
  rw [e]
  exact out_at m c t s r d

end Cert.KernelIdeal.Ffn
-- ==== Proof.Ffn.Ref.lean ====
/- The reference's result array is the whole-sequence formula. -/
module

public import proofs.«01_k».proof.Proof.Ffn.Seq
public import proofs.«01_k».proof.Proof.Gen.ReferenceIdeal.Run
public import Idealize.ShloMosaic.Lib.Pipeline.ValueKit.Point

@[expose] public section

noncomputable section

namespace Cert.ReferenceIdeal.Ffn

open Idealize.ShloMosaic Idealize.ShloMosaic.TcCoe Idealize.ShloMosaic.StableHlo
open Cert.ReferenceIdeal Cert.ReferenceIdeal.Gen Cert.ReferenceIdeal.Value
open Cert.KernelIdeal.Ffn (upSeq earlier convSeq gateSeq preSeq outSeq actS meanS centS normS)

variable (V0 : Valuation τ sig (Elt Ideal))

/-- The arguments. -/
abbrev hid : Vec Ideal S8x4096x1024 .f32 := V0 (Proc.devRef .tc main_arg0)
abbrev wup : Vec Ideal S1x1024x5632 .f32 := V0 (Proc.devRef .tc main_arg1)
abbrev taps : Vec Ideal S1x3x5632 .f32 := V0 (Proc.devRef .tc main_arg2)
abbrev bias : Vec Ideal S1x5632 .f32 := V0 (Proc.devRef .tc main_arg3)
abbrev wdown : Vec Ideal S1x2816x1024 .f32 := V0 (Proc.devRef .tc main_arg4)
abbrev gain : Vec Ideal S1x1024 .f32 := V0 (Proc.devRef .tc main_arg5)
abbrev shift : Vec Ideal S1x1024 .f32 := V0 (Proc.devRef .tc main_arg6)

/-- The padded up-projection: two zero steps, then the sequence. -/
theorem padded (b : Fin 8) (t : Fin 4096) (d : ℕ) (n : Fin 4098) (hn : n.val + d = t.val + 2) (col : Fin 5632) :
    res_main_v5 V0 (ix3 b n col) = earlier (hid V0) (wup V0) b t d col := by
  unfold earlier
  pointwise [res_main_v5, upSeq]
  by_cases h : t.val < d
  · rw [if_pos h, dif_neg (by omega)]
    show ((((0#32 : BitVec 32).toInt : ℤ) : ℝ) : EReal) = 0
    simp
  · have ht := t.isLt
    rw [if_neg h, dif_pos (by omega)]
    have e : (⟨n.val - 2, by omega⟩ : Fin 4096) = ⟨t.val - d, by omega⟩ := Fin.ext (by show n.val - 2 = t.val - d; omega)
    rw [e]

/-- The convolution, whichever way its four terms are added up. -/
theorem conv (b : Fin 8) (t : Fin 4096) (col : Fin 5632) :
    res_main_v30 V0 (ix3 b t col) = convSeq (hid V0) (wup V0) (taps V0) (bias V0) b t col := by
  have e0 : upSeq (hid V0) (wup V0) b t col = earlier (hid V0) (wup V0) b t 0 col := by
    unfold earlier
    rw [if_neg (Nat.not_lt_zero _)]
    rfl
  pointwise [res_main_v30, res_main_v1, convSeq]
  rw [padded V0 b t 2 _ rfl, padded V0 b t 1 _ (by show 1 + t.val + 1 = t.val + 2; omega),
    padded V0 b t 0 _ (by show 2 + t.val + 0 = t.val + 2; omega), ← e0]
  simp only [add_assoc]

theorem half (b : Fin 8) (t : Fin 4096) (f : Fin 2816) :
    res_main_v31 V0 (ix3 b t f) = convSeq (hid V0) (wup V0) (taps V0) (bias V0) b t ⟨f.val, by omega⟩ := by
  rw [← conv]
  pointwise [res_main_v31]

/-- The row before normalisation. -/
theorem pre (b : Fin 8) (t : Fin 4096) (d : Fin 1024) :
    res_main_v50 V0 (ix3 b t d) = preSeq (hid V0) (wup V0) (taps V0) (bias V0) (wdown V0) b t d := by
  pointwise [res_main_v50, preSeq]
  congr 1
  refine Finset.sum_congr rfl fun f _ => ?_
  rw [half, conv]
  unfold gateSeq actS
  congr 2
  rw [← mul_assoc, mul_comm (convSeq _ _ _ _ b t _) (Ideal.ofBits .f32 0x3F000000#32)]

theorem mean (b : Fin 8) (t : Fin 4096) (z : Fin 1) :
    res_main_v56 V0 (ix3 b t z) = meanS (preSeq (hid V0) (wup V0) (taps V0) (bias V0) (wdown V0) b t) := by
  pointwise [res_main_v56, meanS]
  simp only [pre]

theorem cent (b : Fin 8) (t : Fin 4096) (d : Fin 1024) :
    res_main_v58 V0 (ix3 b t d) = centS (preSeq (hid V0) (wup V0) (taps V0) (bias V0) (wdown V0) b t) d := by
  pointwise [res_main_v58, centS]
  rw [pre, mean]

/-- The reference's result term. -/
theorem result : addf (mulf (mulf (subf (res_main_v50 V0) (broadcastInDim S8x4096x1024 ![0, 1, 2] bcast_S8x4096x1_S8x4096x1024_0_1_2 (res_main_v56 V0))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v58 V0) (res_main_v58 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (shapeCast _ (V0 (Proc.devRef .tc main_arg5)) shapeCasts_S1x1024_S1024)))) (broadcastInDim S8x4096x1024 ![0, 1, 2] bcast_S1x1x1024_S8x4096x1024_0_1_2 (broadcastInDim S1x1x1024 ![2] bcast_S1024_S1x1x1024_2 (shapeCast _ (V0 (Proc.devRef .tc main_arg6)) shapeCasts_S1x1024_S1024)))
    = Cert.KernelIdeal.Ffn.RES (hid V0) (wup V0) (taps V0) (bias V0) (wdown V0) (gain V0) (shift V0) := by
  funext y
  obtain ⟨b, t, d, rfl⟩ : ∃ (b : Fin 8) (t : Fin 4096) (d : Fin 1024), y = ix3 b t d := ⟨y 0, y 1, y 2, eq_ix3 y⟩
  show _ = outSeq (hid V0) (wup V0) (taps V0) (bias V0) (wdown V0) (gain V0) (shift V0) b t d
  unfold outSeq normS
  pointwise [meanS]
  simp only [pre, mean, cent]
  rfl

end Cert.ReferenceIdeal.Ffn
-- ==== Proof.Mix.Run.lean ====
/- The mixer's body at any grid point, from its staging buffers and scratch to some contents of the result and the scratch. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 12000000 in set_option sl_exec.stridedRows true in
/-- The body runs to its end from any contents of the result and of the scratch, leaving the inputs as they were. -/
theorem kernelRun (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_mixer_ln1 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mixer_ln1_eq_skeleton]; unfold cc0_mixer_ln1_skel
  simp only [k0_part1_eq_skeleton, k0_part10_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part2_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part3_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part4_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part5_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part6_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part7_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part8_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part9_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel2Ideal.Mix

end
-- ==== Proof.Mix.Frame.lean ====
/- The mixer's launch: its body's run at every grid point, the pipeline around it, and the frame — it runs to its end, its
   arguments unchanged and every semaphore at zero. Nothing is said of what its result holds. -/
module

public import proofs.«01_k».proof.Proof.Mix.Run

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Assertions about the machine. -/
abbrev Asn (F : FTy → Type) : Type := sProp (MT nD τ sig Unit (Elt F) ℕ (UR sig nD τ) ℕ)

/-- The staging buffers that the pipeline passes at a point. -/
abbrev ms0 (t : Fin cfg0.N) : Memref sig .tc .vmem S2x256x1024 .f32 := win0_0.stage (cfg0.slots t 0)
abbrev ms1 (t : Fin cfg0.N) : Memref sig .tc .vmem S2x256x1024 .f32 := win0_1.stage (cfg0.slots t 1)
abbrev ms2 (t : Fin cfg0.N) : Memref sig .tc .vmem S1024x2560 .bf16 := win0_2.stage (cfg0.slots t 2)
abbrev ms3 (t : Fin cfg0.N) : Memref sig .tc .vmem S4x128x128 .bf16 := win0_3.stage (cfg0.slots t 3)
abbrev ms4 (t : Fin cfg0.N) : Memref sig .tc .vmem S1x512 .f32 := win0_4.stage (cfg0.slots t 4)
abbrev ms5 (t : Fin cfg0.N) : Memref sig .tc .vmem S2x512 .f32 := win0_5.stage (cfg0.slots t 5)
abbrev ms6 (t : Fin cfg0.N) : Memref sig .tc .vmem S1x128 .f32 := win0_6.stage (cfg0.slots t 6)
abbrev ms7 (t : Fin cfg0.N) : Memref sig .tc .vmem S1024x1024 .bf16 := win0_7.stage (cfg0.slots t 7)
abbrev ms8 (t : Fin cfg0.N) : Memref sig .tc .vmem S1x1024 .f32 := win0_8.stage (cfg0.slots t 8)
abbrev ms9 (t : Fin cfg0.N) : Memref sig .tc .vmem S1x1024 .f32 := win0_9.stage (cfg0.slots t 9)
abbrev ms10 (t : Fin cfg0.N) : Memref sig .tc .vmem S2x256x1024 .f32 := win0_10.stage (cfg0.slots t 10)

/-- The kernel's own scratch buffers. -/
abbrev sc0 : Memref sig .tc .vmem S2x256x512 .f32 := Memref.whole cc0_scratch0
abbrev sc1 : Memref sig .tc .smem S1 .i32 := Memref.whole cc0_scratch1
abbrev sc2 : Memref sig .tc .vmem S2x4x128x128 .f32 := Memref.whole cc0_scratch2
abbrev sc3 : Memref sig .tc .vmem S2x16x512 .f32 := Memref.whole cc0_scratch3

/-- What the launch hands the body besides the windows: the scratch buffers at some contents, and the generator's register. -/
theorem scratch_eq (c : Dev nD) :
    (Pipeline.ΦA spec0 c : Asn F)
      = iprop(iprop((∃ d, owns (c : Thread nD τ) sc0 fullShare d) ∗ (∃ d, owns (c : Thread nD τ) sc2 fullShare d) ∗ (∃ d, owns (c : Thread nD τ) sc3 fullShare d) ∗ (∃ d, owns (c : Thread nD τ) sc1 fullShare d)) ∗ (∃ r, prngReg c r)) := by
  unfold Pipeline.ΦA; rw [scopedRest0_eq]; simp only [sc0, sc1, sc2, sc3, owns_whole]; try rfl

/-- The result's window is the one whose contents are not named. -/
def fgt (w : Fin cfg0.W) : Bool := match w with
  | ⟨10, _⟩ => true
  | _ => false

/-- The arrays as the region finds them, and what the body leaves in each staging buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at a point. -/
def bodyPre (c : Dev nD) (t : Fin cfg0.N) : Asn F :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ X, owns (c : Thread nD τ) (ms10 t) fullShare X))

/-- What it leaves. -/
def bodyPost (c : Dev nD) (t : Fin cfg0.N) : Asn F :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ (∃ X, owns (c : Thread nD τ) (ms10 t) fullShare X))

set_option maxHeartbeats 4000000 in
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl, after_0, after_1, after_2, after_3, after_4, after_5, after_6, after_7, after_8, after_9]
  rw [show (dats m 0 c).Φ t.castSucc = Pipeline.ΦA spec0 c from rfl, show (dats m 0 c).Φ t.succ = Pipeline.ΦA spec0 c from rfl, scratch_eq]
  iintro ⟨⟨⟨S0, S2, S3, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply (kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hg]
  · isplitl [S0 S1 S2 S3]
    · isplitl [S0]; · iexact S0
      isplitl [S2]; · iexact S2
      isplitl [S3]; · iexact S3
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: every input array ends as the region found it, and every semaphore at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- The mixer runs to its end, its argument arrays unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ⟨?_, ?_, ?_, ?_, ?_, ?_, ?_, ?_, ?_⟩, h.2⟩) (run_main m ρ)
  · exact (Pipeline.RDat.FramePost.arr_in h.1 c 1 rfl).trans ((A_eq m c 1).trans (V_main_arg0 m c))
  · exact ((h.1 c).2 main_arg1 (Pipeline.mem_restRefs_of main_arg1 (by decide) (by decide))).trans (V_main_arg1 m c)
  · exact ((h.1 c).2 main_arg2 (Pipeline.mem_restRefs_of main_arg2 (by decide) (by decide))).trans (V_main_arg2 m c)
  · exact (Pipeline.RDat.FramePost.arr_in h.1 c 4 rfl).trans ((A_eq m c 4).trans (V_main_arg3 m c))
  · exact (Pipeline.RDat.FramePost.arr_in h.1 c 5 rfl).trans ((A_eq m c 5).trans (V_main_arg4 m c))
  · exact (Pipeline.RDat.FramePost.arr_in h.1 c 6 rfl).trans ((A_eq m c 6).trans (V_main_arg5 m c))
  · exact ((h.1 c).2 main_arg6 (Pipeline.mem_restRefs_of main_arg6 (by decide) (by decide))).trans (V_main_arg6 m c)
  · exact (Pipeline.RDat.FramePost.arr_in h.1 c 8 rfl).trans ((A_eq m c 8).trans (V_main_arg7 m c))
  · exact (Pipeline.RDat.FramePost.arr_in h.1 c 9 rfl).trans ((A_eq m c 9).trans (V_main_arg8 m c))

end Cert.Kernel2Ideal.Mix

end
-- ==== Proof.Mix.Clean.lean ====
/- The mixer's tile computation as a few functions of the values a grid point loads: the projections, the trailing means,
   the recurrence by chunks of 64 rows in its two forms, the output projection with the residual and the normalisation. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Mix

open Cert.Kernel2Ideal Cert.Kernel2Ideal.Gen
open Idealize.ShloMosaic Idealize.ShloMosaic.TcCoe

variable {F : FTy → Type} [FloatOps F]

/-- A half of the input projection of a tile. -/
def half (x : Vec F S1x256x1024 .f32) (w : Vec F S1024x1024 .bf16) : FVec F S256x1024 .f32 :=
  have v457 : FVec F S256x1024 .f32 := shapeCast S256x1024 x shapeCasts_S1x256x1024_S256x1024
  have v458 : FVec F S256x1024 .bf16 := truncf .bf16 v457 bitsLt_bf16_f32
  have v460 : FVec F S1024x1024 .bf16 := shapeCast S1024x1024 w shapeCasts_S1024x1024_S1024x1024
  have v461 : FVec F S256x1024 .f32 := matmul dot_S256x1024_S1024x1024_S256x1024_1_0_0_1_n_n none v458 v460 (constant S256x1024 .f32 0x00000000#32)
  v461

/-- The first 512 columns. -/
def cols0 (a : FVec F S256x1024 .f32) : FVec F S256x512 .f32 :=
  have v465 : FVec F S256x512 .f32 := extractStridedSlice S256x512 ![0, 0] a slices_S256x1024_o0_0_S256x512
  v465

/-- The last 512 columns. -/
def cols1 (a : FVec F S256x1024 .f32) : FVec F S256x512 .f32 :=
  have v466 : FVec F S256x512 .f32 := extractStridedSlice S256x512 ![0, 512] a slices_S256x1024_o0_512_S256x512
  v466

/-- Channel group 0 of the trailing means, less the tile itself. -/
def pool0 (ha : Vec F S1x16x512 .f32) (xp : FVec F S256x512 .f32) (inv : FVec F S256x1 .f32) : FVec F S256x128 .bf16 :=
  have v487 : FVec F S16x512 .f32 := shapeCast S16x512 ha shapeCasts_S1x16x512_S16x512
  have v488 : FVec F S272x512 .f32 := concatenate S272x512 0 [⟨S16x512, v487⟩, ⟨S256x512, xp⟩] concatenates_S16x512_S256x512_S272x512_d0
  have v493 : FVec F S272x128 .f32 := extractStridedSlice S272x128 ![0, 0] v488 slices_S272x512_o0_0_S272x128
  have v494 : FVec F S272x128 .f32 := dynamicRotate 0 1#32 none v493 rotates_S272x128_d0
  have v495 : FVec F S272x128 .f32 := addf v493 v494
  have v496 : FVec F S256x128 .f32 := extractStridedSlice S256x128 ![16, 0] v495 slices_S272x128_o16_0_S256x128
  have v497 : FVec F S256x128 .f32 := broadcastTo S256x128 inv broadcasts_S256x1_S256x128
  have v498 : FVec F S256x128 .f32 := mulf v496 v497
  have v499 : FVec F S256x128 .f32 := extractStridedSlice S256x128 ![0, 0] xp slices_S256x512_o0_0_S256x128
  have v500 : FVec F S256x128 .f32 := subf v498 v499
  have v501 : FVec F S256x128 .bf16 := truncf .bf16 v500 bitsLt_bf16_f32
  v501

/-- Channel group 1 of the trailing means, less the tile itself. -/
def pool1 (ha : Vec F S1x16x512 .f32) (xp : FVec F S256x512 .f32) (inv : FVec F S256x1 .f32) : FVec F S256x128 .bf16 :=
  have v487 : FVec F S16x512 .f32 := shapeCast S16x512 ha shapeCasts_S1x16x512_S16x512
  have v488 : FVec F S272x512 .f32 := concatenate S272x512 0 [⟨S16x512, v487⟩, ⟨S256x512, xp⟩] concatenates_S16x512_S256x512_S272x512_d0
  have v502 : FVec F S272x128 .f32 := extractStridedSlice S272x128 ![0, 128] v488 slices_S272x512_o0_128_S272x128
  have v503 : FVec F S272x128 .f32 := dynamicRotate 0 1#32 none v502 rotates_S272x128_d0
  have v504 : FVec F S272x128 .f32 := addf v502 v503
  have v505 : FVec F S272x128 .f32 := dynamicRotate 0 2#32 none v504 rotates_S272x128_d0
  have v506 : FVec F S272x128 .f32 := addf v504 v505
  have v507 : FVec F S256x128 .f32 := extractStridedSlice S256x128 ![16, 0] v506 slices_S272x128_o16_0_S256x128
  have v508 : FVec F S256x128 .f32 := broadcastTo S256x128 inv broadcasts_S256x1_S256x128
  have v509 : FVec F S256x128 .f32 := mulf v507 v508
  have v510 : FVec F S256x128 .f32 := extractStridedSlice S256x128 ![0, 128] xp slices_S256x512_o0_128_S256x128
  have v511 : FVec F S256x128 .f32 := subf v509 v510
  have v512 : FVec F S256x128 .bf16 := truncf .bf16 v511 bitsLt_bf16_f32
  v512

/-- Channel group 2 of the trailing means, less the tile itself. -/
def pool2 (ha : Vec F S1x16x512 .f32) (xp : FVec F S256x512 .f32) (inv : FVec F S256x1 .f32) : FVec F S256x128 .bf16 :=
  have v487 : FVec F S16x512 .f32 := shapeCast S16x512 ha shapeCasts_S1x16x512_S16x512
  have v488 : FVec F S272x512 .f32 := concatenate S272x512 0 [⟨S16x512, v487⟩, ⟨S256x512, xp⟩] concatenates_S16x512_S256x512_S272x512_d0
  have v513 : FVec F S272x128 .f32 := extractStridedSlice S272x128 ![0, 256] v488 slices_S272x512_o0_256_S272x128
  have v514 : FVec F S272x128 .f32 := dynamicRotate 0 1#32 none v513 rotates_S272x128_d0
  have v515 : FVec F S272x128 .f32 := addf v513 v514
  have v516 : FVec F S272x128 .f32 := dynamicRotate 0 2#32 none v515 rotates_S272x128_d0
  have v517 : FVec F S272x128 .f32 := addf v515 v516
  have v518 : FVec F S272x128 .f32 := dynamicRotate 0 4#32 none v517 rotates_S272x128_d0
  have v519 : FVec F S272x128 .f32 := addf v517 v518
  have v520 : FVec F S256x128 .f32 := extractStridedSlice S256x128 ![16, 0] v519 slices_S272x128_o16_0_S256x128
  have v521 : FVec F S256x128 .f32 := broadcastTo S256x128 inv broadcasts_S256x1_S256x128
  have v522 : FVec F S256x128 .f32 := mulf v520 v521
  have v523 : FVec F S256x128 .f32 := extractStridedSlice S256x128 ![0, 256] xp slices_S256x512_o0_256_S256x128
  have v524 : FVec F S256x128 .f32 := subf v522 v523
  have v525 : FVec F S256x128 .bf16 := truncf .bf16 v524 bitsLt_bf16_f32
  v525

/-- Channel group 3 of the trailing means, less the tile itself. -/
def pool3 (ha : Vec F S1x16x512 .f32) (xp : FVec F S256x512 .f32) (inv : FVec F S256x1 .f32) : FVec F S256x128 .bf16 :=
  have v487 : FVec F S16x512 .f32 := shapeCast S16x512 ha shapeCasts_S1x16x512_S16x512
  have v488 : FVec F S272x512 .f32 := concatenate S272x512 0 [⟨S16x512, v487⟩, ⟨S256x512, xp⟩] concatenates_S16x512_S256x512_S272x512_d0
  have v526 : FVec F S272x128 .f32 := extractStridedSlice S272x128 ![0, 384] v488 slices_S272x512_o0_384_S272x128
  have v527 : FVec F S272x128 .f32 := dynamicRotate 0 1#32 none v526 rotates_S272x128_d0
  have v528 : FVec F S272x128 .f32 := addf v526 v527
  have v529 : FVec F S272x128 .f32 := dynamicRotate 0 2#32 none v528 rotates_S272x128_d0
  have v530 : FVec F S272x128 .f32 := addf v528 v529
  have v531 : FVec F S272x128 .f32 := dynamicRotate 0 4#32 none v530 rotates_S272x128_d0
  have v532 : FVec F S272x128 .f32 := addf v530 v531
  have v533 : FVec F S272x128 .f32 := dynamicRotate 0 8#32 none v532 rotates_S272x128_d0
  have v534 : FVec F S272x128 .f32 := addf v532 v533
  have v535 : FVec F S256x128 .f32 := extractStridedSlice S256x128 ![16, 0] v534 slices_S272x128_o16_0_S256x128
  have v536 : FVec F S256x128 .f32 := broadcastTo S256x128 inv broadcasts_S256x1_S256x128
  have v537 : FVec F S256x128 .f32 := mulf v535 v536
  have v538 : FVec F S256x128 .f32 := extractStridedSlice S256x128 ![0, 384] xp slices_S256x512_o0_384_S256x128
  have v539 : FVec F S256x128 .f32 := subf v537 v538
  have v540 : FVec F S256x128 .bf16 := truncf .bf16 v539 bitsLt_bf16_f32
  v540

/-- The pooling mixer's output. -/
def poolOut (d0 : FVec F S256x128 .bf16) (d1 : FVec F S256x128 .bf16) (d2 : FVec F S256x128 .bf16) (d3 : FVec F S256x128 .bf16) (w0 : Vec F S1x128x128 .bf16) (w1 : Vec F S1x128x128 .bf16) (w2 : Vec F S1x128x128 .bf16) (w3 : Vec F S1x128x128 .bf16) (ps : Vec F S1x512 .f32) : FVec F S256x512 .f32 :=
  have v782 : FVec F S128x128 .bf16 := shapeCast S128x128 w0 shapeCasts_S1x128x128_S128x128
  have v783 : FVec F S256x128 .f32 := matmul dot_S256x128_S128x128_S256x128_1_0_0_1_n_n none d0 v782 (constant S256x128 .f32 0x00000000#32)
  have v785 : FVec F S128x128 .bf16 := shapeCast S128x128 w1 shapeCasts_S1x128x128_S128x128
  have v786 : FVec F S256x128 .f32 := matmul dot_S256x128_S128x128_S256x128_1_0_0_1_n_n none d1 v785 (constant S256x128 .f32 0x00000000#32)
  have v788 : FVec F S128x128 .bf16 := shapeCast S128x128 w2 shapeCasts_S1x128x128_S128x128
  have v789 : FVec F S256x128 .f32 := matmul dot_S256x128_S128x128_S256x128_1_0_0_1_n_n none d2 v788 (constant S256x128 .f32 0x00000000#32)
  have v791 : FVec F S128x128 .bf16 := shapeCast S128x128 w3 shapeCasts_S1x128x128_S128x128
  have v792 : FVec F S256x128 .f32 := matmul dot_S256x128_S128x128_S256x128_1_0_0_1_n_n none d3 v791 (constant S256x128 .f32 0x00000000#32)
  have v793 : FVec F S256x512 .f32 := concatenate S256x512 1 [⟨S256x128, v783⟩, ⟨S256x128, v786⟩, ⟨S256x128, v789⟩, ⟨S256x128, v792⟩] concatenates_S256x128_S256x128_S256x128_S256x128_S256x512_d1
  have v795 : FVec F S256x512 .f32 := broadcastTo S256x512 ps broadcasts_S1x512_S256x512
  have v796 : FVec F S256x512 .f32 := mulf v793 v795
  v796

/-- The last sixteen rows of a tile. -/
def keep (xp : FVec F S256x512 .f32) : FVec F S1x16x512 .f32 :=
  have v489 : FVec F S16x512 .f32 := extractStridedSlice S16x512 ![240, 0] xp slices_S256x512_o240_0_S16x512
  have v492 : FVec F S1x16x512 .f32 := shapeCast S1x16x512 v489 shapeCasts_S16x512_S1x16x512
  v492

/-- The forget gate. -/
def forget (lb : FVec F S1x512 .f32) (fp : Vec F S1x256x512 .f32) : FVec F S256x512 .f32 :=
  have v546 : FVec F S256x512 .f32 := broadcastTo S256x512 lb broadcasts_S1x512_S256x512
  have v541 : FVec F S1x512 .f32 := broadcast S1x512 (Scalar.ofBits .f32 0x3F800000#32)
  have v542 : FVec F S1x512 .f32 := subf v541 lb
  have v544 : FVec F S256x512 .f32 := broadcastTo S256x512 v542 broadcasts_S1x512_S256x512
  have v468 : FVec F S256x512 .f32 := shapeCast S256x512 fp shapeCasts_S1x256x512_S256x512
  have v543 : FVec F S256x512 .f32 := logistic v468
  have v545 : FVec F S256x512 .f32 := mulf v544 v543
  have v547 : FVec F S256x512 .f32 := addf v546 v545
  v547

/-- The key: one less the forget gate. -/
def keyOf (f : FVec F S256x512 .f32) : FVec F S256x512 .f32 :=
  have v549 : FVec F S256x512 .f32 := broadcast S256x512 (Scalar.ofBits .f32 0x3F800000#32)
  have v550 : FVec F S256x512 .f32 := subf v549 f
  v550

/-- The query: q times its logistic. -/
def queryOf (q : FVec F S256x512 .f32) : FVec F S256x512 .f32 :=
  have v551 : FVec F S256x512 .f32 := logistic q
  have v552 : FVec F S256x512 .f32 := mulf q v551
  v552

/-- The running sums within eight rows. -/
def cs8 (a : FVec F S256x512 .f32) : FVec F S32x8x512 .f32 :=
  have v553 : FVec F S32x8x512 .f32 := shapeCast S32x8x512 a shapeCasts_S256x512_S32x8x512
  have v554 : IVec S1x8x1 32 := iota .tc S1x8x1 32 [1] iota_S1x8x1_d1_w32
  have v555 : IVec S1x8x1 32 := broadcast S1x8x1 1#32
  have v556 : IVec S1x8x1 1 := cmpi .sge v554 v555
  have v558 : IVec S1x8x1 1 := shapeCast S1x8x1 v556 shapeCasts_S1x8x1_S1x8x1
  have v559 : IVec S32x8x512 1 := broadcastTo S32x8x512 v558 broadcasts_S1x8x1_S32x8x512
  have v557 : FVec F S32x8x512 .f32 := dynamicRotate 1 1#32 none v553 rotates_S32x8x512_d1
  have v560 : FVec F S32x8x512 .f32 := broadcast S32x8x512 (Scalar.ofBits .f32 0x00000000#32)
  have v561 : FVec F S32x8x512 .f32 := select v559 v557 v560
  have v562 : FVec F S32x8x512 .f32 := addf v553 v561
  have v563 : IVec S1x8x1 32 := broadcast S1x8x1 2#32
  have v564 : IVec S1x8x1 1 := cmpi .sge v554 v563
  have v566 : IVec S1x8x1 1 := shapeCast S1x8x1 v564 shapeCasts_S1x8x1_S1x8x1
  have v567 : IVec S32x8x512 1 := broadcastTo S32x8x512 v566 broadcasts_S1x8x1_S32x8x512
  have v565 : FVec F S32x8x512 .f32 := dynamicRotate 1 2#32 none v562 rotates_S32x8x512_d1
  have v568 : FVec F S32x8x512 .f32 := broadcast S32x8x512 (Scalar.ofBits .f32 0x00000000#32)
  have v569 : FVec F S32x8x512 .f32 := select v567 v565 v568
  have v570 : FVec F S32x8x512 .f32 := addf v562 v569
  have v571 : IVec S1x8x1 32 := broadcast S1x8x1 4#32
  have v572 : IVec S1x8x1 1 := cmpi .sge v554 v571
  have v574 : IVec S1x8x1 1 := shapeCast S1x8x1 v572 shapeCasts_S1x8x1_S1x8x1
  have v575 : IVec S32x8x512 1 := broadcastTo S32x8x512 v574 broadcasts_S1x8x1_S32x8x512
  have v573 : FVec F S32x8x512 .f32 := dynamicRotate 1 4#32 none v570 rotates_S32x8x512_d1
  have v576 : FVec F S32x8x512 .f32 := broadcast S32x8x512 (Scalar.ofBits .f32 0x00000000#32)
  have v577 : FVec F S32x8x512 .f32 := select v575 v573 v576
  have v578 : FVec F S32x8x512 .f32 := addf v570 v577
  v578

/-- The first eight rows of every chunk. -/
def cg0 (s : FVec F S32x8x512 .f32) : FVec F S4x8x512 .f32 :=
  have v579 : FVec F S4x8x8x512 .f32 := shapeCast S4x8x8x512 s shapeCasts_S32x8x512_S4x8x8x512
  have v580 : FVec F S4x1x8x512 .f32 := extractStridedSlice S4x1x8x512 ![0, 0, 0, 0] v579 slices_S4x8x8x512_o0_0_0_0_S4x1x8x512
  have v581 : FVec F S4x8x512 .f32 := shapeCast S4x8x512 v580 shapeCasts_S4x1x8x512_S4x8x512
  v581

/-- The eight rows number 1 of every chunk, and what came before. -/
def cg1 (s : FVec F S32x8x512 .f32) (p : FVec F S4x8x512 .f32) : FVec F S4x8x512 .f32 :=
  have v579 : FVec F S4x8x8x512 .f32 := shapeCast S4x8x8x512 s shapeCasts_S32x8x512_S4x8x8x512
  have v583 : FVec F S4x1x8x512 .f32 := extractStridedSlice S4x1x8x512 ![0, 1, 0, 0] v579 slices_S4x8x8x512_o0_1_0_0_S4x1x8x512
  have v584 : FVec F S4x8x512 .f32 := shapeCast S4x8x512 v583 shapeCasts_S4x1x8x512_S4x8x512
  have v582 : FVec F S4x1x512 .f32 := extractStridedSlice S4x1x512 ![0, 7, 0] p slices_S4x8x512_o0_7_0_S4x1x512
  have v585 : FVec F S4x8x512 .f32 := broadcastTo S4x8x512 v582 broadcasts_S4x1x512_S4x8x512
  have v586 : FVec F S4x8x512 .f32 := addf v584 v585
  v586

/-- The eight rows number 2 of every chunk, and what came before. -/
def cg2 (s : FVec F S32x8x512 .f32) (p : FVec F S4x8x512 .f32) : FVec F S4x8x512 .f32 :=
  have v579 : FVec F S4x8x8x512 .f32 := shapeCast S4x8x8x512 s shapeCasts_S32x8x512_S4x8x8x512
  have v588 : FVec F S4x1x8x512 .f32 := extractStridedSlice S4x1x8x512 ![0, 2, 0, 0] v579 slices_S4x8x8x512_o0_2_0_0_S4x1x8x512
  have v589 : FVec F S4x8x512 .f32 := shapeCast S4x8x512 v588 shapeCasts_S4x1x8x512_S4x8x512
  have v587 : FVec F S4x1x512 .f32 := extractStridedSlice S4x1x512 ![0, 7, 0] p slices_S4x8x512_o0_7_0_S4x1x512
  have v590 : FVec F S4x8x512 .f32 := broadcastTo S4x8x512 v587 broadcasts_S4x1x512_S4x8x512
  have v591 : FVec F S4x8x512 .f32 := addf v589 v590
  v591

/-- The eight rows number 3 of every chunk, and what came before. -/
def cg3 (s : FVec F S32x8x512 .f32) (p : FVec F S4x8x512 .f32) : FVec F S4x8x512 .f32 :=
  have v579 : FVec F S4x8x8x512 .f32 := shapeCast S4x8x8x512 s shapeCasts_S32x8x512_S4x8x8x512
  have v593 : FVec F S4x1x8x512 .f32 := extractStridedSlice S4x1x8x512 ![0, 3, 0, 0] v579 slices_S4x8x8x512_o0_3_0_0_S4x1x8x512
  have v594 : FVec F S4x8x512 .f32 := shapeCast S4x8x512 v593 shapeCasts_S4x1x8x512_S4x8x512
  have v592 : FVec F S4x1x512 .f32 := extractStridedSlice S4x1x512 ![0, 7, 0] p slices_S4x8x512_o0_7_0_S4x1x512
  have v595 : FVec F S4x8x512 .f32 := broadcastTo S4x8x512 v592 broadcasts_S4x1x512_S4x8x512
  have v596 : FVec F S4x8x512 .f32 := addf v594 v595
  v596

/-- The eight rows number 4 of every chunk, and what came before. -/
def cg4 (s : FVec F S32x8x512 .f32) (p : FVec F S4x8x512 .f32) : FVec F S4x8x512 .f32 :=
  have v579 : FVec F S4x8x8x512 .f32 := shapeCast S4x8x8x512 s shapeCasts_S32x8x512_S4x8x8x512
  have v598 : FVec F S4x1x8x512 .f32 := extractStridedSlice S4x1x8x512 ![0, 4, 0, 0] v579 slices_S4x8x8x512_o0_4_0_0_S4x1x8x512
  have v599 : FVec F S4x8x512 .f32 := shapeCast S4x8x512 v598 shapeCasts_S4x1x8x512_S4x8x512
  have v597 : FVec F S4x1x512 .f32 := extractStridedSlice S4x1x512 ![0, 7, 0] p slices_S4x8x512_o0_7_0_S4x1x512
  have v600 : FVec F S4x8x512 .f32 := broadcastTo S4x8x512 v597 broadcasts_S4x1x512_S4x8x512
  have v601 : FVec F S4x8x512 .f32 := addf v599 v600
  v601

/-- The eight rows number 5 of every chunk, and what came before. -/
def cg5 (s : FVec F S32x8x512 .f32) (p : FVec F S4x8x512 .f32) : FVec F S4x8x512 .f32 :=
  have v579 : FVec F S4x8x8x512 .f32 := shapeCast S4x8x8x512 s shapeCasts_S32x8x512_S4x8x8x512
  have v603 : FVec F S4x1x8x512 .f32 := extractStridedSlice S4x1x8x512 ![0, 5, 0, 0] v579 slices_S4x8x8x512_o0_5_0_0_S4x1x8x512
  have v604 : FVec F S4x8x512 .f32 := shapeCast S4x8x512 v603 shapeCasts_S4x1x8x512_S4x8x512
  have v602 : FVec F S4x1x512 .f32 := extractStridedSlice S4x1x512 ![0, 7, 0] p slices_S4x8x512_o0_7_0_S4x1x512
  have v605 : FVec F S4x8x512 .f32 := broadcastTo S4x8x512 v602 broadcasts_S4x1x512_S4x8x512
  have v606 : FVec F S4x8x512 .f32 := addf v604 v605
  v606

/-- The eight rows number 6 of every chunk, and what came before. -/
def cg6 (s : FVec F S32x8x512 .f32) (p : FVec F S4x8x512 .f32) : FVec F S4x8x512 .f32 :=
  have v579 : FVec F S4x8x8x512 .f32 := shapeCast S4x8x8x512 s shapeCasts_S32x8x512_S4x8x8x512
  have v608 : FVec F S4x1x8x512 .f32 := extractStridedSlice S4x1x8x512 ![0, 6, 0, 0] v579 slices_S4x8x8x512_o0_6_0_0_S4x1x8x512
  have v609 : FVec F S4x8x512 .f32 := shapeCast S4x8x512 v608 shapeCasts_S4x1x8x512_S4x8x512
  have v607 : FVec F S4x1x512 .f32 := extractStridedSlice S4x1x512 ![0, 7, 0] p slices_S4x8x512_o0_7_0_S4x1x512
  have v610 : FVec F S4x8x512 .f32 := broadcastTo S4x8x512 v607 broadcasts_S4x1x512_S4x8x512
  have v611 : FVec F S4x8x512 .f32 := addf v609 v610
  v611

/-- The eight rows number 7 of every chunk, and what came before. -/
def cg7 (s : FVec F S32x8x512 .f32) (p : FVec F S4x8x512 .f32) : FVec F S4x8x512 .f32 :=
  have v579 : FVec F S4x8x8x512 .f32 := shapeCast S4x8x8x512 s shapeCasts_S32x8x512_S4x8x8x512
  have v613 : FVec F S4x1x8x512 .f32 := extractStridedSlice S4x1x8x512 ![0, 7, 0, 0] v579 slices_S4x8x8x512_o0_7_0_0_S4x1x8x512
  have v614 : FVec F S4x8x512 .f32 := shapeCast S4x8x512 v613 shapeCasts_S4x1x8x512_S4x8x512
  have v612 : FVec F S4x1x512 .f32 := extractStridedSlice S4x1x512 ![0, 7, 0] p slices_S4x8x512_o0_7_0_S4x1x512
  have v615 : FVec F S4x8x512 .f32 := broadcastTo S4x8x512 v612 broadcasts_S4x1x512_S4x8x512
  have v616 : FVec F S4x8x512 .f32 := addf v614 v615
  v616

/-- The eight groups of rows of every chunk, in order. -/
def cjoin (c0 : FVec F S4x8x512 .f32) (c1 : FVec F S4x8x512 .f32) (c2 : FVec F S4x8x512 .f32) (c3 : FVec F S4x8x512 .f32) (c4 : FVec F S4x8x512 .f32) (c5 : FVec F S4x8x512 .f32) (c6 : FVec F S4x8x512 .f32) (c7 : FVec F S4x8x512 .f32) : FVec F S256x512 .f32 :=
  have v617 : FVec F S4x1x8x512 .f32 := shapeCast S4x1x8x512 c0 shapeCasts_S4x8x512_S4x1x8x512
  have v618 : FVec F S4x1x8x512 .f32 := shapeCast S4x1x8x512 c1 shapeCasts_S4x8x512_S4x1x8x512
  have v619 : FVec F S4x1x8x512 .f32 := shapeCast S4x1x8x512 c2 shapeCasts_S4x8x512_S4x1x8x512
  have v620 : FVec F S4x1x8x512 .f32 := shapeCast S4x1x8x512 c3 shapeCasts_S4x8x512_S4x1x8x512
  have v621 : FVec F S4x1x8x512 .f32 := shapeCast S4x1x8x512 c4 shapeCasts_S4x8x512_S4x1x8x512
  have v622 : FVec F S4x1x8x512 .f32 := shapeCast S4x1x8x512 c5 shapeCasts_S4x8x512_S4x1x8x512
  have v623 : FVec F S4x1x8x512 .f32 := shapeCast S4x1x8x512 c6 shapeCasts_S4x8x512_S4x1x8x512
  have v624 : FVec F S4x1x8x512 .f32 := shapeCast S4x1x8x512 c7 shapeCasts_S4x8x512_S4x1x8x512
  have v625 : FVec F S4x8x8x512 .f32 := concatenate S4x8x8x512 1 [⟨S4x1x8x512, v617⟩, ⟨S4x1x8x512, v618⟩, ⟨S4x1x8x512, v619⟩, ⟨S4x1x8x512, v620⟩, ⟨S4x1x8x512, v621⟩, ⟨S4x1x8x512, v622⟩, ⟨S4x1x8x512, v623⟩, ⟨S4x1x8x512, v624⟩] concatenates_S4x1x8x512_S4x1x8x512_S4x1x8x512_S4x1x8x512_S4x1x8x512_S4x1x8x512_S4x1x8x512_S4x1x8x512_S4x8x8x512_d1
  have v626 : FVec F S256x512 .f32 := shapeCast S256x512 v625 shapeCasts_S4x8x8x512_S256x512
  v626

/-- The running sums within the chunks of 64 rows. -/
def csum (a : FVec F S256x512 .f32) : FVec F S256x512 .f32 :=
  have s := cs8 a
  have c0 := cg0 s
  have c1 := cg1 s c0
  have c2 := cg2 s c1
  have c3 := cg3 s c2
  have c4 := cg4 s c3
  have c5 := cg5 s c4
  have c6 := cg6 s c5
  have c7 := cg7 s c6
  cjoin c0 c1 c2 c3 c4 c5 c6 c7

/-- The operand of the level of half 32. -/
def z32 (b : FVec F S256x512 .f32) (q : FVec F S256x512 .f32) (k : FVec F S256x512 .f32) : FVec F S256x512 .bf16 :=
  have v829 : FVec F S4x2x32x512 .f32 := shapeCast S4x2x32x512 k shapeCasts_S256x512_S4x2x32x512
  have v832 : FVec F S4x1x32x512 .f32 := extractStridedSlice S4x1x32x512 ![0, 0, 0, 0] v829 slices_S4x2x32x512_o0_0_0_0_S4x1x32x512
  have v833 : FVec F S4x32x512 .f32 := shapeCast S4x32x512 v832 shapeCasts_S4x1x32x512_S4x32x512
  have v827 : FVec F S4x2x32x512 .f32 := shapeCast S4x2x32x512 b shapeCasts_S256x512_S4x2x32x512
  have v830 : FVec F S4x1x1x512 .f32 := extractStridedSlice S4x1x1x512 ![0, 0, 31, 0] v827 slices_S4x2x32x512_o0_0_31_0_S4x1x1x512
  have v831 : FVec F S4x1x512 .f32 := shapeCast S4x1x512 v830 shapeCasts_S4x1x1x512_S4x1x512
  have v836 : FVec F S4x32x512 .f32 := broadcastTo S4x32x512 v831 broadcasts_S4x1x512_S4x32x512
  have v834 : FVec F S4x1x32x512 .f32 := extractStridedSlice S4x1x32x512 ![0, 0, 0, 0] v827 slices_S4x2x32x512_o0_0_0_0_S4x1x32x512
  have v835 : FVec F S4x32x512 .f32 := shapeCast S4x32x512 v834 shapeCasts_S4x1x32x512_S4x32x512
  have v837 : FVec F S4x32x512 .f32 := subf v836 v835
  have v838 : FVec F S4x32x512 .f32 := exp v837
  have v839 : FVec F S4x32x512 .f32 := mulf v833 v838
  have v848 : FVec F S4x1x32x512 .f32 := shapeCast S4x1x32x512 v839 shapeCasts_S4x32x512_S4x1x32x512
  have v828 : FVec F S4x2x32x512 .f32 := shapeCast S4x2x32x512 q shapeCasts_S256x512_S4x2x32x512
  have v840 : FVec F S4x1x32x512 .f32 := extractStridedSlice S4x1x32x512 ![0, 1, 0, 0] v828 slices_S4x2x32x512_o0_1_0_0_S4x1x32x512
  have v841 : FVec F S4x32x512 .f32 := shapeCast S4x32x512 v840 shapeCasts_S4x1x32x512_S4x32x512
  have v842 : FVec F S4x1x32x512 .f32 := extractStridedSlice S4x1x32x512 ![0, 1, 0, 0] v827 slices_S4x2x32x512_o0_1_0_0_S4x1x32x512
  have v843 : FVec F S4x32x512 .f32 := shapeCast S4x32x512 v842 shapeCasts_S4x1x32x512_S4x32x512
  have v844 : FVec F S4x32x512 .f32 := broadcastTo S4x32x512 v831 broadcasts_S4x1x512_S4x32x512
  have v845 : FVec F S4x32x512 .f32 := subf v843 v844
  have v846 : FVec F S4x32x512 .f32 := exp v845
  have v847 : FVec F S4x32x512 .f32 := mulf v841 v846
  have v849 : FVec F S4x1x32x512 .f32 := shapeCast S4x1x32x512 v847 shapeCasts_S4x32x512_S4x1x32x512
  have v850 : FVec F S4x2x32x512 .f32 := concatenate S4x2x32x512 1 [⟨S4x1x32x512, v848⟩, ⟨S4x1x32x512, v849⟩] concatenates_S4x1x32x512_S4x1x32x512_S4x2x32x512_d1
  have v851 : FVec F S256x512 .f32 := shapeCast S256x512 v850 shapeCasts_S4x2x32x512_S256x512
  have v852 : FVec F S256x512 .bf16 := truncf .bf16 v851 bitsLt_bf16_f32
  v852

/-- The operand of the level of half 16. -/
def z16 (b : FVec F S256x512 .f32) (q : FVec F S256x512 .f32) (k : FVec F S256x512 .f32) : FVec F S256x512 .bf16 :=
  have v855 : FVec F S8x2x16x512 .f32 := shapeCast S8x2x16x512 k shapeCasts_S256x512_S8x2x16x512
  have v858 : FVec F S8x1x16x512 .f32 := extractStridedSlice S8x1x16x512 ![0, 0, 0, 0] v855 slices_S8x2x16x512_o0_0_0_0_S8x1x16x512
  have v859 : FVec F S8x16x512 .f32 := shapeCast S8x16x512 v858 shapeCasts_S8x1x16x512_S8x16x512
  have v853 : FVec F S8x2x16x512 .f32 := shapeCast S8x2x16x512 b shapeCasts_S256x512_S8x2x16x512
  have v856 : FVec F S8x1x1x512 .f32 := extractStridedSlice S8x1x1x512 ![0, 0, 15, 0] v853 slices_S8x2x16x512_o0_0_15_0_S8x1x1x512
  have v857 : FVec F S8x1x512 .f32 := shapeCast S8x1x512 v856 shapeCasts_S8x1x1x512_S8x1x512
  have v862 : FVec F S8x16x512 .f32 := broadcastTo S8x16x512 v857 broadcasts_S8x1x512_S8x16x512
  have v860 : FVec F S8x1x16x512 .f32 := extractStridedSlice S8x1x16x512 ![0, 0, 0, 0] v853 slices_S8x2x16x512_o0_0_0_0_S8x1x16x512
  have v861 : FVec F S8x16x512 .f32 := shapeCast S8x16x512 v860 shapeCasts_S8x1x16x512_S8x16x512
  have v863 : FVec F S8x16x512 .f32 := subf v862 v861
  have v864 : FVec F S8x16x512 .f32 := exp v863
  have v865 : FVec F S8x16x512 .f32 := mulf v859 v864
  have v874 : FVec F S8x1x16x512 .f32 := shapeCast S8x1x16x512 v865 shapeCasts_S8x16x512_S8x1x16x512
  have v854 : FVec F S8x2x16x512 .f32 := shapeCast S8x2x16x512 q shapeCasts_S256x512_S8x2x16x512
  have v866 : FVec F S8x1x16x512 .f32 := extractStridedSlice S8x1x16x512 ![0, 1, 0, 0] v854 slices_S8x2x16x512_o0_1_0_0_S8x1x16x512
  have v867 : FVec F S8x16x512 .f32 := shapeCast S8x16x512 v866 shapeCasts_S8x1x16x512_S8x16x512
  have v868 : FVec F S8x1x16x512 .f32 := extractStridedSlice S8x1x16x512 ![0, 1, 0, 0] v853 slices_S8x2x16x512_o0_1_0_0_S8x1x16x512
  have v869 : FVec F S8x16x512 .f32 := shapeCast S8x16x512 v868 shapeCasts_S8x1x16x512_S8x16x512
  have v870 : FVec F S8x16x512 .f32 := broadcastTo S8x16x512 v857 broadcasts_S8x1x512_S8x16x512
  have v871 : FVec F S8x16x512 .f32 := subf v869 v870
  have v872 : FVec F S8x16x512 .f32 := exp v871
  have v873 : FVec F S8x16x512 .f32 := mulf v867 v872
  have v875 : FVec F S8x1x16x512 .f32 := shapeCast S8x1x16x512 v873 shapeCasts_S8x16x512_S8x1x16x512
  have v876 : FVec F S8x2x16x512 .f32 := concatenate S8x2x16x512 1 [⟨S8x1x16x512, v874⟩, ⟨S8x1x16x512, v875⟩] concatenates_S8x1x16x512_S8x1x16x512_S8x2x16x512_d1
  have v877 : FVec F S256x512 .f32 := shapeCast S256x512 v876 shapeCasts_S8x2x16x512_S256x512
  have v878 : FVec F S256x512 .bf16 := truncf .bf16 v877 bitsLt_bf16_f32
  v878

/-- The left operand within sixteen rows. -/
def qloc (b : FVec F S256x512 .f32) (q : FVec F S256x512 .f32) : FVec F S256x512 .bf16 :=
  have v879 : FVec F S4x4x16x512 .f32 := shapeCast S4x4x16x512 b shapeCasts_S256x512_S4x4x16x512
  have v881 : FVec F S4x1x1x512 .f32 := broadcast S4x1x1x512 (Scalar.ofBits .f32 0x00000000#32)
  have v880 : FVec F S4x3x1x512 .f32 := extractStridedSlice S4x3x1x512 ![0, 0, 15, 0] v879 slices_S4x4x16x512_o0_0_15_0_S4x3x1x512
  have v882 : FVec F S4x4x1x512 .f32 := concatenate S4x4x1x512 1 [⟨S4x1x1x512, v881⟩, ⟨S4x3x1x512, v880⟩] concatenates_S4x1x1x512_S4x3x1x512_S4x4x1x512_d1
  have v883 : FVec F S4x4x16x512 .f32 := broadcastTo S4x4x16x512 v882 broadcasts_S4x4x1x512_S4x4x16x512
  have v884 : FVec F S4x4x16x512 .f32 := subf v879 v883
  have v885 : FVec F S256x512 .f32 := shapeCast S256x512 v884 shapeCasts_S4x4x16x512_S256x512
  have v886 : FVec F S256x512 .f32 := exp v885
  have v887 : FVec F S256x512 .f32 := mulf q v886
  have v888 : FVec F S256x512 .bf16 := truncf .bf16 v887 bitsLt_bf16_f32
  v888

/-- The right operand within sixteen rows. -/
def kloc (b : FVec F S256x512 .f32) (k : FVec F S256x512 .f32) : FVec F S256x512 .bf16 :=
  have v889 : FVec F S256x512 .f32 := broadcast S256x512 (Scalar.ofBits .f32 0x00000000#32)
  have v879 : FVec F S4x4x16x512 .f32 := shapeCast S4x4x16x512 b shapeCasts_S256x512_S4x4x16x512
  have v881 : FVec F S4x1x1x512 .f32 := broadcast S4x1x1x512 (Scalar.ofBits .f32 0x00000000#32)
  have v880 : FVec F S4x3x1x512 .f32 := extractStridedSlice S4x3x1x512 ![0, 0, 15, 0] v879 slices_S4x4x16x512_o0_0_15_0_S4x3x1x512
  have v882 : FVec F S4x4x1x512 .f32 := concatenate S4x4x1x512 1 [⟨S4x1x1x512, v881⟩, ⟨S4x3x1x512, v880⟩] concatenates_S4x1x1x512_S4x3x1x512_S4x4x1x512_d1
  have v883 : FVec F S4x4x16x512 .f32 := broadcastTo S4x4x16x512 v882 broadcasts_S4x4x1x512_S4x4x16x512
  have v884 : FVec F S4x4x16x512 .f32 := subf v879 v883
  have v885 : FVec F S256x512 .f32 := shapeCast S256x512 v884 shapeCasts_S4x4x16x512_S256x512
  have v890 : FVec F S256x512 .f32 := subf v889 v885
  have v891 : FVec F S256x512 .f32 := exp v890
  have v892 : FVec F S256x512 .f32 := mulf k v891
  have v893 : FVec F S256x512 .bf16 := truncf .bf16 v892 bitsLt_bf16_f32
  v893

/-- The query decayed from the chunk's start. -/
def qdec (b : FVec F S256x512 .f32) (q : FVec F S256x512 .f32) : FVec F S256x512 .bf16 :=
  have v894 : FVec F S256x512 .f32 := exp b
  have v895 : FVec F S256x512 .f32 := mulf q v894
  have v896 : FVec F S256x512 .bf16 := truncf .bf16 v895 bitsLt_bf16_f32
  v896

/-- Chunk 0's key decayed to the chunk's end. -/
def kdec0 (b : FVec F S256x512 .f32) (k : FVec F S256x512 .f32) : FVec F S64x512 .bf16 :=
  have v900 : FVec F S64x512 .f32 := extractStridedSlice S64x512 ![0, 0] k slices_S256x512_o0_0_S64x512
  have v898 : FVec F S64x512 .f32 := extractStridedSlice S64x512 ![0, 0] b slices_S256x512_o0_0_S64x512
  have v899 : FVec F S1x512 .f32 := extractStridedSlice S1x512 ![63, 0] v898 slices_S64x512_o63_0_S1x512
  have v901 : FVec F S64x512 .f32 := broadcastTo S64x512 v899 broadcasts_S1x512_S64x512
  have v902 : FVec F S64x512 .f32 := subf v901 v898
  have v903 : FVec F S64x512 .f32 := exp v902
  have v904 : FVec F S64x512 .f32 := mulf v900 v903
  have v905 : FVec F S64x512 .bf16 := truncf .bf16 v904 bitsLt_bf16_f32
  v905

/-- Chunk 0's whole decay. -/
def dec0 (b : FVec F S256x512 .f32) : FVec F S1x512 .f32 :=
  have v898 : FVec F S64x512 .f32 := extractStridedSlice S64x512 ![0, 0] b slices_S256x512_o0_0_S64x512
  have v899 : FVec F S1x512 .f32 := extractStridedSlice S1x512 ![63, 0] v898 slices_S64x512_o63_0_S1x512
  have v906 : FVec F S1x512 .f32 := exp v899
  v906

/-- Chunk 1's key decayed to the chunk's end. -/
def kdec1 (b : FVec F S256x512 .f32) (k : FVec F S256x512 .f32) : FVec F S64x512 .bf16 :=
  have v909 : FVec F S64x512 .f32 := extractStridedSlice S64x512 ![64, 0] k slices_S256x512_o64_0_S64x512
  have v907 : FVec F S64x512 .f32 := extractStridedSlice S64x512 ![64, 0] b slices_S256x512_o64_0_S64x512
  have v908 : FVec F S1x512 .f32 := extractStridedSlice S1x512 ![63, 0] v907 slices_S64x512_o63_0_S1x512
  have v910 : FVec F S64x512 .f32 := broadcastTo S64x512 v908 broadcasts_S1x512_S64x512
  have v911 : FVec F S64x512 .f32 := subf v910 v907
  have v912 : FVec F S64x512 .f32 := exp v911
  have v913 : FVec F S64x512 .f32 := mulf v909 v912
  have v914 : FVec F S64x512 .bf16 := truncf .bf16 v913 bitsLt_bf16_f32
  v914

/-- Chunk 1's whole decay. -/
def dec1 (b : FVec F S256x512 .f32) : FVec F S1x512 .f32 :=
  have v907 : FVec F S64x512 .f32 := extractStridedSlice S64x512 ![64, 0] b slices_S256x512_o64_0_S64x512
  have v908 : FVec F S1x512 .f32 := extractStridedSlice S1x512 ![63, 0] v907 slices_S64x512_o63_0_S1x512
  have v915 : FVec F S1x512 .f32 := exp v908
  v915

/-- Chunk 2's key decayed to the chunk's end. -/
def kdec2 (b : FVec F S256x512 .f32) (k : FVec F S256x512 .f32) : FVec F S64x512 .bf16 :=
  have v918 : FVec F S64x512 .f32 := extractStridedSlice S64x512 ![128, 0] k slices_S256x512_o128_0_S64x512
  have v916 : FVec F S64x512 .f32 := extractStridedSlice S64x512 ![128, 0] b slices_S256x512_o128_0_S64x512
  have v917 : FVec F S1x512 .f32 := extractStridedSlice S1x512 ![63, 0] v916 slices_S64x512_o63_0_S1x512
  have v919 : FVec F S64x512 .f32 := broadcastTo S64x512 v917 broadcasts_S1x512_S64x512
  have v920 : FVec F S64x512 .f32 := subf v919 v916
  have v921 : FVec F S64x512 .f32 := exp v920
  have v922 : FVec F S64x512 .f32 := mulf v918 v921
  have v923 : FVec F S64x512 .bf16 := truncf .bf16 v922 bitsLt_bf16_f32
  v923

/-- Chunk 2's whole decay. -/
def dec2 (b : FVec F S256x512 .f32) : FVec F S1x512 .f32 :=
  have v916 : FVec F S64x512 .f32 := extractStridedSlice S64x512 ![128, 0] b slices_S256x512_o128_0_S64x512
  have v917 : FVec F S1x512 .f32 := extractStridedSlice S1x512 ![63, 0] v916 slices_S64x512_o63_0_S1x512
  have v924 : FVec F S1x512 .f32 := exp v917
  v924

/-- Chunk 3's key decayed to the chunk's end. -/
def kdec3 (b : FVec F S256x512 .f32) (k : FVec F S256x512 .f32) : FVec F S64x512 .bf16 :=
  have v927 : FVec F S64x512 .f32 := extractStridedSlice S64x512 ![192, 0] k slices_S256x512_o192_0_S64x512
  have v925 : FVec F S64x512 .f32 := extractStridedSlice S64x512 ![192, 0] b slices_S256x512_o192_0_S64x512
  have v926 : FVec F S1x512 .f32 := extractStridedSlice S1x512 ![63, 0] v925 slices_S64x512_o63_0_S1x512
  have v928 : FVec F S64x512 .f32 := broadcastTo S64x512 v926 broadcasts_S1x512_S64x512
  have v929 : FVec F S64x512 .f32 := subf v928 v925
  have v930 : FVec F S64x512 .f32 := exp v929
  have v931 : FVec F S64x512 .f32 := mulf v927 v930
  have v932 : FVec F S64x512 .bf16 := truncf .bf16 v931 bitsLt_bf16_f32
  v932

/-- Chunk 3's whole decay. -/
def dec3 (b : FVec F S256x512 .f32) : FVec F S1x512 .f32 :=
  have v925 : FVec F S64x512 .f32 := extractStridedSlice S64x512 ![192, 0] b slices_S256x512_o192_0_S64x512
  have v926 : FVec F S1x512 .f32 := extractStridedSlice S1x512 ![63, 0] v925 slices_S64x512_o63_0_S1x512
  have v933 : FVec F S1x512 .f32 := exp v926
  v933

/-- The scores of the two coarse levels, by disjoint column slots. -/
def slots (z : FVec F S64x128 .bf16) (y : FVec F S64x128 .bf16) : FVec F S64x64 .f32 :=
  have v1043 : FVec F S64x128 .bf16 := broadcast S64x128 (Scalar.ofBits .bf16 0x0000#16)
  have v1044 : FVec F S32x128 .bf16 := extractStridedSlice S32x128 ![0, 0] v1043 slices_S64x128_o0_0_S32x128
  have v1045 : FVec F S32x128 .bf16 := extractStridedSlice S32x128 ![32, 0] z slices_S64x128_o32_0_S32x128
  have v1046 : FVec F S64x128 .bf16 := concatenate S64x128 0 [⟨S32x128, v1044⟩, ⟨S32x128, v1045⟩] concatenates_S32x128_S32x128_S64x128_d0
  have v1050 : FVec F S64x128 .bf16 := broadcast S64x128 (Scalar.ofBits .bf16 0x0000#16)
  have v1051 : FVec F S16x128 .bf16 := extractStridedSlice S16x128 ![0, 0] v1050 slices_S64x128_o0_0_S16x128
  have v1052 : FVec F S16x128 .bf16 := extractStridedSlice S16x128 ![16, 0] y slices_S64x128_o16_0_S16x128
  have v1053 : FVec F S32x128 .bf16 := extractStridedSlice S32x128 ![32, 0] v1050 slices_S64x128_o32_0_S32x128
  have v1054 : FVec F S64x128 .bf16 := concatenate S64x128 0 [⟨S16x128, v1051⟩, ⟨S16x128, v1052⟩, ⟨S32x128, v1053⟩] concatenates_S16x128_S16x128_S32x128_S64x128_d0
  have v1058 : FVec F S48x128 .bf16 := extractStridedSlice S48x128 ![0, 0] v1050 slices_S64x128_o0_0_S48x128
  have v1059 : FVec F S16x128 .bf16 := extractStridedSlice S16x128 ![48, 0] y slices_S64x128_o48_0_S16x128
  have v1060 : FVec F S64x128 .bf16 := concatenate S64x128 0 [⟨S48x128, v1058⟩, ⟨S16x128, v1059⟩] concatenates_S48x128_S16x128_S64x128_d0
  have v1065 : FVec F S64x384 .bf16 := concatenate S64x384 1 [⟨S64x128, v1046⟩, ⟨S64x128, v1054⟩, ⟨S64x128, v1060⟩] concatenates_S64x128_S64x128_S64x128_S64x384_d1
  have v1047 : FVec F S32x128 .bf16 := extractStridedSlice S32x128 ![0, 0] z slices_S64x128_o0_0_S32x128
  have v1048 : FVec F S32x128 .bf16 := extractStridedSlice S32x128 ![32, 0] v1043 slices_S64x128_o32_0_S32x128
  have v1049 : FVec F S64x128 .bf16 := concatenate S64x128 0 [⟨S32x128, v1047⟩, ⟨S32x128, v1048⟩] concatenates_S32x128_S32x128_S64x128_d0
  have v1055 : FVec F S16x128 .bf16 := extractStridedSlice S16x128 ![0, 0] y slices_S64x128_o0_0_S16x128
  have v1056 : FVec F S48x128 .bf16 := extractStridedSlice S48x128 ![16, 0] v1050 slices_S64x128_o16_0_S48x128
  have v1057 : FVec F S64x128 .bf16 := concatenate S64x128 0 [⟨S16x128, v1055⟩, ⟨S48x128, v1056⟩] concatenates_S16x128_S48x128_S64x128_d0
  have v1061 : FVec F S32x128 .bf16 := extractStridedSlice S32x128 ![0, 0] v1050 slices_S64x128_o0_0_S32x128
  have v1062 : FVec F S16x128 .bf16 := extractStridedSlice S16x128 ![32, 0] y slices_S64x128_o32_0_S16x128
  have v1063 : FVec F S16x128 .bf16 := extractStridedSlice S16x128 ![48, 0] v1050 slices_S64x128_o48_0_S16x128
  have v1064 : FVec F S64x128 .bf16 := concatenate S64x128 0 [⟨S32x128, v1061⟩, ⟨S16x128, v1062⟩, ⟨S16x128, v1063⟩] concatenates_S32x128_S16x128_S16x128_S64x128_d0
  have v1066 : FVec F S64x384 .bf16 := concatenate S64x384 1 [⟨S64x128, v1049⟩, ⟨S64x128, v1057⟩, ⟨S64x128, v1064⟩] concatenates_S64x128_S64x128_S64x128_S64x384_d1
  have v1069 : FVec F S64x64 .f32 := matmul dot_S64x384_S64x384_S64x64_1_1_0_0_n_n none v1065 v1066 (constant S64x64 .f32 0x00000000#32)
  v1069

/-- The products of the rows of two blocks. -/
def nt (p : FVec F S64x128 .bf16) (q : FVec F S64x128 .bf16) : FVec F S64x64 .f32 :=
  have v1070 : FVec F S64x64 .f32 := matmul dot_S64x128_S64x128_S64x64_1_1_0_0_n_n none p q (constant S64x64 .f32 0x00000000#32)
  v1070

/-- A chunk's part of the state. -/
def upd (v : FVec F S64x128 .bf16) (k : FVec F S64x128 .bf16) : FVec F S128x128 .f32 :=
  have v1073 : FVec F S128x128 .f32 := matmul dot_S64x128_S64x128_S128x128_0_0_1_1_n_n none v k (constant S128x128 .f32 0x00000000#32)
  v1073

/-- The scores applied to the chunk's values. -/
def mixRows (a : FVec F S64x64 .f32) (v : FVec F S64x128 .bf16) : FVec F S64x128 .f32 :=
  have v2098 : FVec F S64x64 .bf16 := truncf .bf16 a bitsLt_bf16_f32
  have v2100 : FVec F S64x128 .f32 := matmul dot_S64x64_S64x128_S64x128_1_0_0_1_n_n none v2098 v (constant S64x128 .f32 0x00000000#32)
  v2100

/-- The state read by the queries. -/
def inter (q : FVec F S64x128 .bf16) (st : FVec F S128x128 .f32) : FVec F S64x128 .f32 :=
  have v2228 : FVec F S128x128 .bf16 := truncf .bf16 st bitsLt_bf16_f32
  have v2229 : FVec F S64x128 .f32 := matmul dot_S64x128_S128x128_S64x128_1_1_0_0_n_n none q v2228 (constant S64x128 .f32 0x00000000#32)
  v2229

/-- The state after a chunk. -/
def step (d : FVec F S1x128 .f32) (st : FVec F S128x128 .f32) (u : FVec F S128x128 .f32) : FVec F S128x128 .f32 :=
  have v2231 : FVec F S128x128 .f32 := broadcastTo S128x128 d broadcasts_S1x128_S128x128
  have v2232 : FVec F S128x128 .f32 := mulf v2231 st
  have v2233 : FVec F S128x128 .f32 := addf v2232 u
  v2233

/-- The four chunks, one under the other. -/
def four (a0 : FVec F S64x128 .f32) (a1 : FVec F S64x128 .f32) (a2 : FVec F S64x128 .f32) (a3 : FVec F S64x128 .f32) : FVec F S256x128 .f32 :=
  have v2493 : FVec F S256x128 .f32 := concatenate S256x128 0 [⟨S64x128, a0⟩, ⟨S64x128, a1⟩, ⟨S64x128, a2⟩, ⟨S64x128, a3⟩] concatenates_S64x128_S64x128_S64x128_S64x128_S256x128_d0
  v2493

/-- A head's output, normalised and gated. -/
def gated (o : FVec F S256x128 .f32) (gn : Vec F S1x128 .f32) (g : FVec F S256x128 .f32) : FVec F S256x128 .f32 :=
  have v2494 : FVec F S256x128 .f32 := mulf o o
  have v2495 : FVec F S256 .f32 := multiReduction .add [1] S256 v2494 0x00000000#32 reduces_S256x128_S256 (.inl rfl) rfl
  have v2496 : FVec F S256x1 .f32 := shapeCast S256x1 v2495 shapeCasts_S256_S256x1
  have v2497 : FVec F S256x1 .f32 := broadcast S256x1 (Scalar.ofBits .f32 0x43000000#32)
  have v2498 : FVec F S256x1 .f32 := divf v2496 v2497
  have v2500 : FVec F S256x1 .f32 := broadcast S256x1 (Scalar.ofBits .f32 0x358637BD#32)
  have v2501 : FVec F S256x1 .f32 := addf v2498 v2500
  have v2502 : FVec F S256x1 .f32 := rsqrt v2501
  have v2503 : FVec F S256x128 .f32 := broadcastTo S256x128 v2502 broadcasts_S256x1_S256x128
  have v2504 : FVec F S256x128 .f32 := mulf o v2503
  have v2505 : FVec F S256x128 .f32 := broadcastTo S256x128 gn broadcasts_S1x128_S256x128
  have v2506 : FVec F S256x128 .f32 := mulf v2504 v2505
  have v2507 : FVec F S256x128 .f32 := logistic g
  have v2508 : FVec F S256x128 .f32 := mulf g v2507
  have v2509 : FVec F S256x128 .f32 := mulf v2506 v2508
  v2509

/-- The output projection, the residual and the normalisation. -/
def layer (x : Vec F S1x256x1024 .f32) (ya : FVec F S256x512 .f32) (h0 : FVec F S256x128 .f32) (h1 : FVec F S256x128 .f32) (h2 : FVec F S256x128 .f32) (h3 : FVec F S256x128 .f32) (w : Vec F S1024x1024 .bf16) (ga : Vec F S1x1024 .f32) (be : Vec F S1x1024 .f32) : FVec F S1x256x1024 .f32 :=
  have v2667 : FVec F S256x1024 .f32 := broadcast S256x1024 (Scalar.ofBits .f32 0x3F9837F0#32)
  have v457 : FVec F S256x1024 .f32 := shapeCast S256x1024 x shapeCasts_S1x256x1024_S256x1024
  have v2668 : FVec F S256x1024 .f32 := mulf v2667 v457
  have v2573 : FVec F S256x1024 .f32 := concatenate S256x1024 1 [⟨S256x512, ya⟩, ⟨S256x128, h0⟩, ⟨S256x128, h1⟩, ⟨S256x128, h2⟩, ⟨S256x128, h3⟩] concatenates_S256x512_S256x128_S256x128_S256x128_S256x128_S256x1024_d1
  have v2574 : FVec F S256x1024 .bf16 := truncf .bf16 v2573 bitsLt_bf16_f32
  have v2662 : FVec F S1024x1024 .bf16 := shapeCast S1024x1024 w shapeCasts_S1024x1024_S1024x1024
  have v2663 : FVec F S256x1024 .f32 := matmul dot_S256x1024_S1024x1024_S256x1024_1_0_0_1_n_n none v2574 v2662 (constant S256x1024 .f32 0x00000000#32)
  have v2669 : FVec F S256x1024 .f32 := addf v2668 v2663
  have v2672 : FVec F S256 .f32 := multiReduction .add [1] S256 v2669 0x00000000#32 reduces_S256x1024_S256 (.inl rfl) rfl
  have v2673 : FVec F S256x1 .f32 := shapeCast S256x1 v2672 shapeCasts_S256_S256x1
  have v2674 : FVec F S256x1 .f32 := broadcast S256x1 (Scalar.ofBits .f32 0x44800000#32)
  have v2675 : FVec F S256x1 .f32 := divf v2673 v2674
  have v2676 : FVec F S256x1024 .f32 := broadcastTo S256x1024 v2675 broadcasts_S256x1_S256x1024
  have v2677 : FVec F S256x1024 .f32 := subf v2669 v2676
  have v2678 : FVec F S256x1024 .f32 := mulf v2677 v2677
  have v2679 : FVec F S256 .f32 := multiReduction .add [1] S256 v2678 0x00000000#32 reduces_S256x1024_S256 (.inl rfl) rfl
  have v2680 : FVec F S256x1 .f32 := shapeCast S256x1 v2679 shapeCasts_S256_S256x1
  have v2681 : FVec F S256x1 .f32 := broadcast S256x1 (Scalar.ofBits .f32 0x44800000#32)
  have v2682 : FVec F S256x1 .f32 := divf v2680 v2681
  have v2683 : FVec F S256x1 .f32 := broadcast S256x1 (Scalar.ofBits .f32 0x3727C5AC#32)
  have v2684 : FVec F S256x1 .f32 := addf v2682 v2683
  have v2685 : FVec F S256x1 .f32 := rsqrt v2684
  have v2686 : FVec F S256x1024 .f32 := broadcastTo S256x1024 v2685 broadcasts_S256x1_S256x1024
  have v2687 : FVec F S256x1024 .f32 := mulf v2677 v2686
  have v2688 : FVec F S256x1024 .f32 := broadcastTo S256x1024 ga broadcasts_S1x1024_S256x1024
  have v2689 : FVec F S256x1024 .f32 := mulf v2687 v2688
  have v2690 : FVec F S256x1024 .f32 := broadcastTo S256x1024 be broadcasts_S1x1024_S256x1024
  have v2691 : FVec F S256x1024 .f32 := addf v2689 v2690
  have v2694 : FVec F S1x256x1024 .f32 := shapeCast S1x256x1024 v2691 shapeCasts_S256x1024_S1x256x1024
  v2694

/-- A state block as a matrix. -/
def stIn (st : Vec F S1x1x128x128 .f32) : FVec F S128x128 .f32 :=
  have v2226 : FVec F S128x128 .f32 := shapeCast S128x128 st shapeCasts_S1x1x128x128_S128x128
  v2226

/-- A state matrix as a block. -/
def stOut (st : FVec F S128x128 .f32) : FVec F S1x1x128x128 .f32 :=
  have v2257 : FVec F S1x1x128x128 .f32 := shapeCast S1x1x128x128 st shapeCasts_S128x128_S1x1x128x128
  v2257

/-- The forget gate's columns of the projection of the next tile. -/
def ahead (x : Vec F S1x256x1024 .f32) (w : Vec F S1024x512 .bf16) : FVec F S1x256x512 .f32 :=
  have v769 : FVec F S256x1024 .f32 := shapeCast S256x1024 x shapeCasts_S1x256x1024_S256x1024
  have v770 : FVec F S256x1024 .bf16 := truncf .bf16 v769 bitsLt_bf16_f32
  have v772 : FVec F S1024x512 .bf16 := shapeCast S1024x512 w shapeCasts_S1024x512_S1024x512
  have v773 : FVec F S256x512 .f32 := matmul dot_S256x1024_S1024x512_S256x512_1_0_0_1_n_n none v770 v772 (constant S256x512 .f32 0x00000000#32)
  have v776 : FVec F S1x256x512 .f32 := shapeCast S1x256x512 v773 shapeCasts_S256x512_S1x256x512
  v776

/-- A chunk's rows and a head's columns. -/
def cut {e : FTy} (c hd : Fin 4) (v : FVec F S256x512 e) : FVec F S64x128 e :=
  match c, hd with
  | 0, 0 => extractStridedSlice S64x128 ![0, 0] v slices_S256x512_o0_0_S64x128
  | 0, 1 => extractStridedSlice S64x128 ![0, 128] v slices_S256x512_o0_128_S64x128
  | 0, 2 => extractStridedSlice S64x128 ![0, 256] v slices_S256x512_o0_256_S64x128
  | 0, 3 => extractStridedSlice S64x128 ![0, 384] v slices_S256x512_o0_384_S64x128
  | 1, 0 => extractStridedSlice S64x128 ![64, 0] v slices_S256x512_o64_0_S64x128
  | 1, 1 => extractStridedSlice S64x128 ![64, 128] v slices_S256x512_o64_128_S64x128
  | 1, 2 => extractStridedSlice S64x128 ![64, 256] v slices_S256x512_o64_256_S64x128
  | 1, 3 => extractStridedSlice S64x128 ![64, 384] v slices_S256x512_o64_384_S64x128
  | 2, 0 => extractStridedSlice S64x128 ![128, 0] v slices_S256x512_o128_0_S64x128
  | 2, 1 => extractStridedSlice S64x128 ![128, 128] v slices_S256x512_o128_128_S64x128
  | 2, 2 => extractStridedSlice S64x128 ![128, 256] v slices_S256x512_o128_256_S64x128
  | 2, 3 => extractStridedSlice S64x128 ![128, 384] v slices_S256x512_o128_384_S64x128
  | 3, 0 => extractStridedSlice S64x128 ![192, 0] v slices_S256x512_o192_0_S64x128
  | 3, 1 => extractStridedSlice S64x128 ![192, 128] v slices_S256x512_o192_128_S64x128
  | 3, 2 => extractStridedSlice S64x128 ![192, 256] v slices_S256x512_o192_256_S64x128
  | 3, 3 => extractStridedSlice S64x128 ![192, 384] v slices_S256x512_o192_384_S64x128

/-- A head's columns of a chunk's rows. -/
def cutC {e : FTy} (hd : Fin 4) (v : FVec F S64x512 e) : FVec F S64x128 e :=
  match hd with
  | 0 => extractStridedSlice S64x128 ![0, 0] v slices_S64x512_o0_0_S64x128
  | 1 => extractStridedSlice S64x128 ![0, 128] v slices_S64x512_o0_128_S64x128
  | 2 => extractStridedSlice S64x128 ![0, 256] v slices_S64x512_o0_256_S64x128
  | 3 => extractStridedSlice S64x128 ![0, 384] v slices_S64x512_o0_384_S64x128

/-- A head's columns of a row. -/
def cut1 {e : FTy} (hd : Fin 4) (v : FVec F S1x512 e) : FVec F S1x128 e :=
  match hd with
  | 0 => extractStridedSlice S1x128 ![0, 0] v slices_S1x512_o0_0_S1x128
  | 1 => extractStridedSlice S1x128 ![0, 128] v slices_S1x512_o0_128_S1x128
  | 2 => extractStridedSlice S1x128 ![0, 256] v slices_S1x512_o0_256_S1x128
  | 3 => extractStridedSlice S1x128 ![0, 384] v slices_S1x512_o0_384_S1x128

/-- A head's columns of a tile. -/
def cutH {e : FTy} (hd : Fin 4) (v : FVec F S256x512 e) : FVec F S256x128 e :=
  match hd with
  | 0 => extractStridedSlice S256x128 ![0, 0] v slices_S256x512_o0_0_S256x128
  | 1 => extractStridedSlice S256x128 ![0, 128] v slices_S256x512_o0_128_S256x128
  | 2 => extractStridedSlice S256x128 ![0, 256] v slices_S256x512_o0_256_S256x128
  | 3 => extractStridedSlice S256x128 ![0, 384] v slices_S256x512_o0_384_S256x128

/-- A chunk's key decayed to the chunk's end. -/
def kdec (c : Fin 4) (b k : FVec F S256x512 .f32) : FVec F S64x512 .bf16 :=
  match c with
  | 0 => kdec0 b k
  | 1 => kdec1 b k
  | 2 => kdec2 b k
  | 3 => kdec3 b k

/-- A chunk's whole decay. -/
def dec (c : Fin 4) (b : FVec F S256x512 .f32) : FVec F S1x512 .f32 :=
  match c with
  | 0 => dec0 b
  | 1 => dec1 b
  | 2 => dec2 b
  | 3 => dec3 b

/-- The operand of the level of half 8. -/
def z8 (b : FVec F S256x512 .f32) (q : FVec F S256x512 .f32) (k : FVec F S256x512 .f32) : FVec F S256x512 .bf16 :=
  have v881 : FVec F S16x2x8x512 .f32 := shapeCast S16x2x8x512 k shapeCasts_S256x512_S16x2x8x512
  have v884 : FVec F S16x1x8x512 .f32 := extractStridedSlice S16x1x8x512 ![0, 0, 0, 0] v881 slices_S16x2x8x512_o0_0_0_0_S16x1x8x512
  have v885 : FVec F S16x8x512 .f32 := shapeCast S16x8x512 v884 shapeCasts_S16x1x8x512_S16x8x512
  have v879 : FVec F S16x2x8x512 .f32 := shapeCast S16x2x8x512 b shapeCasts_S256x512_S16x2x8x512
  have v882 : FVec F S16x1x1x512 .f32 := extractStridedSlice S16x1x1x512 ![0, 0, 7, 0] v879 slices_S16x2x8x512_o0_0_7_0_S16x1x1x512
  have v883 : FVec F S16x1x512 .f32 := shapeCast S16x1x512 v882 shapeCasts_S16x1x1x512_S16x1x512
  have v888 : FVec F S16x8x512 .f32 := broadcastTo S16x8x512 v883 broadcasts_S16x1x512_S16x8x512
  have v886 : FVec F S16x1x8x512 .f32 := extractStridedSlice S16x1x8x512 ![0, 0, 0, 0] v879 slices_S16x2x8x512_o0_0_0_0_S16x1x8x512
  have v887 : FVec F S16x8x512 .f32 := shapeCast S16x8x512 v886 shapeCasts_S16x1x8x512_S16x8x512
  have v889 : FVec F S16x8x512 .f32 := subf v888 v887
  have v890 : FVec F S16x8x512 .f32 := exp v889
  have v891 : FVec F S16x8x512 .f32 := mulf v885 v890
  have v900 : FVec F S16x1x8x512 .f32 := shapeCast S16x1x8x512 v891 shapeCasts_S16x8x512_S16x1x8x512
  have v880 : FVec F S16x2x8x512 .f32 := shapeCast S16x2x8x512 q shapeCasts_S256x512_S16x2x8x512
  have v892 : FVec F S16x1x8x512 .f32 := extractStridedSlice S16x1x8x512 ![0, 1, 0, 0] v880 slices_S16x2x8x512_o0_1_0_0_S16x1x8x512
  have v893 : FVec F S16x8x512 .f32 := shapeCast S16x8x512 v892 shapeCasts_S16x1x8x512_S16x8x512
  have v894 : FVec F S16x1x8x512 .f32 := extractStridedSlice S16x1x8x512 ![0, 1, 0, 0] v879 slices_S16x2x8x512_o0_1_0_0_S16x1x8x512
  have v895 : FVec F S16x8x512 .f32 := shapeCast S16x8x512 v894 shapeCasts_S16x1x8x512_S16x8x512
  have v896 : FVec F S16x8x512 .f32 := broadcastTo S16x8x512 v883 broadcasts_S16x1x512_S16x8x512
  have v897 : FVec F S16x8x512 .f32 := subf v895 v896
  have v898 : FVec F S16x8x512 .f32 := exp v897
  have v899 : FVec F S16x8x512 .f32 := mulf v893 v898
  have v901 : FVec F S16x1x8x512 .f32 := shapeCast S16x1x8x512 v899 shapeCasts_S16x8x512_S16x1x8x512
  have v902 : FVec F S16x2x8x512 .f32 := concatenate S16x2x8x512 1 [⟨S16x1x8x512, v900⟩, ⟨S16x1x8x512, v901⟩] concatenates_S16x1x8x512_S16x1x8x512_S16x2x8x512_d1
  have v903 : FVec F S256x512 .f32 := shapeCast S256x512 v902 shapeCasts_S16x2x8x512_S256x512
  have v904 : FVec F S256x512 .bf16 := truncf .bf16 v903 bitsLt_bf16_f32
  v904

/-- The operand of the level of half 4. -/
def z4 (b : FVec F S256x512 .f32) (q : FVec F S256x512 .f32) (k : FVec F S256x512 .f32) : FVec F S256x512 .bf16 :=
  have v905 : IVec S1x8x1 32 := iota .tc S1x8x1 32 [1] iota_S1x8x1_d1_w32
  have v917 : IVec S1x8x1 32 := broadcast S1x8x1 4#32
  have v918 : IVec S1x8x1 1 := cmpi .sge v905 v917
  have v919 : IVec S1x8x1 1 := shapeCast S1x8x1 v918 shapeCasts_S1x8x1_S1x8x1
  have v920 : IVec S32x8x512 1 := broadcastTo S32x8x512 v919 broadcasts_S1x8x1_S32x8x512
  have v908 : FVec F S32x8x512 .f32 := shapeCast S32x8x512 q shapeCasts_S256x512_S32x8x512
  have v909 : FVec F S32x8x512 .f32 := shapeCast S32x8x512 k shapeCasts_S256x512_S32x8x512
  have v921 : FVec F S32x8x512 .f32 := select v920 v908 v909
  have v914 : FVec F S32x8x512 .f32 := broadcast S32x8x512 (Scalar.ofBits .f32 0x00000000#32)
  have v906 : FVec F S32x8x512 .f32 := shapeCast S32x8x512 b shapeCasts_S256x512_S32x8x512
  have v910 : FVec F S32x1x512 .f32 := extractStridedSlice S32x1x512 ![0, 3, 0] v906 slices_S32x8x512_o0_3_0_S32x1x512
  have v911 : FVec F S32x8x512 .f32 := broadcastTo S32x8x512 v910 broadcasts_S32x1x512_S32x8x512
  have v912 : FVec F S32x8x512 .f32 := subf v906 v911
  have v913 : FVec F S32x8x512 .f32 := absf v912
  have v915 : FVec F S32x8x512 .f32 := subf v914 v913
  have v916 : FVec F S32x8x512 .f32 := exp v915
  have v922 : FVec F S32x8x512 .f32 := mulf v921 v916
  have v923 : FVec F S256x512 .f32 := shapeCast S256x512 v922 shapeCasts_S32x8x512_S256x512
  have v924 : FVec F S256x512 .bf16 := truncf .bf16 v923 bitsLt_bf16_f32
  v924

/-- The operand of the level of half 2. -/
def z2 (f : FVec F S256x512 .f32) (q : FVec F S256x512 .f32) (k : FVec F S256x512 .f32) : FVec F S256x512 .bf16 :=
  have v905 : IVec S1x8x1 32 := iota .tc S1x8x1 32 [1] iota_S1x8x1_d1_w32
  have v928 : IVec S1x8x1 32 := broadcast S1x8x1 3#32
  have v929 : IVec S1x8x1 32 := andi v905 v928
  have v930 : IVec S1x8x1 32 := broadcast S1x8x1 2#32
  have v931 : IVec S1x8x1 1 := cmpi .sge v929 v930
  have v946 : IVec S1x8x1 1 := shapeCast S1x8x1 v931 shapeCasts_S1x8x1_S1x8x1
  have v947 : IVec S32x8x512 1 := broadcastTo S32x8x512 v946 broadcasts_S1x8x1_S32x8x512
  have v908 : FVec F S32x8x512 .f32 := shapeCast S32x8x512 q shapeCasts_S256x512_S32x8x512
  have v907 : FVec F S32x8x512 .f32 := shapeCast S32x8x512 f shapeCasts_S256x512_S32x8x512
  have v925 : FVec F S32x8x512 .f32 := mulf v908 v907
  have v932 : IVec S1x8x1 32 := broadcast S1x8x1 3#32
  have v933 : IVec S1x8x1 1 := cmpi .eq v929 v932
  have v934 : IVec S1x8x1 1 := shapeCast S1x8x1 v933 shapeCasts_S1x8x1_S1x8x1
  have v935 : IVec S32x8x512 1 := broadcastTo S32x8x512 v934 broadcasts_S1x8x1_S32x8x512
  have v926 : FVec F S32x8x512 .f32 := dynamicRotate 1 1#32 none v907 rotates_S32x8x512_d1
  have v936 : FVec F S32x8x512 .f32 := broadcast S32x8x512 (Scalar.ofBits .f32 0x3F800000#32)
  have v937 : FVec F S32x8x512 .f32 := select v935 v926 v936
  have v938 : FVec F S32x8x512 .f32 := mulf v925 v937
  have v909 : FVec F S32x8x512 .f32 := shapeCast S32x8x512 k shapeCasts_S256x512_S32x8x512
  have v939 : IVec S1x8x1 32 := broadcast S1x8x1 0#32
  have v940 : IVec S1x8x1 1 := cmpi .eq v929 v939
  have v941 : IVec S1x8x1 1 := shapeCast S1x8x1 v940 shapeCasts_S1x8x1_S1x8x1
  have v942 : IVec S32x8x512 1 := broadcastTo S32x8x512 v941 broadcasts_S1x8x1_S32x8x512
  have v927 : FVec F S32x8x512 .f32 := dynamicRotate 1 7#32 none v907 rotates_S32x8x512_d1
  have v943 : FVec F S32x8x512 .f32 := broadcast S32x8x512 (Scalar.ofBits .f32 0x3F800000#32)
  have v944 : FVec F S32x8x512 .f32 := select v942 v927 v943
  have v945 : FVec F S32x8x512 .f32 := mulf v909 v944
  have v948 : FVec F S32x8x512 .f32 := select v947 v938 v945
  have v949 : FVec F S256x512 .f32 := shapeCast S256x512 v948 shapeCasts_S32x8x512_S256x512
  have v950 : FVec F S256x512 .bf16 := truncf .bf16 v949 bitsLt_bf16_f32
  v950

/-- The operand of the level of half 1. -/
def z1 (f : FVec F S256x512 .f32) (q : FVec F S256x512 .f32) (k : FVec F S256x512 .f32) : FVec F S256x512 .bf16 :=
  have v905 : IVec S1x8x1 32 := iota .tc S1x8x1 32 [1] iota_S1x8x1_d1_w32
  have v951 : IVec S1x8x1 32 := broadcast S1x8x1 1#32
  have v952 : IVec S1x8x1 32 := andi v905 v951
  have v953 : IVec S1x8x1 32 := broadcast S1x8x1 1#32
  have v954 : IVec S1x8x1 1 := cmpi .eq v952 v953
  have v955 : IVec S1x8x1 1 := shapeCast S1x8x1 v954 shapeCasts_S1x8x1_S1x8x1
  have v956 : IVec S32x8x512 1 := broadcastTo S32x8x512 v955 broadcasts_S1x8x1_S32x8x512
  have v908 : FVec F S32x8x512 .f32 := shapeCast S32x8x512 q shapeCasts_S256x512_S32x8x512
  have v907 : FVec F S32x8x512 .f32 := shapeCast S32x8x512 f shapeCasts_S256x512_S32x8x512
  have v925 : FVec F S32x8x512 .f32 := mulf v908 v907
  have v909 : FVec F S32x8x512 .f32 := shapeCast S32x8x512 k shapeCasts_S256x512_S32x8x512
  have v957 : FVec F S32x8x512 .f32 := select v956 v925 v909
  have v958 : FVec F S256x512 .f32 := shapeCast S256x512 v957 shapeCasts_S32x8x512_S256x512
  have v959 : FVec F S256x512 .bf16 := truncf .bf16 v958 bitsLt_bf16_f32
  v959

/-- The diagonal added: the row sums of query times key, times the values. -/
def withDiag (o : FVec F S256x128 .f32) (qk : FVec F S256x128 .f32) (v : FVec F S256x128 .f32) : FVec F S256x128 .f32 :=
  have v2437 : FVec F S256 .f32 := multiReduction .add [1] S256 qk 0x00000000#32 reduces_S256x128_S256 (.inl rfl) rfl
  have v2438 : FVec F S256x1 .f32 := shapeCast S256x1 v2437 shapeCasts_S256_S256x1
  have v2440 : FVec F S256x128 .f32 := broadcastTo S256x128 v2438 broadcasts_S256x1_S256x128
  have v2441 : FVec F S256x128 .f32 := mulf v2440 v
  have v2442 : FVec F S256x128 .f32 := addf o v2441
  v2442

/-- Each pair of rows takes the score of its level. -/
def choose (m32 : IVec S64x64 1) (m16 : IVec S64x64 1) (m8 : IVec S64x64 1) (m4 : IVec S64x64 1) (m2 : IVec S64x64 1) (m1 : IVec S64x64 1) (p32 : FVec F S64x64 .f32) (p16 : FVec F S64x64 .f32) (p8 : FVec F S64x64 .f32) (p4 : FVec F S64x64 .f32) (p2 : FVec F S64x64 .f32) (p1 : FVec F S64x64 .f32) : FVec F S64x64 .f32 :=
  have v1847 : FVec F S64x64 .f32 := broadcast S64x64 (Scalar.ofBits .f32 0x00000000#32)
  have v1848 : FVec F S64x64 .f32 := select m32 p32 v1847
  have v1849 : FVec F S64x64 .f32 := select m16 p16 v1848
  have v1850 : FVec F S64x64 .f32 := select m8 p8 v1849
  have v1851 : FVec F S64x64 .f32 := select m4 p4 v1850
  have v1852 : FVec F S64x64 .f32 := select m2 p2 v1851
  have v1853 : FVec F S64x64 .f32 := select m1 p1 v1852
  v1853

/-- The scores of a chunk, where the forget gate is not too small. -/
def scoreFast (m : IVec S64x64 1) (b q k : FVec F S256x512 .f32) (c hd : Fin 4) : FVec F S64x64 .f32 :=
  select m (nt (cut c hd (qloc b q)) (cut c hd (kloc b k))) (slots (cut c hd (z32 b q k)) (cut c hd (z16 b q k)))

/-- A level's scores: the products of its operand's rows. -/
def lev (z : FVec F S256x512 .bf16) (c hd : Fin 4) : FVec F S64x64 .f32 := nt (cut c hd z) (cut c hd z)

/-- The masks of the six levels. -/
structure Masks where
  m32 : IVec S64x64 1
  m16 : IVec S64x64 1
  m8 : IVec S64x64 1
  m4 : IVec S64x64 1
  m2 : IVec S64x64 1
  m1 : IVec S64x64 1

/-- The scores of a chunk, off the diagonal, by six levels. -/
def scoreSlow (m : Masks) (f b q k : FVec F S256x512 .f32) (c hd : Fin 4) : FVec F S64x64 .f32 :=
  choose m.m32 m.m16 m.m8 m.m4 m.m2 m.m1 (lev (z32 b q k) c hd) (lev (z16 b q k) c hd) (lev (z8 b q k) c hd)
    (lev (z4 b q k) c hd) (lev (z2 f q k) c hd) (lev (z1 f q k) c hd)

/-- What a tile of one sequence reads. -/
structure Ins (F : FTy → Type) [FloatOps F] where
  x : Vec F S1x256x1024 .f32
  wl : Vec F S1024x1024 .bf16
  wr : Vec F S1024x1024 .bf16
  fp : Vec F S1x256x512 .f32
  ha : Vec F S1x16x512 .f32
  i0 : FVec F S256x1 .f32
  i1 : FVec F S256x1 .f32
  i2 : FVec F S256x1 .f32
  i3 : FVec F S256x1 .f32
  lb : FVec F S1x512 .f32
  w0 : Vec F S1x128x128 .bf16
  w1 : Vec F S1x128x128 .bf16
  w2 : Vec F S1x128x128 .bf16
  w3 : Vec F S1x128x128 .bf16
  ps : Vec F S1x512 .f32
  gn : Vec F S1x128 .f32
  st : Fin 4 → Vec F S1x1x128x128 .f32
  wo : Vec F S1024x1024 .bf16
  ga : Vec F S1x1024 .f32
  be : Vec F S1x1024 .f32

namespace Ins

variable (I : Ins F)

/-- The pooled branch's input. -/
def xp : FVec F S256x512 .f32 := cols0 (half I.x I.wl)
/-- The query's columns. -/
def q0 : FVec F S256x512 .f32 := cols1 (half I.x I.wl)
/-- The value's columns. -/
def v : FVec F S256x512 .f32 := cols0 (half I.x I.wr)
/-- The gate's columns. -/
def g : FVec F S256x512 .f32 := cols1 (half I.x I.wr)
/-- The forget gate. -/
def f : FVec F S256x512 .f32 := forget I.lb I.fp
/-- The key. -/
def k : FVec F S256x512 .f32 := keyOf I.f
/-- The query. -/
def q : FVec F S256x512 .f32 := queryOf I.q0
/-- The logarithms' running sums. -/
def b : FVec F S256x512 .f32 := csum (log I.f)
/-- The value in the matmul's input format. -/
def vb : FVec F S256x512 .bf16 := truncf .bf16 I.v bitsLt_bf16_f32
/-- The pooling mixer's output. -/
def ya : FVec F S256x512 .f32 :=
  poolOut (pool0 I.ha I.xp I.i0) (pool1 I.ha I.xp I.i1) (pool2 I.ha I.xp I.i2) (pool3 I.ha I.xp I.i3) I.w0 I.w1 I.w2 I.w3 I.ps
/-- A head's state after a chunk. -/
def next (hd c : Fin 4) (s : FVec F S128x128 .f32) : FVec F S128x128 .f32 :=
  step (cut1 hd (dec c I.b)) s (upd (cut c hd I.vb) (cutC hd (kdec c I.b I.k)))
/-- A head's state before the tile. -/
def s0 (hd : Fin 4) : FVec F S128x128 .f32 := stIn (I.st hd)
/-- After one chunk. -/
def s1 (hd : Fin 4) : FVec F S128x128 .f32 := I.next hd 0 (I.s0 hd)
/-- After two chunks. -/
def s2 (hd : Fin 4) : FVec F S128x128 .f32 := I.next hd 1 (I.s1 hd)
/-- After three chunks. -/
def s3 (hd : Fin 4) : FVec F S128x128 .f32 := I.next hd 2 (I.s2 hd)
/-- After the tile. -/
def s4 (hd : Fin 4) : FVec F S128x128 .f32 := I.next hd 3 (I.s3 hd)
/-- A chunk's output. -/
def rows (a : Fin 4 → Fin 4 → FVec F S64x64 .f32) (c hd : Fin 4) (s : FVec F S128x128 .f32) : FVec F S64x128 .f32 :=
  addf (mixRows (a c hd) (cut c hd I.vb)) (inter (cut c hd (qdec I.b I.q)) s)
/-- A head's output. -/
def tall (a : Fin 4 → Fin 4 → FVec F S64x64 .f32) (hd : Fin 4) : FVec F S256x128 .f32 :=
  four (I.rows a 0 hd (I.s0 hd)) (I.rows a 1 hd (I.s1 hd)) (I.rows a 2 hd (I.s2 hd)) (I.rows a 3 hd (I.s3 hd))
/-- A head's output, where the forget gate is not too small. -/
def oFast (m : IVec S64x64 1) (hd : Fin 4) : FVec F S256x128 .f32 := I.tall (scoreFast m I.b I.q I.k) hd
/-- A head's output, by six levels and the diagonal. -/
def oSlow (m : Masks) (hd : Fin 4) : FVec F S256x128 .f32 :=
  withDiag (I.tall (scoreSlow m I.f I.b I.q I.k) hd) (cutH hd (mulf I.q I.k)) (cutH hd I.v)
/-- The tile's result, of the heads' outputs. -/
def out (o : Fin 4 → FVec F S256x128 .f32) : FVec F S1x256x1024 .f32 :=
  layer I.x I.ya (gated (o 0) I.gn (cutH 0 I.g)) (gated (o 1) I.gn (cutH 1 I.g)) (gated (o 2) I.gn (cutH 2 I.g))
    (gated (o 3) I.gn (cutH 3 I.g)) I.wo I.ga I.be

end Ins

end Cert.Kernel2Ideal.Mix
-- ==== Proof.Mix.Loads.lean ====
/- What a grid point's tile of each sequence loads, as a function of its buffers. -/
module

public import proofs.«01_k».proof.Proof.Mix.Clean

@[expose] public section

set_option maxRecDepth 100000

noncomputable section

namespace Cert.Kernel2Ideal.Mix

open Cert.Kernel2Ideal Cert.Kernel2Ideal.Gen
open Idealize.ShloMosaic Idealize.ShloMosaic.TcCoe Idealize.ShloMosaic.Tactic

variable {F : FTy → Type} [FloatOps F]

theorem inbTile (s : ℕ) (hs : s < 2) : ∀ a, (![s, 0, 0] : Fin 3 → ℕ) a + S1x256x1024.size a ≤ S2x256x1024.size a :=
  fun a => match a with
    | ⟨0,_⟩ => by show s + 1 ≤ 2; omega
    | ⟨1,_⟩ => by show 0 + 256 ≤ 256; omega
    | ⟨2,_⟩ => by show 0 + 1024 ≤ 1024; omega

theorem inbFp (s : ℕ) (hs : s < 2) : ∀ a, (![s, 0, 0] : Fin 3 → ℕ) a + S1x256x512.size a ≤ S2x256x512.size a :=
  fun a => match a with
    | ⟨0,_⟩ => by show s + 1 ≤ 2; omega
    | ⟨1,_⟩ => by show 0 + 256 ≤ 256; omega
    | ⟨2,_⟩ => by show 0 + 512 ≤ 512; omega

theorem inbHa (s : ℕ) (hs : s < 2) : ∀ a, (![s, 0, 0] : Fin 3 → ℕ) a + S1x16x512.size a ≤ S2x16x512.size a :=
  fun a => match a with
    | ⟨0,_⟩ => by show s + 1 ≤ 2; omega
    | ⟨1,_⟩ => by show 0 + 16 ≤ 16; omega
    | ⟨2,_⟩ => by show 0 + 512 ≤ 512; omega

theorem inbSt (s : ℕ) (hs : s < 2) (h : Fin 4) : ∀ a, (![s, h.val, 0, 0] : Fin 4 → ℕ) a + S1x1x128x128.size a ≤ S2x4x128x128.size a :=
  fun a => match a with
    | ⟨0,_⟩ => by show s + 1 ≤ 2; omega
    | ⟨1,_⟩ => by have := h.isLt; show h.val + 1 ≤ 4; omega
    | ⟨2,_⟩ => by show 0 + 128 ≤ 128; omega
    | ⟨3,_⟩ => by show 0 + 128 ≤ 128; omega

/-- The values a tile of sequence `s` loads. -/
def insAt (arg2 : Memref sig .tc .vmem S2x256x1024 .f32) (harg2 : arg2.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg13 : Memref sig .tc .vmem S2x256x512 .f32) (harg13 : arg13.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v443 : Vec F S1x128 .f32) (x0 : Vec F S2x256x1024 .f32) (x2 : Vec F S1024x2560 .bf16) (x3 : Vec F S4x128x128 .bf16) (x4 : Vec F S1x512 .f32) (x7 : Vec F S1024x1024 .bf16) (x8 : Vec F S1x1024 .f32) (x9 : Vec F S1x1024 .f32) (fp : Vec F S2x256x512 .f32) (st : Vec F S2x4x128x128 .f32) (ha : Vec F S2x16x512 .f32) (s : ℕ) (hs : s < 2) : Ins F where
  x := View.readAt (Elt F) arg2.view (Rect.unit (s := S2x256x1024) ![s, 0, 0] S1x256x1024.size (inbTile s hs)).toLoadRect (harg2.unread x0)
  wl := View.readAt (Elt F) arg4.view (Rect.unit (s := S1024x2560) ![0, 0] S1024x1024.size inb_S1024x2560_S1024x1024_0_0).toLoadRect (harg4.unread x2)
  wr := View.readAt (Elt F) arg4.view (Rect.unit (s := S1024x2560) ![0, 1536] S1024x1024.size inb_S1024x2560_S1024x1024_0_1536).toLoadRect (harg4.unread x2)
  fp := View.readAt (Elt F) arg13.view (Rect.unit (s := S2x256x512) ![s, 0, 0] S1x256x512.size (inbFp s hs)).toLoadRect (harg13.unread fp)
  ha := View.readAt (Elt F) arg16.view (Rect.unit (s := S2x16x512) ![s, 0, 0] S1x16x512.size (inbHa s hs)).toLoadRect (harg16.unread ha)
  i0 := v23
  i1 := v27
  i2 := v31
  i3 := v35
  lb := v12
  w0 := View.readAt (Elt F) arg5.view (Rect.unit (s := S4x128x128) ![0, 0, 0] S1x128x128.size inb_S4x128x128_S1x128x128_0_0_0).toLoadRect (harg5.unread x3)
  w1 := View.readAt (Elt F) arg5.view (Rect.unit (s := S4x128x128) ![1, 0, 0] S1x128x128.size inb_S4x128x128_S1x128x128_1_0_0).toLoadRect (harg5.unread x3)
  w2 := View.readAt (Elt F) arg5.view (Rect.unit (s := S4x128x128) ![2, 0, 0] S1x128x128.size inb_S4x128x128_S1x128x128_2_0_0).toLoadRect (harg5.unread x3)
  w3 := View.readAt (Elt F) arg5.view (Rect.unit (s := S4x128x128) ![3, 0, 0] S1x128x128.size inb_S4x128x128_S1x128x128_3_0_0).toLoadRect (harg5.unread x3)
  ps := View.readAt (Elt F) arg6.view (Rect.unit (s := S1x512) ![0, 0] S1x512.size inb_S1x512_S1x512_0_0).toLoadRect (harg6.unread x4)
  gn := v443
  st h := View.readAt (Elt F) arg15.view (Rect.unit (s := S2x4x128x128) ![s, h.val, 0, 0] S1x1x128x128.size (inbSt s hs h)).toLoadRect (harg15.unread st)
  wo := View.readAt (Elt F) arg9.view (Rect.unit (s := S1024x1024) ![0, 0] S1024x1024.size inb_S1024x1024_S1024x1024_0_0).toLoadRect (harg9.unread x7)
  ga := View.readAt (Elt F) arg10.view (Rect.unit (s := S1x1024) ![0, 0] S1x1024.size inb_S1x1024_S1x1024_0_0).toLoadRect (harg10.unread x8)
  be := View.readAt (Elt F) arg11.view (Rect.unit (s := S1x1024) ![0, 0] S1x1024.size inb_S1x1024_S1x1024_0_0).toLoadRect (harg11.unread x9)

/-- The next tile's gate columns, of sequence `s`. -/
def aheadAt (arg3 : Memref sig .tc .vmem S2x256x1024 .f32) (harg3 : arg3.IsWhole) (arg4 : Memref sig .tc .vmem S1024x2560 .bf16) (harg4 : arg4.IsWhole) (x1 : Vec F S2x256x1024 .f32) (x2 : Vec F S1024x2560 .bf16) (s : ℕ) (hs : s < 2) : FVec F S1x256x512 .f32 :=
  ahead (View.readAt (Elt F) arg3.view (Rect.unit (s := S2x256x1024) ![s, 0, 0] S1x256x1024.size (inbTile s hs)).toLoadRect (harg3.unread x1))
    (View.readAt (Elt F) arg4.view (Rect.unit (s := S1024x2560) ![0, 1024] S1024x512.size inb_S1024x2560_S1024x512_0_1024).toLoadRect (harg4.unread x2))

/-- The stores into the result's buffer. -/
def outP (o : (s : ℕ) → s < 2 → FVec F S1x256x1024 .f32) : List (View.Piece (Elt F) S2x256x1024 .f32) :=
  [⟨Rect.unit ![1, 0, 0] S1x256x1024.size (inbTile 1 (by omega)), o 1 (by omega)⟩,
    ⟨Rect.unit ![0, 0, 0] S1x256x1024.size (inbTile 0 (by omega)), o 0 (by omega)⟩]

/-- The stores into the buffer of gate columns. -/
def fpP (o : (s : ℕ) → s < 2 → FVec F S1x256x512 .f32) : List (View.Piece (Elt F) S2x256x512 .f32) :=
  [⟨Rect.unit ![1, 0, 0] S1x256x512.size (inbFp 1 (by omega)), o 1 (by omega)⟩,
    ⟨Rect.unit ![0, 0, 0] S1x256x512.size (inbFp 0 (by omega)), o 0 (by omega)⟩]

/-- The stores into the buffer of last rows. -/
def haP (o : (s : ℕ) → s < 2 → FVec F S1x16x512 .f32) : List (View.Piece (Elt F) S2x16x512 .f32) :=
  [⟨Rect.unit ![1, 0, 0] S1x16x512.size (inbHa 1 (by omega)), o 1 (by omega)⟩,
    ⟨Rect.unit ![0, 0, 0] S1x16x512.size (inbHa 0 (by omega)), o 0 (by omega)⟩]

/-- The stores into the states. -/
def stP (o : (s : ℕ) → s < 2 → Fin 4 → FVec F S1x1x128x128 .f32) : List (View.Piece (Elt F) S2x4x128x128 .f32) :=
  [⟨Rect.unit ![1, 3, 0, 0] S1x1x128x128.size (inbSt 1 (by omega) 3), o 1 (by omega) 3⟩, ⟨Rect.unit ![1, 2, 0, 0] S1x1x128x128.size (inbSt 1 (by omega) 2), o 1 (by omega) 2⟩, ⟨Rect.unit ![1, 1, 0, 0] S1x1x128x128.size (inbSt 1 (by omega) 1), o 1 (by omega) 1⟩, ⟨Rect.unit ![1, 0, 0, 0] S1x1x128x128.size (inbSt 1 (by omega) 0), o 1 (by omega) 0⟩, ⟨Rect.unit ![0, 3, 0, 0] S1x1x128x128.size (inbSt 0 (by omega) 3), o 0 (by omega) 3⟩, ⟨Rect.unit ![0, 2, 0, 0] S1x1x128x128.size (inbSt 0 (by omega) 2), o 0 (by omega) 2⟩, ⟨Rect.unit ![0, 1, 0, 0] S1x1x128x128.size (inbSt 0 (by omega) 1), o 0 (by omega) 1⟩, ⟨Rect.unit ![0, 0, 0, 0] S1x1x128x128.size (inbSt 0 (by omega) 0), o 0 (by omega) 0⟩]

end Cert.Kernel2Ideal.Mix
-- ==== Proof.Mix.At.lean ====
/- The tile functions read at one index, over the extended reals. -/
module

public import proofs.«01_k».proof.Proof.Mix.Clean
public import Idealize.ShloMosaic.Lib.Pointwise

@[expose] public section

set_option maxRecDepth 16384

noncomputable section

namespace Cert.Kernel2Ideal.Mix

open Idealize.ShloMosaic Idealize.ShloMosaic.TcCoe
open Cert.Kernel2Ideal Cert.Kernel2Ideal.Gen

abbrev V (s : Shape) (e : FTy) := FVec Ideal s e

theorem half_apply (x : Vec Ideal S1x256x1024 .f32) (w : Vec Ideal S1024x1024 .bf16) (r : Fin 256) (j : Fin 1024) :
    half x w (ix2 r j) = ∑ k : Fin 1024, x (ix3 0 r k) * w (ix2 k j) := by pointwise [half]

theorem cols0_apply (a : V S256x1024 .f32) (r : Fin 256) (j : Fin 512) : cols0 a (ix2 r j) = a (ix2 r ⟨j.val, by omega⟩) := by
  pointwise [cols0]

theorem cols1_apply (a : V S256x1024 .f32) (r : Fin 256) (j : Fin 512) : cols1 a (ix2 r j) = a (ix2 r ⟨512 + j.val, by omega⟩) := by
  pointwise [cols1]

theorem keep_apply (a : V S256x512 .f32) (z : Fin 1) (r : Fin 16) (j : Fin 512) :
    keep a (ix3 z r j) = a (ix2 ⟨240 + r.val, by omega⟩ j) := by
  pointwise [keep]

theorem ahead_apply (x : Vec Ideal S1x256x1024 .f32) (w : Vec Ideal S1024x512 .bf16) (z : Fin 1) (r : Fin 256) (j : Fin 512) :
    ahead x w (ix3 z r j) = ∑ k : Fin 1024, x (ix3 0 r k) * w (ix2 k j) := by pointwise [ahead]

theorem forget_apply (lb : V S1x512 .f32) (fp : Vec Ideal S1x256x512 .f32) (r : Fin 256) (j : Fin 512) :
    forget lb fp (ix2 r j) = lb (ix2 0 j) + (1 - lb (ix2 0 j)) * Ideal.logistic (fp (ix3 0 r j)) := by
  pointwise [forget]

theorem keyOf_apply (f : V S256x512 .f32) (r : Fin 256) (j : Fin 512) : keyOf f (ix2 r j) = 1 - f (ix2 r j) := by
  pointwise [keyOf]

theorem queryOf_apply (f : V S256x512 .f32) (r : Fin 256) (j : Fin 512) :
    queryOf f (ix2 r j) = f (ix2 r j) * Ideal.logistic (f (ix2 r j)) := by
  pointwise [queryOf]

theorem nt_apply (b q : V S64x128 .bf16) (r s : Fin 64) : nt b q (ix2 r s) = ∑ x : Fin 128, b (ix2 r x) * q (ix2 s x) := by
  pointwise [nt]

theorem upd_apply (b q : V S64x128 .bf16) (r s : Fin 128) : upd b q (ix2 r s) = ∑ x : Fin 64, b (ix2 x r) * q (ix2 x s) := by
  pointwise [upd]

theorem mixRows_apply (b : V S64x64 .f32) (q : V S64x128 .bf16) (r : Fin 64) (s : Fin 128) :
    mixRows b q (ix2 r s) = ∑ x : Fin 64, b (ix2 r x) * q (ix2 x s) := by
  pointwise [mixRows]

theorem inter_apply (b : V S64x128 .bf16) (q : V S128x128 .f32) (r : Fin 64) (s : Fin 128) :
    inter b q (ix2 r s) = ∑ x : Fin 128, b (ix2 r x) * q (ix2 s x) := by
  pointwise [inter]

theorem step_apply (b : V S1x128 .f32) (q u : V S128x128 .f32) (r : Fin 128) (s : Fin 128) :
    step b q u (ix2 r s) = b (ix2 0 s) * q (ix2 r s) + u (ix2 r s) := by
  pointwise [step]

theorem withDiag_apply (o qk v : V S256x128 .f32) (r : Fin 256) (j : Fin 128) :
    withDiag o qk v (ix2 r j) = o (ix2 r j) + (∑ x : Fin 128, qk (ix2 r x)) * v (ix2 r j) := by
  pointwise [withDiag]

theorem stIn_apply (z : Vec Ideal S1x1x128x128 .f32) (r s : Fin 128) : stIn z (ix2 r s) = z (ix4 0 0 r s) := by
  pointwise [stIn]

theorem stOut_apply (z : V S128x128 .f32) (a b : Fin 1) (r s : Fin 128) : stOut z (ix4 a b r s) = z (ix2 r s) := by
  pointwise [stOut]

theorem cut_apply {e : FTy} (c hd : Fin 4) (v : V S256x512 e) (r : Fin 64) (j : Fin 128) :
    cut c hd v (ix2 r j) = v (ix2 ⟨64 * c.val + r.val, by omega⟩ ⟨128 * hd.val + j.val, by omega⟩) := by
  fin_cases c <;> fin_cases hd <;> pointwise [cut]

theorem cutC_apply {e : FTy} (hd : Fin 4) (v : V S64x512 e) (r : Fin 64) (j : Fin 128) :
    cutC hd v (ix2 r j) = v (ix2 r ⟨128 * hd.val + j.val, by omega⟩) := by
  fin_cases hd <;> pointwise [cutC]

theorem cut1_apply {e : FTy} (hd : Fin 4) (v : V S1x512 e) (r : Fin 1) (j : Fin 128) :
    cut1 hd v (ix2 r j) = v (ix2 r ⟨128 * hd.val + j.val, by omega⟩) := by
  obtain rfl : r = 0 := Subsingleton.elim _ _
  fin_cases hd <;> pointwise [cut1]

theorem cutH_apply {e : FTy} (hd : Fin 4) (v : V S256x512 e) (r : Fin 256) (j : Fin 128) :
    cutH hd v (ix2 r j) = v (ix2 r ⟨128 * hd.val + j.val, by omega⟩) := by
  fin_cases hd <;> pointwise [cutH]

theorem kdec_apply (c : Fin 4) (b k : V S256x512 .f32) (r : Fin 64) (j : Fin 512) :
    kdec c b k (ix2 r j) = k (ix2 ⟨64 * c.val + r.val, by omega⟩ j)
      * Ideal.exp (b (ix2 ⟨64 * c.val + 63, by omega⟩ j) - b (ix2 ⟨64 * c.val + r.val, by omega⟩ j)) := by
  fin_cases c
  · pointwise [kdec, kdec0]
  · pointwise [kdec, kdec1]
  · pointwise [kdec, kdec2]
  · pointwise [kdec, kdec3]

theorem dec_apply (c : Fin 4) (b : V S256x512 .f32) (z : Fin 1) (j : Fin 512) :
    dec c b (ix2 z j) = Ideal.exp (b (ix2 ⟨64 * c.val + 63, by omega⟩ j)) := by
  fin_cases c
  · pointwise [dec, dec0]
  · pointwise [dec, dec1]
  · pointwise [dec, dec2]
  · pointwise [dec, dec3]

theorem four_apply (a : Fin 4 → V S64x128 .f32) (c : Fin 4) (r : Fin 64) (j : Fin 128) :
    four (a 0) (a 1) (a 2) (a 3) (ix2 ⟨64 * c.val + r.val, by omega⟩ j) = a c (ix2 r j) := by
  have hr := r.isLt
  have fin : ∀ (d : Fin 4) (n : ℕ) (hn : n < 64), d.val = c.val → n = r.val → a d (ix2 ⟨n, hn⟩ j) = a c (ix2 r j) := by
    rintro d n hn hd rfl
    rw [Fin.ext hd]
  pointwise [four]
  fin_vals c with hc <;>
    (repeat (first | rw [dif_pos (by omega)] | rw [dif_neg (by omega)])) <;>
    exact fin _ _ _ (by rw [hc]; rfl) (by omega)

theorem gated_apply (o : V S256x128 .f32) (gn : Vec Ideal S1x128 .f32) (g : V S256x128 .f32) (r : Fin 256) (j : Fin 128) :
    gated o gn g (ix2 r j) = o (ix2 r j) * Ideal.rsqrt (Ideal.div (∑ x : Fin 128, o (ix2 r x) * o (ix2 r x)) (Ideal.ofBits FTy.f32 1124073472#32) +
              Ideal.ofBits FTy.f32 897988541#32) * gn (ix2 0 j) * (g (ix2 r j) * Ideal.logistic (g (ix2 r j))) := by
  pointwise [gated]

end Cert.Kernel2Ideal.Mix
-- ==== Proof.Mix.First.lean ====
/- The first steps of the body: the scratch it clears where a sequence starts, the gate columns it computes at the first point. -/
module

public import proofs.«01_k».proof.Proof.Mix.Loads

public import proofs.«01_k».proof.Proof.Mix.At
public import Idealize.ShloMosaic.Lib.WritesUnit

@[expose] public section

set_option maxRecDepth 16384

noncomputable section

namespace Cert.Kernel2Ideal.Mix

open Idealize.ShloMosaic Idealize.ShloMosaic.TcCoe
open Cert.Kernel2Ideal Cert.Kernel2Ideal.Gen

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The lower bound of the forget gate. -/
abbrev lbAt (arg7 : Memref sig .tc .vmem S2x512 .f32) (harg7 : arg7.IsWhole) (x5 : Vec F S2x512 .f32) : FVec F S1x512 .f32 :=
  k0_pay1057 (View.readAt (Elt F) arg7.view (Rect.unit (s := S2x512) ![0, 0] S2x512.size inb_S2x512_S2x512_0_0).toLoadRect (harg7.unread x5))

/-- The gain of the grouped normalisation. -/
abbrev gnAt (arg8 : Memref sig .tc .vmem S1x128 .f32) (harg8 : arg8.IsWhole) (x6 : Vec F S1x128 .f32) : Vec F S1x128 .f32 :=
  View.readAt (Elt F) arg8.view (Rect.unit (s := S1x128) ![0, 0] S1x128.size inb_S1x128_S1x128_0_0).toLoadRect (harg8.unread x6)

/-- Where a sequence starts. -/
abbrev atStart (i : grid0.Coords) : BitVec 1 := Scalar.cmpi .ne (Scalar.extui (Scalar.cmpi .eq (BitVec.ofNat 32 (i 1).val) 0#32) : BitVec 32) 0#32

/-- The first point. -/
abbrev atFirst (a b : BitVec 32) : BitVec 1 :=
  Scalar.cmpi .ne (Scalar.extui (Scalar.andi (Scalar.cmpi .eq a 0#32) (Scalar.cmpi .eq b 0#32)) : BitVec 32) 0#32

/-- What the first steps hand on. -/
abbrev ret98 (i : grid0.Coords) (v12 : FVec F S1x512 .f32) : (Σ' (arg0 : BitVec 32) (arg1 : BitVec 32) (v12 : FVec F S1x512 .f32) (v23 : FVec F S256x1 .f32) (v27 : FVec F S256x1 .f32) (v31 : FVec F S256x1 .f32) (v35 : FVec F S256x1 .f32) (v36 : IVec S64x64 32) (v37 : IVec S64x64 32), IVec S64x64 32) :=
  ⟨BitVec.ofNat 32 (i 0).val, BitVec.ofNat 32 (i 1).val, v12, k0_pay1059 (F := F) i, k0_pay1060 (F := F) i, k0_pay1061 (F := F) i, k0_pay1062 (F := F) i, iota .tc S64x64 32 [0] iota_S64x64_d0_w32, iota .tc S64x64 32 [1] iota_S64x64_d1_w32, k0_pay1063⟩

theorem first_start (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (h : atStart i = 1#1) (x5 : Vec F S2x512 .f32) (st : Vec F S2x4x128x128 .f32) (ha : Vec F S2x16x512 .f32) (E : Set ℕ) (K : (Σ' (arg0 : BitVec 32) (arg1 : BitVec 32) (v12 : FVec F S1x512 .f32) (v23 : FVec F S256x1 .f32) (v27 : FVec F S256x1 .f32) (v31 : FVec F S256x1 .f32) (v35 : FVec F S256x1 .f32) (v36 : IVec S64x64 32) (v37 : IVec S64x64 32), IVec S64x64 32) → sProp (MT nD τ sig Unit (Elt F) ℕ (UR sig nD τ) ℕ)) :
    iprop(owns (c : Thread nD τ) arg7 fullShare x5 ∗ (∃ d, owns (c : Thread nD τ) arg15 fullShare d) ∗ (∃ d, owns (c : Thread nD τ) arg16 fullShare d) ∗ (iprop(owns (c : Thread nD τ) arg7 fullShare x5 ∗ owns (c : Thread nD τ) arg15 fullShare (k0_pay1055 (F := F)) ∗ owns (c : Thread nD τ) arg16 fullShare (k0_pay1056 (F := F))) -∗ K (ret98 i (lbAt arg7 harg7 x5))))
      ⊢ wp frame (wpE (defs₀ (F := F)) Variants.none c none) E (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part98_eq_skeleton]; unfold k0_part98_skel
  unfold owns
  iintro ⟨⟨%f5, %hf5, H5⟩, ⟨%d13, %f13, -, H13⟩, ⟨%d14, %f14, -, H14⟩, Hk⟩
  obtain rfl := harg7.eq_unread hf5
  sl_exec (disch := first | sl_exact h)
  sl_step
  unfold first_start.sl.v36 first_start.sl.v37
  iapply Hk
  isplitl [H5]
  · iexists _; isplitr; · ipureintro; exact harg7.read_unread _
    iexact H5
  isplitl [H13]
  · iexists _; isplitr; swap; · iexact H13
    ipureintro
    funext y
    exact View.read_writes_cons_unit_of_mem arg15.view _ _ _ _ y y rfl (fun a => match a with
      | ⟨0, _⟩ => (Nat.zero_add _).symm
      | ⟨1, _⟩ => (Nat.zero_add _).symm
      | ⟨2, _⟩ => (Nat.zero_add _).symm
      | ⟨3, _⟩ => (Nat.zero_add _).symm)
  iexists _; isplitr; swap; · iexact H14
  ipureintro
  funext y
  exact View.read_writes_cons_unit_of_mem arg16.view _ _ _ _ y y rfl (fun a => match a with
    | ⟨0, _⟩ => (Nat.zero_add _).symm
    | ⟨1, _⟩ => (Nat.zero_add _).symm
    | ⟨2, _⟩ => (Nat.zero_add _).symm)

theorem first_cont (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (h : ¬ atStart i = 1#1) (x5 : Vec F S2x512 .f32) (st : Vec F S2x4x128x128 .f32) (ha : Vec F S2x16x512 .f32) (E : Set ℕ) (K : (Σ' (arg0 : BitVec 32) (arg1 : BitVec 32) (v12 : FVec F S1x512 .f32) (v23 : FVec F S256x1 .f32) (v27 : FVec F S256x1 .f32) (v31 : FVec F S256x1 .f32) (v35 : FVec F S256x1 .f32) (v36 : IVec S64x64 32) (v37 : IVec S64x64 32), IVec S64x64 32) → sProp (MT nD τ sig Unit (Elt F) ℕ (UR sig nD τ) ℕ)) :
    iprop(owns (c : Thread nD τ) arg7 fullShare x5 ∗ owns (c : Thread nD τ) arg15 fullShare st ∗ owns (c : Thread nD τ) arg16 fullShare ha ∗ (iprop(owns (c : Thread nD τ) arg7 fullShare x5 ∗ owns (c : Thread nD τ) arg15 fullShare st ∗ owns (c : Thread nD τ) arg16 fullShare ha) -∗ K (ret98 i (lbAt arg7 harg7 x5))))
      ⊢ wp frame (wpE (defs₀ (F := F)) Variants.none c none) E (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part98_eq_skeleton]; unfold k0_part98_skel
  unfold owns
  iintro ⟨⟨%f5, %hf5, H5⟩, ⟨%f13, %hf13, H13⟩, ⟨%f14, %hf14, H14⟩, Hk⟩
  obtain rfl := harg7.eq_unread hf5
  sl_exec (disch := first | sl_exact h)
  sl_step
  unfold first_cont.sl.v36 first_cont.sl.v37
  iapply Hk
  isplitl [H5]
  · iexists _; isplitr; · ipureintro; exact harg7.read_unread _
    iexact H5
  isplitl [H13]
  · iexists _; isplitr; swap; · iexact H13
    ipureintro; exact hf13
  iexists _; isplitr; swap; · iexact H14
  ipureintro; exact hf14

/-- The gate columns of the first tile. -/
def first0 (arg2 : Memref sig .tc .vmem S2x256x1024 .f32) (harg2 : arg2.IsWhole) (arg4 : Memref sig .tc .vmem S1024x2560 .bf16) (harg4 : arg4.IsWhole) (x0 : Vec F S2x256x1024 .f32) (x2 : Vec F S1024x2560 .bf16) : FVec F S1x256x512 .f32 :=
  k0_pay3 (View.readAt (Elt F) arg2.view (Rect.unit (s := S2x256x1024) ![0, 0, 0] S1x256x1024.size inb_S2x256x1024_S1x256x1024_0_0_0).toLoadRect (harg2.unread x0))
    (View.readAt (Elt F) arg4.view (Rect.unit (s := S1024x2560) ![0, 1024] S1024x512.size inb_S1024x2560_S1024x512_0_1024).toLoadRect (harg4.unread x2))
def first1 (arg2 : Memref sig .tc .vmem S2x256x1024 .f32) (harg2 : arg2.IsWhole) (arg4 : Memref sig .tc .vmem S1024x2560 .bf16) (harg4 : arg4.IsWhole) (x0 : Vec F S2x256x1024 .f32) (x2 : Vec F S1024x2560 .bf16) : FVec F S1x256x512 .f32 :=
  k0_pay4 (View.readAt (Elt F) arg2.view (Rect.unit (s := S2x256x1024) ![1, 0, 0] S1x256x1024.size inb_S2x256x1024_S1x256x1024_1_0_0).toLoadRect (harg2.unread x0))
    (View.readAt (Elt F) arg4.view (Rect.unit (s := S1024x2560) ![0, 1024] S1024x512.size inb_S1024x2560_S1024x512_0_1024).toLoadRect (harg4.unread x2))

theorem read_fpQ (arg13 : Memref sig .tc .vmem S2x256x512 .f32) (f) (a b : FVec F S1x256x512 .f32) (d : Vec F S2x256x512 .f32)
    (h0 : ∀ (r : Fin 256) (j : Fin 512), a (ix3 0 r j) = d (ix3 0 r j)) (h1 : ∀ (r : Fin 256) (j : Fin 512), b (ix3 0 r j) = d (ix3 1 r j)) :
    arg13.view.read (Elt F) (arg13.view.writes (Elt F) f
      [⟨Rect.unit ![1, 0, 0] S1x256x512.size inb_S2x256x512_S1x256x512_1_0_0, b⟩, ⟨Rect.unit ![0, 0, 0] S1x256x512.size inb_S2x256x512_S1x256x512_0_0_0, a⟩]) = d := by
  funext y
  obtain ⟨s, r, j, rfl⟩ : ∃ (s : Fin 2) (r : Fin 256) (j : Fin 512), y = ix3 s r j := ⟨y 0, y 1, y 2, eq_ix3 y⟩
  match s with
  | ⟨0, _⟩ =>
    refine (View.read_writes_cons_unit_of_not_mem arg13.view f inb_S2x256x512_S1x256x512_1_0_0 b _ (ix3 0 r j : S2x256x512.Idx) rfl 0 (.inl (by show (0:ℕ) < 1; omega))).trans ?_
    refine (View.read_writes_cons_unit_of_mem arg13.view f inb_S2x256x512_S1x256x512_0_0_0 a [] (ix3 0 r j : S2x256x512.Idx) (ix3 0 r j : S1x256x512.Idx) rfl (fun a => match a with
        | ⟨0, _⟩ => rfl
        | ⟨1, _⟩ => (Nat.zero_add _).symm
        | ⟨2, _⟩ => (Nat.zero_add _).symm)).trans ?_
    exact h0 r j
  | ⟨1, _⟩ =>
    refine (View.read_writes_cons_unit_of_mem arg13.view f inb_S2x256x512_S1x256x512_1_0_0 b _ (ix3 1 r j : S2x256x512.Idx) (ix3 0 r j : S1x256x512.Idx) rfl (fun a => match a with
        | ⟨0, _⟩ => rfl
        | ⟨1, _⟩ => (Nat.zero_add _).symm
        | ⟨2, _⟩ => (Nat.zero_add _).symm)).trans ?_
    exact h1 r j

end Cert.Kernel2Ideal.Mix

end
-- ==== Proof.Mix.Sums.lean ====
/- The recurrence's operands over the reals: running sums of the logarithms, and the level operands. -/
module

public import proofs.«01_k».proof.Proof.Mix.At

@[expose] public section

set_option maxRecDepth 16384

noncomputable section

namespace Cert.Kernel2Ideal.Mix

open Idealize.ShloMosaic Idealize.ShloMosaic.TcCoe
open Cert.Kernel2Ideal Cert.Kernel2Ideal.Gen

theorem sel_ge {α : Type} (n k : ℕ) (a b : α) (hn : n < 8) (hk : k < 8) :
    Scalar.select (IntOp.cmpi CmpIPredicate.sge (BitVec.ofNat 32 n) (BitVec.ofNat 32 k)) a b = if k ≤ n then a else b := by
  interval_cases n <;> interval_cases k <;> rfl

theorem cs8_real (a : V S256x512 .f32) (L : ℕ → ℝ) (j : Fin 512)
    (h : ∀ r : Fin 256, a (ix2 r j) = ((L (r.val + 1) - L r.val : ℝ) : EReal)) (m : Fin 32) (e : Fin 8) :
    cs8 a (ix3 m e j) = ((L (m.val * 8 + e.val + 1) - L (m.val * 8) : ℝ) : EReal) := by
  pointwise [cs8]
  simp only [h]
  fin_vals e with he
  all_goals
    simp only [he]
    repeat rw [sel_ge _ _ _ _ (by omega) (by omega)]
    try norm_num
    try norm_cast
    try ring_nf

theorem cg0_real (s : V S32x8x512 .f32) (L : ℕ → ℝ) (j : Fin 512)
    (h : ∀ (m : Fin 32) (e : Fin 8), s (ix3 m e j) = ((L (m.val * 8 + e.val + 1) - L (m.val * 8) : ℝ) : EReal)) (c : Fin 4) (e : Fin 8) :
    cg0 s (ix3 c e j) = ((L (c.val * 64 + 0 + e.val + 1) - L (c.val * 64) : ℝ) : EReal) := by
  pointwise [cg0]
  rw [h]
  dsimp only
  rw [show c.val * 8 * 8 = c.val * 64 by ring, Nat.add_zero]

theorem cg1_real (s : V S32x8x512 .f32) (p : V S4x8x512 .f32) (L : ℕ → ℝ) (j : Fin 512)
    (h : ∀ (m : Fin 32) (e : Fin 8), s (ix3 m e j) = ((L (m.val * 8 + e.val + 1) - L (m.val * 8) : ℝ) : EReal))
    (hp : ∀ (c : Fin 4) (e : Fin 8), p (ix3 c e j) = ((L (c.val * 64 + 0 + e.val + 1) - L (c.val * 64) : ℝ) : EReal))
    (c : Fin 4) (e : Fin 8) :
    cg1 s p (ix3 c e j) = ((L (c.val * 64 + 8 + e.val + 1) - L (c.val * 64) : ℝ) : EReal) := by
  pointwise [cg1]
  rw [h, hp]
  dsimp only
  rw [show (c.val * 8 + 1) * 8 = c.val * 64 + 8 by ring, show c.val * 64 + 0 + (7 : Fin 8).val + 1 = c.val * 64 + 8 from rfl]
  norm_cast
  ring_nf

theorem cg2_real (s : V S32x8x512 .f32) (p : V S4x8x512 .f32) (L : ℕ → ℝ) (j : Fin 512)
    (h : ∀ (m : Fin 32) (e : Fin 8), s (ix3 m e j) = ((L (m.val * 8 + e.val + 1) - L (m.val * 8) : ℝ) : EReal))
    (hp : ∀ (c : Fin 4) (e : Fin 8), p (ix3 c e j) = ((L (c.val * 64 + 8 + e.val + 1) - L (c.val * 64) : ℝ) : EReal))
    (c : Fin 4) (e : Fin 8) :
    cg2 s p (ix3 c e j) = ((L (c.val * 64 + 16 + e.val + 1) - L (c.val * 64) : ℝ) : EReal) := by
  pointwise [cg2]
  rw [h, hp]
  dsimp only
  rw [show (c.val * 8 + 2) * 8 = c.val * 64 + 16 by ring, show c.val * 64 + 8 + (7 : Fin 8).val + 1 = c.val * 64 + 16 from rfl]
  norm_cast
  ring_nf

theorem cg3_real (s : V S32x8x512 .f32) (p : V S4x8x512 .f32) (L : ℕ → ℝ) (j : Fin 512)
    (h : ∀ (m : Fin 32) (e : Fin 8), s (ix3 m e j) = ((L (m.val * 8 + e.val + 1) - L (m.val * 8) : ℝ) : EReal))
    (hp : ∀ (c : Fin 4) (e : Fin 8), p (ix3 c e j) = ((L (c.val * 64 + 16 + e.val + 1) - L (c.val * 64) : ℝ) : EReal))
    (c : Fin 4) (e : Fin 8) :
    cg3 s p (ix3 c e j) = ((L (c.val * 64 + 24 + e.val + 1) - L (c.val * 64) : ℝ) : EReal) := by
  pointwise [cg3]
  rw [h, hp]
  dsimp only
  rw [show (c.val * 8 + 3) * 8 = c.val * 64 + 24 by ring, show c.val * 64 + 16 + (7 : Fin 8).val + 1 = c.val * 64 + 24 from rfl]
  norm_cast
  ring_nf

theorem cg4_real (s : V S32x8x512 .f32) (p : V S4x8x512 .f32) (L : ℕ → ℝ) (j : Fin 512)
    (h : ∀ (m : Fin 32) (e : Fin 8), s (ix3 m e j) = ((L (m.val * 8 + e.val + 1) - L (m.val * 8) : ℝ) : EReal))
    (hp : ∀ (c : Fin 4) (e : Fin 8), p (ix3 c e j) = ((L (c.val * 64 + 24 + e.val + 1) - L (c.val * 64) : ℝ) : EReal))
    (c : Fin 4) (e : Fin 8) :
    cg4 s p (ix3 c e j) = ((L (c.val * 64 + 32 + e.val + 1) - L (c.val * 64) : ℝ) : EReal) := by
  pointwise [cg4]
  rw [h, hp]
  dsimp only
  rw [show (c.val * 8 + 4) * 8 = c.val * 64 + 32 by ring, show c.val * 64 + 24 + (7 : Fin 8).val + 1 = c.val * 64 + 32 from rfl]
  norm_cast
  ring_nf

theorem cg5_real (s : V S32x8x512 .f32) (p : V S4x8x512 .f32) (L : ℕ → ℝ) (j : Fin 512)
    (h : ∀ (m : Fin 32) (e : Fin 8), s (ix3 m e j) = ((L (m.val * 8 + e.val + 1) - L (m.val * 8) : ℝ) : EReal))
    (hp : ∀ (c : Fin 4) (e : Fin 8), p (ix3 c e j) = ((L (c.val * 64 + 32 + e.val + 1) - L (c.val * 64) : ℝ) : EReal))
    (c : Fin 4) (e : Fin 8) :
    cg5 s p (ix3 c e j) = ((L (c.val * 64 + 40 + e.val + 1) - L (c.val * 64) : ℝ) : EReal) := by
  pointwise [cg5]
  rw [h, hp]
  dsimp only
  rw [show (c.val * 8 + 5) * 8 = c.val * 64 + 40 by ring, show c.val * 64 + 32 + (7 : Fin 8).val + 1 = c.val * 64 + 40 from rfl]
  norm_cast
  ring_nf

theorem cg6_real (s : V S32x8x512 .f32) (p : V S4x8x512 .f32) (L : ℕ → ℝ) (j : Fin 512)
    (h : ∀ (m : Fin 32) (e : Fin 8), s (ix3 m e j) = ((L (m.val * 8 + e.val + 1) - L (m.val * 8) : ℝ) : EReal))
    (hp : ∀ (c : Fin 4) (e : Fin 8), p (ix3 c e j) = ((L (c.val * 64 + 40 + e.val + 1) - L (c.val * 64) : ℝ) : EReal))
    (c : Fin 4) (e : Fin 8) :
    cg6 s p (ix3 c e j) = ((L (c.val * 64 + 48 + e.val + 1) - L (c.val * 64) : ℝ) : EReal) := by
  pointwise [cg6]
  rw [h, hp]
  dsimp only
  rw [show (c.val * 8 + 6) * 8 = c.val * 64 + 48 by ring, show c.val * 64 + 40 + (7 : Fin 8).val + 1 = c.val * 64 + 48 from rfl]
  norm_cast
  ring_nf

theorem cg7_real (s : V S32x8x512 .f32) (p : V S4x8x512 .f32) (L : ℕ → ℝ) (j : Fin 512)
    (h : ∀ (m : Fin 32) (e : Fin 8), s (ix3 m e j) = ((L (m.val * 8 + e.val + 1) - L (m.val * 8) : ℝ) : EReal))
    (hp : ∀ (c : Fin 4) (e : Fin 8), p (ix3 c e j) = ((L (c.val * 64 + 48 + e.val + 1) - L (c.val * 64) : ℝ) : EReal))
    (c : Fin 4) (e : Fin 8) :
    cg7 s p (ix3 c e j) = ((L (c.val * 64 + 56 + e.val + 1) - L (c.val * 64) : ℝ) : EReal) := by
  pointwise [cg7]
  rw [h, hp]
  dsimp only
  rw [show (c.val * 8 + 7) * 8 = c.val * 64 + 56 by ring, show c.val * 64 + 48 + (7 : Fin 8).val + 1 = c.val * 64 + 56 from rfl]
  norm_cast
  ring_nf

theorem cjoin_apply (p : Fin 8 → V S4x8x512 .f32) (t : Fin 256) (j : Fin 512) :
    cjoin (p 0) (p 1) (p 2) (p 3) (p 4) (p 5) (p 6) (p 7) (ix2 t j)
      = p ⟨t.val / 8 % 8, by omega⟩ (ix3 ⟨t.val / 64, by omega⟩ ⟨t.val % 8, by omega⟩ j) := by
  have fin : ∀ (d : Fin 8), d.val = t.val / 8 % 8 → p d (ix3 ⟨t.val / 64, by omega⟩ ⟨t.val % 8, by omega⟩ j)
      = p ⟨t.val / 8 % 8, by omega⟩ (ix3 ⟨t.val / 64, by omega⟩ ⟨t.val % 8, by omega⟩ j) := by
    rintro d hd
    rw [show d = ⟨t.val / 8 % 8, by omega⟩ from Fin.ext hd]
  have hl : t.val / 8 % 8 < 8 := by omega
  pointwise [cjoin]
  repeat' split
  all_goals exact fin _ (by first | (show 0 = _; omega) | (show 1 = _; omega) | (show 2 = _; omega) | (show 3 = _; omega) | (show 4 = _; omega) | (show 5 = _; omega) | (show 6 = _; omega) | (show 7 = _; omega))

theorem cjoin_real (c0 c1 c2 c3 c4 c5 c6 c7 : V S4x8x512 .f32) (L : ℕ → ℝ) (j : Fin 512)
    (h0 : ∀ (c : Fin 4) (e : Fin 8), c0 (ix3 c e j) = ((L (c.val * 64 + 0 + e.val + 1) - L (c.val * 64) : ℝ) : EReal))
    (h1 : ∀ (c : Fin 4) (e : Fin 8), c1 (ix3 c e j) = ((L (c.val * 64 + 8 + e.val + 1) - L (c.val * 64) : ℝ) : EReal))
    (h2 : ∀ (c : Fin 4) (e : Fin 8), c2 (ix3 c e j) = ((L (c.val * 64 + 16 + e.val + 1) - L (c.val * 64) : ℝ) : EReal))
    (h3 : ∀ (c : Fin 4) (e : Fin 8), c3 (ix3 c e j) = ((L (c.val * 64 + 24 + e.val + 1) - L (c.val * 64) : ℝ) : EReal))
    (h4 : ∀ (c : Fin 4) (e : Fin 8), c4 (ix3 c e j) = ((L (c.val * 64 + 32 + e.val + 1) - L (c.val * 64) : ℝ) : EReal))
    (h5 : ∀ (c : Fin 4) (e : Fin 8), c5 (ix3 c e j) = ((L (c.val * 64 + 40 + e.val + 1) - L (c.val * 64) : ℝ) : EReal))
    (h6 : ∀ (c : Fin 4) (e : Fin 8), c6 (ix3 c e j) = ((L (c.val * 64 + 48 + e.val + 1) - L (c.val * 64) : ℝ) : EReal))
    (h7 : ∀ (c : Fin 4) (e : Fin 8), c7 (ix3 c e j) = ((L (c.val * 64 + 56 + e.val + 1) - L (c.val * 64) : ℝ) : EReal))
    (t : Fin 256) :
    cjoin c0 c1 c2 c3 c4 c5 c6 c7 (ix2 t j) = ((L (t.val + 1) - L (t.val / 64 * 64) : ℝ) : EReal) := by
  have key := cjoin_apply ![c0, c1, c2, c3, c4, c5, c6, c7] t j
  refine Eq.trans key ?_
  have hk : t.val / 64 * 64 + 8 * (t.val / 8 % 8) + t.val % 8 + 1 = t.val + 1 := by omega
  rw [← hk]
  have hlt : t.val / 8 % 8 < 8 := by omega
  generalize hd : (⟨t.val / 8 % 8, hlt⟩ : Fin 8) = d
  have hv : t.val / 8 % 8 = d.val := congrArg Fin.val hd
  rw [hv]
  fin_cases d
  · exact h0 ⟨t.val / 64, by omega⟩ ⟨t.val % 8, by omega⟩
  · exact h1 ⟨t.val / 64, by omega⟩ ⟨t.val % 8, by omega⟩
  · exact h2 ⟨t.val / 64, by omega⟩ ⟨t.val % 8, by omega⟩
  · exact h3 ⟨t.val / 64, by omega⟩ ⟨t.val % 8, by omega⟩
  · exact h4 ⟨t.val / 64, by omega⟩ ⟨t.val % 8, by omega⟩
  · exact h5 ⟨t.val / 64, by omega⟩ ⟨t.val % 8, by omega⟩
  · exact h6 ⟨t.val / 64, by omega⟩ ⟨t.val % 8, by omega⟩
  · exact h7 ⟨t.val / 64, by omega⟩ ⟨t.val % 8, by omega⟩

/-- The running sums of differences are differences. -/
theorem csum_real (a : V S256x512 .f32) (L : ℕ → ℝ) (j : Fin 512)
    (h : ∀ r : Fin 256, a (ix2 r j) = ((L (r.val + 1) - L r.val : ℝ) : EReal)) (t : Fin 256) :
    csum a (ix2 t j) = ((L (t.val + 1) - L (t.val / 64 * 64) : ℝ) : EReal) := by
  have hs := cs8_real a L j h
  have h0 := cg0_real _ L j hs
  have h1 := cg1_real _ _ L j hs h0
  have h2 := cg2_real _ _ L j hs h1
  have h3 := cg3_real _ _ L j hs h2
  have h4 := cg4_real _ _ L j hs h3
  have h5 := cg5_real _ _ L j hs h4
  have h6 := cg6_real _ _ L j hs h5
  have h7 := cg7_real _ _ L j hs h6
  exact cjoin_real _ _ _ _ _ _ _ _ L j h0 h1 h2 h3 h4 h5 h6 h7 t

end Cert.Kernel2Ideal.Mix
-- ==== Proof.Mix.Levels.lean ====
/- The operands of the scores over the reals: exponentials of differences of running sums. -/
module

public import proofs.«01_k».proof.Proof.Mix.Sums

@[expose] public section

set_option maxRecDepth 16384

noncomputable section

namespace Cert.Kernel2Ideal.Mix

open Idealize.ShloMosaic Idealize.ShloMosaic.TcCoe
open Cert.Kernel2Ideal Cert.Kernel2Ideal.Gen

/-- The tile's gate, running sums, query and key are real: `L` is a running sum of the gate's logarithms. -/
structure Real4 (f b q k : V S256x512 .f32) (L Q K : ℕ → Fin 512 → ℝ) : Prop where
  hf : ∀ (r : Fin 256) (j : Fin 512), f (ix2 r j) = ((Real.exp (L (r.val + 1) j - L r.val j) : ℝ) : EReal)
  hb : ∀ (r : Fin 256) (j : Fin 512), b (ix2 r j) = ((L (r.val + 1) j - L (r.val / 64 * 64) j : ℝ) : EReal)
  hq : ∀ (r : Fin 256) (j : Fin 512), q (ix2 r j) = ((Q r.val j : ℝ) : EReal)
  hk : ∀ (r : Fin 256) (j : Fin 512), k (ix2 r j) = ((K r.val j : ℝ) : EReal)

/-- The operand of a level whose blocks have `2 * h` rows. -/
def levR (L Q K : ℕ → Fin 512 → ℝ) (h : ℕ) (n : ℕ) (j : Fin 512) : ℝ :=
  if n / h % 2 = 0 then K n j * Real.exp (L (n / h * h + h) j - L (n + 1) j)
  else Q n j * Real.exp (L (n + 1) j - L (n / h * h) j)

theorem sel_and_ge {n : ℕ} {α : Type} (x y : α) (h : n < 8) :
    Scalar.select (IntOp.cmpi CmpIPredicate.sge (IntOp.andi (BitVec.ofNat 32 n) 3#32) 2#32) x y = if 2 ≤ n % 4 then x else y := by
  interval_cases n <;> rfl

theorem sel_and_eq3 {n : ℕ} {α : Type} (x y : α) (h : n < 8) :
    Scalar.select (IntOp.cmpi CmpIPredicate.eq (IntOp.andi (BitVec.ofNat 32 n) 3#32) 3#32) x y = if n % 4 = 3 then x else y := by
  interval_cases n <;> rfl

theorem sel_and_eq0 {n : ℕ} {α : Type} (x y : α) (h : n < 8) :
    Scalar.select (IntOp.cmpi CmpIPredicate.eq (IntOp.andi (BitVec.ofNat 32 n) 3#32) 0#32) x y = if n % 4 = 0 then x else y := by
  interval_cases n <;> rfl

theorem sel_and_eq1 {n : ℕ} {α : Type} (x y : α) (h : n < 8) :
    Scalar.select (IntOp.cmpi CmpIPredicate.eq (IntOp.andi (BitVec.ofNat 32 n) 1#32) 1#32) x y = if n % 2 = 1 then x else y := by
  interval_cases n <;> rfl

theorem absf_coe (x : ℝ) : FloatOps.absf (F := Ideal) (φ := .f32) ((x : ℝ) : EReal) = ((|x| : ℝ) : EReal) := by
  show max ((x : ℝ) : EReal) (-((x : ℝ) : EReal)) = _
  rw [← EReal.coe_neg, ← EReal.coe_strictMono.monotone.map_max]
  rfl

variable {f b q k : V S256x512 .f32} {L Q K : ℕ → Fin 512 → ℝ} (H : Real4 f b q k L Q K)
include H

theorem z32_real (r : Fin 256) (j : Fin 512) : z32 b q k (ix2 r j) = ((levR L Q K 32 r.val j : ℝ) : EReal) := by
  unfold levR
  pointwise [z32]
  simp only [H.hb, H.hq, H.hk]
  by_cases h : r.val / 32 % 2 < 1
  · rw [dif_pos h, if_pos (by omega)]
    rw [← EReal.coe_sub, Ideal.exp_coe, ← EReal.coe_mul]
    rw [show r.val / 64 * 64 + r.val % 32 = r.val by omega, show r.val / 64 * 64 + 31 + 1 = r.val / 32 * 32 + 32 by omega,
      show (r.val / 64 * 64 + 31) / 64 * 64 = r.val / 64 * 64 by omega]
    congr 3
    ring
  · rw [dif_neg h, if_neg (by omega)]
    rw [← EReal.coe_sub, Ideal.exp_coe, ← EReal.coe_mul]
    rw [show r.val / 64 * 64 + 32 + r.val % 32 = r.val by omega, show r.val / 64 * 64 + 31 + 1 = r.val / 32 * 32 by omega,
      show (r.val / 64 * 64 + 31) / 64 * 64 = r.val / 64 * 64 by omega]
    congr 3
    ring

theorem z16_real (r : Fin 256) (j : Fin 512) : z16 b q k (ix2 r j) = ((levR L Q K 16 r.val j : ℝ) : EReal) := by
  unfold levR
  pointwise [z16]
  simp only [H.hb, H.hq, H.hk]
  by_cases h : r.val / 16 % 2 < 1
  · rw [dif_pos h, if_pos (by omega)]
    rw [← EReal.coe_sub, Ideal.exp_coe, ← EReal.coe_mul]
    rw [show r.val / 32 * 32 + r.val % 16 = r.val by omega, show r.val / 32 * 32 + 15 + 1 = r.val / 16 * 16 + 16 by omega,
      show (r.val / 32 * 32 + 15) / 64 * 64 = r.val / 64 * 64 by omega]
    congr 3
    ring
  · rw [dif_neg h, if_neg (by omega)]
    rw [← EReal.coe_sub, Ideal.exp_coe, ← EReal.coe_mul]
    rw [show r.val / 32 * 32 + 16 + r.val % 16 = r.val by omega, show r.val / 32 * 32 + 15 + 1 = r.val / 16 * 16 by omega,
      show (r.val / 32 * 32 + 15) / 64 * 64 = r.val / 64 * 64 by omega]
    congr 3
    ring

theorem z8_real (r : Fin 256) (j : Fin 512) : z8 b q k (ix2 r j) = ((levR L Q K 8 r.val j : ℝ) : EReal) := by
  unfold levR
  pointwise [z8]
  simp only [H.hb, H.hq, H.hk]
  by_cases h : r.val / 8 % 2 < 1
  · rw [dif_pos h, if_pos (by omega)]
    rw [← EReal.coe_sub, Ideal.exp_coe, ← EReal.coe_mul]
    rw [show r.val / 16 * 16 + r.val % 8 = r.val by omega, show r.val / 16 * 16 + 7 + 1 = r.val / 8 * 8 + 8 by omega,
      show (r.val / 16 * 16 + 7) / 64 * 64 = r.val / 64 * 64 by omega]
    congr 3
    ring
  · rw [dif_neg h, if_neg (by omega)]
    rw [← EReal.coe_sub, Ideal.exp_coe, ← EReal.coe_mul]
    rw [show r.val / 16 * 16 + 8 + r.val % 8 = r.val by omega, show r.val / 16 * 16 + 7 + 1 = r.val / 8 * 8 by omega,
      show (r.val / 16 * 16 + 7) / 64 * 64 = r.val / 64 * 64 by omega]
    congr 3
    ring

theorem anti_le (hL : ∀ n j, L (n + 1) j ≤ L n j) (j : Fin 512) : Antitone (fun n => L n j) :=
  antitone_nat_of_succ_le (fun n => hL n j)

theorem z4_real (hL : ∀ n j, L (n + 1) j ≤ L n j) (r : Fin 256) (j : Fin 512) :
    z4 b q k (ix2 r j) = ((levR L Q K 4 r.val j : ℝ) : EReal) := by
  have ha : Antitone (fun n => L n j) := antitone_nat_of_succ_le (fun n => hL n j)
  unfold levR
  pointwise [z4]
  simp only [H.hb, H.hq, H.hk]
  rw [sel_ge _ _ _ _ (by omega) (by omega)]
  rw [← EReal.coe_sub, absf_coe, ← EReal.coe_zero, ← EReal.coe_sub, Ideal.exp_coe]
  rw [show (r.val / 8 * 8 + 3) / 64 * 64 = r.val / 64 * 64 by omega]
  by_cases h : 4 ≤ r.val % 8
  · rw [if_pos h, if_neg (by omega), ← EReal.coe_mul]
    have hle : L (r.val + 1) j ≤ L (r.val / 8 * 8 + 3 + 1) j := ha (by omega)
    rw [abs_of_nonpos (by linarith), show r.val / 8 * 8 + 3 + 1 = r.val / 4 * 4 by omega]
    congr 3
    ring
  · rw [if_neg h, if_pos (by omega), ← EReal.coe_mul]
    have hle : L (r.val / 8 * 8 + 3 + 1) j ≤ L (r.val + 1) j := ha (by omega)
    rw [abs_of_nonneg (by linarith), show r.val / 8 * 8 + 3 + 1 = r.val / 4 * 4 + 4 by omega]
    congr 3
    ring

theorem z2_real (r : Fin 256) (j : Fin 512) : z2 f q k (ix2 r j) = ((levR L Q K 2 r.val j : ℝ) : EReal) := by
  unfold levR
  pointwise [z2]
  simp only [H.hf, H.hq, H.hk]
  have h8 : r.val % 8 < 8 := by omega
  have e4 : r.val % 8 % 4 = r.val % 4 := by omega
  rw [sel_and_ge _ _ h8, sel_and_eq3 _ _ h8, sel_and_eq0 _ _ h8, e4]
  by_cases h2 : 2 ≤ r.val % 4
  · rw [if_pos h2, if_neg (show ¬ r.val / 2 % 2 = 0 by omega)]
    by_cases h3 : r.val % 4 = 3
    · rw [if_pos h3, ← EReal.coe_mul, ← EReal.coe_mul, mul_assoc, ← Real.exp_add]
      rw [show r.val / 8 * 8 + (r.val % 8 + 8 - 1) % 8 + 1 = r.val by omega,
        show r.val / 8 * 8 + (r.val % 8 + 8 - 1) % 8 = r.val / 2 * 2 by omega]
      congr 3
      ring
    · rw [if_neg h3, mul_one, ← EReal.coe_mul, show r.val / 2 * 2 = r.val by omega]
  · rw [if_neg h2, if_pos (show r.val / 2 % 2 = 0 by omega)]
    by_cases h3 : r.val % 4 = 0
    · rw [if_pos h3, ← EReal.coe_mul]
      rw [show r.val / 8 * 8 + (r.val % 8 + 8 - 7) % 8 + 1 = r.val / 2 * 2 + 2 by omega,
        show r.val / 8 * 8 + (r.val % 8 + 8 - 7) % 8 = r.val + 1 by omega]
    · rw [if_neg h3, mul_one, show r.val / 2 * 2 + 2 = r.val + 1 by omega, sub_self, Real.exp_zero, mul_one]

theorem z1_real (r : Fin 256) (j : Fin 512) : z1 f q k (ix2 r j) = ((levR L Q K 1 r.val j : ℝ) : EReal) := by
  unfold levR
  pointwise [z1]
  simp only [H.hf, H.hq, H.hk]
  have h8 : r.val % 8 < 8 := by omega
  rw [sel_and_eq1 _ _ h8]
  by_cases h2 : r.val % 8 % 2 = 1
  · rw [if_pos h2, if_neg (by omega), ← EReal.coe_mul]
  · rw [if_neg h2, if_pos (by omega), sub_self, Real.exp_zero, mul_one]

theorem base_real (r : Fin 256) (j : Fin 512) :
    (((L (r.val + 1) j - L (r.val / 64 * 64) j : ℝ) : EReal) -
          (if h : r.val / 16 % 4 < 1 then (0 : EReal)
          else
            ((L (r.val / 64 * 64 + (r.val / 16 % 4 - 1) * 16 + 15 + 1) j -
                L ((r.val / 64 * 64 + (r.val / 16 % 4 - 1) * 16 + 15) / 64 * 64) j : ℝ) : EReal)))
      = ((L (r.val + 1) j - L (r.val / 16 * 16) j : ℝ) : EReal) := by
  by_cases h : r.val / 16 % 4 < 1
  · rw [dif_pos h, sub_zero, show r.val / 64 * 64 = r.val / 16 * 16 by omega]
  · rw [dif_neg h, ← EReal.coe_sub,
      show (r.val / 64 * 64 + (r.val / 16 % 4 - 1) * 16 + 15) / 64 * 64 = r.val / 64 * 64 by omega,
      show r.val / 64 * 64 + (r.val / 16 % 4 - 1) * 16 + 15 + 1 = r.val / 16 * 16 by omega]
    congr 1
    ring

theorem qloc_real (r : Fin 256) (j : Fin 512) : qloc b q (ix2 r j) = ((Q r.val j * Real.exp (L (r.val + 1) j - L (r.val / 16 * 16) j) : ℝ) : EReal) := by
  pointwise [qloc]
  simp only [H.hb, H.hq, H.hk]
  rw [base_real H, Ideal.exp_coe, ← EReal.coe_mul]

theorem kloc_real (r : Fin 256) (j : Fin 512) : kloc b k (ix2 r j) = ((K r.val j * Real.exp (L (r.val / 16 * 16) j - L (r.val + 1) j) : ℝ) : EReal) := by
  pointwise [kloc]
  simp only [H.hb, H.hq, H.hk]
  rw [base_real H, ← EReal.coe_zero, ← EReal.coe_sub, Ideal.exp_coe, ← EReal.coe_mul]
  congr 3
  ring

theorem qdec_real (r : Fin 256) (j : Fin 512) : qdec b q (ix2 r j) = ((Q r.val j * Real.exp (L (r.val + 1) j - L (r.val / 64 * 64) j) : ℝ) : EReal) := by
  pointwise [qdec]
  simp only [H.hb, H.hq, H.hk]
  rw [Ideal.exp_coe, ← EReal.coe_mul]

theorem kdec_real (c : Fin 4) (r : Fin 64) (j : Fin 512) : kdec c b k (ix2 r j)
    = ((K (64 * c.val + r.val) j * Real.exp (L (64 * c.val + 64) j - L (64 * c.val + r.val + 1) j) : ℝ) : EReal) := by
  rw [kdec_apply, H.hb, H.hb, H.hk, ← EReal.coe_sub, Ideal.exp_coe, ← EReal.coe_mul]
  dsimp only
  rw [show (64 * c.val + 63) / 64 * 64 = (64 * c.val + r.val) / 64 * 64 by omega]
  congr 3
  ring

theorem dec_real (c : Fin 4) (z : Fin 1) (j : Fin 512) : dec c b (ix2 z j)
    = ((Real.exp (L (64 * c.val + 64) j - L (64 * c.val) j) : ℝ) : EReal) := by
  rw [dec_apply, H.hb, Ideal.exp_coe]
  dsimp only
  rw [show (64 * c.val + 63) / 64 * 64 = 64 * c.val by omega]

end Cert.Kernel2Ideal.Mix
-- ==== Proof.Mix.Scores.lean ====
/- The scores of a chunk over the reals: both ways of forming them give the products of query, key and decay. -/
module

public import proofs.«01_k».proof.Proof.Mix.Levels

@[expose] public section

set_option maxRecDepth 16384
set_option maxHeartbeats 1000000

noncomputable section

namespace Cert.Kernel2Ideal.Mix

open Idealize.ShloMosaic Idealize.ShloMosaic.TcCoe
open Cert.Kernel2Ideal Cert.Kernel2Ideal.Gen

theorem coe_sum {n : ℕ} (f : Fin n → ℝ) : ((∑ x, f x : ℝ) : EReal) = ∑ x, ((f x : ℝ) : EReal) :=
  map_sum (⟨⟨Real.toEReal, EReal.coe_zero⟩, EReal.coe_add⟩ : ℝ →+ EReal) f Finset.univ

/-- A head's column. -/
abbrev col (hd : Fin 4) (x : Fin 128) : Fin 512 := ⟨128 * hd.val + x.val, by omega⟩

/-- The product of a query, a key and the decay between them. -/
def W (L Q K : ℕ → Fin 512 → ℝ) (t s : ℕ) (hd : Fin 4) : ℝ :=
  ∑ x : Fin 128, Q t (col hd x) * K s (col hd x) * Real.exp (L (t + 1) (col hd x) - L (s + 1) (col hd x))

theorem nt_real {z y : V S256x512 .bf16} {a b : ℕ → Fin 512 → ℝ}
    (hz : ∀ (r : Fin 256) (j : Fin 512), z (ix2 r j) = ((a r.val j : ℝ) : EReal))
    (hy : ∀ (r : Fin 256) (j : Fin 512), y (ix2 r j) = ((b r.val j : ℝ) : EReal)) (c hd : Fin 4) (r s : Fin 64) :
    nt (cut c hd z) (cut c hd y) (ix2 r s)
      = ((∑ x : Fin 128, a (64 * c.val + r.val) (col hd x) * b (64 * c.val + s.val) (col hd x) : ℝ) : EReal) := by
  rw [nt_apply, coe_sum]
  refine Finset.sum_congr rfl fun x _ => ?_
  rw [cut_apply, cut_apply, hz, hy, EReal.coe_mul]

theorem lev_W (L Q K : ℕ → Fin 512 → ℝ) (h t s : ℕ) (hd : Fin 4) (ht : t / h % 2 = 1) (hs : s / h % 2 = 0)
    (hts : t / h = s / h + 1) :
    ∑ x : Fin 128, levR L Q K h t (col hd x) * levR L Q K h s (col hd x) = W L Q K t s hd := by
  unfold W
  refine Finset.sum_congr rfl fun x _ => ?_
  unfold levR
  rw [if_neg (by omega), if_pos hs, hts, show (s / h + 1) * h = s / h * h + h by ring]
  rw [show ∀ a b c d : ℝ, a * b * (c * d) = a * c * (b * d) by intros; ring, ← Real.exp_add]
  congr 2
  ring

theorem loc_W (L Q K : ℕ → Fin 512 → ℝ) (t s : ℕ) (hd : Fin 4) (hts : t / 16 = s / 16) :
    ∑ x : Fin 128, (Q t (col hd x) * Real.exp (L (t + 1) (col hd x) - L (t / 16 * 16) (col hd x)))
      * (K s (col hd x) * Real.exp (L (s / 16 * 16) (col hd x) - L (s + 1) (col hd x))) = W L Q K t s hd := by
  unfold W
  refine Finset.sum_congr rfl fun x _ => ?_
  rw [hts, show ∀ a b c d : ℝ, a * b * (c * d) = a * c * (b * d) by intros; ring, ← Real.exp_add]
  congr 2
  ring

/-- What the six masks say. -/
structure Masks.Spec (m : Masks) : Prop where
  h32 : ∀ r s : Fin 64, m.m32 (ix2 r s) = if r.val / 64 = s.val / 64 ∧ r.val / 32 % 2 = 1 ∧ s.val / 32 % 2 = 0 then 1#1 else 0#1
  h16 : ∀ r s : Fin 64, m.m16 (ix2 r s) = if r.val / 32 = s.val / 32 ∧ r.val / 16 % 2 = 1 ∧ s.val / 16 % 2 = 0 then 1#1 else 0#1
  h8 : ∀ r s : Fin 64, m.m8 (ix2 r s) = if r.val / 16 = s.val / 16 ∧ r.val / 8 % 2 = 1 ∧ s.val / 8 % 2 = 0 then 1#1 else 0#1
  h4 : ∀ r s : Fin 64, m.m4 (ix2 r s) = if r.val / 8 = s.val / 8 ∧ r.val / 4 % 2 = 1 ∧ s.val / 4 % 2 = 0 then 1#1 else 0#1
  h2 : ∀ r s : Fin 64, m.m2 (ix2 r s) = if r.val / 4 = s.val / 4 ∧ r.val / 2 % 2 = 1 ∧ s.val / 2 % 2 = 0 then 1#1 else 0#1
  h1 : ∀ r s : Fin 64, m.m1 (ix2 r s) = if r.val / 2 = s.val / 2 ∧ r.val % 2 = 1 ∧ s.val % 2 = 0 then 1#1 else 0#1

theorem sel_if {α : Type} (P : Prop) [Decidable P] (a b : α) : Scalar.select (if P then (1#1 : BitVec 1) else 0#1) a b = if P then a else b := by
  by_cases h : P
  · rw [if_pos h, if_pos h]; rfl
  · rw [if_neg h, if_neg h]; rfl

theorem choose_apply (m32 m16 m8 m4 m2 m1 : IVec S64x64 1) (a b c d e f : V S64x64 .f32) (r s : Fin 64) :
    choose m32 m16 m8 m4 m2 m1 a b c d e f (ix2 r s)
      = Scalar.select (m1 (ix2 r s)) (f (ix2 r s)) (Scalar.select (m2 (ix2 r s)) (e (ix2 r s)) (Scalar.select (m4 (ix2 r s)) (d (ix2 r s))
        (Scalar.select (m8 (ix2 r s)) (c (ix2 r s)) (Scalar.select (m16 (ix2 r s)) (b (ix2 r s)) (Scalar.select (m32 (ix2 r s)) (a (ix2 r s)) (0 : EReal)))))) := by
  pointwise [choose]

variable {f b q k : V S256x512 .f32} {L Q K : ℕ → Fin 512 → ℝ}

theorem lev_real {z : V S256x512 .bf16} (h : ℕ) (hz : ∀ (r : Fin 256) (j : Fin 512), z (ix2 r j) = ((levR L Q K h r.val j : ℝ) : EReal))
    (c hd : Fin 4) (r s : Fin 64) (ht : (64 * c.val + r.val) / h % 2 = 1) (hs : (64 * c.val + s.val) / h % 2 = 0)
    (hts : (64 * c.val + r.val) / h = (64 * c.val + s.val) / h + 1) :
    lev z c hd (ix2 r s) = ((W L Q K (64 * c.val + r.val) (64 * c.val + s.val) hd : ℝ) : EReal) := by
  unfold lev
  rw [nt_real hz hz, lev_W _ _ _ _ _ _ _ ht hs hts]

theorem masks_none : ∀ r s : Fin 64, ¬ (r.val / 64 = s.val / 64 ∧ r.val / 32 % 2 = 1 ∧ s.val / 32 % 2 = 0) →
    ¬ (r.val / 32 = s.val / 32 ∧ r.val / 16 % 2 = 1 ∧ s.val / 16 % 2 = 0) →
    ¬ (r.val / 16 = s.val / 16 ∧ r.val / 8 % 2 = 1 ∧ s.val / 8 % 2 = 0) →
    ¬ (r.val / 8 = s.val / 8 ∧ r.val / 4 % 2 = 1 ∧ s.val / 4 % 2 = 0) →
    ¬ (r.val / 4 = s.val / 4 ∧ r.val / 2 % 2 = 1 ∧ s.val / 2 % 2 = 0) →
    ¬ (r.val / 2 = s.val / 2 ∧ r.val % 2 = 1 ∧ s.val % 2 = 0) → ¬ s.val < r.val := by
  decide +kernel

/-- The six levels give the strictly lower triangle. -/
theorem scoreSlow_real (H : Real4 f b q k L Q K) (hL : ∀ n j, L (n + 1) j ≤ L n j) {m : Masks} (hm : m.Spec) (c hd : Fin 4) (r s : Fin 64) :
    scoreSlow m f b q k c hd (ix2 r s)
      = ((if s.val < r.val then W L Q K (64 * c.val + r.val) (64 * c.val + s.val) hd else 0 : ℝ) : EReal) := by
  unfold scoreSlow
  rw [choose_apply, hm.h32, hm.h16, hm.h8, hm.h4, hm.h2, hm.h1, sel_if, sel_if, sel_if, sel_if, sel_if, sel_if]
  by_cases c1 : r.val / 2 = s.val / 2 ∧ r.val % 2 = 1 ∧ s.val % 2 = 0
  · rw [if_pos c1, if_pos (show s.val < r.val by omega)]
    exact lev_real 1 (z1_real H) c hd r s (by omega) (by omega) (by omega)
  rw [if_neg c1]
  by_cases c2 : r.val / 4 = s.val / 4 ∧ r.val / 2 % 2 = 1 ∧ s.val / 2 % 2 = 0
  · rw [if_pos c2, if_pos (show s.val < r.val by omega)]
    exact lev_real 2 (z2_real H) c hd r s (by omega) (by omega) (by omega)
  rw [if_neg c2]
  by_cases c4 : r.val / 8 = s.val / 8 ∧ r.val / 4 % 2 = 1 ∧ s.val / 4 % 2 = 0
  · rw [if_pos c4, if_pos (show s.val < r.val by omega)]
    exact lev_real 4 (z4_real H hL) c hd r s (by omega) (by omega) (by omega)
  rw [if_neg c4]
  by_cases c8 : r.val / 16 = s.val / 16 ∧ r.val / 8 % 2 = 1 ∧ s.val / 8 % 2 = 0
  · rw [if_pos c8, if_pos (show s.val < r.val by omega)]
    exact lev_real 8 (z8_real H) c hd r s (by omega) (by omega) (by omega)
  rw [if_neg c8]
  by_cases c16 : r.val / 32 = s.val / 32 ∧ r.val / 16 % 2 = 1 ∧ s.val / 16 % 2 = 0
  · rw [if_pos c16, if_pos (show s.val < r.val by omega)]
    exact lev_real 16 (z16_real H) c hd r s (by omega) (by omega) (by omega)
  rw [if_neg c16]
  by_cases c32 : r.val / 64 = s.val / 64 ∧ r.val / 32 % 2 = 1 ∧ s.val / 32 % 2 = 0
  · rw [if_pos c32, if_pos (show s.val < r.val by omega)]
    exact lev_real 32 (z32_real H) c hd r s (by omega) (by omega) (by omega)
  rw [if_neg c32, if_neg (masks_none r s c32 c16 c8 c4 c2 c1), EReal.coe_zero]

theorem sum384 (g : Fin 384 → EReal) : ∑ x, g x = (∑ x : Fin 128, g ⟨x.val, by omega⟩) + (∑ x : Fin 128, g ⟨128 + x.val, by omega⟩)
    + ∑ x : Fin 128, g ⟨256 + x.val, by omega⟩ := by
  have h1 := Fin.sum_univ_add (a := 256) (b := 128) g
  have h2 := Fin.sum_univ_add (a := 128) (b := 128) (fun i => g (Fin.castAdd 128 i))
  rw [h2] at h1
  exact h1

theorem at_eq (a : V S64x128 .bf16) (r : Fin 64) (x : Fin 128) (n m : ℕ) (hn : n < 64) (hm : m < 128) (h1 : n = r.val) (h2 : m = x.val) :
    a (ix2 ⟨n, hn⟩ ⟨m, hm⟩) = a (ix2 r x) := by
  subst h1 h2; rfl

theorem slots_apply (z y : V S64x128 .bf16) (r s : Fin 64) :
    slots z y (ix2 r s) = (∑ x : Fin 128, (if 32 ≤ r.val then z (ix2 r x) else (0 : EReal)) * (if s.val < 32 then z (ix2 s x) else 0))
      + (∑ x : Fin 128, (if 16 ≤ r.val ∧ r.val < 32 then y (ix2 r x) else (0 : EReal)) * (if s.val < 16 then y (ix2 s x) else 0))
      + (∑ x : Fin 128, (if 48 ≤ r.val then y (ix2 r x) else (0 : EReal)) * (if 32 ≤ s.val ∧ s.val < 48 then y (ix2 s x) else 0)) := by
  pointwise [slots]
  rw [sum384]
  refine congrArg₂ (· + ·) (congrArg₂ (· + ·) ?_ ?_) ?_
  all_goals
    refine Finset.sum_congr rfl fun x _ => ?_
    have hx := x.isLt
    have hr := r.isLt
    have hs := s.isLt
    refine congrArg₂ (· * ·) ?_ ?_
    all_goals
      dsimp only
      split_ifs <;> first
        | rfl
        | omega
        | (try first
             | rw [if_pos (show 32 ≤ r.val by omega)]
             | rw [if_pos (show 16 ≤ r.val ∧ r.val < 32 by omega)]
             | rw [if_pos (show 48 ≤ r.val by omega)]
             | rw [if_pos (show 32 ≤ s.val ∧ s.val < 48 by omega)]
           refine congrArg _ ?_
           refine congrArg₂ ix2 (Fin.ext ?_) (Fin.ext ?_) <;> first | rfl | omega | (dsimp only; omega))

theorem masks_fast : ∀ r s : Fin 64, ¬ (r.val / 16 = s.val / 16 ∧ s.val ≤ r.val) → s.val ≤ r.val →
    (32 ≤ r.val ∧ s.val < 32 ∧ ¬ ((16 ≤ r.val ∧ r.val < 32) ∧ s.val < 16) ∧ ¬ (48 ≤ r.val ∧ 32 ≤ s.val ∧ s.val < 48))
    ∨ (¬ (32 ≤ r.val ∧ s.val < 32) ∧ ((16 ≤ r.val ∧ r.val < 32) ∧ s.val < 16) ∧ ¬ (48 ≤ r.val ∧ 32 ≤ s.val ∧ s.val < 48))
    ∨ (¬ (32 ≤ r.val ∧ s.val < 32) ∧ ¬ ((16 ≤ r.val ∧ r.val < 32) ∧ s.val < 16) ∧ (48 ≤ r.val ∧ 32 ≤ s.val ∧ s.val < 48)) := by
  decide +kernel

theorem gate_mul {n : ℕ} (P R : Prop) [Decidable P] [Decidable R] (a b : Fin n → EReal) :
    (∑ x, (if P then a x else (0 : EReal)) * (if R then b x else 0)) = if P ∧ R then ∑ x, a x * b x else 0 := by
  by_cases hP : P <;> by_cases hR : R <;> simp [hP, hR]

/-- The blocks of sixteen on the diagonal and the levels above give the lower triangle. -/
theorem scoreFast_real (H : Real4 f b q k L Q K) {m : IVec S64x64 1}
    (hm : ∀ r s : Fin 64, m (ix2 r s) = if r.val / 16 = s.val / 16 ∧ s.val ≤ r.val then 1#1 else 0#1) (c hd : Fin 4) (r s : Fin 64) :
    scoreFast m b q k c hd (ix2 r s)
      = ((if s.val ≤ r.val then W L Q K (64 * c.val + r.val) (64 * c.val + s.val) hd else 0 : ℝ) : EReal) := by
  have hsel : scoreFast m b q k c hd (ix2 r s) = Scalar.select (m (ix2 r s)) (nt (cut c hd (qloc b q)) (cut c hd (kloc b k)) (ix2 r s))
      (slots (cut c hd (z32 b q k)) (cut c hd (z16 b q k)) (ix2 r s)) := rfl
  rw [hsel, hm, sel_if]
  by_cases c0 : r.val / 16 = s.val / 16 ∧ s.val ≤ r.val
  · rw [if_pos c0, if_pos c0.2, nt_real (a := fun n j => Q n j * Real.exp (L (n + 1) j - L (n / 16 * 16) j))
      (b := fun n j => K n j * Real.exp (L (n / 16 * 16) j - L (n + 1) j)) (qloc_real H) (kloc_real H), loc_W _ _ _ _ _ _ (by omega)]
  rw [if_neg c0, slots_apply, gate_mul, gate_mul, gate_mul]
  rw [← nt_apply, ← nt_apply]
  by_cases hle : s.val ≤ r.val
  · rw [if_pos hle]
    have hr := r.isLt
    have hs := s.isLt
    rcases masks_fast r s c0 hle with h | h | h
    · rw [if_pos ⟨h.1, h.2.1⟩, if_neg h.2.2.1, if_neg h.2.2.2, add_zero, add_zero]
      exact lev_real 32 (z32_real H) c hd r s (by omega) (by omega) (by omega)
    · rw [if_neg h.1, if_pos h.2.1, if_neg h.2.2, add_zero, zero_add]
      exact lev_real 16 (z16_real H) c hd r s (by omega) (by omega) (by omega)
    · rw [if_neg h.1, if_neg h.2.1, if_pos h.2.2, zero_add, zero_add]
      exact lev_real 16 (z16_real H) c hd r s (by omega) (by omega) (by omega)
  · rw [if_neg hle, if_neg (by omega), if_neg (by omega), if_neg (by omega)]
    simp

end Cert.Kernel2Ideal.Mix
-- ==== Proof.Mix.State.lean ====
/- The recurrence over a tile: the state after each chunk and a head's output, as sums over all the steps so far. -/
module

public import proofs.«01_k».proof.Proof.Mix.Scores

@[expose] public section

set_option maxRecDepth 16384
set_option maxHeartbeats 1000000

noncomputable section

namespace Cert.Kernel2Ideal.Mix

open Idealize.ShloMosaic Idealize.ShloMosaic.TcCoe
open Cert.Kernel2Ideal Cert.Kernel2Ideal.Gen

/-- The state after `T` steps. -/
def ST (L K U : ℕ → Fin 512 → ℝ) (T : ℕ) (hd : Fin 4) (e d : Fin 128) : ℝ :=
  ∑ u ∈ Finset.range T, U u (col hd e) * K u (col hd d) * Real.exp (L T (col hd d) - L (u + 1) (col hd d))

/-- A head's output at step `t`. -/
def OG (L Q K U : ℕ → Fin 512 → ℝ) (t : ℕ) (hd : Fin 4) (e : Fin 128) : ℝ :=
  ∑ u ∈ Finset.range (t + 1), W L Q K t u hd * U u (col hd e)

/-- What a tile that starts at step `T` reads. -/
structure TileReal (I : Ins Ideal) (T : ℕ) (L Q K U : ℕ → Fin 512 → ℝ) : Prop where
  H : Real4 I.f I.b I.q I.k (fun n => L (T + n)) (fun n => Q (T + n)) (fun n => K (T + n))
  hv : ∀ (r : Fin 256) (j : Fin 512), I.v (ix2 r j) = ((U (T + r.val) j : ℝ) : EReal)
  hs : ∀ (hd : Fin 4) (e d : Fin 128), I.st hd (ix4 0 0 e d) = ((ST L K U T hd e d : ℝ) : EReal)

variable {I : Ins Ideal} {T : ℕ} {L Q K U : ℕ → Fin 512 → ℝ}

theorem vb_apply (r : Fin 256) (j : Fin 512) : I.vb (ix2 r j) = I.v (ix2 r j) := rfl

theorem next_real (R : TileReal I T L Q K U) (hd c : Fin 4) (s : V S128x128 .f32) (T' T'' : ℕ) (hT' : T' = T + 64 * c.val) (hT'' : T'' = T' + 64)
    (hs : ∀ e d : Fin 128, s (ix2 e d) = ((ST L K U T' hd e d : ℝ) : EReal)) (e d : Fin 128) :
    I.next hd c s (ix2 e d) = ((ST L K U T'' hd e d : ℝ) : EReal) := by
  unfold Ins.next
  rw [step_apply, cut1_apply, dec_real R.H, hs, upd_apply]
  have hsum : ∀ x : Fin 64, cut c hd I.vb (ix2 x e) * cutC hd (kdec c I.b I.k) (ix2 x d)
      = ((U (T' + x.val) (col hd e) * (K (T' + x.val) (col hd d) * Real.exp (L T'' (col hd d) - L (T' + x.val + 1) (col hd d))) : ℝ) : EReal) := by
    intro x
    rw [cut_apply, cutC_apply, kdec_real R.H, vb_apply, R.hv, ← EReal.coe_mul]
    dsimp only
    rw [hT'', hT']
    simp only [add_assoc]
  rw [Finset.sum_congr rfl fun x _ => hsum x, ← coe_sum, ← EReal.coe_mul, ← EReal.coe_add]
  congr 1
  rw [Fin.sum_univ_eq_sum_range (fun n => U (T' + n) (col hd e) * (K (T' + n) (col hd d) * Real.exp (L T'' (col hd d) - L (T' + n + 1) (col hd d)))) 64]
  unfold ST
  conv_rhs => rw [hT'', Finset.sum_range_add]
  rw [← hT'', Finset.mul_sum]
  congr 1
  · refine Finset.sum_congr rfl fun u _ => ?_
    have e1 : L (T + (64 * c.val + 64)) = L T'' := by rw [hT'', hT', add_assoc]
    have e2 : L (T + 64 * c.val) = L T' := by rw [hT']
    show Real.exp (L (T + (64 * c.val + 64)) (col hd d) - L (T + 64 * c.val) (col hd d)) * _ = _
    rw [e1, e2, show ∀ a b c d : ℝ, a * (b * c * d) = b * c * (a * d) by intros; ring, ← Real.exp_add]
    congr 2
    ring
  · refine Finset.sum_congr rfl fun u _ => ?_
    ring

theorem s0_real (R : TileReal I T L Q K U) (hd : Fin 4) (e d : Fin 128) : I.s0 hd (ix2 e d) = ((ST L K U T hd e d : ℝ) : EReal) := by
  unfold Ins.s0
  rw [stIn_apply, R.hs]

theorem s1_real (R : TileReal I T L Q K U) (hd : Fin 4) (e d : Fin 128) : I.s1 hd (ix2 e d) = ((ST L K U (T + 64) hd e d : ℝ) : EReal) :=
  next_real R hd 0 _ T _ rfl rfl (s0_real R hd) e d

theorem s2_real (R : TileReal I T L Q K U) (hd : Fin 4) (e d : Fin 128) : I.s2 hd (ix2 e d) = ((ST L K U (T + 128) hd e d : ℝ) : EReal) :=
  next_real R hd 1 _ (T + 64) _ rfl rfl (s1_real R hd) e d

theorem s3_real (R : TileReal I T L Q K U) (hd : Fin 4) (e d : Fin 128) : I.s3 hd (ix2 e d) = ((ST L K U (T + 192) hd e d : ℝ) : EReal) :=
  next_real R hd 2 _ (T + 128) _ rfl rfl (s2_real R hd) e d

theorem s4_real (R : TileReal I T L Q K U) (hd : Fin 4) (e d : Fin 128) : I.s4 hd (ix2 e d) = ((ST L K U (T + 256) hd e d : ℝ) : EReal) :=
  next_real R hd 3 _ (T + 192) _ rfl rfl (s3_real R hd) e d

/-- The state's part of an output. -/
theorem inter_ST (t T' : ℕ) (hd : Fin 4) (e : Fin 128) :
    ∑ d : Fin 128, (Q t (col hd d) * Real.exp (L (t + 1) (col hd d) - L T' (col hd d))) * ST L K U T' hd e d
      = ∑ u ∈ Finset.range T', W L Q K t u hd * U u (col hd e) := by
  unfold ST W
  simp only [Finset.mul_sum, Finset.sum_mul]
  rw [Finset.sum_comm]
  refine Finset.sum_congr rfl fun u _ => Finset.sum_congr rfl fun d _ => ?_
  rw [show ∀ a b c d f : ℝ, a * b * (c * d * f) = a * d * (b * f) * c by intros; ring, ← Real.exp_add]
  congr 3
  ring

/-- The scores up to `n` and the state's part are the sum over the steps so far. -/
theorem rows_real (R : TileReal I T L Q K U) (a : Fin 4 → Fin 4 → V S64x64 .f32) (n : Fin 64 → ℕ) (hn : ∀ r, n r ≤ 64)
    (ha : ∀ c hd r s, a c hd (ix2 r s) = ((if s.val < n r then W L Q K (T + (64 * c.val + r.val)) (T + (64 * c.val + s.val)) hd else 0 : ℝ) : EReal))
    (c hd : Fin 4) (s : V S128x128 .f32) (T' : ℕ) (hT' : T' = T + 64 * c.val)
    (hs : ∀ e d : Fin 128, s (ix2 e d) = ((ST L K U T' hd e d : ℝ) : EReal)) (r : Fin 64) (e : Fin 128) :
    I.rows a c hd s (ix2 r e) = ((∑ u ∈ Finset.range (T' + n r), W L Q K (T' + r.val) u hd * U u (col hd e) : ℝ) : EReal) := by
  have h0 : I.rows a c hd s (ix2 r e) = mixRows (a c hd) (cut c hd I.vb) (ix2 r e) + inter (cut c hd (qdec I.b I.q)) s (ix2 r e) := rfl
  rw [h0, mixRows_apply, inter_apply]
  have h1 : ∀ x : Fin 64, a c hd (ix2 r x) * cut c hd I.vb (ix2 x e)
      = ((if x.val < n r then W L Q K (T' + r.val) (T' + x.val) hd * U (T' + x.val) (col hd e) else 0 : ℝ) : EReal) := by
    intro x
    rw [ha, cut_apply, vb_apply, R.hv, ← EReal.coe_mul]
    dsimp only
    rw [ite_mul, zero_mul, ← add_assoc, ← add_assoc, ← hT']
  have h2 : ∀ d : Fin 128, cut c hd (qdec I.b I.q) (ix2 r d) * s (ix2 e d)
      = (((Q (T' + r.val) (col hd d) * Real.exp (L (T' + r.val + 1) (col hd d) - L T' (col hd d))) * ST L K U T' hd e d : ℝ) : EReal) := by
    intro d
    have hr := r.isLt
    rw [cut_apply, qdec_real R.H, hs, ← EReal.coe_mul]
    dsimp only
    rw [show (64 * c.val + r.val) / 64 * 64 = 64 * c.val by omega, ← hT', ← add_assoc, ← add_assoc, ← add_assoc, ← hT']
  rw [Finset.sum_congr rfl fun x _ => h1 x, Finset.sum_congr rfl fun x _ => h2 x, ← coe_sum, ← coe_sum, ← EReal.coe_add, inter_ST]
  congr 1
  rw [Finset.sum_range_add, add_comm]
  congr 1
  rw [Fin.sum_univ_eq_sum_range (fun x => if x < n r then W L Q K (T' + r.val) (T' + x) hd * U (T' + x) (col hd e) else 0) 64]
  rw [← Finset.sum_filter]
  refine Finset.sum_congr ?_ fun _ _ => rfl
  ext x
  have := hn r
  simp only [Finset.mem_filter, Finset.mem_range]
  omega

theorem tall_real (R : TileReal I T L Q K U) (a : Fin 4 → Fin 4 → V S64x64 .f32) (n : Fin 64 → ℕ) (hn : ∀ r, n r ≤ 64)
    (ha : ∀ c hd r s, a c hd (ix2 r s) = ((if s.val < n r then W L Q K (T + (64 * c.val + r.val)) (T + (64 * c.val + s.val)) hd else 0 : ℝ) : EReal))
    (c hd : Fin 4) (r : Fin 64) (e : Fin 128) :
    I.tall a hd (ix2 ⟨64 * c.val + r.val, by omega⟩ e)
      = ((∑ u ∈ Finset.range (T + 64 * c.val + n r), W L Q K (T + 64 * c.val + r.val) u hd * U u (col hd e) : ℝ) : EReal) := by
  unfold Ins.tall
  have hf := four_apply ![I.rows a 0 hd (I.s0 hd), I.rows a 1 hd (I.s1 hd), I.rows a 2 hd (I.s2 hd), I.rows a 3 hd (I.s3 hd)] c r e
  refine Eq.trans hf ?_
  fin_cases c
  · exact rows_real R a n hn ha 0 hd _ _ rfl (s0_real R hd) r e
  · exact rows_real R a n hn ha 1 hd _ _ rfl (s1_real R hd) r e
  · exact rows_real R a n hn ha 2 hd _ _ rfl (s2_real R hd) r e
  · exact rows_real R a n hn ha 3 hd _ _ rfl (s3_real R hd) r e

theorem oFast_real (R : TileReal I T L Q K U) {m : IVec S64x64 1}
    (hm : ∀ r s : Fin 64, m (ix2 r s) = if r.val / 16 = s.val / 16 ∧ s.val ≤ r.val then 1#1 else 0#1) (hd : Fin 4) (r : Fin 256) (e : Fin 128) :
    I.oFast m hd (ix2 r e) = ((OG L Q K U (T + r.val) hd e : ℝ) : EReal) := by
  unfold Ins.oFast
  have h := tall_real R (scoreFast m I.b I.q I.k) (fun r => r.val + 1) (fun r => r.isLt) (fun c hd r s => by
    rw [scoreFast_real R.H hm]
    simp only [Nat.lt_succ_iff]
    rfl) ⟨r.val / 64, by omega⟩ hd ⟨r.val % 64, by omega⟩ e
  have hr : (⟨64 * (r.val / 64) + r.val % 64, by omega⟩ : Fin 256) = r := Fin.ext (by show 64 * (r.val / 64) + r.val % 64 = r.val; omega)
  dsimp only at h
  rw [hr] at h
  rw [h]
  unfold OG
  rw [show T + 64 * (r.val / 64) + (r.val % 64 + 1) = T + r.val + 1 by omega, show T + 64 * (r.val / 64) + r.val % 64 = T + r.val by omega]

theorem oSlow_real (R : TileReal I T L Q K U) (hL : ∀ n j, L (n + 1) j ≤ L n j) {m : Masks} (hm : m.Spec) (hd : Fin 4) (r : Fin 256) (e : Fin 128) :
    I.oSlow m hd (ix2 r e) = ((OG L Q K U (T + r.val) hd e : ℝ) : EReal) := by
  unfold Ins.oSlow
  rw [withDiag_apply, cutH_apply, R.hv]
  have h := tall_real R (scoreSlow m I.f I.b I.q I.k) (fun r => r.val) (fun r => r.isLt.le) (fun c hd r s => by
    rw [scoreSlow_real R.H (fun n j => hL (T + n) j) hm]
    rfl) ⟨r.val / 64, by omega⟩ hd ⟨r.val % 64, by omega⟩ e
  have hr : (⟨64 * (r.val / 64) + r.val % 64, by omega⟩ : Fin 256) = r := Fin.ext (by show 64 * (r.val / 64) + r.val % 64 = r.val; omega)
  dsimp only at h
  rw [hr] at h
  rw [h]
  have h1 : ∀ x : Fin 128, cutH hd (mulf I.q I.k) (ix2 r x) = ((Q (T + r.val) (col hd x) * K (T + r.val) (col hd x) : ℝ) : EReal) := by
    intro x
    rw [cutH_apply]
    show I.q _ * I.k _ = _
    rw [R.H.hq, R.H.hk, ← EReal.coe_mul]
  rw [Finset.sum_congr rfl fun x _ => h1 x, ← coe_sum, ← EReal.coe_mul, ← EReal.coe_add]
  congr 1
  unfold OG
  rw [Finset.sum_range_succ, show T + 64 * (r.val / 64) + r.val % 64 = T + r.val by omega]
  congr 2
  unfold W
  simp

end Cert.Kernel2Ideal.Mix
-- ==== Proof.Mix.Spec.lean ====
/- The mixer's result as a formula over whole sequences. -/
module

public import proofs.«01_k».proof.Proof.Mix.State
public import proofs.«01_k».proof.Proof.Ffn.At

@[expose] public section

set_option maxRecDepth 16384

noncomputable section

namespace Cert.Kernel2Ideal.Mix

open Idealize.ShloMosaic Idealize.ShloMosaic.TcCoe
open Cert.Kernel2Ideal Cert.Kernel2Ideal.Gen
open Cert.KernelIdeal.Ffn (normS)

/-- The mixer's arguments. -/
structure Args where
  x : Vec Ideal S8x4096x1024 .f32
  win : Vec Ideal S1x1024x2560 .f32
  pw : Vec Ideal S1x4x128x128 .f32
  ps : Vec Ideal S1x512 .f32
  lb : Vec Ideal S2x512 .f32
  gn : Vec Ideal S1x128 .f32
  wo : Vec Ideal S1x1024x1024 .f32
  ga : Vec Ideal S1x1024 .f32
  be : Vec Ideal S1x1024 .f32

/-- The layer's input, its input projection and the bounds of the gate are finite. -/
structure Args.Finite (A : Args) : Prop where
  x : ∀ i, ∃ r : ℝ, A.x i = (r : EReal)
  win : ∀ i, ∃ r : ℝ, A.win i = (r : EReal)
  lb : ∀ i, ∃ r : ℝ, A.lb i = (r : EReal)

variable (A : Args)

/-- The input projection. -/
def pr (b : Fin 8) (t : Fin 4096) (c : Fin 2560) : EReal := ∑ k : Fin 1024, A.x (ix3 b t k) * A.win (ix3 0 k c)

/-- The same, as a real number at any step. -/
def prR (b : Fin 8) (t : ℕ) (c : Fin 2560) : ℝ := if h : t < 4096 then (pr A b ⟨t, h⟩ c).toReal else 0

theorem sum_real {ι : Type*} [Fintype ι] (f : ι → EReal) (h : ∀ i, ∃ r : ℝ, f i = (r : EReal)) : ∃ r : ℝ, ∑ i, f i = (r : EReal) := by
  choose g hg using h
  refine ⟨∑ i, g i, ?_⟩
  rw [Finset.sum_congr rfl fun i _ => hg i]
  exact (map_sum (⟨⟨Real.toEReal, EReal.coe_zero⟩, EReal.coe_add⟩ : ℝ →+ EReal) g Finset.univ).symm

theorem pr_real {A : Args} (hA : A.Finite) (b : Fin 8) (t : Fin 4096) (c : Fin 2560) : pr A b t c = ((prR A b t.val c : ℝ) : EReal) := by
  unfold prR
  rw [dif_pos t.isLt]
  obtain ⟨r, hr⟩ : ∃ r : ℝ, pr A b t c = (r : EReal) := by
    unfold pr
    refine sum_real _ fun k => ?_
    obtain ⟨u, hu⟩ := hA.x (ix3 b t k)
    obtain ⟨v, hv⟩ := hA.win (ix3 0 k c)
    exact ⟨u * v, by rw [hu, hv, EReal.coe_mul]⟩
  show pr A b t c = ((pr A b t c).toReal : EReal)
  rw [hr, EReal.toReal_coe]

/-- The lower bound of the forget gate. -/
def lbR (j : Fin 512) : ℝ :=
  Real.exp ((A.lb (ix2 0 j)).toReal - max (A.lb (ix2 0 j)).toReal (A.lb (ix2 1 j)).toReal)
    / (Real.exp ((A.lb (ix2 0 j)).toReal - max (A.lb (ix2 0 j)).toReal (A.lb (ix2 1 j)).toReal)
      + Real.exp ((A.lb (ix2 1 j)).toReal - max (A.lb (ix2 0 j)).toReal (A.lb (ix2 1 j)).toReal))

theorem lbR_pos (j : Fin 512) : 0 < lbR A j := by unfold lbR; positivity
theorem lbR_lt (j : Fin 512) : lbR A j < 1 := by
  unfold lbR
  rw [div_lt_one (by positivity)]
  have := Real.exp_pos ((A.lb (ix2 1 j)).toReal - max (A.lb (ix2 0 j)).toReal (A.lb (ix2 1 j)).toReal)
  linarith

/-- The forget gate, its logarithm's running sum, the query, the key and the value. -/
def fR (b : Fin 8) (t : ℕ) (j : Fin 512) : ℝ := lbR A j + (1 - lbR A j) * (1 + Real.exp (-prR A b t ⟨1024 + j.val, by omega⟩))⁻¹
def lR (b : Fin 8) (n : ℕ) (j : Fin 512) : ℝ := ∑ u ∈ Finset.range n, Real.log (fR A b u j)
def qR (b : Fin 8) (t : ℕ) (j : Fin 512) : ℝ := prR A b t ⟨512 + j.val, by omega⟩ * (1 + Real.exp (-prR A b t ⟨512 + j.val, by omega⟩))⁻¹
def kR (b : Fin 8) (t : ℕ) (j : Fin 512) : ℝ := 1 - fR A b t j
def vR (b : Fin 8) (t : ℕ) (j : Fin 512) : ℝ := prR A b t ⟨1536 + j.val, by omega⟩
def xR (b : Fin 8) (t : ℕ) (j : Fin 512) : ℝ := prR A b t ⟨j.val, by omega⟩

theorem fR_pos (b : Fin 8) (t : ℕ) (j : Fin 512) : 0 < fR A b t j := by
  have h1 := lbR_pos A j
  have h2 := lbR_lt A j
  have h3 : (0 : ℝ) < (1 + Real.exp (-prR A b t ⟨1024 + j.val, by omega⟩))⁻¹ := by positivity
  unfold fR
  nlinarith [mul_pos (sub_pos.mpr h2) h3]

theorem fR_le (b : Fin 8) (t : ℕ) (j : Fin 512) : fR A b t j ≤ 1 := by
  have h1 := lbR_pos A j
  have h2 := lbR_lt A j
  have h3 : (1 + Real.exp (-prR A b t ⟨1024 + j.val, by omega⟩))⁻¹ ≤ 1 :=
    inv_le_one_of_one_le₀ (by have := Real.exp_pos (-prR A b t ⟨1024 + j.val, by omega⟩); linarith)
  unfold fR
  nlinarith [mul_le_mul_of_nonneg_left h3 (sub_pos.mpr h2).le]

theorem lR_succ (b : Fin 8) (n : ℕ) (j : Fin 512) : lR A b (n + 1) j - lR A b n j = Real.log (fR A b n j) := by
  unfold lR; rw [Finset.sum_range_succ]; ring

theorem lR_anti (b : Fin 8) (n : ℕ) (j : Fin 512) : lR A b (n + 1) j ≤ lR A b n j := by
  have h := lR_succ A b n j
  have h2 := Real.log_nonpos (fR_pos A b n j).le (fR_le A b n j)
  linarith

/-- A head's output, its grouped normalisation with the gate. -/
def oS (b : Fin 8) (t : Fin 4096) (hd : Fin 4) (e : Fin 128) : EReal :=
  ((OG (lR A b) (qR A b) (kR A b) (vR A b) t.val hd e : ℝ) : EReal)
def gS (b : Fin 8) (t : Fin 4096) (hd : Fin 4) (j : Fin 128) : EReal := pr A b t ⟨2048 + 128 * hd.val + j.val, by omega⟩
def hS (b : Fin 8) (t : Fin 4096) (hd : Fin 4) (j : Fin 128) : EReal :=
  oS A b t hd j * Ideal.rsqrt (Ideal.div (∑ x : Fin 128, oS A b t hd x * oS A b t hd x) (Ideal.ofBits FTy.f32 1124073472#32) +
    Ideal.ofBits FTy.f32 897988541#32) * A.gn (ix2 0 j) * (gS A b t hd j * Ideal.logistic (gS A b t hd j))

/-- The trailing mean over `w` steps, less the step itself. -/
def mR (w : ℕ) (b : Fin 8) (t : ℕ) (j : Fin 512) : ℝ :=
  (∑ k ∈ Finset.range w, if k ≤ t then xR A b (t - k) j else 0) / (min (t + 1) w : ℕ) - xR A b t j

/-- The pooling mixer's output. -/
def yS (b : Fin 8) (t : Fin 4096) (j : Fin 512) : EReal :=
  (∑ x : Fin 128, ((mR A (2 ^ (j.val / 128 + 1)) b t.val ⟨128 * (j.val / 128) + x.val, by omega⟩ : ℝ) : EReal)
    * A.pw (ix4 0 ⟨j.val / 128, by omega⟩ x ⟨j.val % 128, by omega⟩)) * A.ps (ix2 0 j)

def cS (b : Fin 8) (t : Fin 4096) (c : Fin 1024) : EReal :=
  if h : c.val < 512 then yS A b t ⟨c.val, h⟩
  else hS A b t ⟨(c.val - 512) / 128, by omega⟩ ⟨(c.val - 512) % 128, by omega⟩

def pS (b : Fin 8) (t : Fin 4096) (d : Fin 1024) : EReal :=
  Ideal.ofBits .f32 0x3F9837F0#32 * A.x (ix3 b t d) + ∑ c : Fin 1024, cS A b t c * A.wo (ix3 0 c d)

/-- The layer's output. -/
def rS (b : Fin 8) (t : Fin 4096) (d : Fin 1024) : EReal := normS (pS A b t) (A.ga (ix2 0 d)) (A.be (ix2 0 d)) d

end Cert.Kernel2Ideal.Mix

end
-- ==== Proof.Mix.Tile.lean ====
/- A tile's projections, gates and trailing means, as the specification's real numbers. -/
module

public import proofs.«01_k».proof.Proof.Mix.Spec
public import proofs.«01_k».proof.Proof.Ffn.At

@[expose] public section

set_option maxRecDepth 16384

noncomputable section

namespace Cert.Kernel2Ideal.Mix

open Idealize.ShloMosaic Idealize.ShloMosaic.TcCoe
open Cert.Kernel2Ideal Cert.Kernel2Ideal.Gen
open Cert.KernelIdeal.Ffn (meanS centS normS)

/-- The pooled branch's input, sixteen steps later. -/
def xq (A : Args) (b : Fin 8) (n : ℕ) (j : Fin 512) : ℝ := if 16 ≤ n then xR A b (n - 16) j else 0

/-- What a tile of sequence `b` starting at step `T` loads. -/
structure TileIn (A : Args) (b : Fin 8) (T : ℕ) (hT : T + 256 ≤ 4096) (I : Ins Ideal) : Prop where
  x : ∀ (r : Fin 256) (k : Fin 1024), I.x (ix3 0 r k) = A.x (ix3 b ⟨T + r.val, by omega⟩ k)
  wl : ∀ (k : Fin 1024) (j : Fin 1024), I.wl (ix2 k j) = A.win (ix3 0 k ⟨j.val, by omega⟩)
  wr : ∀ (k : Fin 1024) (j : Fin 1024), I.wr (ix2 k j) = A.win (ix3 0 k ⟨1536 + j.val, by omega⟩)
  fp : ∀ (r : Fin 256) (j : Fin 512), I.fp (ix3 0 r j) = pr A b ⟨T + r.val, by omega⟩ ⟨1024 + j.val, by omega⟩
  ha : ∀ (r : Fin 16) (j : Fin 512), I.ha (ix3 0 r j) = ((xq A b (T + r.val) j : ℝ) : EReal)
  i0 : ∀ (r : Fin 256) (z : Fin 1), I.i0 (ix2 r z) = ((1 / (min (T + r.val + 1) 2 : ℕ) : ℝ) : EReal)
  i1 : ∀ (r : Fin 256) (z : Fin 1), I.i1 (ix2 r z) = ((1 / (min (T + r.val + 1) 4 : ℕ) : ℝ) : EReal)
  i2 : ∀ (r : Fin 256) (z : Fin 1), I.i2 (ix2 r z) = ((1 / (min (T + r.val + 1) 8 : ℕ) : ℝ) : EReal)
  i3 : ∀ (r : Fin 256) (z : Fin 1), I.i3 (ix2 r z) = ((1 / (min (T + r.val + 1) 16 : ℕ) : ℝ) : EReal)
  lb : ∀ (j : Fin 512), I.lb (ix2 0 j) = ((lbR A j : ℝ) : EReal)
  w0 : ∀ x y : Fin 128, I.w0 (ix3 0 x y) = A.pw (ix4 0 0 x y)
  w1 : ∀ x y : Fin 128, I.w1 (ix3 0 x y) = A.pw (ix4 0 1 x y)
  w2 : ∀ x y : Fin 128, I.w2 (ix3 0 x y) = A.pw (ix4 0 2 x y)
  w3 : ∀ x y : Fin 128, I.w3 (ix3 0 x y) = A.pw (ix4 0 3 x y)
  ps : ∀ (j : Fin 512), I.ps (ix2 0 j) = A.ps (ix2 0 j)
  gn : ∀ (j : Fin 128), I.gn (ix2 0 j) = A.gn (ix2 0 j)
  st : ∀ (hd : Fin 4) (e d : Fin 128), I.st hd (ix4 0 0 e d) = ((ST (lR A b) (kR A b) (vR A b) T hd e d : ℝ) : EReal)
  wo : ∀ (c d : Fin 1024), I.wo (ix2 c d) = A.wo (ix3 0 c d)
  ga : ∀ (d : Fin 1024), I.ga (ix2 0 d) = A.ga (ix2 0 d)
  be : ∀ (d : Fin 1024), I.be (ix2 0 d) = A.be (ix2 0 d)

/-- The tile after the sixteen rows before it. -/
def ext (ha : Vec Ideal S1x16x512 .f32) (xp : V S256x512 .f32) : V S272x512 .f32 :=
  concatenate S272x512 0 [⟨S16x512, (shapeCast S16x512 ha shapeCasts_S1x16x512_S16x512 : FVec Ideal S16x512 .f32)⟩, ⟨S256x512, xp⟩] concatenates_S16x512_S256x512_S272x512_d0

theorem ext_apply (ha : Vec Ideal S1x16x512 .f32) (xp : V S256x512 .f32) (n : Fin 272) (c : Fin 512) :
    ext ha xp (ix2 n c) = if h : n.val < 16 then ha (ix3 0 ⟨n.val, h⟩ c) else xp (ix2 ⟨n.val - 16, by omega⟩ c) := by
  pointwise [ext]

/-- The sum of `w` rows ending at each row, once each row holds the sum of `w / 2`. -/
theorem rot_real (w m : ℕ) (a a' : V S272x128 .f32) (x : Fin 128) (f : ℕ → ℝ)
    (hrot : ∀ n : Fin 272, a' (ix2 n x) = a (ix2 n x) + a (ix2 ⟨(n.val + 272 - w) % 272, Nat.mod_lt _ (by decide)⟩ x))
    (ha : ∀ n : Fin 272, m ≤ n.val → a (ix2 n x) = ((∑ k ∈ Finset.range w, f (n.val - k) : ℝ) : EReal)) (hw : w ≤ 8) (n : Fin 272) (hn : m + w ≤ n.val) :
    a' (ix2 n x) = ((∑ k ∈ Finset.range (w + w), f (n.val - k) : ℝ) : EReal) := by
  have h0 : (n.val + 272 - w) % 272 = n.val - w := by omega
  have e : (⟨(n.val + 272 - w) % 272, Nat.mod_lt _ (by decide)⟩ : Fin 272) = ⟨n.val - w, by omega⟩ := Fin.ext h0
  rw [hrot, e, ha n (by omega), ha ⟨n.val - w, by omega⟩ (by show m ≤ n.val - w; omega), ← EReal.coe_add, Finset.sum_range_add]
  simp only [Nat.sub_sub]

def rot1 (a : V S272x128 .f32) : V S272x128 .f32 := addf a (dynamicRotate 0 1#32 none a rotates_S272x128_d0)
theorem rot1_apply (a : V S272x128 .f32) (x : Fin 128) (n : Fin 272) :
    rot1 a (ix2 n x) = a (ix2 n x) + a (ix2 ⟨(n.val + 272 - 1) % 272, Nat.mod_lt _ (by decide)⟩ x) := by
  pointwise [rot1]

def rot2 (a : V S272x128 .f32) : V S272x128 .f32 := addf a (dynamicRotate 0 2#32 none a rotates_S272x128_d0)
theorem rot2_apply (a : V S272x128 .f32) (x : Fin 128) (n : Fin 272) :
    rot2 a (ix2 n x) = a (ix2 n x) + a (ix2 ⟨(n.val + 272 - 2) % 272, Nat.mod_lt _ (by decide)⟩ x) := by
  pointwise [rot2]

def rot4 (a : V S272x128 .f32) : V S272x128 .f32 := addf a (dynamicRotate 0 4#32 none a rotates_S272x128_d0)
theorem rot4_apply (a : V S272x128 .f32) (x : Fin 128) (n : Fin 272) :
    rot4 a (ix2 n x) = a (ix2 n x) + a (ix2 ⟨(n.val + 272 - 4) % 272, Nat.mod_lt _ (by decide)⟩ x) := by
  pointwise [rot4]

def rot8 (a : V S272x128 .f32) : V S272x128 .f32 := addf a (dynamicRotate 0 8#32 none a rotates_S272x128_d0)
theorem rot8_apply (a : V S272x128 .f32) (x : Fin 128) (n : Fin 272) :
    rot8 a (ix2 n x) = a (ix2 n x) + a (ix2 ⟨(n.val + 272 - 8) % 272, Nat.mod_lt _ (by decide)⟩ x) := by
  pointwise [rot8]

def grp0 (a : V S272x512 .f32) : V S272x128 .f32 := extractStridedSlice S272x128 ![0, 0] a slices_S272x512_o0_0_S272x128
theorem grp0_apply (a : V S272x512 .f32) (n : Fin 272) (x : Fin 128) : grp0 a (ix2 n x) = a (ix2 n ⟨x.val, by omega⟩) := by
  pointwise [grp0]
def less0 (xp : V S256x512 .f32) (inv : V S256x1 .f32) (a : V S272x128 .f32) : V S256x128 .bf16 :=
  truncf .bf16 (subf (mulf (extractStridedSlice S256x128 ![16, 0] a slices_S272x128_o16_0_S256x128 : FVec Ideal S256x128 .f32) (broadcastTo S256x128 inv broadcasts_S256x1_S256x128))
    (extractStridedSlice S256x128 ![0, 0] xp slices_S256x512_o0_0_S256x128)) bitsLt_bf16_f32
theorem less0_apply (xp : V S256x512 .f32) (inv : V S256x1 .f32) (a : V S272x128 .f32) (r : Fin 256) (x : Fin 128) :
    less0 xp inv a (ix2 r x) = a (ix2 ⟨16 + r.val, by omega⟩ x) * inv (ix2 r 0) - xp (ix2 r ⟨x.val, by omega⟩) := by
  pointwise [less0]
theorem pool0_eq (ha : Vec Ideal S1x16x512 .f32) (xp : V S256x512 .f32) (inv : V S256x1 .f32) :
    pool0 ha xp inv = less0 xp inv (rot1 (grp0 (ext ha xp))) := rfl

def grp1 (a : V S272x512 .f32) : V S272x128 .f32 := extractStridedSlice S272x128 ![0, 128] a slices_S272x512_o0_128_S272x128
theorem grp1_apply (a : V S272x512 .f32) (n : Fin 272) (x : Fin 128) : grp1 a (ix2 n x) = a (ix2 n ⟨128 + x.val, by omega⟩) := by
  pointwise [grp1]
def less1 (xp : V S256x512 .f32) (inv : V S256x1 .f32) (a : V S272x128 .f32) : V S256x128 .bf16 :=
  truncf .bf16 (subf (mulf (extractStridedSlice S256x128 ![16, 0] a slices_S272x128_o16_0_S256x128 : FVec Ideal S256x128 .f32) (broadcastTo S256x128 inv broadcasts_S256x1_S256x128))
    (extractStridedSlice S256x128 ![0, 128] xp slices_S256x512_o0_128_S256x128)) bitsLt_bf16_f32
theorem less1_apply (xp : V S256x512 .f32) (inv : V S256x1 .f32) (a : V S272x128 .f32) (r : Fin 256) (x : Fin 128) :
    less1 xp inv a (ix2 r x) = a (ix2 ⟨16 + r.val, by omega⟩ x) * inv (ix2 r 0) - xp (ix2 r ⟨128 + x.val, by omega⟩) := by
  pointwise [less1]
theorem pool1_eq (ha : Vec Ideal S1x16x512 .f32) (xp : V S256x512 .f32) (inv : V S256x1 .f32) :
    pool1 ha xp inv = less1 xp inv (rot2 (rot1 (grp1 (ext ha xp)))) := rfl

def grp2 (a : V S272x512 .f32) : V S272x128 .f32 := extractStridedSlice S272x128 ![0, 256] a slices_S272x512_o0_256_S272x128
theorem grp2_apply (a : V S272x512 .f32) (n : Fin 272) (x : Fin 128) : grp2 a (ix2 n x) = a (ix2 n ⟨256 + x.val, by omega⟩) := by
  pointwise [grp2]
def less2 (xp : V S256x512 .f32) (inv : V S256x1 .f32) (a : V S272x128 .f32) : V S256x128 .bf16 :=
  truncf .bf16 (subf (mulf (extractStridedSlice S256x128 ![16, 0] a slices_S272x128_o16_0_S256x128 : FVec Ideal S256x128 .f32) (broadcastTo S256x128 inv broadcasts_S256x1_S256x128))
    (extractStridedSlice S256x128 ![0, 256] xp slices_S256x512_o0_256_S256x128)) bitsLt_bf16_f32
theorem less2_apply (xp : V S256x512 .f32) (inv : V S256x1 .f32) (a : V S272x128 .f32) (r : Fin 256) (x : Fin 128) :
    less2 xp inv a (ix2 r x) = a (ix2 ⟨16 + r.val, by omega⟩ x) * inv (ix2 r 0) - xp (ix2 r ⟨256 + x.val, by omega⟩) := by
  pointwise [less2]
theorem pool2_eq (ha : Vec Ideal S1x16x512 .f32) (xp : V S256x512 .f32) (inv : V S256x1 .f32) :
    pool2 ha xp inv = less2 xp inv (rot4 (rot2 (rot1 (grp2 (ext ha xp))))) := rfl

def grp3 (a : V S272x512 .f32) : V S272x128 .f32 := extractStridedSlice S272x128 ![0, 384] a slices_S272x512_o0_384_S272x128
theorem grp3_apply (a : V S272x512 .f32) (n : Fin 272) (x : Fin 128) : grp3 a (ix2 n x) = a (ix2 n ⟨384 + x.val, by omega⟩) := by
  pointwise [grp3]
def less3 (xp : V S256x512 .f32) (inv : V S256x1 .f32) (a : V S272x128 .f32) : V S256x128 .bf16 :=
  truncf .bf16 (subf (mulf (extractStridedSlice S256x128 ![16, 0] a slices_S272x128_o16_0_S256x128 : FVec Ideal S256x128 .f32) (broadcastTo S256x128 inv broadcasts_S256x1_S256x128))
    (extractStridedSlice S256x128 ![0, 384] xp slices_S256x512_o0_384_S256x128)) bitsLt_bf16_f32
theorem less3_apply (xp : V S256x512 .f32) (inv : V S256x1 .f32) (a : V S272x128 .f32) (r : Fin 256) (x : Fin 128) :
    less3 xp inv a (ix2 r x) = a (ix2 ⟨16 + r.val, by omega⟩ x) * inv (ix2 r 0) - xp (ix2 r ⟨384 + x.val, by omega⟩) := by
  pointwise [less3]
theorem pool3_eq (ha : Vec Ideal S1x16x512 .f32) (xp : V S256x512 .f32) (inv : V S256x1 .f32) :
    pool3 ha xp inv = less3 xp inv (rot8 (rot4 (rot2 (rot1 (grp3 (ext ha xp)))))) := rfl

variable {A : Args} {b : Fin 8} {T : ℕ} {hT : T + 256 ≤ 4096} {I : Ins Ideal}

theorem half_left (R : TileIn A b T hT I) (r : Fin 256) (j : Fin 1024) :
    half I.x I.wl (ix2 r j) = pr A b ⟨T + r.val, by omega⟩ ⟨j.val, by omega⟩ := by
  rw [half_apply]
  unfold pr
  simp only [R.x, R.wl]

theorem half_right (R : TileIn A b T hT I) (r : Fin 256) (j : Fin 1024) :
    half I.x I.wr (ix2 r j) = pr A b ⟨T + r.val, by omega⟩ ⟨1536 + j.val, by omega⟩ := by
  rw [half_apply]
  unfold pr
  simp only [R.x, R.wr]

theorem g_at (R : TileIn A b T hT I) (r : Fin 256) (hd : Fin 4) (j : Fin 128) :
    cutH hd I.g (ix2 r j) = gS A b ⟨T + r.val, by omega⟩ hd j := by
  rw [cutH_apply]
  unfold Ins.g gS
  rw [cols1_apply, half_right R]
  exact congrArg (fun c => pr A b ⟨T + r.val, by omega⟩ c) (Fin.ext (by show 1536 + (512 + (128 * hd.val + j.val)) = 2048 + 128 * hd.val + j.val; omega))

theorem xp_real (hA : A.Finite) (R : TileIn A b T hT I) (r : Fin 256) (j : Fin 512) : I.xp (ix2 r j) = ((xR A b (T + r.val) j : ℝ) : EReal) := by
  unfold Ins.xp xR
  rw [cols0_apply, half_left R, pr_real hA]

theorem v_real (hA : A.Finite) (R : TileIn A b T hT I) (r : Fin 256) (j : Fin 512) : I.v (ix2 r j) = ((vR A b (T + r.val) j : ℝ) : EReal) := by
  unfold Ins.v vR
  rw [cols0_apply, half_right R, pr_real hA]

theorem q_real (hA : A.Finite) (R : TileIn A b T hT I) (r : Fin 256) (j : Fin 512) : I.q (ix2 r j) = ((qR A b (T + r.val) j : ℝ) : EReal) := by
  unfold Ins.q Ins.q0 qR
  rw [queryOf_apply, cols1_apply, half_left R, pr_real hA, Ideal.logistic_coe, ← EReal.coe_mul]

theorem f_real (hA : A.Finite) (R : TileIn A b T hT I) (r : Fin 256) (j : Fin 512) : I.f (ix2 r j) = ((fR A b (T + r.val) j : ℝ) : EReal) := by
  unfold Ins.f fR
  rw [forget_apply, R.lb, R.fp, pr_real hA, Ideal.logistic_coe, ← EReal.coe_one, ← EReal.coe_sub, ← EReal.coe_mul, ← EReal.coe_add]

theorem k_real (hA : A.Finite) (R : TileIn A b T hT I) (r : Fin 256) (j : Fin 512) : I.k (ix2 r j) = ((kR A b (T + r.val) j : ℝ) : EReal) := by
  unfold Ins.k kR
  rw [keyOf_apply, f_real hA R, ← EReal.coe_one, ← EReal.coe_sub]

theorem log_real (hA : A.Finite) (R : TileIn A b T hT I) (r : Fin 256) (j : Fin 512) :
    log I.f (ix2 r j) = ((lR A b (T + (r.val + 1)) j - lR A b (T + r.val) j : ℝ) : EReal) := by
  show Ideal.log (I.f (ix2 r j)) = _
  rw [f_real hA R, Ideal.log_coe, if_neg (not_le.mpr (fR_pos A b _ j)), ← add_assoc, lR_succ]

theorem tile_real (hA : A.Finite) (R : TileIn A b T hT I) : TileReal I T (lR A b) (qR A b) (kR A b) (vR A b) where
  H := {
    hf := fun r j => by
      rw [f_real hA R]
      show _ = ((Real.exp (lR A b (T + (r.val + 1)) j - lR A b (T + r.val) j) : ℝ) : EReal)
      rw [← add_assoc, lR_succ, Real.exp_log (fR_pos A b _ j)]
    hb := fun r j => csum_real _ (fun n => lR A b (T + n) j) j (fun r => log_real hA R r j) r
    hq := q_real hA R
    hk := k_real hA R }
  hv := v_real hA R
  hs := R.st

theorem mod_back (n k : ℕ) (h : n < 272) (hk : k ≤ n) : (n + 272 - k) % 272 = n - k := by omega

theorem ext_real (hA : A.Finite) (R : TileIn A b T hT I) (n : ℕ) (hn : n < 272) (c : Fin 512) :
    (if h : n < 16 then I.ha (ix3 0 ⟨n, h⟩ c) else I.xp (ix2 ⟨n - 16, by omega⟩ c)) = ((xq A b (T + n) c : ℝ) : EReal) := by
  by_cases h : n < 16
  · rw [dif_pos h, R.ha]
  · rw [dif_neg h, xp_real hA R]
    unfold xq
    rw [if_pos (by omega)]
    show ((xR A b (T + (n - 16)) c : ℝ) : EReal) = _
    rw [show T + (n - 16) = T + n - 16 by omega]

theorem mean_of (w : ℕ) (hw : w ≤ 16) (t : ℕ) (j : Fin 512) :
    mR A w b t j = (∑ k ∈ Finset.range w, xq A b (t + 16 - k) j) / (min (t + 1) w : ℕ) - xR A b t j := by
  unfold mR
  congr 2
  refine Finset.sum_congr rfl fun k hk => ?_
  rw [Finset.mem_range] at hk
  unfold xq
  by_cases h : k ≤ t
  · rw [if_pos h, if_pos (by omega), show t + 16 - k - 16 = t - k by omega]
  · rw [if_neg h, if_neg (by omega)]

theorem pool0_real (hA : A.Finite) (R : TileIn A b T hT I) (r : Fin 256) (x : Fin 128) :
    pool0 I.ha I.xp I.i0 (ix2 r x) = ((mR A 2 b (T + r.val) ⟨x.val, by omega⟩ : ℝ) : EReal) := by
  have hr := r.isLt
  let f : ℕ → ℝ := fun n => xq A b (T + n) ⟨x.val, by omega⟩
  have hb : ∀ n : Fin 272, grp0 (ext I.ha I.xp) (ix2 n x) = ((∑ k ∈ Finset.range 1, f (n.val - k) : ℝ) : EReal) := by
    intro n
    rw [grp0_apply, ext_apply, ext_real hA R n.val n.isLt, Finset.sum_range_one]
    rfl
  have h1 := rot_real 1 0 _ _ x f (rot1_apply (grp0 (ext I.ha I.xp)) x) (fun n _ => hb n) (by decide)
  rw [pool0_eq, less0_apply, R.i0, xp_real hA R, h1 ⟨16 + r.val, by omega⟩ (by show 1 ≤ 16 + r.val; omega), ← EReal.coe_mul, ← EReal.coe_sub]
  refine congrArg Real.toEReal ?_
  rw [mean_of 2 (by omega), mul_one_div]
  refine congrArg (fun v : ℝ => v / (min (T + r.val + 1) 2 : ℕ) - xR A b (T + r.val) ⟨x.val, by omega⟩) ?_
  refine Finset.sum_congr rfl fun k hk => ?_
  have hk := Finset.mem_range.mp hk
  show xq A b (T + (16 + r.val - k)) _ = _
  rw [show T + (16 + r.val - k) = T + r.val + 16 - k by omega]

theorem pool1_real (hA : A.Finite) (R : TileIn A b T hT I) (r : Fin 256) (x : Fin 128) :
    pool1 I.ha I.xp I.i1 (ix2 r x) = ((mR A 4 b (T + r.val) ⟨128 + x.val, by omega⟩ : ℝ) : EReal) := by
  have hr := r.isLt
  let f : ℕ → ℝ := fun n => xq A b (T + n) ⟨128 + x.val, by omega⟩
  have hb : ∀ n : Fin 272, grp1 (ext I.ha I.xp) (ix2 n x) = ((∑ k ∈ Finset.range 1, f (n.val - k) : ℝ) : EReal) := by
    intro n
    rw [grp1_apply, ext_apply, ext_real hA R n.val n.isLt, Finset.sum_range_one]
    rfl
  have h1 := rot_real 1 0 _ _ x f (rot1_apply (grp1 (ext I.ha I.xp)) x) (fun n _ => hb n) (by decide)
  have h2 := rot_real 2 1 _ _ x f (rot2_apply (rot1 (grp1 (ext I.ha I.xp))) x) (h1) (by decide)
  rw [pool1_eq, less1_apply, R.i1, xp_real hA R, h2 ⟨16 + r.val, by omega⟩ (by show 3 ≤ 16 + r.val; omega), ← EReal.coe_mul, ← EReal.coe_sub]
  refine congrArg Real.toEReal ?_
  rw [mean_of 4 (by omega), mul_one_div]
  refine congrArg (fun v : ℝ => v / (min (T + r.val + 1) 4 : ℕ) - xR A b (T + r.val) ⟨128 + x.val, by omega⟩) ?_
  refine Finset.sum_congr rfl fun k hk => ?_
  have hk := Finset.mem_range.mp hk
  show xq A b (T + (16 + r.val - k)) _ = _
  rw [show T + (16 + r.val - k) = T + r.val + 16 - k by omega]

theorem pool2_real (hA : A.Finite) (R : TileIn A b T hT I) (r : Fin 256) (x : Fin 128) :
    pool2 I.ha I.xp I.i2 (ix2 r x) = ((mR A 8 b (T + r.val) ⟨256 + x.val, by omega⟩ : ℝ) : EReal) := by
  have hr := r.isLt
  let f : ℕ → ℝ := fun n => xq A b (T + n) ⟨256 + x.val, by omega⟩
  have hb : ∀ n : Fin 272, grp2 (ext I.ha I.xp) (ix2 n x) = ((∑ k ∈ Finset.range 1, f (n.val - k) : ℝ) : EReal) := by
    intro n
    rw [grp2_apply, ext_apply, ext_real hA R n.val n.isLt, Finset.sum_range_one]
    rfl
  have h1 := rot_real 1 0 _ _ x f (rot1_apply (grp2 (ext I.ha I.xp)) x) (fun n _ => hb n) (by decide)
  have h2 := rot_real 2 1 _ _ x f (rot2_apply (rot1 (grp2 (ext I.ha I.xp))) x) (h1) (by decide)
  have h4 := rot_real 4 3 _ _ x f (rot4_apply (rot2 (rot1 (grp2 (ext I.ha I.xp)))) x) (h2) (by decide)
  rw [pool2_eq, less2_apply, R.i2, xp_real hA R, h4 ⟨16 + r.val, by omega⟩ (by show 7 ≤ 16 + r.val; omega), ← EReal.coe_mul, ← EReal.coe_sub]
  refine congrArg Real.toEReal ?_
  rw [mean_of 8 (by omega), mul_one_div]
  refine congrArg (fun v : ℝ => v / (min (T + r.val + 1) 8 : ℕ) - xR A b (T + r.val) ⟨256 + x.val, by omega⟩) ?_
  refine Finset.sum_congr rfl fun k hk => ?_
  have hk := Finset.mem_range.mp hk
  show xq A b (T + (16 + r.val - k)) _ = _
  rw [show T + (16 + r.val - k) = T + r.val + 16 - k by omega]

theorem pool3_real (hA : A.Finite) (R : TileIn A b T hT I) (r : Fin 256) (x : Fin 128) :
    pool3 I.ha I.xp I.i3 (ix2 r x) = ((mR A 16 b (T + r.val) ⟨384 + x.val, by omega⟩ : ℝ) : EReal) := by
  have hr := r.isLt
  let f : ℕ → ℝ := fun n => xq A b (T + n) ⟨384 + x.val, by omega⟩
  have hb : ∀ n : Fin 272, grp3 (ext I.ha I.xp) (ix2 n x) = ((∑ k ∈ Finset.range 1, f (n.val - k) : ℝ) : EReal) := by
    intro n
    rw [grp3_apply, ext_apply, ext_real hA R n.val n.isLt, Finset.sum_range_one]
    rfl
  have h1 := rot_real 1 0 _ _ x f (rot1_apply (grp3 (ext I.ha I.xp)) x) (fun n _ => hb n) (by decide)
  have h2 := rot_real 2 1 _ _ x f (rot2_apply (rot1 (grp3 (ext I.ha I.xp))) x) (h1) (by decide)
  have h4 := rot_real 4 3 _ _ x f (rot4_apply (rot2 (rot1 (grp3 (ext I.ha I.xp)))) x) (h2) (by decide)
  have h8 := rot_real 8 7 _ _ x f (rot8_apply (rot4 (rot2 (rot1 (grp3 (ext I.ha I.xp))))) x) (h4) (by decide)
  rw [pool3_eq, less3_apply, R.i3, xp_real hA R, h8 ⟨16 + r.val, by omega⟩ (by show 15 ≤ 16 + r.val; omega), ← EReal.coe_mul, ← EReal.coe_sub]
  refine congrArg Real.toEReal ?_
  rw [mean_of 16 (by omega), mul_one_div]
  refine congrArg (fun v : ℝ => v / (min (T + r.val + 1) 16 : ℕ) - xR A b (T + r.val) ⟨384 + x.val, by omega⟩) ?_
  refine Finset.sum_congr rfl fun k hk => ?_
  have hk := Finset.mem_range.mp hk
  show xq A b (T + (16 + r.val - k)) _ = _
  rw [show T + (16 + r.val - k) = T + r.val + 16 - k by omega]

theorem ya_at (hA : A.Finite) (R : TileIn A b T hT I) (r : Fin 256) (j : Fin 512) : I.ya (ix2 r j) = yS A b ⟨T + r.val, by omega⟩ j := by
  have slot : ∀ (g g' : Fin 4) (x y y' : Fin 128), g.val = g'.val → y.val = y'.val → A.pw (ix4 0 g x y) = A.pw (ix4 0 g' x y') := by
    intro g g' x y y' hg hy
    obtain rfl := Fin.ext hg; obtain rfl := Fin.ext hy; rfl
  have mean : ∀ (w w' t : ℕ) (j j' : Fin 512), w = w' → j.val = j'.val → mR A w b t j = mR A w' b t j' := by
    intro w w' t j j' hw hj
    obtain rfl := hw; obtain rfl := Fin.ext hj; rfl
  unfold Ins.ya yS
  pointwise [poolOut]
  rw [R.ps]
  congr 1
  simp only [pool0_real hA R, pool1_real hA R, pool2_real hA R, pool3_real hA R, R.w0, R.w1, R.w2, R.w3]
  by_cases h0 : j.val < 128
  · rw [dif_pos h0]
    refine Finset.sum_congr rfl fun x _ => congrArg₂ (fun a c : EReal => a * c) (congrArg Real.toEReal (mean _ _ _ _ _ ?_ ?_)) (slot _ _ x _ _ (by show (0 : ℕ) = j.val / 128; omega) (by show j.val = j.val % 128; omega))
    · rw [show j.val / 128 = 0 by omega]
      norm_num
    · show x.val = 128 * (j.val / 128) + x.val
      omega
  rw [dif_neg h0]
  by_cases h1 : j.val < 256
  · rw [dif_pos (by omega)]
    refine Finset.sum_congr rfl fun x _ => congrArg₂ (fun a c : EReal => a * c) (congrArg Real.toEReal (mean _ _ _ _ _ ?_ ?_)) (slot _ _ x _ _ (by show (1 : ℕ) = j.val / 128; omega) (by show j.val - 128 = j.val % 128; omega))
    · rw [show j.val / 128 = 1 by omega]
      norm_num
    · show 128 + x.val = 128 * (j.val / 128) + x.val
      omega
  rw [dif_neg (by omega)]
  by_cases h2 : j.val < 384
  · rw [dif_pos (by omega)]
    refine Finset.sum_congr rfl fun x _ => congrArg₂ (fun a c : EReal => a * c) (congrArg Real.toEReal (mean _ _ _ _ _ ?_ ?_)) (slot _ _ x _ _ (by show (2 : ℕ) = j.val / 128; omega) (by show j.val - 128 - 128 = j.val % 128; omega))
    · rw [show j.val / 128 = 2 by omega]
      norm_num
    · show 256 + x.val = 128 * (j.val / 128) + x.val
      omega
  · rw [dif_neg (by omega)]
    refine Finset.sum_congr rfl fun x _ => congrArg₂ (fun a c : EReal => a * c) (congrArg Real.toEReal (mean _ _ _ _ _ ?_ ?_)) (slot _ _ x _ _ (by show (3 : ℕ) = j.val / 128; omega) (by show j.val - 128 - 128 - 128 = j.val % 128; omega))
    · rw [show j.val / 128 = 3 by omega]
      norm_num
    · show 384 + x.val = 128 * (j.val / 128) + x.val
      omega

/-- The tile's result, from its heads' outputs. -/
theorem out_at (hA : A.Finite) (R : TileIn A b T hT I) (o : Fin 4 → V S256x128 .f32)
    (ho : ∀ (hd : Fin 4) (r : Fin 256) (e : Fin 128), o hd (ix2 r e) = oS A b ⟨T + r.val, by omega⟩ hd e) (r : Fin 256) (d : Fin 1024) :
    I.out o (ix3 0 r d) = rS A b ⟨T + r.val, by omega⟩ d := by
  have hg : ∀ (hd : Fin 4) (r : Fin 256) (e : Fin 128), gated (o hd) I.gn (cutH hd I.g) (ix2 r e) = hS A b ⟨T + r.val, by omega⟩ hd e := by
    intro hd r e
    rw [gated_apply, g_at R, R.gn]
    simp only [ho]
    rfl
  have hS' : ∀ (t : Fin 4096) (hd hd' : Fin 4) (e e' : Fin 128), hd.val = hd'.val → e.val = e'.val → hS A b t hd e = hS A b t hd' e' := by
    intro t hd hd' e e' h1 h2
    obtain rfl := Fin.ext h1; obtain rfl := Fin.ext h2; rfl
  have hc : ∀ (x : Fin 1024), (if h : x.val < 512 then I.ya (ix2 r ⟨x.val, h⟩)
      else if h : x.val - 512 < 128 then gated (o 0) I.gn (cutH 0 I.g) (ix2 r ⟨x.val - 512, h⟩)
      else if h : x.val - 512 - 128 < 128 then gated (o 1) I.gn (cutH 1 I.g) (ix2 r ⟨x.val - 512 - 128, h⟩)
      else if h : x.val - 512 - 128 - 128 < 128 then gated (o 2) I.gn (cutH 2 I.g) (ix2 r ⟨x.val - 512 - 128 - 128, h⟩)
      else gated (o 3) I.gn (cutH 3 I.g) (ix2 r ⟨x.val - 512 - 128 - 128 - 128, by omega⟩)) = cS A b ⟨T + r.val, by omega⟩ x := by
    intro x
    unfold cS
    by_cases h : x.val < 512
    · rw [dif_pos h, dif_pos h, ya_at hA R]
    rw [dif_neg h, dif_neg h]
    by_cases h1 : x.val - 512 < 128
    · rw [dif_pos h1, hg]
      exact hS' _ _ _ _ _ (by show (0 : ℕ) = (x.val - 512) / 128; omega) (by show x.val - 512 = (x.val - 512) % 128; omega)
    rw [dif_neg h1]
    by_cases h2 : x.val - 512 - 128 < 128
    · rw [dif_pos h2, hg]
      exact hS' _ _ _ _ _ (by show (1 : ℕ) = (x.val - 512) / 128; omega) (by show x.val - 512 - 128 = (x.val - 512) % 128; omega)
    rw [dif_neg h2]
    by_cases h3 : x.val - 512 - 128 - 128 < 128
    · rw [dif_pos h3, hg]
      exact hS' _ _ _ _ _ (by show (2 : ℕ) = (x.val - 512) / 128; omega) (by show x.val - 512 - 128 - 128 = (x.val - 512) % 128; omega)
    rw [dif_neg h3, hg]
    exact hS' _ _ _ _ _ (by show (3 : ℕ) = (x.val - 512) / 128; omega) (by show x.val - 512 - 128 - 128 - 128 = (x.val - 512) % 128; omega)
  unfold Ins.out rS normS centS meanS
  pointwise [layer]
  simp only [hc, R.x, R.wo, R.ga, R.be]
  rfl

end Cert.Kernel2Ideal.Mix

end
-- ==== Proof.Mix.InsAt.lean ====
/- What a grid point's tiles load, once its buffers hold what the specification says. -/
module

public import proofs.«01_k».proof.Proof.Mix.First
public import proofs.«01_k».proof.Proof.Mix.Tile

@[expose] public section

set_option maxRecDepth 16384

noncomputable section

namespace Cert.Kernel2Ideal.Mix

open Idealize.ShloMosaic Idealize.ShloMosaic.TcCoe
open Cert.Kernel2Ideal Cert.Kernel2Ideal.Gen

/-- The sequence a point's `s`-th tile belongs to. -/
def bat (p : Fin 4) (s : Fin 2) : Fin 8 := ⟨2 * p.val + s.val, by omega⟩

/-- A step of a tile. -/
def stp (n : Fin 16) (r : Fin 256) : Fin 4096 := ⟨256 * n.val + r.val, by omega⟩

theorem tile_le (n : Fin 16) : 256 * n.val + 256 ≤ 4096 := by omega

theorem fits (T : ℕ) (h : T + 256 ≤ 4096) (r : Fin 256) : T + r.val < 4096 := by omega

/-- An array of three or four axes from its entries. -/
def of3 {a b c : ℕ} (f : Fin a → Fin b → Fin c → EReal) : Shape.Idx ⟨3, ![a, b, c]⟩ → EReal := fun y => f (y 0) (y 1) (y 2)
def of4 {a b c d : ℕ} (f : Fin a → Fin b → Fin c → Fin d → EReal) : Shape.Idx ⟨4, ![a, b, c, d]⟩ → EReal := fun y => f (y 0) (y 1) (y 2) (y 3)

/-- The gate columns, the states and the last rows as a tile of a pair of sequences finds them, and the tile's result. -/
def fpS (A : Args) (p : Fin 4) (n : Fin 16) : Vec Ideal S2x256x512 .f32 :=
  of3 fun s r j => pr A (bat p s) (stp n r) ⟨1024 + j.val, by omega⟩
def stS (A : Args) (p : Fin 4) (T : ℕ) : Vec Ideal S2x4x128x128 .f32 :=
  of4 fun s hd e d => ((ST (lR A (bat p s)) (kR A (bat p s)) (vR A (bat p s)) T hd e d : ℝ) : EReal)
def haS (A : Args) (p : Fin 4) (T : ℕ) : Vec Ideal S2x16x512 .f32 :=
  of3 fun s r j => ((xq A (bat p s) (T + r.val) j : ℝ) : EReal)
def outS (A : Args) (p : Fin 4) (n : Fin 16) : Vec Ideal S2x256x1024 .f32 :=
  of3 fun s r d => rS A (bat p s) (stp n r) d

theorem toIntSmall (n : ℕ) (h : n < 2 ^ 31) : (BitVec.ofNat 32 n).toInt = (n : ℤ) := by
  rw [BitVec.toInt_eq_toNat_of_lt] <;> rw [BitVec.toNat_ofNat] <;> omega

/-- The step's number, counted from one. -/
theorem stepNo (n : Fin 16) (r : Fin 256) :
    ((BitVec.ofNat 32 r.val + BitVec.ofNat 32 n.val * 256#32) + 1#32 : BitVec 32).toInt = ((256 * n.val + r.val + 1 : ℕ) : ℤ) := by
  rw [show (256#32 : BitVec 32) = BitVec.ofNat 32 256 from rfl, show (1#32 : BitVec 32) = BitVec.ofNat 32 1 from rfl, ← BitVec.ofNat_mul, ← BitVec.ofNat_add, ← BitVec.ofNat_add, toIntSmall _ (by omega)]
  congr 1; ring

/-- The reciprocal of the number of rows a trailing mean takes. -/
theorem recip (m w : ℕ) (c : EReal) (hc : c = ((w : ℝ) : EReal)) (hw : 0 < w) (hm : 0 < m) :
    Ideal.div 1 (min (((m : ℤ) : ℝ) : EReal) c) = ((1 / (min m w : ℕ) : ℝ) : EReal) := by
  have h : min (((m : ℤ) : ℝ) : EReal) c = (((min m w : ℕ) : ℝ) : EReal) := by
    rw [hc, Int.cast_natCast, Nat.cast_min, EReal.coe_strictMono.monotone.map_min]
  have h0 : (((min m w : ℕ) : ℝ)) ≠ 0 := Nat.cast_ne_zero.mpr (by omega)
  rw [h, ← EReal.coe_one, Ideal.div_coe h0, ← EReal.coe_mul]
  congr 1
  rw [one_mul]

variable (i : grid0.Coords)

theorem rec0 (r : Fin 256) (z : Fin 1) : k0_pay1059 (F := Ideal) i (ix2 r z) = ((1 / (min (256 * (i 1).val + r.val + 1) 2 : ℕ) : ℝ) : EReal) := by
  obtain rfl : z = 0 := Subsingleton.elim _ _
  rw [← recip (256 * (i 1).val + r.val + 1) 2 (Ideal.ofBits FTy.f32 1073741824#32) (by simp [Ideal.ofBits, Ideal.ieee]; rw [← EReal.coe_mul]; norm_num) (by omega) (by omega), ← stepNo (i 1) r]
  pointwise [k0_pay1059, k0_pay1058]
  rfl

theorem rec1 (r : Fin 256) (z : Fin 1) : k0_pay1060 (F := Ideal) i (ix2 r z) = ((1 / (min (256 * (i 1).val + r.val + 1) 4 : ℕ) : ℝ) : EReal) := by
  obtain rfl : z = 0 := Subsingleton.elim _ _
  rw [← recip (256 * (i 1).val + r.val + 1) 4 (Ideal.ofBits FTy.f32 1082130432#32) (by simp [Ideal.ofBits, Ideal.ieee]; rw [← EReal.coe_mul]; norm_num) (by omega) (by omega), ← stepNo (i 1) r]
  pointwise [k0_pay1060, k0_pay1058]
  rfl

theorem rec2 (r : Fin 256) (z : Fin 1) : k0_pay1061 (F := Ideal) i (ix2 r z) = ((1 / (min (256 * (i 1).val + r.val + 1) 8 : ℕ) : ℝ) : EReal) := by
  obtain rfl : z = 0 := Subsingleton.elim _ _
  rw [← recip (256 * (i 1).val + r.val + 1) 8 (Ideal.ofBits FTy.f32 1090519040#32) (by simp [Ideal.ofBits, Ideal.ieee]; rw [← EReal.coe_mul]; norm_num) (by omega) (by omega), ← stepNo (i 1) r]
  pointwise [k0_pay1061, k0_pay1058]
  rfl

theorem rec3 (r : Fin 256) (z : Fin 1) : k0_pay1062 (F := Ideal) i (ix2 r z) = ((1 / (min (256 * (i 1).val + r.val + 1) 16 : ℕ) : ℝ) : EReal) := by
  obtain rfl : z = 0 := Subsingleton.elim _ _
  rw [← recip (256 * (i 1).val + r.val + 1) 16 (Ideal.ofBits FTy.f32 1098907648#32) (by simp [Ideal.ofBits, Ideal.ieee]; rw [← EReal.coe_mul]; norm_num) (by omega) (by omega), ← stepNo (i 1) r]
  pointwise [k0_pay1062, k0_pay1058]
  rfl

theorem foldMax2 (a : Fin 2 → EReal) (r : Fin 2 → ℝ) (h : ∀ z, a z = (r z : EReal)) :
    Finset.fold max (Ideal.ofBits FTy.f32 4286578688#32) a Finset.univ = ((max (r 0) (r 1) : ℝ) : EReal) := by
  rw [show (Finset.univ : Finset (Fin 2)) = {0, 1} from rfl, Finset.fold_insert (by decide), Finset.fold_singleton, h, h,
    show Ideal.ofBits FTy.f32 4286578688#32 = (⊥ : EReal) by simp [Ideal.ofBits, Ideal.ieee], max_bot_right,
    EReal.coe_strictMono.monotone.map_max]

theorem lb_real (A : Args) (hA : A.Finite) (v : Vec Ideal S2x512 .f32) (hv : ∀ (z : Fin 2) (j : Fin 512), v (ix2 z j) = A.lb (ix2 z j)) (j : Fin 512) :
    k0_pay1057 (F := Ideal) v (ix2 0 j) = ((lbR A j : ℝ) : EReal) := by
  have hr : ∀ z : Fin 2, v (ix2 z j) = (((A.lb (ix2 z j)).toReal : ℝ) : EReal) := fun z => by
    obtain ⟨r, hr⟩ := hA.lb (ix2 z j)
    rw [hv, hr, EReal.toReal_coe]
  pointwise [k0_pay1057]
  rw [foldMax2 _ _ hr, Fin.sum_univ_two, hr 0, hr 1, ← EReal.coe_sub, ← EReal.coe_sub, Ideal.exp_coe, Ideal.exp_coe, ← EReal.coe_add, Ideal.div_coe (by positivity), ← EReal.coe_mul]
  unfold lbR
  congr 1
  rw [mul_one_div]

end Cert.Kernel2Ideal.Mix

end
-- ==== Proof.Mix.Ready.lean ====
/- A grid point's tiles load what the specification says, and its stores read back as stored. -/
module

public import proofs.«01_k».proof.Proof.Mix.InsAt
public import Idealize.ShloMosaic.Lib.WholeRead

@[expose] public section

set_option maxRecDepth 16384

noncomputable section

namespace Cert.Kernel2Ideal.Mix

open Idealize.ShloMosaic Idealize.ShloMosaic.TcCoe
open Cert.Kernel2Ideal Cert.Kernel2Ideal.Gen

/-- What the windows of a point hold. -/
structure Blocks (A : Args) (p : Fin 4) (n : Fin 16) (x0 : Vec Ideal S2x256x1024 .f32) (x2 : Vec Ideal S1024x2560 .bf16) (x3 : Vec Ideal S4x128x128 .bf16)
    (x4 : Vec Ideal S1x512 .f32) (x5 : Vec Ideal S2x512 .f32) (x6 : Vec Ideal S1x128 .f32) (x7 : Vec Ideal S1024x1024 .bf16) (x8 : Vec Ideal S1x1024 .f32) (x9 : Vec Ideal S1x1024 .f32) : Prop where
  x : ∀ (s : Fin 2) (r : Fin 256) (k : Fin 1024), x0 (ix3 s r k) = A.x (ix3 (bat p s) (stp n r) k)
  win : ∀ (k : Fin 1024) (c : Fin 2560), x2 (ix2 k c) = A.win (ix3 0 k c)
  pw : ∀ (g : Fin 4) (x y : Fin 128), x3 (ix3 g x y) = A.pw (ix4 0 g x y)
  ps : ∀ (j : Fin 512), x4 (ix2 0 j) = A.ps (ix2 0 j)
  lb : ∀ (z : Fin 2) (j : Fin 512), x5 (ix2 z j) = A.lb (ix2 z j)
  gn : ∀ (j : Fin 128), x6 (ix2 0 j) = A.gn (ix2 0 j)
  wo : ∀ (c d : Fin 1024), x7 (ix2 c d) = A.wo (ix3 0 c d)
  ga : ∀ (d : Fin 1024), x8 (ix2 0 d) = A.ga (ix2 0 d)
  be : ∀ (d : Fin 1024), x9 (ix2 0 d) = A.be (ix2 0 d)

theorem readU {s : Shape} {e : EltTy} {m : Memref sig .tc .vmem s e} (h : m.IsWhole) (X : Vec Ideal s e) {o size : Fin s.rank → ℕ} (inb : ∀ a, o a + size a ≤ s.size a)
    (x : (Rect.unit (s := s) o size inb).toLoadRect.shape.Idx) (x' : s.Idx) (hx : ∀ k, (x' k).val = o k + (x k).val) :
    View.readAt (Elt Ideal) m.view (Rect.unit (s := s) o size inb).toLoadRect (h.unread X) x = X x' := by
  rw [Memref.IsWhole.readAt_unread]
  refine congrArg X (funext fun k => Fin.ext ?_)
  show o k + 1 * (x k).val = (x' k).val
  rw [one_mul, hx]

variable (A : Args) (i : grid0.Coords)  (arg2 : Memref sig .tc .vmem S2x256x1024 .f32) (harg2 : arg2.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg13 : Memref sig .tc .vmem S2x256x512 .f32) (harg13 : arg13.IsWhole) (arg15 : Memref sig .tc .vmem S2x4x128x128 .f32) (harg15 : arg15.IsWhole) (arg16 : Memref sig .tc .vmem S2x16x512 .f32) (harg16 : arg16.IsWhole) (x0 : Vec Ideal S2x256x1024 .f32) (x2 : Vec Ideal S1024x2560 .bf16) (x3 : Vec Ideal S4x128x128 .bf16) (x4 : Vec Ideal S1x512 .f32) (x7 : Vec Ideal S1024x1024 .bf16) (x8 : Vec Ideal S1x1024 .f32) (x9 : Vec Ideal S1x1024 .f32)  (arg7 : Memref sig .tc .vmem S2x512 .f32) (harg7 : arg7.IsWhole) (arg8 : Memref sig .tc .vmem S1x128 .f32) (harg8 : arg8.IsWhole) (x1 : Vec Ideal S2x256x1024 .f32) (x5 : Vec Ideal S2x512 .f32) (x6 : Vec Ideal S1x128 .f32)

/-- The loads of a point's `s`-th tile. -/
abbrev insOf (s : Fin 2) : Ins Ideal := insAt arg2 harg2 arg4 harg4 arg5 harg5 arg6 harg6 arg9 harg9 arg10 harg10 arg11 harg11 arg13 harg13 arg15 harg15 arg16 harg16 (lbAt arg7 harg7 x5) (k0_pay1059 (F := Ideal) i) (k0_pay1060 (F := Ideal) i) (k0_pay1061 (F := Ideal) i) (k0_pay1062 (F := Ideal) i) (gnAt arg8 harg8 x6) x0 x2 x3 x4 x7 x8 x9 (fpS A (i 0) (i 1)) (stS A (i 0) (256 * (i 1).val)) (haS A (i 0) (256 * (i 1).val)) s.val s.isLt

set_option maxHeartbeats 1600000 in
theorem tileIn (hA : A.Finite) (B : Blocks A (i 0) (i 1) x0 x2 x3 x4 x5 x6 x7 x8 x9) (s : Fin 2) :
    TileIn A (bat (i 0) s) (256 * (i 1).val) (tile_le (i 1)) (insOf A i arg2 harg2 arg4 harg4 arg5 harg5 arg6 harg6 arg9 harg9 arg10 harg10 arg11 harg11 arg13 harg13 arg15 harg15 arg16 harg16 x0 x2 x3 x4 x7 x8 x9 arg7 harg7 arg8 harg8 x5 x6 s) where
  x := fun r k => (readU harg2 x0 (inbTile s.val s.isLt) (ix3 0 r k : S1x256x1024.Idx) (ix3 s r k) (fun k => match k with | ⟨0, _⟩ => by exact (Nat.add_zero _).symm | ⟨1, _⟩ => by exact (Nat.zero_add _).symm | ⟨2, _⟩ => by exact (Nat.zero_add _).symm)).trans (B.x s r k)
  wl := fun k j => (readU harg4 x2 inb_S1024x2560_S1024x1024_0_0 (ix2 k j : S1024x1024.Idx) (ix2 k ⟨j.val, by omega⟩) (fun k => match k with | ⟨0, _⟩ => by exact (Nat.zero_add _).symm | ⟨1, _⟩ => by exact (Nat.zero_add _).symm)).trans (B.win k _)
  wr := fun k j => (readU harg4 x2 inb_S1024x2560_S1024x1024_0_1536 (ix2 k j : S1024x1024.Idx) (ix2 k ⟨1536 + j.val, by omega⟩) (fun k => match k with | ⟨0, _⟩ => by exact (Nat.zero_add _).symm | ⟨1, _⟩ => by rfl)).trans (B.win k _)
  fp := fun r j => readU harg13 (fpS A (i 0) (i 1)) (inbFp s.val s.isLt) (ix3 0 r j : S1x256x512.Idx) (ix3 s r j) (fun k => match k with | ⟨0, _⟩ => by exact (Nat.add_zero _).symm | ⟨1, _⟩ => by exact (Nat.zero_add _).symm | ⟨2, _⟩ => by exact (Nat.zero_add _).symm)
  ha := fun r j => readU harg16 (haS A (i 0) (256 * (i 1).val)) (inbHa s.val s.isLt) (ix3 0 r j : S1x16x512.Idx) (ix3 s r j) (fun k => match k with | ⟨0, _⟩ => by exact (Nat.add_zero _).symm | ⟨1, _⟩ => by exact (Nat.zero_add _).symm | ⟨2, _⟩ => by exact (Nat.zero_add _).symm)
  i0 := rec0 i
  i1 := rec1 i
  i2 := rec2 i
  i3 := rec3 i
  lb := lb_real A hA _ fun z j => (readU harg7 x5 inb_S2x512_S2x512_0_0 (ix2 z j : S2x512.Idx) (ix2 z j) (fun k => match k with | ⟨0, _⟩ => by exact (Nat.zero_add _).symm | ⟨1, _⟩ => by exact (Nat.zero_add _).symm)).trans (B.lb z j)
  w0 := fun x y => (readU harg5 x3 inb_S4x128x128_S1x128x128_0_0_0 (ix3 0 x y : S1x128x128.Idx) (ix3 0 x y) (fun k => match k with | ⟨0, _⟩ => by rfl | ⟨1, _⟩ => by exact (Nat.zero_add _).symm | ⟨2, _⟩ => by exact (Nat.zero_add _).symm)).trans (B.pw 0 x y)
  w1 := fun x y => (readU harg5 x3 inb_S4x128x128_S1x128x128_1_0_0 (ix3 0 x y : S1x128x128.Idx) (ix3 1 x y) (fun k => match k with | ⟨0, _⟩ => by rfl | ⟨1, _⟩ => by exact (Nat.zero_add _).symm | ⟨2, _⟩ => by exact (Nat.zero_add _).symm)).trans (B.pw 1 x y)
  w2 := fun x y => (readU harg5 x3 inb_S4x128x128_S1x128x128_2_0_0 (ix3 0 x y : S1x128x128.Idx) (ix3 2 x y) (fun k => match k with | ⟨0, _⟩ => by rfl | ⟨1, _⟩ => by exact (Nat.zero_add _).symm | ⟨2, _⟩ => by exact (Nat.zero_add _).symm)).trans (B.pw 2 x y)
  w3 := fun x y => (readU harg5 x3 inb_S4x128x128_S1x128x128_3_0_0 (ix3 0 x y : S1x128x128.Idx) (ix3 3 x y) (fun k => match k with | ⟨0, _⟩ => by rfl | ⟨1, _⟩ => by exact (Nat.zero_add _).symm | ⟨2, _⟩ => by exact (Nat.zero_add _).symm)).trans (B.pw 3 x y)
  ps := fun j => (readU harg6 x4 inb_S1x512_S1x512_0_0 (ix2 0 j : S1x512.Idx) (ix2 0 j) (fun k => match k with | ⟨0, _⟩ => by exact (Nat.zero_add _).symm | ⟨1, _⟩ => by exact (Nat.zero_add _).symm)).trans (B.ps j)
  gn := fun j => (readU harg8 x6 inb_S1x128_S1x128_0_0 (ix2 0 j : S1x128.Idx) (ix2 0 j) (fun k => match k with | ⟨0, _⟩ => by exact (Nat.zero_add _).symm | ⟨1, _⟩ => by exact (Nat.zero_add _).symm)).trans (B.gn j)
  st := fun hd e d => readU harg15 (stS A (i 0) (256 * (i 1).val)) (inbSt s.val s.isLt hd) (ix4 0 0 e d : S1x1x128x128.Idx) (ix4 s hd e d) (fun k => match k with | ⟨0, _⟩ => by exact (Nat.add_zero _).symm | ⟨1, _⟩ => by exact (Nat.add_zero _).symm | ⟨2, _⟩ => by exact (Nat.zero_add _).symm | ⟨3, _⟩ => by exact (Nat.zero_add _).symm)
  wo := fun c d => (readU harg9 x7 inb_S1024x1024_S1024x1024_0_0 (ix2 c d : S1024x1024.Idx) (ix2 c d) (fun k => match k with | ⟨0, _⟩ => by exact (Nat.zero_add _).symm | ⟨1, _⟩ => by exact (Nat.zero_add _).symm)).trans (B.wo c d)
  ga := fun d => (readU harg10 x8 inb_S1x1024_S1x1024_0_0 (ix2 0 d : S1x1024.Idx) (ix2 0 d) (fun k => match k with | ⟨0, _⟩ => by exact (Nat.zero_add _).symm | ⟨1, _⟩ => by exact (Nat.zero_add _).symm)).trans (B.ga d)
  be := fun d => (readU harg11 x9 inb_S1x1024_S1x1024_0_0 (ix2 0 d : S1x1024.Idx) (ix2 0 d) (fun k => match k with | ⟨0, _⟩ => by exact (Nat.zero_add _).symm | ⟨1, _⟩ => by exact (Nat.zero_add _).symm)).trans (B.be d)

/-- The gate columns computed from a tile's rows. -/
theorem ahead_real {p : Fin 4} {n : Fin 16} (arg3 : Memref sig .tc .vmem S2x256x1024 .f32) (harg3 : arg3.IsWhole) (hx : ∀ (s : Fin 2) (r : Fin 256) (k : Fin 1024), x1 (ix3 s r k) = A.x (ix3 (bat p s) (stp n r) k))
    (hw : ∀ (k : Fin 1024) (c : Fin 2560), x2 (ix2 k c) = A.win (ix3 0 k c)) (s : Fin 2) (r : Fin 256) (j : Fin 512) :
    aheadAt arg3 harg3 arg4 harg4 x1 x2 s.val s.isLt (ix3 0 r j) = fpS A p n (ix3 s r j) := by
  unfold aheadAt
  rw [ahead_apply]
  show (_ : EReal) = pr A (bat p s) (stp n r) ⟨1024 + j.val, by omega⟩
  unfold pr
  change @Eq EReal _ _
  refine Finset.sum_congr rfl fun k _ => congrArg₂ (fun a b : EReal => a * b) ?_ ?_
  · exact (readU harg3 x1 (inbTile s.val s.isLt) (ix3 0 r k : S1x256x1024.Idx) (ix3 s r k) (fun k => match k with | ⟨0, _⟩ => by exact (Nat.add_zero _).symm | ⟨1, _⟩ => by exact (Nat.zero_add _).symm | ⟨2, _⟩ => by exact (Nat.zero_add _).symm)).trans (hx s r k)
  · exact (readU harg4 x2 inb_S1024x2560_S1024x512_0_1024 (ix2 k j : S1024x512.Idx) (ix2 k ⟨1024 + j.val, by omega⟩) (fun k => match k with | ⟨0, _⟩ => by exact (Nat.zero_add _).symm | ⟨1, _⟩ => by rfl)).trans (hw k _)

theorem first0_real {p : Fin 4} {n : Fin 16} (hx : ∀ (s : Fin 2) (r : Fin 256) (k : Fin 1024), x0 (ix3 s r k) = A.x (ix3 (bat p s) (stp n r) k))
    (hw : ∀ (k : Fin 1024) (c : Fin 2560), x2 (ix2 k c) = A.win (ix3 0 k c)) (r : Fin 256) (j : Fin 512) :
    first0 arg2 harg2 arg4 harg4 x0 x2 (ix3 0 r j) = fpS A p n (ix3 0 r j) := by
  pointwise [first0, k0_pay3]
  show (_ : EReal) = pr A (bat p 0) (stp n r) ⟨1024 + j.val, by omega⟩
  unfold pr
  change @Eq EReal _ _
  refine Finset.sum_congr rfl fun k _ => congrArg₂ (fun a b : EReal => a * b) ?_ ?_
  · exact (readU harg2 x0 inb_S2x256x1024_S1x256x1024_0_0_0 (ix3 0 r k : S1x256x1024.Idx) (ix3 0 r k) (fun k => match k with | ⟨0, _⟩ => by rfl | ⟨1, _⟩ => by exact (Nat.zero_add _).symm | ⟨2, _⟩ => by exact (Nat.zero_add _).symm)).trans (hx 0 r k)
  · exact (readU harg4 x2 inb_S1024x2560_S1024x512_0_1024 (ix2 k j : S1024x512.Idx) (ix2 k ⟨1024 + j.val, by omega⟩) (fun k => match k with | ⟨0, _⟩ => by exact (Nat.zero_add _).symm | ⟨1, _⟩ => by rfl)).trans (hw k _)

theorem first1_real {p : Fin 4} {n : Fin 16} (hx : ∀ (s : Fin 2) (r : Fin 256) (k : Fin 1024), x0 (ix3 s r k) = A.x (ix3 (bat p s) (stp n r) k))
    (hw : ∀ (k : Fin 1024) (c : Fin 2560), x2 (ix2 k c) = A.win (ix3 0 k c)) (r : Fin 256) (j : Fin 512) :
    first1 arg2 harg2 arg4 harg4 x0 x2 (ix3 0 r j) = fpS A p n (ix3 1 r j) := by
  pointwise [first1, k0_pay4]
  show (_ : EReal) = pr A (bat p 1) (stp n r) ⟨1024 + j.val, by omega⟩
  unfold pr
  change @Eq EReal _ _
  refine Finset.sum_congr rfl fun k _ => congrArg₂ (fun a b : EReal => a * b) ?_ ?_
  · exact (readU harg2 x0 inb_S2x256x1024_S1x256x1024_1_0_0 (ix3 0 r k : S1x256x1024.Idx) (ix3 1 r k) (fun k => match k with | ⟨0, _⟩ => by rfl | ⟨1, _⟩ => by exact (Nat.zero_add _).symm | ⟨2, _⟩ => by exact (Nat.zero_add _).symm)).trans (hx 1 r k)
  · exact (readU harg4 x2 inb_S1024x2560_S1024x512_0_1024 (ix2 k j : S1024x512.Idx) (ix2 k ⟨1024 + j.val, by omega⟩) (fun k => match k with | ⟨0, _⟩ => by exact (Nat.zero_add _).symm | ⟨1, _⟩ => by rfl)).trans (hw k _)

end Cert.Kernel2Ideal.Mix

end
-- ==== Proof.Mix.ArmFast.lean ====
/- The mixer's body after its loads, where the forget gate is not too small. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 12000000 in set_option sl_exec.stridedRows true in
/-- The arm taken when the forget gate is not too small: the stores it makes, as lists, and that it runs to its end from any contents of the scratch. -/
noncomputable def armFast (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v442 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    Σ' (L10 : List (View.Piece (Elt F) S2x256x1024 .f32)), Σ' (L11 : List (View.Piece (Elt F) S2x256x512 .f32)), Σ' (L13 : List (View.Piece (Elt F) S2x4x128x128 .f32)), { L14 : List (View.Piece (Elt F) S2x16x512 .f32) //
      ∀ (E : Set ℕ) (K : FVec F S1x512 .f32 → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare fp ∗ (∃ d, owns (c : Thread nD τ) arg14 fullShare d) ∗ owns (c : Thread nD τ) arg15 fullShare st ∗ owns (c : Thread nD τ) arg16 fullShare ha ∗ (∀ r : FVec F S1x512 .f32, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ d, owns (c : Thread nD τ) arg14 fullShare d) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K r))
          ⊢ wp frame (wpE (defs₀ (F := F)) Variants.none c none) E (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v442 v443) K } := by
  refine ⟨?_, ?_, ?_, ?_, fun E K => ?run⟩
  case run =>
    simp only [k0_part48_eq_skeleton]; unfold k0_part48_skel
    simp only [k0_part1_eq_skeleton, k0_part10_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part2_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part3_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part4_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part5_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part6_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part7_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part8_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part9_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg15.eq_unread hf13; obtain rfl := harg16.eq_unread hf14
    sl_exec
    sl_step
    ispecialize Hk $$ %_
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]
    · iexists _, _; isplitr; swap; · iexact H12
      ipureintro; rfl
    isplitl [H13]; · iexists _; iexact H13
    iexists _; iexact H14

end Cert.Kernel2Ideal.Mix

end
-- ==== Proof.Mix.CaseFast.lean ====
/- The stores of one arm of the body, as functions of what it loads. -/
module

public import proofs.«01_k».proof.Proof.Mix.Loads
public import proofs.«01_k».proof.Proof.Mix.ArmFast
import all proofs.«01_k».proof.Proof.Mix.ArmFast

@[expose] public section

set_option maxRecDepth 100000

noncomputable section

namespace Cert.Kernel2Ideal.Mix

open Cert.Kernel2Ideal Cert.Kernel2Ideal.Gen
open Idealize.ShloMosaic Idealize.ShloMosaic.TcCoe Idealize.ShloMosaic.Tactic

variable {F : FTy → Type} [FloatOps F]

/-- The gate columns. -/
theorem armFast_fp (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v442 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    (armFast c i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v442 v443 x0 x1 x2 x3 x4 x5 x6 x7 x8 x9 fp st ha).2.1 = fpP (aheadAt arg3 harg3 arg4 harg4 x1 x2) := by sl_kernel_rfl

/-- The last rows. -/
theorem armFast_ha (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v442 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    (armFast c i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v442 v443 x0 x1 x2 x3 x4 x5 x6 x7 x8 x9 fp st ha).2.2.2.1 = haP (fun s hs => keep (insAt arg2 harg2 arg4 harg4 arg5 harg5 arg6 harg6 arg9 harg9 arg10 harg10 arg11 harg11 arg13 harg13 arg15 harg15 arg16 harg16 v12 v23 v27 v31 v35 v443 x0 x2 x3 x4 x7 x8 x9 fp st ha s hs).xp) := by sl_kernel_rfl

/-- The states. -/
theorem armFast_st (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v442 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    (armFast c i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v442 v443 x0 x1 x2 x3 x4 x5 x6 x7 x8 x9 fp st ha).2.2.1 = stP (fun s hs h => stOut ((insAt arg2 harg2 arg4 harg4 arg5 harg5 arg6 harg6 arg9 harg9 arg10 harg10 arg11 harg11 arg13 harg13 arg15 harg15 arg16 harg16 v12 v23 v27 v31 v35 v443 x0 x2 x3 x4 x7 x8 x9 fp st ha s hs).s4 h)) := by sl_kernel_rfl

/-- The result. -/
theorem armFast_out (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v442 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    (armFast c i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v442 v443 x0 x1 x2 x3 x4 x5 x6 x7 x8 x9 fp st ha).1 = outP (fun s hs => (insAt arg2 harg2 arg4 harg4 arg5 harg5 arg6 harg6 arg9 harg9 arg10 harg10 arg11 harg11 arg13 harg13 arg15 harg15 arg16 harg16 v12 v23 v27 v31 v35 v443 x0 x2 x3 x4 x7 x8 x9 fp st ha s hs).out ((insAt arg2 harg2 arg4 harg4 arg5 harg5 arg6 harg6 arg9 harg9 arg10 harg10 arg11 harg11 arg13 harg13 arg15 harg15 arg16 harg16 v12 v23 v27 v31 v35 v443 x0 x2 x3 x4 x7 x8 x9 fp st ha s hs).oFast v442)) := by sl_kernel_rfl

end Cert.Kernel2Ideal.Mix
-- ==== Proof.Mix.ArmSlow.lean ====
/- The mixer's body after its loads, where the forget gate may be small. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 12000000 in set_option sl_exec.stridedRows true in
/-- The other arm: the stores it makes, as lists, and that it runs to its end from any contents of the scratch. -/
noncomputable def armSlow (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v96 : IVec S64x64 1) (v155 : IVec S64x64 1) (v214 : IVec S64x64 1) (v273 : IVec S64x64 1) (v332 : IVec S64x64 1) (v391 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    Σ' (L10 : List (View.Piece (Elt F) S2x256x1024 .f32)), Σ' (L11 : List (View.Piece (Elt F) S2x256x512 .f32)), Σ' (L13 : List (View.Piece (Elt F) S2x4x128x128 .f32)), { L14 : List (View.Piece (Elt F) S2x16x512 .f32) //
      ∀ (E : Set ℕ) (K : (Σ' (v826 : FVec F S1x512 .f32), F .f32) → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare fp ∗ (∃ d, owns (c : Thread nD τ) arg14 fullShare d) ∗ owns (c : Thread nD τ) arg15 fullShare st ∗ owns (c : Thread nD τ) arg16 fullShare ha ∗ (∀ r : (Σ' (v826 : FVec F S1x512 .f32), F .f32), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ d, owns (c : Thread nD τ) arg14 fullShare d) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K r))
          ⊢ wp frame (wpE (defs₀ (F := F)) Variants.none c none) E (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v96 v155 v214 v273 v332 v391 v443) K } := by
  refine ⟨?_, ?_, ?_, ?_, fun E K => ?run⟩
  case run =>
    simp only [k0_part97_eq_skeleton]; unfold k0_part97_skel
    simp only [k0_part1_eq_skeleton, k0_part10_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part2_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part3_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part4_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part5_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part6_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part7_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part8_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part9_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg15.eq_unread hf13; obtain rfl := harg16.eq_unread hf14
    sl_exec
    sl_step
    ispecialize Hk $$ %_
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]
    · iexists _, _; isplitr; swap; · iexact H12
      ipureintro; rfl
    isplitl [H13]; · iexists _; iexact H13
    iexists _; iexact H14

end Cert.Kernel2Ideal.Mix

end
-- ==== Proof.Mix.CaseSlow.lean ====
/- The stores of one arm of the body, as functions of what it loads. -/
module

public import proofs.«01_k».proof.Proof.Mix.Loads
public import proofs.«01_k».proof.Proof.Mix.ArmSlow
import all proofs.«01_k».proof.Proof.Mix.ArmSlow

@[expose] public section

set_option maxRecDepth 100000

noncomputable section

namespace Cert.Kernel2Ideal.Mix

open Cert.Kernel2Ideal Cert.Kernel2Ideal.Gen
open Idealize.ShloMosaic Idealize.ShloMosaic.TcCoe Idealize.ShloMosaic.Tactic

variable {F : FTy → Type} [FloatOps F]

/-- The gate columns. -/
theorem armSlow_fp (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v96 : IVec S64x64 1) (v155 : IVec S64x64 1) (v214 : IVec S64x64 1) (v273 : IVec S64x64 1) (v332 : IVec S64x64 1) (v391 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    (armSlow c i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v96 v155 v214 v273 v332 v391 v443 x0 x1 x2 x3 x4 x5 x6 x7 x8 x9 fp st ha).2.1 = fpP (aheadAt arg3 harg3 arg4 harg4 x1 x2) := by sl_kernel_rfl

/-- The last rows. -/
theorem armSlow_ha (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v96 : IVec S64x64 1) (v155 : IVec S64x64 1) (v214 : IVec S64x64 1) (v273 : IVec S64x64 1) (v332 : IVec S64x64 1) (v391 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    (armSlow c i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v96 v155 v214 v273 v332 v391 v443 x0 x1 x2 x3 x4 x5 x6 x7 x8 x9 fp st ha).2.2.2.1 = haP (fun s hs => keep (insAt arg2 harg2 arg4 harg4 arg5 harg5 arg6 harg6 arg9 harg9 arg10 harg10 arg11 harg11 arg13 harg13 arg15 harg15 arg16 harg16 v12 v23 v27 v31 v35 v443 x0 x2 x3 x4 x7 x8 x9 fp st ha s hs).xp) := by sl_kernel_rfl

/-- The states. -/
theorem armSlow_st (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v96 : IVec S64x64 1) (v155 : IVec S64x64 1) (v214 : IVec S64x64 1) (v273 : IVec S64x64 1) (v332 : IVec S64x64 1) (v391 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    (armSlow c i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v96 v155 v214 v273 v332 v391 v443 x0 x1 x2 x3 x4 x5 x6 x7 x8 x9 fp st ha).2.2.1 = stP (fun s hs h => stOut ((insAt arg2 harg2 arg4 harg4 arg5 harg5 arg6 harg6 arg9 harg9 arg10 harg10 arg11 harg11 arg13 harg13 arg15 harg15 arg16 harg16 v12 v23 v27 v31 v35 v443 x0 x2 x3 x4 x7 x8 x9 fp st ha s hs).s4 h)) := by sl_kernel_rfl

/-- The result. -/
theorem armSlow_out (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (v12 : FVec F S1x512 .f32) (v23 : FVec F S256x1 .f32) (v27 : FVec F S256x1 .f32) (v31 : FVec F S256x1 .f32) (v35 : FVec F S256x1 .f32) (v96 : IVec S64x64 1) (v155 : IVec S64x64 1) (v214 : IVec S64x64 1) (v273 : IVec S64x64 1) (v332 : IVec S64x64 1) (v391 : IVec S64x64 1) (v443 : Vec F S1x128 .f32) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) :
    (armSlow c i arg2 harg2 arg3 harg3 arg4 harg4 arg5 harg5 arg6 harg6 arg7 harg7 arg8 harg8 arg9 harg9 arg10 harg10 arg11 harg11 arg12 harg12 arg13 harg13 arg14 harg14 arg15 harg15 arg16 harg16 v12 v23 v27 v31 v35 v96 v155 v214 v273 v332 v391 v443 x0 x1 x2 x3 x4 x5 x6 x7 x8 x9 fp st ha).1 = outP (fun s hs => (insAt arg2 harg2 arg4 harg4 arg5 harg5 arg6 harg6 arg9 harg9 arg10 harg10 arg11 harg11 arg13 harg13 arg15 harg15 arg16 harg16 v12 v23 v27 v31 v35 v443 x0 x2 x3 x4 x7 x8 x9 fp st ha s hs).out ((insAt arg2 harg2 arg4 harg4 arg5 harg5 arg6 harg6 arg9 harg9 arg10 harg10 arg11 harg11 arg13 harg13 arg15 harg15 arg16 harg16 v12 v23 v27 v31 v35 v443 x0 x2 x3 x4 x7 x8 x9 fp st ha s hs).oSlow ⟨v96, v155, v214, v273, v332, v391⟩)) := by sl_kernel_rfl

end Cert.Kernel2Ideal.Mix
-- ==== Proof.Mix.Body.lean ====
/- The body at one grid point: from what its buffers hold to what it leaves in them. -/
module

public import proofs.«01_k».proof.Proof.Mix.First

public import proofs.«01_k».proof.Proof.Mix.CaseFast
public import proofs.«01_k».proof.Proof.Mix.CaseSlow

@[expose] public section

set_option maxRecDepth 16384

noncomputable section

namespace Cert.Kernel2Ideal.Mix

open Idealize.ShloMosaic Idealize.ShloMosaic.TcCoe
open Cert.Kernel2Ideal Cert.Kernel2Ideal.Gen

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Rows and columns of a chunk's square. -/
abbrev w36 : IVec S64x64 32 := iota .tc S64x64 32 [0] iota_S64x64_d0_w32
abbrev w37 : IVec S64x64 32 := iota .tc S64x64 32 [1] iota_S64x64_d1_w32
abbrev sgn64 : BitVec 32 := Scalar.subi (Scalar.extui (Scalar.cmpi .sgt 64#32 0#32)) (Scalar.extui (Scalar.cmpi .slt 64#32 0#32))
abbrev m32 : IVec S64x64 1 := k0_pay1068 w37 (k0_pay1064 w37 k0_pay1063) (k0_pay1065 w36) 64#32 (k0_pay1066 w37) (k0_pay1067 w37) sgn64
abbrev m16 : IVec S64x64 1 := k0_pay1072 w37 (k0_pay1069 w36 w37) (k0_pay1070 w36) 32#32 k0_pay1071
abbrev m8 : IVec S64x64 1 := k0_pay1076 w36 w37 (k0_pay1073 w36 w37) 16#32 (k0_pay1074 w36) (k0_pay1075 w36) (Scalar.extui (Scalar.cmpi .sgt 16#32 0#32)) 0#32
abbrev m4 : IVec S64x64 1 := k0_pay1083 (k0_pay1079 (k0_pay1077 w36) (k0_pay1078 w37)) (k0_pay1080 w36) (k0_pay1081 w37) (k0_pay1082 w37) 1#32
abbrev m2 : IVec S64x64 1 := k0_pay1089 w37 (k0_pay1084 w36 w37) (k0_pay1085 w36) 4#32 (k0_pay1086 w37) (k0_pay1087 w37) (k0_pay1088 w37)
abbrev m1 : IVec S64x64 1 := k0_pay1095 w37 (k0_pay1090 w36 w37) (k0_pay1091 w36) (k0_pay1092 w36) (k0_pay1093 w36) k0_pay1094
/-- The masks of the levels. -/
abbrev theMasks : Masks := ⟨m32, m16, m8, m4, m2, m1⟩
/-- The mask within a block of sixteen. -/
abbrev locMask : IVec S64x64 1 := k0_pay1098 w36 w37 16#32 (k0_pay1096 w36) (k0_pay1097 w36)

set_option maxHeartbeats 16000000 in
theorem bodyRun (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (x0 : Vec F S2x256x1024 .f32) (x1 : Vec F S2x256x1024 .f32) (x2 : Vec F S1024x2560 .bf16) (x3 : Vec F S4x128x128 .bf16) (x4 : Vec F S1x512 .f32) (x5 : Vec F S2x512 .f32) (x6 : Vec F S1x128 .f32) (x7 : Vec F S1024x1024 .bf16) (x8 : Vec F S1x1024 .f32) (x9 : Vec F S1x1024 .f32) (fp : Vec F S2x256x512 .f32) (st : Vec F S2x4x128x128 .f32) (ha : Vec F S2x16x512 .f32) (E : Set ℕ)
    (P1 P2 Q : sProp (MT nD τ sig Unit (Elt F) ℕ (UR sig nD τ) ℕ))
    (hA : ∀ (K : (Σ' (arg0 : BitVec 32) (arg1 : BitVec 32) (v12 : FVec F S1x512 .f32) (v23 : FVec F S256x1 .f32) (v27 : FVec F S256x1 .f32) (v31 : FVec F S256x1 .f32) (v35 : FVec F S256x1 .f32) (v36 : IVec S64x64 32) (v37 : IVec S64x64 32), IVec S64x64 32) → sProp (MT nD τ sig Unit (Elt F) ℕ (UR sig nD τ) ℕ)), iprop(owns (c : Thread nD τ) arg7 fullShare x5 ∗ P1 ∗ (iprop(owns (c : Thread nD τ) arg7 fullShare x5 ∗ owns (c : Thread nD τ) arg15 fullShare st ∗ owns (c : Thread nD τ) arg16 fullShare ha) -∗ K (ret98 i (lbAt arg7 harg7 x5)))) ⊢ wp frame (wpE (defs₀ (F := F)) Variants.none c none) E (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16) K)
    (hB : ∀ (v12 : FVec F S1x512 .f32) (v36 : IVec S64x64 32) (v37 : IVec S64x64 32) (c16_i32_113 : BitVec 32) (v393 : IVec S64x64 32) (v407 : IVec S64x64 1) (K : (Σ' (v442 : IVec S64x64 1) (v443 : Vec F S1x128 .f32), BitVec 1) → sProp (MT nD τ sig Unit (Elt F) ℕ (UR sig nD τ) ℕ)), iprop(owns (c : Thread nD τ) arg2 fullShare x0 ∗ owns (c : Thread nD τ) arg4 fullShare x2 ∗ owns (c : Thread nD τ) arg8 fullShare x6 ∗ P2 ∗ (∃ d, owns (c : Thread nD τ) arg14 fullShare d) ∗ (∀ w : BitVec 1, iprop(owns (c : Thread nD τ) arg2 fullShare x0 ∗ owns (c : Thread nD τ) arg4 fullShare x2 ∗ owns (c : Thread nD τ) arg8 fullShare x6 ∗ owns (c : Thread nD τ) arg13 fullShare fp ∗ (∃ d, owns (c : Thread nD τ) arg14 fullShare d)) -∗ K ⟨k0_pay1098 v36 v37 c16_i32_113 v393 v407, gnAt arg8 harg8 x6, w⟩))
      ⊢ wp frame (wpE (defs₀ (F := F)) Variants.none c none) E (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v12 v36 v37 c16_i32_113 v393 v407) K)
    (O10 : Vec F S2x256x1024 .f32) (O11 : Vec F S2x256x512 .f32) (O13 : Vec F S2x4x128x128 .f32) (O14 : Vec F S2x16x512 .f32)
    (hF : ∀ f, arg12.view.read (Elt F) (arg12.view.writes (Elt F) f (outP fun s hs => (insAt arg2 harg2 arg4 harg4 arg5 harg5 arg6 harg6 arg9 harg9 arg10 harg10 arg11 harg11 arg13 harg13 arg15 harg15 arg16 harg16 (lbAt arg7 harg7 x5) (k0_pay1059 (F := F) i) (k0_pay1060 (F := F) i) (k0_pay1061 (F := F) i) (k0_pay1062 (F := F) i) (gnAt arg8 harg8 x6) x0 x2 x3 x4 x7 x8 x9 fp st ha s hs).out ((insAt arg2 harg2 arg4 harg4 arg5 harg5 arg6 harg6 arg9 harg9 arg10 harg10 arg11 harg11 arg13 harg13 arg15 harg15 arg16 harg16 (lbAt arg7 harg7 x5) (k0_pay1059 (F := F) i) (k0_pay1060 (F := F) i) (k0_pay1061 (F := F) i) (k0_pay1062 (F := F) i) (gnAt arg8 harg8 x6) x0 x2 x3 x4 x7 x8 x9 fp st ha s hs).oFast locMask))) = O10)
    (hS : ∀ f, arg12.view.read (Elt F) (arg12.view.writes (Elt F) f (outP fun s hs => (insAt arg2 harg2 arg4 harg4 arg5 harg5 arg6 harg6 arg9 harg9 arg10 harg10 arg11 harg11 arg13 harg13 arg15 harg15 arg16 harg16 (lbAt arg7 harg7 x5) (k0_pay1059 (F := F) i) (k0_pay1060 (F := F) i) (k0_pay1061 (F := F) i) (k0_pay1062 (F := F) i) (gnAt arg8 harg8 x6) x0 x2 x3 x4 x7 x8 x9 fp st ha s hs).out ((insAt arg2 harg2 arg4 harg4 arg5 harg5 arg6 harg6 arg9 harg9 arg10 harg10 arg11 harg11 arg13 harg13 arg15 harg15 arg16 harg16 (lbAt arg7 harg7 x5) (k0_pay1059 (F := F) i) (k0_pay1060 (F := F) i) (k0_pay1061 (F := F) i) (k0_pay1062 (F := F) i) (gnAt arg8 harg8 x6) x0 x2 x3 x4 x7 x8 x9 fp st ha s hs).oSlow theMasks))) = O10)
    (h11 : ∀ f, arg13.view.read (Elt F) (arg13.view.writes (Elt F) f (fpP (aheadAt arg3 harg3 arg4 harg4 x1 x2))) = O11)
    (h13 : ∀ f, arg15.view.read (Elt F) (arg15.view.writes (Elt F) f (stP fun s hs h => stOut ((insAt arg2 harg2 arg4 harg4 arg5 harg5 arg6 harg6 arg9 harg9 arg10 harg10 arg11 harg11 arg13 harg13 arg15 harg15 arg16 harg16 (lbAt arg7 harg7 x5) (k0_pay1059 (F := F) i) (k0_pay1060 (F := F) i) (k0_pay1061 (F := F) i) (k0_pay1062 (F := F) i) (gnAt arg8 harg8 x6) x0 x2 x3 x4 x7 x8 x9 fp st ha s hs).s4 h))) = O13)
    (h14 : ∀ f, arg16.view.read (Elt F) (arg16.view.writes (Elt F) f (haP fun s hs => keep (insAt arg2 harg2 arg4 harg4 arg5 harg5 arg6 harg6 arg9 harg9 arg10 harg10 arg11 harg11 arg13 harg13 arg15 harg15 arg16 harg16 (lbAt arg7 harg7 x5) (k0_pay1059 (F := F) i) (k0_pay1060 (F := F) i) (k0_pay1061 (F := F) i) (k0_pay1062 (F := F) i) (gnAt arg8 harg8 x6) x0 x2 x3 x4 x7 x8 x9 fp st ha s hs).xp)) = O14) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ P2 ∗ (∃ d, owns (c : Thread nD τ) arg14 fullShare d) ∗ P1 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare O10 ∗ owns (c : Thread nD τ) arg13 fullShare O11 ∗ (∃ d, owns (c : Thread nD τ) arg14 fullShare d) ∗ owns (c : Thread nD τ) arg15 fullShare O13 ∗ owns (c : Thread nD τ) arg16 fullShare O14) -∗ Q))
      ⊢ wp frame (wpE (defs₀ (F := F)) Variants.none c none) E (cc0_mixer_ln1 i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => Q) := by
  rw [cc0_mixer_ln1_eq_skeleton]; unfold cc0_mixer_ln1_skel
  simp only [k0_part99_eq_skeleton, k0_part100_eq_skeleton, k0_part101_eq_skeleton, k0_part102_eq_skeleton, k0_part103_eq_skeleton, k0_part104_eq_skeleton, k0_part105_eq_skeleton, k0_part106_eq_skeleton]
  iintro ⟨H0, H1, H2, H3, H4, H5, H6, H7, H8, H9, H10, H11, H12, H13, Hk⟩
  rw [wp_bind]
  iapply (hA _)
  isplitl [H5]; · iexact H5
  isplitl [H13]; · iexact H13
  iintro ⟨H5, H13, H14⟩
  dsimp only
  simp only [k0_part99_skel, k0_part100_skel, k0_part101_skel, k0_part102_skel, k0_part103_skel, k0_part104_skel, k0_part105_skel, k0_part106_skel, pure_bind]
  rw [wp_bind]
  iapply (hB _ _ _ _ _ _ _)
  isplitl [H0]; · iexact H0
  isplitl [H2]; · iexact H2
  isplitl [H6]; · iexact H6
  isplitl [H11]; · iexact H11
  isplitl [H12]; · iexact H12
  iintro %w ⟨H0, H2, H6, H11, H12⟩
  dsimp only
  rcases (show w = 1#1 ∨ w = 0#1 from by revert w; decide) with rfl | rfl
  · rw [if_pos (by decide), if_neg (by decide)]
    rw [wp_bind]
    iapply ((armFast c i arg2 harg2 arg3 harg3 arg4 harg4 arg5 harg5 arg6 harg6 arg7 harg7 arg8 harg8 arg9 harg9 arg10 harg10 arg11 harg11 arg12 harg12 arg13 harg13 arg14 harg14 arg15 harg15 arg16 harg16 (lbAt arg7 harg7 x5) (k0_pay1059 (F := F) i) (k0_pay1060 (F := F) i) (k0_pay1061 (F := F) i) (k0_pay1062 (F := F) i) locMask (gnAt arg8 harg8 x6) x0 x1 x2 x3 x4 x5 x6 x7 x8 x9 fp st ha).2.2.2.2 E _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro %r ⟨H0, H1, H2, H3, H4, H5, H6, H7, H8, H9, ⟨%g10, H10⟩, ⟨%g11, H11⟩, H12, ⟨%g13, H13⟩, ⟨%g14, H14⟩⟩
    dsimp only
    unfold owns
    icases H12 with ⟨%d12, %f12, -, H12⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr; swap; · iexact H10
      ipureintro; rw [armFast_out]; exact hF _
    isplitl [H11]
    · iexists _; isplitr; swap; · iexact H11
      ipureintro; rw [armFast_fp]; exact h11 _
    isplitl [H12]
    · iexists _, _; isplitr; swap; · iexact H12
      ipureintro; rfl
    isplitl [H13]
    · iexists _; isplitr; swap; · iexact H13
      ipureintro; rw [armFast_st]; exact h13 _
    iexists _; isplitr; swap; · iexact H14
    ipureintro; rw [armFast_ha]; exact h14 _
  · rw [if_neg (by decide), if_pos (by decide)]
    rw [wp_bind]
    iapply ((armSlow c i arg2 harg2 arg3 harg3 arg4 harg4 arg5 harg5 arg6 harg6 arg7 harg7 arg8 harg8 arg9 harg9 arg10 harg10 arg11 harg11 arg12 harg12 arg13 harg13 arg14 harg14 arg15 harg15 arg16 harg16 (lbAt arg7 harg7 x5) (k0_pay1059 (F := F) i) (k0_pay1060 (F := F) i) (k0_pay1061 (F := F) i) (k0_pay1062 (F := F) i) m32 m16 m8 m4 m2 m1 (gnAt arg8 harg8 x6) x0 x1 x2 x3 x4 x5 x6 x7 x8 x9 fp st ha).2.2.2.2 E _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro %r ⟨H0, H1, H2, H3, H4, H5, H6, H7, H8, H9, ⟨%g10, H10⟩, ⟨%g11, H11⟩, H12, ⟨%g13, H13⟩, ⟨%g14, H14⟩⟩
    dsimp only
    unfold owns
    icases H12 with ⟨%d12, %f12, -, H12⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr; swap; · iexact H10
      ipureintro; rw [armSlow_out]; exact hS _
    isplitl [H11]
    · iexists _; isplitr; swap; · iexact H11
      ipureintro; rw [armSlow_fp]; exact h11 _
    isplitl [H12]
    · iexists _, _; isplitr; swap; · iexact H12
      ipureintro; rfl
    isplitl [H13]
    · iexists _; isplitr; swap; · iexact H13
      ipureintro; rw [armSlow_st]; exact h13 _
    iexists _; isplitr; swap; · iexact H14
    ipureintro; rw [armSlow_ha]; exact h14 _

end Cert.Kernel2Ideal.Mix

end
-- ==== Proof.Mix.MaskAt.lean ====
/- The masks, read at one place. -/
module

public import proofs.«01_k».proof.Proof.Mix.Scores
public import proofs.«01_k».proof.Proof.Mix.Body

@[expose] public section

set_option maxRecDepth 16384

noncomputable section

namespace Cert.Kernel2Ideal.Mix

open Idealize.ShloMosaic Idealize.ShloMosaic.TcCoe
open Cert.Kernel2Ideal Cert.Kernel2Ideal.Gen

theorem m32_apply : ∀ r s : Fin 64, m32 (ix2 r s) = if r.val / 64 = s.val / 64 ∧ r.val / 32 % 2 = 1 ∧ s.val / 32 % 2 = 0 then 1#1 else 0#1 := by
  pointwise [k0_pay1068, k0_pay1064, k0_pay1063, k0_pay1065, k0_pay1066, k0_pay1067]
  decide +kernel

theorem m16_apply : ∀ r s : Fin 64, m16 (ix2 r s) = if r.val / 32 = s.val / 32 ∧ r.val / 16 % 2 = 1 ∧ s.val / 16 % 2 = 0 then 1#1 else 0#1 := by
  pointwise [k0_pay1072, k0_pay1069, k0_pay1070, k0_pay1071]
  decide +kernel

theorem m8_apply : ∀ r s : Fin 64, m8 (ix2 r s) = if r.val / 16 = s.val / 16 ∧ r.val / 8 % 2 = 1 ∧ s.val / 8 % 2 = 0 then 1#1 else 0#1 := by
  pointwise [k0_pay1076, k0_pay1073, k0_pay1074, k0_pay1075]
  decide +kernel

theorem m4_apply : ∀ r s : Fin 64, m4 (ix2 r s) = if r.val / 8 = s.val / 8 ∧ r.val / 4 % 2 = 1 ∧ s.val / 4 % 2 = 0 then 1#1 else 0#1 := by
  pointwise [k0_pay1083, k0_pay1079, k0_pay1077, k0_pay1078, k0_pay1080, k0_pay1081, k0_pay1082]
  decide +kernel

theorem m2_apply : ∀ r s : Fin 64, m2 (ix2 r s) = if r.val / 4 = s.val / 4 ∧ r.val / 2 % 2 = 1 ∧ s.val / 2 % 2 = 0 then 1#1 else 0#1 := by
  pointwise [k0_pay1089, k0_pay1084, k0_pay1085, k0_pay1086, k0_pay1087, k0_pay1088]
  decide +kernel

theorem m1_apply : ∀ r s : Fin 64, m1 (ix2 r s) = if r.val / 2 = s.val / 2 ∧ r.val % 2 = 1 ∧ s.val % 2 = 0 then 1#1 else 0#1 := by
  pointwise [k0_pay1095, k0_pay1090, k0_pay1091, k0_pay1092, k0_pay1093, k0_pay1094]
  decide +kernel

theorem loc_apply : ∀ r s : Fin 64, locMask (ix2 r s) = if r.val / 16 = s.val / 16 ∧ s.val ≤ r.val then 1#1 else 0#1 := by
  pointwise [k0_pay1098, k0_pay1096, k0_pay1097]
  decide +kernel

theorem masks_spec : theMasks.Spec := ⟨m32_apply, m16_apply, m8_apply, m4_apply, m2_apply, m1_apply⟩

end Cert.Kernel2Ideal.Mix

end
-- ==== Proof.Mix.Load.lean ====
/- The gate columns computed at the first point. -/
module

public import proofs.«01_k».proof.Proof.Mix.First

@[expose] public section

set_option maxRecDepth 16384

noncomputable section

namespace Cert.Kernel2Ideal.Mix

open Idealize.ShloMosaic Idealize.ShloMosaic.TcCoe
open Cert.Kernel2Ideal Cert.Kernel2Ideal.Gen

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
set_option maxHeartbeats 2000000 in set_option sl_exec.stridedRows true in
theorem load_first (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (a b : BitVec 32) (v12 : FVec F S1x512 .f32) (v36 : IVec S64x64 32) (v37 : IVec S64x64 32) (c16_i32_113 : BitVec 32) (v393 : IVec S64x64 32) (v407 : IVec S64x64 1) (x0 : Vec F S2x256x1024 .f32) (x2 : Vec F S1024x2560 .bf16) (x6 : Vec F S1x128 .f32) (h : atFirst a b = 1#1) (fp : Vec F S2x256x512 .f32) (hf0 : ∀ (r : Fin 256) (j : Fin 512), first0 arg2 harg2 arg4 harg4 x0 x2 (ix3 0 r j) = fp (ix3 0 r j)) (hf1 : ∀ (r : Fin 256) (j : Fin 512), first1 arg2 harg2 arg4 harg4 x0 x2 (ix3 0 r j) = fp (ix3 1 r j)) (E : Set ℕ) (K : (Σ' (v442 : IVec S64x64 1) (v443 : Vec F S1x128 .f32), BitVec 1) → sProp (MT nD τ sig Unit (Elt F) ℕ (UR sig nD τ) ℕ)) :
    iprop(owns (c : Thread nD τ) arg2 fullShare x0 ∗ owns (c : Thread nD τ) arg4 fullShare x2 ∗ owns (c : Thread nD τ) arg8 fullShare x6 ∗ (∃ d, owns (c : Thread nD τ) arg13 fullShare d) ∗ (∃ d, owns (c : Thread nD τ) arg14 fullShare d) ∗ (∀ w : BitVec 1, iprop(owns (c : Thread nD τ) arg2 fullShare x0 ∗ owns (c : Thread nD τ) arg4 fullShare x2 ∗ owns (c : Thread nD τ) arg8 fullShare x6 ∗ owns (c : Thread nD τ) arg13 fullShare fp ∗ (∃ d, owns (c : Thread nD τ) arg14 fullShare d)) -∗ K ⟨k0_pay1098 v36 v37 c16_i32_113 v393 v407, gnAt arg8 harg8 x6, w⟩))
      ⊢ wp frame (wpE (defs₀ (F := F)) Variants.none c none) E (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 a b v12 v36 v37 c16_i32_113 v393 v407) K := by
  simp only [k0_part107_eq_skeleton]; unfold k0_part107_skel
  simp only [k0_part1_eq_skeleton]
  unfold owns
  iintro ⟨⟨%f0, %hg0, H0⟩, ⟨%f2, %hf2, H2⟩, ⟨%f6, %hf6, H6⟩, ⟨%d11, %f11, -, H11⟩, ⟨%d12, %f12, -, H12⟩, Hk⟩
  obtain rfl := harg2.eq_unread hg0; obtain rfl := harg4.eq_unread hf2; obtain rfl := harg8.eq_unread hf6
  sl_exec (disch := first | sl_exact h)
  sl_step
  ispecialize Hk $$ %_
  iapply Hk
  isplitl [H0]
  · iexists _; isplitr; · ipureintro; exact harg2.read_unread _
    iexact H0
  isplitl [H2]
  · iexists _; isplitr; · ipureintro; exact harg4.read_unread _
    iexact H2
  isplitl [H6]
  · iexists _; isplitr; · ipureintro; exact harg8.read_unread _
    iexact H6
  isplitl [H11]
  · iexists _; isplitr; swap; · iexact H11
    ipureintro; exact read_fpQ arg13 _ _ _ _ hf0 hf1
  iexists _, _; isplitr; swap; · iexact H12
  ipureintro; rfl

set_option maxHeartbeats 2000000 in set_option sl_exec.stridedRows true in
theorem load_next (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (a b : BitVec 32) (v12 : FVec F S1x512 .f32) (v36 : IVec S64x64 32) (v37 : IVec S64x64 32) (c16_i32_113 : BitVec 32) (v393 : IVec S64x64 32) (v407 : IVec S64x64 1) (x0 : Vec F S2x256x1024 .f32) (x2 : Vec F S1024x2560 .bf16) (x6 : Vec F S1x128 .f32) (h : ¬ atFirst a b = 1#1) (fp : Vec F S2x256x512 .f32) (E : Set ℕ) (K : (Σ' (v442 : IVec S64x64 1) (v443 : Vec F S1x128 .f32), BitVec 1) → sProp (MT nD τ sig Unit (Elt F) ℕ (UR sig nD τ) ℕ)) :
    iprop(owns (c : Thread nD τ) arg2 fullShare x0 ∗ owns (c : Thread nD τ) arg4 fullShare x2 ∗ owns (c : Thread nD τ) arg8 fullShare x6 ∗ owns (c : Thread nD τ) arg13 fullShare fp ∗ (∃ d, owns (c : Thread nD τ) arg14 fullShare d) ∗ (∀ w : BitVec 1, iprop(owns (c : Thread nD τ) arg2 fullShare x0 ∗ owns (c : Thread nD τ) arg4 fullShare x2 ∗ owns (c : Thread nD τ) arg8 fullShare x6 ∗ owns (c : Thread nD τ) arg13 fullShare fp ∗ (∃ d, owns (c : Thread nD τ) arg14 fullShare d)) -∗ K ⟨k0_pay1098 v36 v37 c16_i32_113 v393 v407, gnAt arg8 harg8 x6, w⟩))
      ⊢ wp frame (wpE (defs₀ (F := F)) Variants.none c none) E (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 a b v12 v36 v37 c16_i32_113 v393 v407) K := by
  simp only [k0_part107_eq_skeleton]; unfold k0_part107_skel
  simp only [k0_part1_eq_skeleton]
  unfold owns
  iintro ⟨⟨%f0, %hg0, H0⟩, ⟨%f2, %hf2, H2⟩, ⟨%f6, %hf6, H6⟩, ⟨%f11, %hf11, H11⟩, ⟨%d12, %f12, -, H12⟩, Hk⟩
  obtain rfl := harg2.eq_unread hg0; obtain rfl := harg4.eq_unread hf2; obtain rfl := harg8.eq_unread hf6
  sl_exec (disch := first | sl_exact h)
  sl_step
  ispecialize Hk $$ %_
  iapply Hk
  isplitl [H0]
  · iexists _; isplitr; · ipureintro; exact harg2.read_unread _
    iexact H0
  isplitl [H2]
  · iexists _; isplitr; · ipureintro; exact harg4.read_unread _
    iexact H2
  isplitl [H6]
  · iexists _; isplitr; · ipureintro; exact harg8.read_unread _
    iexact H6
  isplitl [H11]
  · iexists _; isplitr; swap; · iexact H11
    ipureintro; exact hf11
  iexists _, _; isplitr; swap; · iexact H12
  ipureintro; rfl

end Cert.Kernel2Ideal.Mix

end
-- ==== Proof.Mix.Point.lean ====
/- The body at one grid point, its buffers holding what the specification says. -/
module

public import proofs.«01_k».proof.Proof.Mix.Ready
public import proofs.«01_k».proof.Proof.Mix.Body
public import proofs.«01_k».proof.Proof.Mix.MaskAt
public import proofs.«01_k».proof.Proof.Mix.Load

@[expose] public section

set_option maxRecDepth 16384

noncomputable section

namespace Cert.Kernel2Ideal.Mix

open Idealize.ShloMosaic Idealize.ShloMosaic.TcCoe
open Cert.Kernel2Ideal Cert.Kernel2Ideal.Gen

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem read_outP (m : Memref sig .tc .vmem S2x256x1024 .f32) (f) (o : (s : ℕ) → s < 2 → FVec Ideal S1x256x1024 .f32) (d : Vec Ideal S2x256x1024 .f32)
    (h : ∀ (s : Fin 2) r j, o s.val s.isLt (ix3 0 r j) = d (ix3 s r j)) :
    m.view.read (Elt Ideal) (m.view.writes (Elt Ideal) f (outP o)) = d := by
  funext y
  obtain ⟨s, r, j, rfl⟩ : ∃ s r j, y = ix3 s r j := ⟨y 0, y 1, y 2, eq_ix3 y⟩
  unfold outP
  match s with
  | ⟨0, _⟩ =>
    refine (View.read_writes_cons_unit_of_not_mem m.view f (inbTile 1 (by omega)) (o 1 (by omega)) _ (ix3 0 r j : S2x256x1024.Idx) rfl 0 (.inl (by show (0:ℕ) < 1; omega))).trans ?_
    refine (View.read_writes_cons_unit_of_mem m.view f (inbTile 0 (by omega)) (o 0 (by omega)) [] (ix3 0 r j : S2x256x1024.Idx) (ix3 0 r j : S1x256x1024.Idx) rfl (fun a => match a with
        | ⟨0, _⟩ => rfl
        | ⟨1, _⟩ => (Nat.zero_add _).symm
        | ⟨2, _⟩ => (Nat.zero_add _).symm)).trans ?_
    exact h 0 r j
  | ⟨1, _⟩ =>
    refine (View.read_writes_cons_unit_of_mem m.view f (inbTile 1 (by omega)) (o 1 (by omega)) _ (ix3 1 r j : S2x256x1024.Idx) (ix3 0 r j : S1x256x1024.Idx) rfl (fun a => match a with
        | ⟨0, _⟩ => rfl
        | ⟨1, _⟩ => (Nat.zero_add _).symm
        | ⟨2, _⟩ => (Nat.zero_add _).symm)).trans ?_
    exact h 1 r j

theorem read_fpP (m : Memref sig .tc .vmem S2x256x512 .f32) (f) (o : (s : ℕ) → s < 2 → FVec Ideal S1x256x512 .f32) (d : Vec Ideal S2x256x512 .f32)
    (h : ∀ (s : Fin 2) r j, o s.val s.isLt (ix3 0 r j) = d (ix3 s r j)) :
    m.view.read (Elt Ideal) (m.view.writes (Elt Ideal) f (fpP o)) = d := by
  funext y
  obtain ⟨s, r, j, rfl⟩ : ∃ s r j, y = ix3 s r j := ⟨y 0, y 1, y 2, eq_ix3 y⟩
  unfold fpP
  match s with
  | ⟨0, _⟩ =>
    refine (View.read_writes_cons_unit_of_not_mem m.view f (inbFp 1 (by omega)) (o 1 (by omega)) _ (ix3 0 r j : S2x256x512.Idx) rfl 0 (.inl (by show (0:ℕ) < 1; omega))).trans ?_
    refine (View.read_writes_cons_unit_of_mem m.view f (inbFp 0 (by omega)) (o 0 (by omega)) [] (ix3 0 r j : S2x256x512.Idx) (ix3 0 r j : S1x256x512.Idx) rfl (fun a => match a with
        | ⟨0, _⟩ => rfl
        | ⟨1, _⟩ => (Nat.zero_add _).symm
        | ⟨2, _⟩ => (Nat.zero_add _).symm)).trans ?_
    exact h 0 r j
  | ⟨1, _⟩ =>
    refine (View.read_writes_cons_unit_of_mem m.view f (inbFp 1 (by omega)) (o 1 (by omega)) _ (ix3 1 r j : S2x256x512.Idx) (ix3 0 r j : S1x256x512.Idx) rfl (fun a => match a with
        | ⟨0, _⟩ => rfl
        | ⟨1, _⟩ => (Nat.zero_add _).symm
        | ⟨2, _⟩ => (Nat.zero_add _).symm)).trans ?_
    exact h 1 r j

theorem read_haP (m : Memref sig .tc .vmem S2x16x512 .f32) (f) (o : (s : ℕ) → s < 2 → FVec Ideal S1x16x512 .f32) (d : Vec Ideal S2x16x512 .f32)
    (h : ∀ (s : Fin 2) r j, o s.val s.isLt (ix3 0 r j) = d (ix3 s r j)) :
    m.view.read (Elt Ideal) (m.view.writes (Elt Ideal) f (haP o)) = d := by
  funext y
  obtain ⟨s, r, j, rfl⟩ : ∃ s r j, y = ix3 s r j := ⟨y 0, y 1, y 2, eq_ix3 y⟩
  unfold haP
  match s with
  | ⟨0, _⟩ =>
    refine (View.read_writes_cons_unit_of_not_mem m.view f (inbHa 1 (by omega)) (o 1 (by omega)) _ (ix3 0 r j : S2x16x512.Idx) rfl 0 (.inl (by show (0:ℕ) < 1; omega))).trans ?_
    refine (View.read_writes_cons_unit_of_mem m.view f (inbHa 0 (by omega)) (o 0 (by omega)) [] (ix3 0 r j : S2x16x512.Idx) (ix3 0 r j : S1x16x512.Idx) rfl (fun a => match a with
        | ⟨0, _⟩ => rfl
        | ⟨1, _⟩ => (Nat.zero_add _).symm
        | ⟨2, _⟩ => (Nat.zero_add _).symm)).trans ?_
    exact h 0 r j
  | ⟨1, _⟩ =>
    refine (View.read_writes_cons_unit_of_mem m.view f (inbHa 1 (by omega)) (o 1 (by omega)) _ (ix3 1 r j : S2x16x512.Idx) (ix3 0 r j : S1x16x512.Idx) rfl (fun a => match a with
        | ⟨0, _⟩ => rfl
        | ⟨1, _⟩ => (Nat.zero_add _).symm
        | ⟨2, _⟩ => (Nat.zero_add _).symm)).trans ?_
    exact h 1 r j

theorem read_stP (m : Memref sig .tc .vmem S2x4x128x128 .f32) (f) (o : (s : ℕ) → s < 2 → Fin 4 → FVec Ideal S1x1x128x128 .f32) (d : Vec Ideal S2x4x128x128 .f32)
    (h : ∀ (s : Fin 2) hd r j, o s.val s.isLt hd (ix4 0 0 r j) = d (ix4 s hd r j)) :
    m.view.read (Elt Ideal) (m.view.writes (Elt Ideal) f (stP o)) = d := by
  funext y
  obtain ⟨s, hd, r, j, rfl⟩ : ∃ s hd r j, y = ix4 s hd r j := ⟨y 0, y 1, y 2, y 3, eq_ix4 y⟩
  unfold stP
  match s, hd with
  | ⟨1, _⟩, ⟨3, _⟩ =>
    refine (View.read_writes_cons_unit_of_mem m.view f (inbSt 1 (by omega) 3) (o 1 (by omega) 3) _ (ix4 1 3 r j : S2x4x128x128.Idx) (ix4 0 0 r j : S1x1x128x128.Idx) rfl (fun a => match a with
        | ⟨0, _⟩ => rfl
        | ⟨1, _⟩ => rfl
        | ⟨2, _⟩ => (Nat.zero_add _).symm
        | ⟨3, _⟩ => (Nat.zero_add _).symm)).trans ?_
    exact h 1 3 r j
  | ⟨1, _⟩, ⟨2, _⟩ =>
    refine (View.read_writes_cons_unit_of_not_mem m.view f (inbSt 1 (by omega) 3) (o 1 (by omega) 3) _ (ix4 1 2 r j : S2x4x128x128.Idx) rfl 1 (.inl (by show (2:ℕ) < 3; omega))).trans ?_
    refine (View.read_writes_cons_unit_of_mem m.view f (inbSt 1 (by omega) 2) (o 1 (by omega) 2) _ (ix4 1 2 r j : S2x4x128x128.Idx) (ix4 0 0 r j : S1x1x128x128.Idx) rfl (fun a => match a with
        | ⟨0, _⟩ => rfl
        | ⟨1, _⟩ => rfl
        | ⟨2, _⟩ => (Nat.zero_add _).symm
        | ⟨3, _⟩ => (Nat.zero_add _).symm)).trans ?_
    exact h 1 2 r j
  | ⟨1, _⟩, ⟨1, _⟩ =>
    refine (View.read_writes_cons_unit_of_not_mem m.view f (inbSt 1 (by omega) 3) (o 1 (by omega) 3) _ (ix4 1 1 r j : S2x4x128x128.Idx) rfl 1 (.inl (by show (1:ℕ) < 3; omega))).trans ?_
    refine (View.read_writes_cons_unit_of_not_mem m.view f (inbSt 1 (by omega) 2) (o 1 (by omega) 2) _ (ix4 1 1 r j : S2x4x128x128.Idx) rfl 1 (.inl (by show (1:ℕ) < 2; omega))).trans ?_
    refine (View.read_writes_cons_unit_of_mem m.view f (inbSt 1 (by omega) 1) (o 1 (by omega) 1) _ (ix4 1 1 r j : S2x4x128x128.Idx) (ix4 0 0 r j : S1x1x128x128.Idx) rfl (fun a => match a with
        | ⟨0, _⟩ => rfl
        | ⟨1, _⟩ => rfl
        | ⟨2, _⟩ => (Nat.zero_add _).symm
        | ⟨3, _⟩ => (Nat.zero_add _).symm)).trans ?_
    exact h 1 1 r j
  | ⟨1, _⟩, ⟨0, _⟩ =>
    refine (View.read_writes_cons_unit_of_not_mem m.view f (inbSt 1 (by omega) 3) (o 1 (by omega) 3) _ (ix4 1 0 r j : S2x4x128x128.Idx) rfl 1 (.inl (by show (0:ℕ) < 3; omega))).trans ?_
    refine (View.read_writes_cons_unit_of_not_mem m.view f (inbSt 1 (by omega) 2) (o 1 (by omega) 2) _ (ix4 1 0 r j : S2x4x128x128.Idx) rfl 1 (.inl (by show (0:ℕ) < 2; omega))).trans ?_
    refine (View.read_writes_cons_unit_of_not_mem m.view f (inbSt 1 (by omega) 1) (o 1 (by omega) 1) _ (ix4 1 0 r j : S2x4x128x128.Idx) rfl 1 (.inl (by show (0:ℕ) < 1; omega))).trans ?_
    refine (View.read_writes_cons_unit_of_mem m.view f (inbSt 1 (by omega) 0) (o 1 (by omega) 0) _ (ix4 1 0 r j : S2x4x128x128.Idx) (ix4 0 0 r j : S1x1x128x128.Idx) rfl (fun a => match a with
        | ⟨0, _⟩ => rfl
        | ⟨1, _⟩ => rfl
        | ⟨2, _⟩ => (Nat.zero_add _).symm
        | ⟨3, _⟩ => (Nat.zero_add _).symm)).trans ?_
    exact h 1 0 r j
  | ⟨0, _⟩, ⟨3, _⟩ =>
    refine (View.read_writes_cons_unit_of_not_mem m.view f (inbSt 1 (by omega) 3) (o 1 (by omega) 3) _ (ix4 0 3 r j : S2x4x128x128.Idx) rfl 0 (.inl (by show (0:ℕ) < 1; omega))).trans ?_
    refine (View.read_writes_cons_unit_of_not_mem m.view f (inbSt 1 (by omega) 2) (o 1 (by omega) 2) _ (ix4 0 3 r j : S2x4x128x128.Idx) rfl 0 (.inl (by show (0:ℕ) < 1; omega))).trans ?_
    refine (View.read_writes_cons_unit_of_not_mem m.view f (inbSt 1 (by omega) 1) (o 1 (by omega) 1) _ (ix4 0 3 r j : S2x4x128x128.Idx) rfl 0 (.inl (by show (0:ℕ) < 1; omega))).trans ?_
    refine (View.read_writes_cons_unit_of_not_mem m.view f (inbSt 1 (by omega) 0) (o 1 (by omega) 0) _ (ix4 0 3 r j : S2x4x128x128.Idx) rfl 0 (.inl (by show (0:ℕ) < 1; omega))).trans ?_
    refine (View.read_writes_cons_unit_of_mem m.view f (inbSt 0 (by omega) 3) (o 0 (by omega) 3) _ (ix4 0 3 r j : S2x4x128x128.Idx) (ix4 0 0 r j : S1x1x128x128.Idx) rfl (fun a => match a with
        | ⟨0, _⟩ => rfl
        | ⟨1, _⟩ => rfl
        | ⟨2, _⟩ => (Nat.zero_add _).symm
        | ⟨3, _⟩ => (Nat.zero_add _).symm)).trans ?_
    exact h 0 3 r j
  | ⟨0, _⟩, ⟨2, _⟩ =>
    refine (View.read_writes_cons_unit_of_not_mem m.view f (inbSt 1 (by omega) 3) (o 1 (by omega) 3) _ (ix4 0 2 r j : S2x4x128x128.Idx) rfl 0 (.inl (by show (0:ℕ) < 1; omega))).trans ?_
    refine (View.read_writes_cons_unit_of_not_mem m.view f (inbSt 1 (by omega) 2) (o 1 (by omega) 2) _ (ix4 0 2 r j : S2x4x128x128.Idx) rfl 0 (.inl (by show (0:ℕ) < 1; omega))).trans ?_
    refine (View.read_writes_cons_unit_of_not_mem m.view f (inbSt 1 (by omega) 1) (o 1 (by omega) 1) _ (ix4 0 2 r j : S2x4x128x128.Idx) rfl 0 (.inl (by show (0:ℕ) < 1; omega))).trans ?_
    refine (View.read_writes_cons_unit_of_not_mem m.view f (inbSt 1 (by omega) 0) (o 1 (by omega) 0) _ (ix4 0 2 r j : S2x4x128x128.Idx) rfl 0 (.inl (by show (0:ℕ) < 1; omega))).trans ?_
    refine (View.read_writes_cons_unit_of_not_mem m.view f (inbSt 0 (by omega) 3) (o 0 (by omega) 3) _ (ix4 0 2 r j : S2x4x128x128.Idx) rfl 1 (.inl (by show (2:ℕ) < 3; omega))).trans ?_
    refine (View.read_writes_cons_unit_of_mem m.view f (inbSt 0 (by omega) 2) (o 0 (by omega) 2) _ (ix4 0 2 r j : S2x4x128x128.Idx) (ix4 0 0 r j : S1x1x128x128.Idx) rfl (fun a => match a with
        | ⟨0, _⟩ => rfl
        | ⟨1, _⟩ => rfl
        | ⟨2, _⟩ => (Nat.zero_add _).symm
        | ⟨3, _⟩ => (Nat.zero_add _).symm)).trans ?_
    exact h 0 2 r j
  | ⟨0, _⟩, ⟨1, _⟩ =>
    refine (View.read_writes_cons_unit_of_not_mem m.view f (inbSt 1 (by omega) 3) (o 1 (by omega) 3) _ (ix4 0 1 r j : S2x4x128x128.Idx) rfl 0 (.inl (by show (0:ℕ) < 1; omega))).trans ?_
    refine (View.read_writes_cons_unit_of_not_mem m.view f (inbSt 1 (by omega) 2) (o 1 (by omega) 2) _ (ix4 0 1 r j : S2x4x128x128.Idx) rfl 0 (.inl (by show (0:ℕ) < 1; omega))).trans ?_
    refine (View.read_writes_cons_unit_of_not_mem m.view f (inbSt 1 (by omega) 1) (o 1 (by omega) 1) _ (ix4 0 1 r j : S2x4x128x128.Idx) rfl 0 (.inl (by show (0:ℕ) < 1; omega))).trans ?_
    refine (View.read_writes_cons_unit_of_not_mem m.view f (inbSt 1 (by omega) 0) (o 1 (by omega) 0) _ (ix4 0 1 r j : S2x4x128x128.Idx) rfl 0 (.inl (by show (0:ℕ) < 1; omega))).trans ?_
    refine (View.read_writes_cons_unit_of_not_mem m.view f (inbSt 0 (by omega) 3) (o 0 (by omega) 3) _ (ix4 0 1 r j : S2x4x128x128.Idx) rfl 1 (.inl (by show (1:ℕ) < 3; omega))).trans ?_
    refine (View.read_writes_cons_unit_of_not_mem m.view f (inbSt 0 (by omega) 2) (o 0 (by omega) 2) _ (ix4 0 1 r j : S2x4x128x128.Idx) rfl 1 (.inl (by show (1:ℕ) < 2; omega))).trans ?_
    refine (View.read_writes_cons_unit_of_mem m.view f (inbSt 0 (by omega) 1) (o 0 (by omega) 1) _ (ix4 0 1 r j : S2x4x128x128.Idx) (ix4 0 0 r j : S1x1x128x128.Idx) rfl (fun a => match a with
        | ⟨0, _⟩ => rfl
        | ⟨1, _⟩ => rfl
        | ⟨2, _⟩ => (Nat.zero_add _).symm
        | ⟨3, _⟩ => (Nat.zero_add _).symm)).trans ?_
    exact h 0 1 r j
  | ⟨0, _⟩, ⟨0, _⟩ =>
    refine (View.read_writes_cons_unit_of_not_mem m.view f (inbSt 1 (by omega) 3) (o 1 (by omega) 3) _ (ix4 0 0 r j : S2x4x128x128.Idx) rfl 0 (.inl (by show (0:ℕ) < 1; omega))).trans ?_
    refine (View.read_writes_cons_unit_of_not_mem m.view f (inbSt 1 (by omega) 2) (o 1 (by omega) 2) _ (ix4 0 0 r j : S2x4x128x128.Idx) rfl 0 (.inl (by show (0:ℕ) < 1; omega))).trans ?_
    refine (View.read_writes_cons_unit_of_not_mem m.view f (inbSt 1 (by omega) 1) (o 1 (by omega) 1) _ (ix4 0 0 r j : S2x4x128x128.Idx) rfl 0 (.inl (by show (0:ℕ) < 1; omega))).trans ?_
    refine (View.read_writes_cons_unit_of_not_mem m.view f (inbSt 1 (by omega) 0) (o 1 (by omega) 0) _ (ix4 0 0 r j : S2x4x128x128.Idx) rfl 0 (.inl (by show (0:ℕ) < 1; omega))).trans ?_
    refine (View.read_writes_cons_unit_of_not_mem m.view f (inbSt 0 (by omega) 3) (o 0 (by omega) 3) _ (ix4 0 0 r j : S2x4x128x128.Idx) rfl 1 (.inl (by show (0:ℕ) < 3; omega))).trans ?_
    refine (View.read_writes_cons_unit_of_not_mem m.view f (inbSt 0 (by omega) 2) (o 0 (by omega) 2) _ (ix4 0 0 r j : S2x4x128x128.Idx) rfl 1 (.inl (by show (0:ℕ) < 2; omega))).trans ?_
    refine (View.read_writes_cons_unit_of_not_mem m.view f (inbSt 0 (by omega) 1) (o 0 (by omega) 1) _ (ix4 0 0 r j : S2x4x128x128.Idx) rfl 1 (.inl (by show (0:ℕ) < 1; omega))).trans ?_
    refine (View.read_writes_cons_unit_of_mem m.view f (inbSt 0 (by omega) 0) (o 0 (by omega) 0) [] (ix4 0 0 r j : S2x4x128x128.Idx) (ix4 0 0 r j : S1x1x128x128.Idx) rfl (fun a => match a with
        | ⟨0, _⟩ => rfl
        | ⟨1, _⟩ => rfl
        | ⟨2, _⟩ => (Nat.zero_add _).symm
        | ⟨3, _⟩ => (Nat.zero_add _).symm)).trans ?_
    exact h 0 0 r j

theorem start_st (A : Args) (p : Fin 4) : k0_pay1055 (F := Ideal) = stS A p 0 := by
  funext y
  obtain ⟨s, hd, r, j, rfl⟩ : ∃ (s : Fin 2) (hd : Fin 4) (r j : Fin 128), y = ix4 s hd r j := ⟨y 0, y 1, y 2, y 3, eq_ix4 y⟩
  show k0_pay1055 (F := Ideal) (ix4 s hd r j) = ((ST _ _ _ 0 hd r j : ℝ) : EReal)
  pointwise [k0_pay1055]
  simp [ST, Ideal.ofBits, Ideal.ieee]

theorem start_ha (A : Args) (p : Fin 4) : k0_pay1056 (F := Ideal) = haS A p 0 := by
  funext y
  obtain ⟨s, r, j, rfl⟩ : ∃ (s : Fin 2) (r : Fin 16) (j : Fin 512), y = ix3 s r j := ⟨y 0, y 1, y 2, eq_ix3 y⟩
  show k0_pay1056 (F := Ideal) (ix3 s r j) = ((xq A (bat p s) (0 + r.val) j : ℝ) : EReal)
  pointwise [k0_pay1056]
  unfold xq
  rw [if_neg (by omega)]
  simp [Ideal.ofBits, Ideal.ieee]

/-- The states and the last rows before a point. -/
def preSt (c : Dev nD) (A : Args) (arg15 : Memref sig .tc .vmem S2x4x128x128 .f32) (arg16 : Memref sig .tc .vmem S2x16x512 .f32) (p : Fin 4) (n : Fin 16) : sProp (MT nD τ sig Unit (Elt Ideal) ℕ (UR sig nD τ) ℕ) :=
  if n.val = 0 then iprop((∃ d, owns (c : Thread nD τ) arg15 fullShare d) ∗ (∃ d, owns (c : Thread nD τ) arg16 fullShare d))
  else iprop(owns (c : Thread nD τ) arg15 fullShare (stS A p (256 * n.val)) ∗ owns (c : Thread nD τ) arg16 fullShare (haS A p (256 * n.val)))

/-- The gate columns before a point. -/
def preFp (c : Dev nD) (A : Args) (arg13 : Memref sig .tc .vmem S2x256x512 .f32) (p : Fin 4) (n : Fin 16) : sProp (MT nD τ sig Unit (Elt Ideal) ℕ (UR sig nD τ) ℕ) :=
  if p.val = 0 ∧ n.val = 0 then iprop(∃ d, owns (c : Thread nD τ) arg13 fullShare d) else iprop(owns (c : Thread nD τ) arg13 fullShare (fpS A p n))

theorem start_iff : ∀ n : Fin 16, (Scalar.cmpi .ne (Scalar.extui (Scalar.cmpi .eq (BitVec.ofNat 32 n.val) 0#32) : BitVec 32) 0#32 = 1#1) ↔ n.val = 0 := by decide +kernel
theorem first_iff : ∀ (p : Fin 4) (n : Fin 16), atFirst (BitVec.ofNat 32 p.val) (BitVec.ofNat 32 n.val) = 1#1 ↔ (p.val = 0 ∧ n.val = 0) := by decide +kernel

variable (A : Args)

theorem headA (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (x5 : Vec Ideal S2x512 .f32) (E : Set ℕ) : ∀ (K : (Σ' (arg0 : BitVec 32) (arg1 : BitVec 32) (v12 : FVec Ideal S1x512 .f32) (v23 : FVec Ideal S256x1 .f32) (v27 : FVec Ideal S256x1 .f32) (v31 : FVec Ideal S256x1 .f32) (v35 : FVec Ideal S256x1 .f32) (v36 : IVec S64x64 32) (v37 : IVec S64x64 32), IVec S64x64 32) → sProp (MT nD τ sig Unit (Elt Ideal) ℕ (UR sig nD τ) ℕ)), iprop(owns (c : Thread nD τ) arg7 fullShare x5 ∗ preSt c A arg15 arg16 (i 0) (i 1) ∗ (iprop(owns (c : Thread nD τ) arg7 fullShare x5 ∗ owns (c : Thread nD τ) arg15 fullShare (stS A (i 0) (256 * (i 1).val)) ∗ owns (c : Thread nD τ) arg16 fullShare (haS A (i 0) (256 * (i 1).val))) -∗ K (ret98 i (lbAt arg7 harg7 x5)))) ⊢ wp frame (wpE (defs₀ (F := Ideal)) Variants.none c none) E (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro K
  unfold preSt
  by_cases h : (i 1).val = 0
  · have e0 : stS A (i 0) (256 * (i 1).val) = k0_pay1055 (F := Ideal) := (congrArg (stS A (i 0)) (by omega : 256 * (i 1).val = 0)).trans (start_st A (i 0)).symm
    have e1 : haS A (i 0) (256 * (i 1).val) = k0_pay1056 (F := Ideal) := (congrArg (haS A (i 0)) (by omega : 256 * (i 1).val = 0)).trans (start_ha A (i 0)).symm
    rw [if_pos h, e0, e1]
    iintro ⟨H5, ⟨H13, H14⟩, Hk⟩
    iapply (first_start c i arg2 harg2 arg3 harg3 arg4 harg4 arg5 harg5 arg6 harg6 arg7 harg7 arg8 harg8 arg9 harg9 arg10 harg10 arg11 harg11 arg12 harg12 arg13 harg13 arg14 harg14 arg15 harg15 arg16 harg16 ((start_iff (i 1)).mpr h) x5 (k0_pay1055 (F := Ideal)) (k0_pay1056 (F := Ideal)) E K)
    isplitl [H5]; · iexact H5
    isplitl [H13]; · iexact H13
    isplitl [H14]; · iexact H14
    iexact Hk
  · rw [if_neg h]
    iintro ⟨H5, ⟨H13, H14⟩, Hk⟩
    iapply (first_cont c i arg2 harg2 arg3 harg3 arg4 harg4 arg5 harg5 arg6 harg6 arg7 harg7 arg8 harg8 arg9 harg9 arg10 harg10 arg11 harg11 arg12 harg12 arg13 harg13 arg14 harg14 arg15 harg15 arg16 harg16 (fun hh => h ((start_iff (i 1)).mp hh)) x5 _ _ E K)
    isplitl [H5]; · iexact H5
    isplitl [H13]; · iexact H13
    isplitl [H14]; · iexact H14
    iexact Hk

theorem headB (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (x0 : Vec Ideal S2x256x1024 .f32) (x2 : Vec Ideal S1024x2560 .bf16) (x6 : Vec Ideal S1x128 .f32) (E : Set ℕ)
    (hx : ∀ (s : Fin 2) (r : Fin 256) (k : Fin 1024), x0 (ix3 s r k) = A.x (ix3 (bat (i 0) s) (stp (i 1) r) k))
    (hw : ∀ (k : Fin 1024) (c : Fin 2560), x2 (ix2 k c) = A.win (ix3 0 k c)) : ∀ (v12 : FVec Ideal S1x512 .f32) (v36 : IVec S64x64 32) (v37 : IVec S64x64 32) (c16_i32_113 : BitVec 32) (v393 : IVec S64x64 32) (v407 : IVec S64x64 1) (K : (Σ' (v442 : IVec S64x64 1) (v443 : Vec Ideal S1x128 .f32), BitVec 1) → sProp (MT nD τ sig Unit (Elt Ideal) ℕ (UR sig nD τ) ℕ)), iprop(owns (c : Thread nD τ) arg2 fullShare x0 ∗ owns (c : Thread nD τ) arg4 fullShare x2 ∗ owns (c : Thread nD τ) arg8 fullShare x6 ∗ preFp c A arg13 (i 0) (i 1) ∗ (∃ d, owns (c : Thread nD τ) arg14 fullShare d) ∗ (∀ w : BitVec 1, iprop(owns (c : Thread nD τ) arg2 fullShare x0 ∗ owns (c : Thread nD τ) arg4 fullShare x2 ∗ owns (c : Thread nD τ) arg8 fullShare x6 ∗ owns (c : Thread nD τ) arg13 fullShare (fpS A (i 0) (i 1)) ∗ (∃ d, owns (c : Thread nD τ) arg14 fullShare d)) -∗ K ⟨k0_pay1098 v36 v37 c16_i32_113 v393 v407, gnAt arg8 harg8 x6, w⟩))
      ⊢ wp frame (wpE (defs₀ (F := Ideal)) Variants.none c none) E (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v12 v36 v37 c16_i32_113 v393 v407) K := by
  intro v12 v36 v37 c16 v393 v407 K
  unfold preFp
  by_cases h : (i 0).val = 0 ∧ (i 1).val = 0
  · rw [if_pos h]
    exact load_first c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v12 v36 v37 c16 v393 v407 x0 x2 x6 ((first_iff (i 0) (i 1)).mpr h) (fpS A (i 0) (i 1))
      (first0_real A arg2 harg2 arg4 harg4 x0 x2 hx hw) (first1_real A arg2 harg2 arg4 harg4 x0 x2 hx hw) E K
  · rw [if_neg h]
    exact load_next c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) v12 v36 v37 c16 v393 v407 x0 x2 x6 (fun hh => h ((first_iff (i 0) (i 1)).mp hh)) (fpS A (i 0) (i 1)) E K

set_option maxHeartbeats 4000000 in
theorem pointRun (c : Dev nD) (i : grid0.Coords) (arg2 : Memref sig .tc .vmem S2x256x1024 .f32) (harg2 : arg2.IsWhole) (arg3 : Memref sig .tc .vmem S2x256x1024 .f32) (harg3 : arg3.IsWhole) (arg4 : Memref sig .tc .vmem S1024x2560 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S2x512 .f32) (harg7 : arg7.IsWhole) (arg8 : Memref sig .tc .vmem S1x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S2x256x1024 .f32) (harg12 : arg12.IsWhole) (arg13 : Memref sig .tc .vmem S2x256x512 .f32) (harg13 : arg13.IsWhole) (arg14 : Memref sig .tc .smem S1 .i32) (harg14 : arg14.IsWhole) (arg15 : Memref sig .tc .vmem S2x4x128x128 .f32) (harg15 : arg15.IsWhole) (arg16 : Memref sig .tc .vmem S2x16x512 .f32) (harg16 : arg16.IsWhole) (x0 : Vec Ideal S2x256x1024 .f32) (x1 : Vec Ideal S2x256x1024 .f32) (x2 : Vec Ideal S1024x2560 .bf16) (x3 : Vec Ideal S4x128x128 .bf16) (x4 : Vec Ideal S1x512 .f32) (x5 : Vec Ideal S2x512 .f32) (x6 : Vec Ideal S1x128 .f32) (x7 : Vec Ideal S1024x1024 .bf16) (x8 : Vec Ideal S1x1024 .f32) (x9 : Vec Ideal S1x1024 .f32) (E : Set ℕ) (Q : sProp (MT nD τ sig Unit (Elt Ideal) ℕ (UR sig nD τ) ℕ)) (hA : A.Finite) (B : Blocks A (i 0) (i 1) x0 x2 x3 x4 x5 x6 x7 x8 x9) (p' : Fin 4) (n' : Fin 16)
    (hx1 : ∀ (s : Fin 2) (r : Fin 256) (k : Fin 1024), x1 (ix3 s r k) = A.x (ix3 (bat p' s) (stp n' r) k)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ preFp c A arg13 (i 0) (i 1) ∗ (∃ d, owns (c : Thread nD τ) arg14 fullShare d) ∗ preSt c A arg15 arg16 (i 0) (i 1) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outS A (i 0) (i 1)) ∗ owns (c : Thread nD τ) arg13 fullShare (fpS A p' n') ∗ (∃ d, owns (c : Thread nD τ) arg14 fullShare d) ∗ owns (c : Thread nD τ) arg15 fullShare (stS A (i 0) (256 * (i 1).val + 256)) ∗ owns (c : Thread nD τ) arg16 fullShare (haS A (i 0) (256 * (i 1).val + 256))) -∗ Q))
      ⊢ wp frame (wpE (defs₀ (F := Ideal)) Variants.none c none) E (cc0_mixer_ln1 i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => Q) := by
  have R := tileIn A i arg2 harg2 arg4 harg4 arg5 harg5 arg6 harg6 arg9 harg9 arg10 harg10 arg11 harg11 arg13 harg13 arg15 harg15 arg16 harg16 x0 x2 x3 x4 x7 x8 x9 arg7 harg7 arg8 harg8 x5 x6 hA B
  have RR := fun s => tile_real hA (R s)
  refine bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (fpS A (i 0) (i 1)) (stS A (i 0) (256 * (i 1).val)) (haS A (i 0) (256 * (i 1).val)) E _ _ Q
    (headA A c i arg2 harg2 arg3 harg3 arg4 harg4 arg5 harg5 arg6 harg6 arg7 harg7 arg8 harg8 arg9 harg9 arg10 harg10 arg11 harg11 arg12 harg12 arg13 harg13 arg14 harg14 arg15 harg15 arg16 harg16 x5 E) (headB A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x2 x6 E B.x B.win) _ _ _ _ ?_ ?_ ?_ ?_ ?_
  · exact fun f => read_outP arg12 f _ _ fun s r d => out_at hA (R s) _ (fun hd r e => oFast_real (RR s) loc_apply hd r e) r d
  · exact fun f => read_outP arg12 f _ _ fun s r d => out_at hA (R s) _ (fun hd r e => oSlow_real (RR s) (lR_anti A (bat (i 0) s)) masks_spec hd r e) r d
  · exact fun f => read_fpP arg13 f _ _ fun s r j => ahead_real A arg4 harg4 x2 x1 arg3 harg3 hx1 B.win s r j
  · exact fun f => read_stP arg15 f _ _ fun s hd e d => (stOut_apply _ 0 0 e d).trans (s4_real (RR s) hd e d)
  · refine fun f => read_haP arg16 f _ _ fun s r j => (keep_apply _ 0 r j).trans ((xp_real hA (R s) _ j).trans ?_)
    show _ = ((xq A (bat (i 0) s) (256 * (i 1).val + 256 + r.val) j : ℝ) : EReal)
    unfold xq
    rw [if_pos (by omega), show 256 * (i 1).val + 256 + r.val - 16 = 256 * (i 1).val + (240 + r.val) by omega]

end Cert.Kernel2Ideal.Mix

end
-- ==== Proof.Mix.Track.lean ====
/- The mixer's run with its result: what every grid point leaves, and the array that the result's tiles make up. -/
module

public import proofs.«01_k».proof.Proof.Mix.Frame
public import proofs.«01_k».proof.Proof.Mix.Point
public import Idealize.ShloMosaic.Lib.Pipeline.ValueKit.Point

@[expose] public section

set_option maxRecDepth 16384

noncomputable section

namespace Cert.Kernel2Ideal.Mix.Track

open Cert.Kernel2Ideal Cert.Kernel2Ideal.Gen Cert.Kernel2Ideal.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The arguments. -/
def args (c : Dev nD) : Args where
  x := m ((c : Thread nD τ).loc main_arg0)
  win := m ((c : Thread nD τ).loc main_arg1)
  pw := m ((c : Thread nD τ).loc main_arg2)
  ps := m ((c : Thread nD τ).loc main_arg3)
  lb := m ((c : Thread nD τ).loc main_arg4)
  gn := m ((c : Thread nD τ).loc main_arg5)
  wo := m ((c : Thread nD τ).loc main_arg6)
  ga := m ((c : Thread nD τ).loc main_arg7)
  be := m ((c : Thread nD τ).loc main_arg8)

theorem lt64 (t : Fin cfg0.N) : t.val < 64 := lt_of_lt_of_eq t.isLt N_0

/-- The pair of sequences and the tile of a grid point, and those of the next one. -/
abbrev pairOf (t : Fin cfg0.N) : Fin 4 := ⟨t.val / 16, by have h := lt64 t; omega⟩
abbrev tileIx (t : Fin cfg0.N) : Fin 16 := ⟨t.val % 16, by omega⟩
abbrev pairNx (t : Fin cfg0.N) : Fin 4 := ⟨min (t.val + 1) 63 / 16, by omega⟩
abbrev tileNx (t : Fin cfg0.N) : Fin 16 := ⟨min (t.val + 1) 63 % 16, by omega⟩

theorem co0 : ∀ t : Fin cfg0.N, (grid0.coords t 0).val = t.val / 16 :=
  (by decide +kernel : ∀ t : Fin grid0.N, (grid0.coords t 0).val = t.val / 16)
theorem co1 : ∀ t : Fin cfg0.N, (grid0.coords t 1).val = t.val % 16 :=
  (by decide +kernel : ∀ t : Fin grid0.N, (grid0.coords t 1).val = t.val % 16)
theorem pair_eq (t : Fin cfg0.N) : (grid0.coords t 0 : Fin 4) = pairOf t := Fin.ext (co0 t)
theorem tile_eq (t : Fin cfg0.N) : (grid0.coords t 1 : Fin 16) = tileIx t := Fin.ext (co1 t)

theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![min (t.val + 1) 63 / 16, min (t.val + 1) 63 % 16, 0] :=
  (by decide +kernel : ∀ t : Fin grid0.N, win0_1.index t = ![min (t.val + 1) 63 / 16, min (t.val + 1) 63 % 16, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![t.val / 16, t.val % 16, 0] :=
  (by decide +kernel : ∀ t : Fin grid0.N, win0_10.index t = ![t.val / 16, t.val % 16, 0])

variable (c : Dev nD)

theorem blk0 (t : Fin cfg0.N) (s : Fin 2) (r : Fin 256) (k : Fin 1024) : iblk m c 0 t (ix3 s r k) = m ((c : Thread nD τ).loc main_arg0) (ix3 (bat (pairOf t) s) (stp (tileIx t) r) k) := by
  unfold bat stp
  blk_ext! [iblk, V_main_arg0, idx0 t]
theorem blk1 (t : Fin cfg0.N) (s : Fin 2) (r : Fin 256) (k : Fin 1024) : iblk m c 1 t (ix3 s r k) = m ((c : Thread nD τ).loc main_arg0) (ix3 (bat (pairNx t) s) (stp (tileNx t) r) k) := by
  unfold bat stp
  blk_ext! [iblk, V_main_arg0, idx1 t]
theorem blk2 (t : Fin cfg0.N) (k : Fin 1024) (j : Fin 2560) : iblk m c 2 t (ix2 k j) = m ((c : Thread nD τ).loc main_arg1) (ix3 0 k j) := by
  blk_ext! [iblk, Gen.V, idx2 t]
theorem blk3 (t : Fin cfg0.N) (g : Fin 4) (x y : Fin 128) : iblk m c 3 t (ix3 g x y) = m ((c : Thread nD τ).loc main_arg2) (ix4 0 g x y) := by
  blk_ext! [iblk, Gen.V, idx3 t]
theorem blk4 (t : Fin cfg0.N) (j : Fin 512) : iblk m c 4 t (ix2 0 j) = m ((c : Thread nD τ).loc main_arg3) (ix2 0 j) := by
  blk_ext! [iblk, V_main_arg3, idx4 t]
theorem blk5 (t : Fin cfg0.N) (z : Fin 2) (j : Fin 512) : iblk m c 5 t (ix2 z j) = m ((c : Thread nD τ).loc main_arg4) (ix2 z j) := by
  blk_ext! [iblk, V_main_arg4, idx5 t]
theorem blk6 (t : Fin cfg0.N) (j : Fin 128) : iblk m c 6 t (ix2 0 j) = m ((c : Thread nD τ).loc main_arg5) (ix2 0 j) := by
  blk_ext! [iblk, V_main_arg5, idx6 t]
theorem blk7 (t : Fin cfg0.N) (x y : Fin 1024) : iblk m c 7 t (ix2 x y) = m ((c : Thread nD τ).loc main_arg6) (ix3 0 x y) := by
  blk_ext! [iblk, Gen.V, idx7 t]
theorem blk8 (t : Fin cfg0.N) (j : Fin 1024) : iblk m c 8 t (ix2 0 j) = m ((c : Thread nD τ).loc main_arg7) (ix2 0 j) := by
  blk_ext! [iblk, V_main_arg7, idx8 t]
theorem blk9 (t : Fin cfg0.N) (j : Fin 1024) : iblk m c 9 t (ix2 0 j) = m ((c : Thread nD τ).loc main_arg8) (ix2 0 j) := by
  blk_ext! [iblk, V_main_arg8, idx9 t]

theorem blocks (t : Fin cfg0.N) {p : Fin 4} {n : Fin 16} (hp : p = pairOf t) (hn : n = tileIx t) :
    Blocks (args m c) p n (iblk m c 0 t) (iblk m c 2 t) (iblk m c 3 t) (iblk m c 4 t) (iblk m c 5 t) (iblk m c 6 t) (iblk m c 7 t) (iblk m c 8 t) (iblk m c 9 t) := by
  subst hp hn
  exact ⟨blk0 m c t, blk2 m c t, blk3 m c t, blk4 m c t, blk5 m c t, blk6 m c t, blk7 m c t, blk8 m c t, blk9 m c t⟩

/-- The scratch after a point. -/
def left (t : Fin cfg0.N) : Asn Ideal :=
  iprop(iprop(owns (c : Thread nD τ) sc0 fullShare (fpS (args m c) (pairNx t) (tileNx t)) ∗ owns (c : Thread nD τ) sc2 fullShare (stS (args m c) (pairOf t) (256 * (tileIx t).val + 256)) ∗ owns (c : Thread nD τ) sc3 fullShare (haS (args m c) (pairOf t) (256 * (tileIx t).val + 256)) ∗ (∃ d, owns (c : Thread nD τ) sc1 fullShare d)) ∗ (∃ r, prngReg c r))

/-- The scratch between points. -/
def Phi : (n : ℕ) → n ≤ cfg0.N → Asn Ideal
  | 0, _ => Pipeline.ΦA spec0 c
  | n + 1, hn => left m c ⟨n, hn⟩

theorem Phi_zero (n : ℕ) (h : n ≤ cfg0.N) (hz : n = 0) : Phi m c n h = Pipeline.ΦA spec0 c := by subst hz; rfl
theorem Phi_pos (n : ℕ) (h : n ≤ cfg0.N) (hz : n ≠ 0) : Phi m c n h = left m c ⟨n - 1, by omega⟩ := by
  cases n with
  | zero => exact absurd rfl hz
  | succ n => rfl

theorem left_weak (t : Fin cfg0.N) : left m c t ⊢ Pipeline.ΦA spec0 c := by
  rw [scratch_eq]
  unfold left
  iintro ⟨⟨S0, S2, S3, S1⟩, Hg⟩
  isplitl [S0 S1 S2 S3]
  · isplitl [S0]; · iexists _; iexact S0
    isplitl [S2]; · iexists _; iexact S2
    isplitl [S3]; · iexists _; iexact S3
    iexact S1
  iexact Hg

/-- Before a point the scratch is as its body wants it. -/
theorem Phi_pre (t : Fin cfg0.N) (h : t.val ≤ cfg0.N) {p : Fin 4} {n : Fin 16} (hp : p = pairOf t) (hn : n = tileIx t) :
    Phi m c t.val h ⊢ iprop(preFp c (args m c) sc0 p n ∗ preSt c (args m c) sc2 sc3 p n ∗ (∃ d, owns (c : Thread nD τ) sc1 fullShare d) ∗ (∃ r, prngReg c r)) := by
  subst hp hn
  unfold preFp preSt
  by_cases hz : t.val = 0
  · rw [Phi_zero m c _ _ hz, scratch_eq, if_pos (by constructor <;> (dsimp only; omega)), if_pos (by dsimp only; omega)]
    iintro ⟨⟨S0, S2, S3, S1⟩, Hg⟩
    isplitl [S0]; · iexact S0
    isplitl [S2 S3]
    · isplitl [S2]; · iexact S2
      iexact S3
    isplitl [S1]; · iexact S1
    iexact Hg
  · have hN := lt64 t
    have e1 : pairNx ⟨t.val - 1, by omega⟩ = pairOf t := Fin.ext (by show min (t.val - 1 + 1) 63 / 16 = t.val / 16; omega)
    have e2 : tileNx ⟨t.val - 1, by omega⟩ = tileIx t := Fin.ext (by show min (t.val - 1 + 1) 63 % 16 = t.val % 16; omega)
    rw [Phi_pos m c _ _ hz, if_neg (by dsimp only; omega)]
    unfold left
    rw [e1, e2]
    by_cases h0 : t.val % 16 = 0
    · rw [if_pos h0]
      iintro ⟨⟨S0, S2, S3, S1⟩, Hg⟩
      isplitl [S0]; · iexact S0
      isplitl [S2 S3]
      · isplitl [S2]; · iexists _; iexact S2
        iexists _; iexact S3
      isplitl [S1]; · iexact S1
      iexact Hg
    · have e3 : pairOf ⟨t.val - 1, by omega⟩ = pairOf t := Fin.ext (by show (t.val - 1) / 16 = t.val / 16; omega)
      have e4 : 256 * (tileIx ⟨t.val - 1, by omega⟩).val + 256 = 256 * (tileIx t).val := by show 256 * ((t.val - 1) % 16) + 256 = 256 * (t.val % 16); omega
      rw [if_neg h0, e3, e4]
      iintro ⟨⟨S0, S2, S3, S1⟩, Hg⟩
      isplitl [S0]; · iexact S0
      isplitl [S2 S3]
      · isplitl [S2]; · iexact S2
        iexact S3
      isplitl [S1]; · iexact S1
      iexact Hg

/-- The arrays as the region finds them, and what the body leaves in each staging buffer. -/
def dats (_ : Fin 1) (c : Dev nD) : Dat τ (Elt Ideal) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outS (args m c) (pairOf t) (tileIx t)
  Φ t := Phi m c t.val (Nat.le_of_lt_succ t.isLt)
  q w := Pipeline.shareOf spec0 w
  owed _ := 0

theorem A_eq (c : Dev nD) (w : Fin cfg0.W) : (dats m 0 c).A w = Gen.V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outS (args m c) (pairOf t) (tileIx t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at a point. -/
def bodyPre (c : Dev nD) (t : Fin cfg0.N) : Asn Ideal :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it leaves. -/
def bodyPost (c : Dev nD) (t : Fin cfg0.N) : Asn Ideal :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 4000000 in
theorem sound_body (hA : (args m c).Finite) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl, after_0, after_1, after_2, after_3, after_4, after_5, after_6, after_7, after_8, after_9, after_10]
  rw [show (dats m 0 c).Φ t.castSucc = Phi m c t.val (Nat.le_of_lt t.isLt) from rfl, show (dats m 0 c).Φ t.succ = left m c t from rfl]
  have hpre := Phi_pre m c t (Nat.le_of_lt t.isLt) (pair_eq t) (tile_eq t)
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HP := hpre $$ HP
  icases HP with ⟨S0, S23, S1, Hg⟩
  iapply (pointRun (args m c) c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _ hA
    (blocks m c t (pair_eq t) (tile_eq t)) (pairNx t) (tileNx t) (blk1 m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S0]; · iexact S0
  isplitl [S1]; · iexact S1
  isplitl [S23]; · iexact S23
  rw [show outS (args m c) (grid0.coords t 0) (grid0.coords t 1) = outS (args m c) (pairOf t) (tileIx t) from congrArg₂ (outS (args m c)) (pair_eq t) (tile_eq t),
    show stS (args m c) (grid0.coords t 0) (256 * (grid0.coords t 1).val + 256) = stS (args m c) (pairOf t) (256 * (tileIx t).val + 256) from congrArg₂ (fun p n => stS (args m c) p (256 * n + 256)) (pair_eq t) (co1 t),
    show haS (args m c) (grid0.coords t 0) (256 * (grid0.coords t 1).val + 256) = haS (args m c) (pairOf t) (256 * (tileIx t).val + 256) from congrArg₂ (fun p n => haS (args m c) p (256 * n + 256)) (pair_eq t) (co1 t)]
  unfold left
  iintro ⟨H0, H1, H2, H3, H4, H5, H6, H7, H8, H9, H10, S0, S1, S2, S3⟩
  isplitl [S0 S1 S2 S3 Hg]
  · isplitl [S0 S1 S2 S3]
    · isplitl [S0]; · iexact S0
      isplitl [S2]; · iexact S2
      isplitl [S3]; · iexact S3
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (hA : (args m c).Finite) : BodyObligation (dats m 0 c) (defs₀ (F := Ideal)) Variants.none () Set.univ := fun t => by
  rw [bigSep_W0, bigSep_W0, defs₀_row]
  exact triple_restated (sound_body m c hA t) rfl .rfl fun _ => .rfl

theorem hin : Pipeline.ΦA spec0 c ⊢ (dats m 0 c).Φ 0 := by
  rw [show (dats m 0 c).Φ 0 = Phi m c 0 (Nat.zero_le _) from rfl, Phi_zero m c 0 _ rfl]

theorem hout : (dats m 0 c).Φ (Fin.last cfg0.N) ⊢ Pipeline.ΦA spec0 c := by
  rw [show (dats m 0 c).Φ (Fin.last cfg0.N) = Phi m c cfg0.N le_rfl from rfl, Phi_pos m c _ _ (by rw [show cfg0.N = 64 from N_0]; decide)]
  exact left_weak m c _

set_option backward.isDefEq.respectTransparency.types false in
/-- The run, the result array named. -/
theorem run_main (hA : ∀ c, (args m c).Finite) : θ_run defs (onTc (τ := τ) (main (F := Ideal))) (s₀ m ρ) (Pipeline.FramePost cfgs (dats m) 0 (Gen.V m)) :=
  Pipeline.θ_run_frame_track_shared cfgs (dats m) (0 : Fin 1) launch₀0 defs₀ Variants.none m ρ main
    (hbody := fun c => (body_obligation m c (hA c)).loose) (hq := fun _ _ _ => rfl)
    (howed := fun _ _ => rfl) (V := Gen.V m) (hmain := hmain m Variants.none) (hA := A_eq m) (hin := hin m) (hout := hout m)

/-- The array the result's tiles make up. -/
theorem result : (dats m 0 c).arrAt 10 cfg0.N = fun y : S8x4096x1024.Idx => rS (args m c) (y 0) (y 1) (y 2) := by
  refine (dats m 0 c).arrAt_eq_of_covers 10 _ (by decide +kernel) fun t hf y => ?_
  rw [after_10]
  obtain ⟨s, r, d, rfl⟩ : ∃ (s : Fin 2) (r : Fin 256) (d : Fin 1024), y = ix3 s r d := ⟨y 0, y 1, y 2, eq_ix3 y⟩
  have e : ((cfg0.win 10).blk t).view.emb (ix3 s r d) = ix3 (bat (pairOf t) s) (stp (tileIx t) r) d := by
    unfold bat stp
    blk_ext [idx10 t]
  blk_simp
  rw [e]
  rfl

/-- The mixer's result and its unchanged arguments. -/
theorem value_run (hA : ∀ c, (args m c).Finite) : θ_run defs (onTc (τ := τ) (main (F := Ideal))) ⟨m, fun _ => 0, ρ⟩ (fun r => ∀ c : Dev nD,
      r.2.mem ((c.tc : Thread nD τ).loc main_v6) = (fun y : S8x4096x1024.Idx => rS (args m c) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨?_, ?_, ?_, ?_, ?_, ?_, ?_, ?_, ?_, ?_⟩) (run_main m ρ hA)
  · exact ((h c).1 10).trans (result m c)
  · exact ((h c).1 1).trans (((dats m 0 c).arrAt_in 1 rfl _).trans ((A_eq m c 1).trans (V_main_arg0 m c)))
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).1 4).trans (((dats m 0 c).arrAt_in 4 rfl _).trans ((A_eq m c 4).trans (V_main_arg3 m c)))
  · exact ((h c).1 5).trans (((dats m 0 c).arrAt_in 5 rfl _).trans ((A_eq m c 5).trans (V_main_arg4 m c)))
  · exact ((h c).1 6).trans (((dats m 0 c).arrAt_in 6 rfl _).trans ((A_eq m c 6).trans (V_main_arg5 m c)))
  · exact ((h c).2 main_arg6 (Pipeline.mem_restRefs_of main_arg6 (by decide) (by decide))).trans (V_main_arg6 m c)
  · exact ((h c).1 8).trans (((dats m 0 c).arrAt_in 8 rfl _).trans ((A_eq m c 8).trans (V_main_arg7 m c)))
  · exact ((h c).1 9).trans (((dats m 0 c).arrAt_in 9 rfl _).trans ((A_eq m c 9).trans (V_main_arg8 m c)))

end Cert.Kernel2Ideal.Mix.Track

end
-- ==== Proof.Mix.Pre.lean ====
/- What the mixer's precondition says of one entry. -/
module

public import proofs.«01_k».proof.Defs
public import proofs.«01_k».proof.Proof.Mix.Track

@[expose] public section

noncomputable section

namespace Cert.Kernel2Ideal.Mix

open Idealize.ShloMosaic Idealize.ShloMosaic.TcCoe

theorem pre_facts : Cert.Pre_finite2.Facts := ⟨by decide, by decide, by decide⟩

theorem real_of_lt {x : EReal} (h : BitVec.ofBool (decide (max x (-x) < Ideal.ofBits .f32 0x7F800000#32)) = 1#1) : ∃ r : ℝ, x = (r : EReal) := by
  rw [show Ideal.ofBits .f32 0x7F800000#32 = (⊤ : EReal) by simp [Ideal.ofBits, Ideal.ieee]] at h
  induction x using EReal.rec with
  | bot => simp at h
  | top => simp at h
  | coe r => exact ⟨r, rfl⟩

theorem args_finite (m : (ℓ : Loc nD τ sig) → Buf (Elt Ideal) ℓ) (h : Cert.Pre_Kernel2Ideal_finite2 (hPre_finite2 := pre_facts) m) (c : Dev nD) : (Track.args m c).Finite := by
  obtain ⟨h0, h1, h2⟩ := h c
  exact ⟨fun i => real_of_lt (congrFun h0 i), fun i => real_of_lt (congrFun h1 i), fun i => real_of_lt (congrFun h2 i)⟩

end Cert.Kernel2Ideal.Mix

end
-- ==== Proof.Mix.Cum.lean ====
/- A running sum written as a windowed sum, as the sum of the steps so far. -/
module

public import proofs.«01_k».proof.Proof.Gen.Reference2Ideal.Run
public import Idealize.ShloMosaic.Lib.Pipeline.ValueKit.Point

@[expose] public section

set_option maxRecDepth 16384

noncomputable section

namespace Cert.Reference2Ideal.Mix

open Idealize.ShloMosaic Idealize.ShloMosaic.TcCoe Idealize.ShloMosaic.StableHlo
open Cert.Reference2Ideal Cert.Reference2Ideal.Gen Cert.Reference2Ideal.Value

theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

theorem foldl_finRange {n : ℕ} (g : Fin n → EReal) (v : EReal) : (List.finRange n).foldl (fun r k => r + g k) v = v + ∑ k, g k := by
  rw [foldl_add, Fin.sum_univ_def]

/-- The window's steps that lie inside are the steps up to `t`. -/
theorem sum_window (t : ℕ) (ht : t < 4096) (g : ℕ → EReal) :
    (∑ p : Fin 4096, if 4095 ≤ t + p.val then g (t + p.val - 4095) else 0) = ∑ u ∈ Finset.range (t + 1), g u := by
  rw [Fin.sum_univ_eq_sum_range (fun p => if 4095 ≤ t + p then g (t + p - 4095) else 0) 4096,
    show 4096 = (4095 - t) + (t + 1) by omega, Finset.sum_range_add, Finset.sum_eq_zero, zero_add]
  · refine Finset.sum_congr rfl fun u hu => ?_
    rw [if_pos (by omega)]
    exact congrArg g (by omega)
  · intro p hp
    have := Finset.mem_range.mp hp
    rw [if_neg (by omega)]

def axis3 : (⟨3, ![1, 4096, 1]⟩ : Shape).Idx ≃ Fin 4096 where
  toFun i := i 1
  invFun k := ix3 0 k 0
  left_inv i := by
    refine Eq.trans ?_ (eq_ix3 (n0 := 1) (n1 := 4096) (n2 := 1) i).symm
    exact congrArg₂ (fun a b => ix3 a (i 1) b) (Subsingleton.elim _ _) (Subsingleton.elim _ _)
  right_inv k := rfl

def axis4 : (⟨4, ![1, 1, 4096, 1]⟩ : Shape).Idx ≃ Fin 4096 where
  toFun i := i 2
  invFun k := ix4 0 0 k 0
  left_inv i := by
    refine Eq.trans ?_ (eq_ix4 (n0 := 1) (n1 := 1) (n2 := 4096) (n3 := 1) i).symm
    have e0 : (0 : Fin 1) = i 0 := Subsingleton.elim _ _
    have e1 : (0 : Fin 1) = i 1 := Subsingleton.elim _ _
    have e3 : (0 : Fin 1) = i 3 := Subsingleton.elim _ _
    show ix4 (0 : Fin 1) (0 : Fin 1) (i 2) (0 : Fin 1) = ix4 (i 0) (i 1) (i 2) (i 3)
    rw [← e0, ← e1, ← e3]
    rfl
  right_inv k := rfl

theorem rwa_eq {s t u : Shape} (window strides lo hi : Fin s.rank → Nat) (x : FVec Ideal s .f32) (init : u.Idx → Ideal .f32) (h) (hu) :
    Host.reduceWindowAdd (t := t) window strides lo hi x init h hu = Host.reduceWindow (t := t) (fun a b : EReal => a + b) window strides lo hi x init h hu := rfl

theorem term3 (x : FVec Ideal S8x4096x512 .f32) (g : ℕ → EReal) (b : Fin 8) (t : Fin 4096) (j : Fin 512) (hg : ∀ u : Fin 4096, x (ix3 b u j) = g u.val) (w : (⟨3, ![1, 4096, 1]⟩ : Shape).Idx) (inst : Decidable (∀ a : Fin 3, (![0, 4095, 0] : Fin 3 → ℕ) a ≤ ((ix3 b t j : S8x4096x512.Idx) a).val * (![1, 1, 1] : Fin 3 → ℕ) a + (w a).val ∧ ((ix3 b t j : S8x4096x512.Idx) a).val * (![1, 1, 1] : Fin 3 → ℕ) a + (w a).val - (![0, 4095, 0] : Fin 3 → ℕ) a < S8x4096x512.size a)) :
    (@dite EReal (∀ a : Fin 3, (![0, 4095, 0] : Fin 3 → ℕ) a ≤ ((ix3 b t j : S8x4096x512.Idx) a).val * (![1, 1, 1] : Fin 3 → ℕ) a + (w a).val ∧ ((ix3 b t j : S8x4096x512.Idx) a).val * (![1, 1, 1] : Fin 3 → ℕ) a + (w a).val - (![0, 4095, 0] : Fin 3 → ℕ) a < S8x4096x512.size a) inst (fun hin => x (fun a => ⟨((ix3 b t j : S8x4096x512.Idx) a).val * (![1, 1, 1] : Fin 3 → ℕ) a + (w a).val - (![0, 4095, 0] : Fin 3 → ℕ) a, (hin a).2⟩)) (fun _ => (0 : EReal)))
      = if 4095 ≤ t.val + (axis3 w).val then g (t.val + (axis3 w).val - 4095) else 0 := by
  obtain ⟨k, rfl⟩ := axis3.symm.surjective w
  rw [Equiv.apply_symm_apply]
  by_cases hk : 4095 ≤ t.val + k.val
  · rw [if_pos hk, dif_pos (fun a => match a with
      | ⟨0, _⟩ => ⟨Nat.zero_le _, by have := b.isLt; show b.val * 1 + 0 - 0 < 8; omega⟩
      | ⟨1, _⟩ => ⟨by show 4095 ≤ t.val * 1 + k.val; omega, by show t.val * 1 + k.val - 4095 < 4096; omega⟩
      | ⟨2, _⟩ => ⟨Nat.zero_le _, by have := j.isLt; show j.val * 1 + 0 - 0 < 512; omega⟩)]
    refine Eq.trans (congrArg x ?_) (hg ⟨t.val + k.val - 4095, by omega⟩)
    funext a
    match a with
    | ⟨0, _⟩ => exact Fin.ext (by show b.val * 1 + 0 - 0 = b.val; omega)
    | ⟨1, _⟩ => exact Fin.ext (by show t.val * 1 + k.val - 4095 = t.val + k.val - 4095; omega)
    | ⟨2, _⟩ => exact Fin.ext (by show j.val * 1 + 0 - 0 = j.val; omega)
  · rw [if_neg hk, dif_neg]
    intro hin
    have := (hin 1).1
    have e : 4095 ≤ t.val * 1 + k.val := this
    omega

theorem cum3 (x : FVec Ideal S8x4096x512 .f32) (init : S_.Idx → Ideal .f32) (h) (hu) (hi : init (Shape.Idx.first hu) = (0 : EReal))
    (g : ℕ → EReal) (b : Fin 8) (t : Fin 4096) (j : Fin 512) (hg : ∀ u : Fin 4096, x (ix3 b u j) = g u.val) :
    Host.reduceWindowAdd (s := S8x4096x512) (t := S8x4096x512) ![1, 4096, 1] ![1, 1, 1] ![0, 4095, 0] ![0, 0, 0] x init h hu (ix3 b t j)
      = ∑ u ∈ Finset.range (t.val + 1), g u := by
  rw [rwa_eq]
  unfold Host.reduceWindow
  dsimp only
  rw [foldl_finRange, hi, zero_add]
  rw [← sum_window t.val t.isLt g]
  refine Fintype.sum_equiv ((Shape.rowMajor (⟨3, ![1, 4096, 1]⟩ : Shape)).symm.trans axis3) _ _ fun n => ?_
  rw [Equiv.trans_apply]
  exact term3 x g b t j hg _ _

theorem term4 (x : FVec Ideal S8x4x4096x128 .f32) (g : ℕ → EReal) (b : Fin 8) (hd : Fin 4) (t : Fin 4096) (j : Fin 128) (hg : ∀ u : Fin 4096, x (ix4 b hd u j) = g u.val) (w : (⟨4, ![1, 1, 4096, 1]⟩ : Shape).Idx) (inst : Decidable (∀ a : Fin 4, (![0, 0, 4095, 0] : Fin 4 → ℕ) a ≤ ((ix4 b hd t j : S8x4x4096x128.Idx) a).val * (![1, 1, 1, 1] : Fin 4 → ℕ) a + (w a).val ∧ ((ix4 b hd t j : S8x4x4096x128.Idx) a).val * (![1, 1, 1, 1] : Fin 4 → ℕ) a + (w a).val - (![0, 0, 4095, 0] : Fin 4 → ℕ) a < S8x4x4096x128.size a)) :
    (@dite EReal (∀ a : Fin 4, (![0, 0, 4095, 0] : Fin 4 → ℕ) a ≤ ((ix4 b hd t j : S8x4x4096x128.Idx) a).val * (![1, 1, 1, 1] : Fin 4 → ℕ) a + (w a).val ∧ ((ix4 b hd t j : S8x4x4096x128.Idx) a).val * (![1, 1, 1, 1] : Fin 4 → ℕ) a + (w a).val - (![0, 0, 4095, 0] : Fin 4 → ℕ) a < S8x4x4096x128.size a) inst (fun hin => x (fun a => ⟨((ix4 b hd t j : S8x4x4096x128.Idx) a).val * (![1, 1, 1, 1] : Fin 4 → ℕ) a + (w a).val - (![0, 0, 4095, 0] : Fin 4 → ℕ) a, (hin a).2⟩)) (fun _ => (0 : EReal)))
      = if 4095 ≤ t.val + (axis4 w).val then g (t.val + (axis4 w).val - 4095) else 0 := by
  obtain ⟨k, rfl⟩ := axis4.symm.surjective w
  rw [Equiv.apply_symm_apply]
  by_cases hk : 4095 ≤ t.val + k.val
  · rw [if_pos hk, dif_pos (fun a => match a with
      | ⟨0, _⟩ => ⟨Nat.zero_le _, by have := b.isLt; show b.val * 1 + 0 - 0 < 8; omega⟩
      | ⟨1, _⟩ => ⟨Nat.zero_le _, by have := hd.isLt; show hd.val * 1 + 0 - 0 < 4; omega⟩
      | ⟨2, _⟩ => ⟨by show 4095 ≤ t.val * 1 + k.val; omega, by show t.val * 1 + k.val - 4095 < 4096; omega⟩
      | ⟨3, _⟩ => ⟨Nat.zero_le _, by have := j.isLt; show j.val * 1 + 0 - 0 < 128; omega⟩)]
    refine Eq.trans (congrArg x ?_) (hg ⟨t.val + k.val - 4095, by omega⟩)
    funext a
    match a with
    | ⟨0, _⟩ => exact Fin.ext (by show b.val * 1 + 0 - 0 = b.val; omega)
    | ⟨1, _⟩ => exact Fin.ext (by show hd.val * 1 + 0 - 0 = hd.val; omega)
    | ⟨2, _⟩ => exact Fin.ext (by show t.val * 1 + k.val - 4095 = t.val + k.val - 4095; omega)
    | ⟨3, _⟩ => exact Fin.ext (by show j.val * 1 + 0 - 0 = j.val; omega)
  · rw [if_neg hk, dif_neg]
    intro hin
    have := (hin 2).1
    have e : 4095 ≤ t.val * 1 + k.val := this
    omega

theorem cum4 (x : FVec Ideal S8x4x4096x128 .f32) (init : S_.Idx → Ideal .f32) (h) (hu) (hi : init (Shape.Idx.first hu) = (0 : EReal))
    (g : ℕ → EReal) (b : Fin 8) (hd : Fin 4) (t : Fin 4096) (j : Fin 128) (hg : ∀ u : Fin 4096, x (ix4 b hd u j) = g u.val) :
    Host.reduceWindowAdd (s := S8x4x4096x128) (t := S8x4x4096x128) ![1, 1, 4096, 1] ![1, 1, 1, 1] ![0, 0, 4095, 0] ![0, 0, 0, 0] x init h hu (ix4 b hd t j)
      = ∑ u ∈ Finset.range (t.val + 1), g u := by
  rw [rwa_eq]
  unfold Host.reduceWindow
  dsimp only
  rw [foldl_finRange, hi, zero_add]
  rw [← sum_window t.val t.isLt g]
  refine Fintype.sum_equiv ((Shape.rowMajor (⟨4, ![1, 1, 4096, 1]⟩ : Shape)).symm.trans axis4) _ _ fun n => ?_
  rw [Equiv.trans_apply]
  exact term4 x g b hd t j hg _ _

end Cert.Reference2Ideal.Mix

end
-- ==== Proof.Mix.RefA.lean ====
/- The reference's projections, gates and running sums. -/
module

public import proofs.«01_k».proof.Proof.Mix.Cum
public import proofs.«01_k».proof.Proof.Mix.Spec

@[expose] public section

set_option maxRecDepth 16384

noncomputable section

namespace Cert.Reference2Ideal.Mix

open Idealize.ShloMosaic Idealize.ShloMosaic.TcCoe Idealize.ShloMosaic.StableHlo
open Cert.Reference2Ideal Cert.Reference2Ideal.Gen Cert.Reference2Ideal.Value
open Cert.Kernel2Ideal.Mix (Args Args.Finite pr prR pr_real lbR fR lR qR kR vR xR mR yS oS gS hS cS pS rS fR_pos fR_le OG W)

variable (V0 : Valuation τ sig (Elt Ideal))

/-- The arguments. -/
abbrev args : Args where
  x := V0 (Proc.devRef .tc main_arg0)
  win := V0 (Proc.devRef .tc main_arg1)
  pw := V0 (Proc.devRef .tc main_arg2)
  ps := V0 (Proc.devRef .tc main_arg3)
  lb := V0 (Proc.devRef .tc main_arg4)
  gn := V0 (Proc.devRef .tc main_arg5)
  wo := V0 (Proc.devRef .tc main_arg6)
  ga := V0 (Proc.devRef .tc main_arg7)
  be := V0 (Proc.devRef .tc main_arg8)

theorem proj (b : Fin 8) (t : Fin 4096) (c : Fin 2560) : res_main_v13 V0 (ix3 b t c) = pr (args V0) b t c := by
  pointwise [res_main_v13, pr]

theorem toInt_small (n : ℕ) (h : n < 2 ^ 31) : (BitVec.ofNat 32 n).toInt = (n : ℤ) := by
  rw [BitVec.toInt_eq_toNat_of_lt] <;> rw [BitVec.toNat_ofNat] <;> omega

theorem count (t : Fin 4096) : res_main_v26 V0 (ix1 t) = (((t.val + 1 : ℕ) : ℝ) : EReal) := by
  pointwise [res_main_v26]
  show (((((1#32 : BitVec 32) + BitVec.ofNat 32 t.val).toInt : ℤ) : ℝ) : EReal) = _
  rw [show (1#32 : BitVec 32) + BitVec.ofNat 32 t.val = BitVec.ofNat 32 (t.val + 1) by rw [add_comm, ← BitVec.ofNat_add], toInt_small _ (by omega)]
  rfl

theorem coe_range (n : ℕ) (f : ℕ → ℝ) : ((∑ u ∈ Finset.range n, f u : ℝ) : EReal) = ∑ u ∈ Finset.range n, ((f u : ℝ) : EReal) :=
  map_sum (⟨⟨Real.toEReal, EReal.coe_zero⟩, EReal.coe_add⟩ : ℝ →+ EReal) f _

/-- The host's sigmoid. -/
theorem sigm (p : ℝ) : Ideal.div 1 (1 + Ideal.exp (-(p : EReal))) = (((1 + Real.exp (-p))⁻¹ : ℝ) : EReal) := by
  rw [← EReal.coe_neg, Ideal.exp_coe, ← EReal.coe_one, ← EReal.coe_add, Ideal.div_coe (by positivity), ← EReal.coe_mul]
  congr 1
  rw [one_mul, one_div]

theorem drop2 (j : Fin 512) : (Finset.univ.filter fun i => reducesTo_S2x512_S512_d0.drop i = (ix1 j : S512.Idx)) = {(ix2 0 j : S2x512.Idx), ix2 1 j} := by
  ext i
  obtain ⟨a, c, rfl⟩ : ∃ (a : Fin 2) (c : Fin 512), i = ix2 a c := ⟨i 0, i 1, eq_ix2 i⟩
  have e : reducesTo_S2x512_S512_d0.drop (ix2 a c : S2x512.Idx) = (ix1 c : S512.Idx) := by
    funext k
    match k with
    | ⟨0, _⟩ => rfl
  rw [Finset.mem_filter, e, Finset.mem_insert, Finset.mem_singleton]
  constructor
  · rintro ⟨-, h⟩
    obtain rfl : c = j := congrFun h 0
    match a with
    | ⟨0, _⟩ => exact .inl rfl
    | ⟨1, _⟩ => exact .inr rfl
  · rintro (h | h)
    · obtain rfl : c = j := congrFun h 1
      exact ⟨Finset.mem_univ _, rfl⟩
    · obtain rfl : c = j := congrFun h 1
      exact ⟨Finset.mem_univ _, rfl⟩

def axis2 : (⟨2, ![2, 1]⟩ : Shape).Idx ≃ Fin 2 where
  toFun i := i 0
  invFun k := ix2 k 0
  left_inv i := by
    refine Eq.trans ?_ (eq_ix2 (n0 := 2) (n1 := 1) i).symm
    exact congrArg (ix2 (i 0)) (Subsingleton.elim _ _)
  right_inv k := rfl

theorem term2 (x : FVec Ideal S2x512 .f32) (j : Fin 512) (w : (⟨2, ![2, 1]⟩ : Shape).Idx) (inst : Decidable (∀ a : Fin 2, (![1, 0] : Fin 2 → ℕ) a ≤ ((ix2 0 j : S2x512.Idx) a).val * (![1, 1] : Fin 2 → ℕ) a + (w a).val ∧ ((ix2 0 j : S2x512.Idx) a).val * (![1, 1] : Fin 2 → ℕ) a + (w a).val - (![1, 0] : Fin 2 → ℕ) a < S2x512.size a)) :
    (@dite EReal (∀ a : Fin 2, (![1, 0] : Fin 2 → ℕ) a ≤ ((ix2 0 j : S2x512.Idx) a).val * (![1, 1] : Fin 2 → ℕ) a + (w a).val ∧ ((ix2 0 j : S2x512.Idx) a).val * (![1, 1] : Fin 2 → ℕ) a + (w a).val - (![1, 0] : Fin 2 → ℕ) a < S2x512.size a) inst (fun hin => x (fun a => ⟨((ix2 0 j : S2x512.Idx) a).val * (![1, 1] : Fin 2 → ℕ) a + (w a).val - (![1, 0] : Fin 2 → ℕ) a, (hin a).2⟩)) (fun _ => (0 : EReal)))
      = if (axis2 w).val = 1 then x (ix2 0 j) else 0 := by
  obtain ⟨k, rfl⟩ := axis2.symm.surjective w
  rw [Equiv.apply_symm_apply]
  by_cases hk : k.val = 1
  · rw [if_pos hk, dif_pos (fun a => match a with
      | ⟨0, _⟩ => ⟨by show 1 ≤ 0 * 1 + k.val; omega, by show 0 * 1 + k.val - 1 < 2; omega⟩
      | ⟨1, _⟩ => ⟨Nat.zero_le _, by have := j.isLt; show j.val * 1 + 0 - 0 < 512; omega⟩)]
    refine congrArg x ?_
    funext a
    match a with
    | ⟨0, _⟩ => exact Fin.ext (by show 0 * 1 + k.val - 1 = 0; omega)
    | ⟨1, _⟩ => exact Fin.ext (by show j.val * 1 + 0 - 0 = j.val; omega)
  · rw [if_neg hk, dif_neg]
    intro hin
    have := (hin 0).1
    have e : 1 ≤ 0 * 1 + k.val := this
    omega

/-- A running sum of two rows has the first row first. -/
theorem cum2 (x : FVec Ideal S2x512 .f32) (init : S_.Idx → Ideal .f32) (h) (hu) (hi : init (Shape.Idx.first hu) = (0 : EReal)) (j : Fin 512) :
    Host.reduceWindowAdd (s := S2x512) (t := S2x512) ![2, 1] ![1, 1] ![1, 0] ![0, 0] x init h hu (ix2 0 j) = x (ix2 0 j) := by
  rw [rwa_eq]
  unfold Host.reduceWindow
  dsimp only
  rw [foldl_finRange, hi, zero_add]
  refine Eq.trans (Fintype.sum_equiv ((Shape.rowMajor (⟨2, ![2, 1]⟩ : Shape)).symm.trans axis2) _ (fun k : Fin 2 => if k.val = 1 then x (ix2 0 j) else (0 : EReal)) fun n => ?_) ?_
  · rw [Equiv.trans_apply]
    exact term2 x j _ _
  · rw [Fin.sum_univ_two]
    simp

theorem zero_first : (broadcastInDim S_ ![] bcast_S_S_ (constant (F := Ideal) S_ .f32 0x00000000#32)) (Shape.Idx.first h_S_) = (0 : EReal) :=
  Ideal.ofBits_zero_f32

theorem maxes (j : Fin 512) (a : S2x512.Idx → EReal) (r : Fin 2 → ℝ) (h : ∀ z, a (ix2 z j) = (r z : EReal)) :
    max (Ideal.ofBits FTy.f32 4286578688#32) (Finset.fold max (Ideal.ofBits FTy.f32 4286578688#32) a {i | reducesTo_S2x512_S512_d0.drop i = (ix1 j : S512.Idx)}) = ((max (r 0) (r 1) : ℝ) : EReal) := by
  rw [drop2, Finset.fold_insert (by
    rw [Finset.mem_singleton]; intro h; exact Fin.zero_ne_one (congrFun h 0)), Finset.fold_singleton, h, h,
    show Ideal.ofBits FTy.f32 4286578688#32 = (⊥ : EReal) by simp [Ideal.ofBits, Ideal.ieee], max_bot_right, bot_sup_eq,
    EReal.coe_strictMono.monotone.map_max]

variable {V0} (hA : (args V0).Finite)
include hA

theorem lbv (z : Fin 2) (j : Fin 512) : (args V0).lb (ix2 z j) = ((((args V0).lb (ix2 z j)).toReal : ℝ) : EReal) := by
  obtain ⟨r, hr⟩ := hA.lb (ix2 z j)
  rw [hr, EReal.toReal_coe]

theorem xin (b : Fin 8) (t : Fin 4096) (j : Fin 512) : res_main_v14 V0 (ix3 b t j) = ((xR (args V0) b t.val j : ℝ) : EReal) := by
  unfold xR
  rw [← pr_real hA, ← proj]
  pointwise [res_main_v14]

theorem xsum (b : Fin 8) (n : Fin 4097) (j : Fin 512) : res_main_v22 V0 (ix3 b n j) = ((∑ u ∈ Finset.range n.val, xR (args V0) b u j : ℝ) : EReal) := by
  pointwise [res_main_v22]
  by_cases h : 1 ≤ n.val
  · rw [dif_pos ⟨h, by omega⟩, cum3 _ _ _ _ zero_first (fun u => ((xR (args V0) b u j : ℝ) : EReal)) b _ j (fun u => xin hA b u j), coe_range]
    dsimp only
    rw [Nat.sub_add_cancel h]
  · rw [dif_neg (fun h' => h h'.1), show n.val = 0 by omega]
    show ((((0#32 : BitVec 32).toInt : ℤ) : ℝ) : EReal) = _
    simp

theorem ex (z : Fin 2) (j : Fin 512) : res_main_v6 V0 (ix2 z j) = ((Real.exp (((args V0).lb (ix2 z j)).toReal - max ((args V0).lb (ix2 0 j)).toReal ((args V0).lb (ix2 1 j)).toReal) : ℝ) : EReal) := by
  pointwise [res_main_v6]
  refine Eq.trans (congrArg (fun v => Ideal.exp ((args V0).lb (ix2 z j) - v)) (maxes j _ (fun z => ((args V0).lb (ix2 z j)).toReal) (fun z => lbv hA z j))) ?_
  rw [← Ideal.exp_coe, EReal.coe_sub]
  exact congrArg (fun v => Ideal.exp (v - _)) (lbv hA z j)

theorem bound (j : Fin 512) : res_main_v92 V0 (ix1 j) = ((lbR (args V0) j : ℝ) : EReal) := by
  pointwise [res_main_v92]
  rw [cum2 _ _ _ _ zero_first]
  pointwise []
  rw [Fin.sum_univ_two, ex hA, ex hA, ← EReal.coe_add, Ideal.div_coe (by positivity), ← EReal.coe_mul]
  unfold lbR
  congr 1
  rw [mul_one_div]

theorem gate (b : Fin 8) (t : Fin 4096) (j : Fin 512) : res_main_v107 V0 (ix3 b t j) = ((fR (args V0) b t.val j : ℝ) : EReal) := by
  pointwise [res_main_v107]
  rw [bound hA, proj, pr_real hA, sigm]
  unfold fR
  rw [EReal.coe_add, EReal.coe_mul, EReal.coe_sub, EReal.coe_one]

theorem logs (b : Fin 8) (hd : Fin 4) (t : Fin 4096) (x : Fin 128) : res_main_v122 V0 (ix4 b hd t x) = ((lR (args V0) b (t.val + 1) ⟨128 * hd.val + x.val, by omega⟩ : ℝ) : EReal) := by
  unfold res_main_v122 lR
  rw [cum4 _ _ _ _ zero_first (fun u => ((Real.log (fR (args V0) b u ⟨128 * hd.val + x.val, by omega⟩) : ℝ) : EReal)) b hd t x ?_, coe_range]
  intro u
  pointwise []
  rw [gate hA, Ideal.log_coe, if_neg (not_le.mpr (fR_pos _ _ _ _))]
  rw [show (⟨hd.val * 128 + x.val, by omega⟩ : Fin 512) = ⟨128 * hd.val + x.val, by omega⟩ from Fin.ext (by show hd.val * 128 + x.val = 128 * hd.val + x.val; omega)]

theorem query (b : Fin 8) (t : Fin 4096) (j : Fin 512) : res_main_v15 V0 (ix3 b t j) = ((prR (args V0) b t.val ⟨512 + j.val, by omega⟩ : ℝ) : EReal) := by
  rw [← pr_real hA, ← proj]
  pointwise [res_main_v15]

omit hA in
theorem sum_le (t : ℕ) (ht : t < 4096) (g : ℕ → ℝ) : (∑ x : Fin 4096, if x.val ≤ t then ((g x.val : ℝ) : EReal) else 0) = ((∑ u ∈ Finset.range (t + 1), g u : ℝ) : EReal) := by
  rw [Fin.sum_univ_eq_sum_range (fun x => if x ≤ t then ((g x : ℝ) : EReal) else 0) 4096,
    show 4096 = (t + 1) + (4095 - t) by omega, Finset.sum_range_add, coe_range]
  rw [Finset.sum_eq_zero (s := Finset.range (4095 - t)) (fun x _ => if_neg (by omega)), add_zero]
  exact Finset.sum_congr rfl fun u hu => if_pos (by have := Finset.mem_range.mp hu; omega)

omit hA in
theorem causal (t x : Fin 4096) (a b : EReal) : Scalar.select (Scalar.select (IntOp.cmpi CmpIPredicate.sge (IntOp.addi (BitVec.ofNat 32 t.val) 0#32) (BitVec.ofNat 32 x.val)) (1#1) (0#1)) a b = if x.val ≤ t.val then a else b := by
  have e : IntOp.cmpi CmpIPredicate.sge (IntOp.addi (BitVec.ofNat 32 t.val) 0#32) (BitVec.ofNat 32 x.val) = if x.val ≤ t.val then 1#1 else 0#1 := by
    show BitVec.ofBool (decide ((BitVec.ofNat 32 x.val).toInt ≤ (BitVec.ofNat 32 t.val + 0#32).toInt)) = _
    rw [BitVec.add_zero, toInt_small _ (by omega), toInt_small _ (by omega)]
    by_cases h : x.val ≤ t.val
    · rw [if_pos h, decide_eq_true (by omega)]; rfl
    · rw [if_neg h, decide_eq_false (by omega)]; rfl
  rw [e]
  by_cases h : x.val ≤ t.val
  · rw [if_pos h, if_pos h]; rfl
  · rw [if_neg h, if_neg h]; rfl

/-- A head's output. -/
theorem heads (b : Fin 8) (t : Fin 4096) (hd : Fin 4) (e : Fin 128) : res_main_v139 V0 (ix4 b t hd e) = oS (args V0) b t hd e := by
  pointwise [res_main_v139]
  refine Eq.trans (α := EReal) ?_ (sum_le t.val t.isLt (fun u => W (lR (args V0) b) (qR (args V0) b) (kR (args V0) b) t.val u hd * vR (args V0) b u ⟨128 * hd.val + e.val, by omega⟩))
  refine Finset.sum_congr rfl fun x _ => ?_
  have hc (y : Fin 128) (h) : (⟨hd.val * 128 + y.val, h⟩ : Fin 512) = ⟨128 * hd.val + y.val, by omega⟩ := Fin.ext (by show hd.val * 128 + y.val = 128 * hd.val + y.val; omega)
  have hb : id (constant (F := Ideal) S_ FTy.f32 4286578688#32) ix0 = (⊥ : EReal) := by
    show Ideal.ofBits .f32 4286578688#32 = _
    simp [Ideal.ofBits, Ideal.ieee]
  simp only [hc, causal, hb]
  rw [proj, pr_real hA]
  by_cases h : x.val ≤ t.val
  · rw [if_pos h, EReal.coe_mul]
    congr 1
    · unfold W
      rw [Cert.Kernel2Ideal.Mix.coe_sum]
      refine Finset.sum_congr rfl fun y _ => ?_
      rw [if_pos h, query hA, gate hA, sigm, logs hA, logs hA, ← EReal.coe_sub, Ideal.exp_coe]
      unfold qR kR
      rw [EReal.coe_mul, EReal.coe_mul, EReal.coe_mul, EReal.coe_sub, EReal.coe_one]
    · unfold vR
      exact congrArg (fun c => ((prR (args V0) b x.val c : ℝ) : EReal)) (Fin.ext (by show 1536 + (hd.val * 128 + e.val) = 1536 + (128 * hd.val + e.val); omega))
  · rw [if_neg h, Finset.sum_eq_zero, zero_mul]
    intro y _
    rw [if_neg h, Ideal.exp_bot, mul_zero]

end Cert.Reference2Ideal.Mix

end
-- ==== Proof.Mix.RefB.lean ====
/- The reference's pooling mixer and its result. -/
module

public import proofs.«01_k».proof.Proof.Mix.RefA

@[expose] public section

set_option maxRecDepth 16384

noncomputable section

namespace Cert.Reference2Ideal.Mix

open Idealize.ShloMosaic Idealize.ShloMosaic.TcCoe Idealize.ShloMosaic.StableHlo
open Cert.Reference2Ideal Cert.Reference2Ideal.Gen Cert.Reference2Ideal.Value
open Cert.KernelIdeal.Ffn (meanS centS normS)
open Cert.Kernel2Ideal.Mix (Args Args.Finite pr prR pr_real lbR fR lR qR kR vR xR mR yS oS gS hS cS pS rS fR_pos fR_le OG W)

theorem two : Ideal.ofBits .f32 1073741824#32 = ((2 : ℝ) : EReal) := by
  simp [Ideal.ofBits, Ideal.ieee, -EReal.coe_mul]; norm_num
theorem four : Ideal.ofBits .f32 1082130432#32 = ((4 : ℝ) : EReal) := by
  simp [Ideal.ofBits, Ideal.ieee, -EReal.coe_mul]; norm_num
theorem eight : Ideal.ofBits .f32 1090519040#32 = ((8 : ℝ) : EReal) := by
  simp [Ideal.ofBits, Ideal.ieee, -EReal.coe_mul]; norm_num
theorem sixteen : Ideal.ofBits .f32 1098907648#32 = ((16 : ℝ) : EReal) := by
  simp [Ideal.ofBits, Ideal.ieee, -EReal.coe_mul]; norm_num

/-- A trailing sum is the difference of two running sums. -/
theorem trailing (f : ℕ → ℝ) (t w : ℕ) :
    ∑ k ∈ Finset.range w, (if k ≤ t then f (t - k) else 0) = ∑ u ∈ Finset.range (t + 1), f u - ∑ u ∈ Finset.range (t + 1 - w), f u := by
  induction w with
  | zero => rw [Finset.sum_range_zero, Nat.sub_zero, sub_self]
  | succ w ih =>
    rw [Finset.sum_range_succ, ih]
    by_cases h : w ≤ t
    · rw [if_pos h, show t + 1 - w = (t - w) + 1 by omega, Finset.sum_range_succ f (t - w), show t + 1 - (w + 1) = t - w by omega]
      ring
    · rw [if_neg h, show t + 1 - w = 0 by omega, show t + 1 - (w + 1) = 0 by omega, add_zero]

/-- A trailing mean, from the running sums. -/
theorem pooled (A : Args) (w : ℕ) (hw : 1 ≤ w) (b : Fin 8) (t : ℕ) (j : Fin 512) (s p c : EReal)
    (hs : s = ((∑ u ∈ Finset.range (t + 1), xR A b u j : ℝ) : EReal))
    (hp : p = ((∑ u ∈ Finset.range (t + 1 - w), xR A b u j : ℝ) : EReal))
    (hc : c = ((w : ℝ) : EReal)) :
    Ideal.div (s - p) (min (((t + 1 : ℕ) : ℝ) : EReal) c) - ((xR A b t j : ℝ) : EReal) = ((mR A w b t j : ℝ) : EReal) := by
  have h0 : ((min (t + 1) w : ℕ) : ℝ) ≠ 0 := by
    rw [Nat.cast_ne_zero]; omega
  rw [hs, hp, hc, ← EReal.coe_strictMono.monotone.map_min, ← Nat.cast_min, Ideal.div_coe h0, ← EReal.coe_sub, ← EReal.coe_mul, ← EReal.coe_sub]
  unfold mR
  rw [trailing (fun u => xR A b u j) t w, mul_one_div]

variable (V0 : Valuation τ sig (Elt Ideal))

theorem zero_int : (FloatOps.sitofp (F := Ideal) FTy.f32 0#32 : EReal) = 0 := by
  show ((((0#32 : BitVec 32).toInt : ℤ) : ℝ) : EReal) = _
  simp

theorem weights (g : Fin 4) (x y : Fin 128) : res_main_v19 V0 (ix3 g x y) = (args V0).pw (ix4 0 g x y) := by
  pointwise [res_main_v19]

theorem gcol (b : Fin 8) (t : Fin 4096) (hd : Fin 4) (j : Fin 128) : res_main_v153 V0 (ix4 b t hd j) = gS (args V0) b t hd j := by
  unfold gS
  rw [← proj]
  pointwise [res_main_v153]
  exact congrArg (fun c : Fin 2560 => res_main_v13 V0 (ix3 b t c)) (Fin.ext (by show 2048 + (hd.val * 128 + j.val) = 2048 + 128 * hd.val + j.val; omega))

variable {V0} (hA : (args V0).Finite)
include hA

theorem v27 (b : Fin 8) (n : Fin 4097) (x : Fin 128) : res_main_v27 V0 (ix3 b n x) = ((∑ u ∈ Finset.range n.val, xR (args V0) b u ⟨x.val, by omega⟩ : ℝ) : EReal) := by
  pointwise [res_main_v27]
  rw [xsum hA]
theorem v42 (b : Fin 8) (n : Fin 4097) (x : Fin 128) : res_main_v42 V0 (ix3 b n x) = ((∑ u ∈ Finset.range n.val, xR (args V0) b u ⟨128 + x.val, by omega⟩ : ℝ) : EReal) := by
  pointwise [res_main_v42]
  rw [xsum hA]
theorem v57 (b : Fin 8) (n : Fin 4097) (x : Fin 128) : res_main_v57 V0 (ix3 b n x) = ((∑ u ∈ Finset.range n.val, xR (args V0) b u ⟨256 + x.val, by omega⟩ : ℝ) : EReal) := by
  pointwise [res_main_v57]
  rw [xsum hA]
theorem v72 (b : Fin 8) (n : Fin 4097) (x : Fin 128) : res_main_v72 V0 (ix3 b n x) = ((∑ u ∈ Finset.range n.val, xR (args V0) b u ⟨384 + x.val, by omega⟩ : ℝ) : EReal) := by
  pointwise [res_main_v72]
  rw [xsum hA]

omit hA in
/-- What a delayed copy of a running sum holds. -/
theorem delayed (k : ℕ) (b : Fin 8) (t : Fin 4096) (x : Fin 128) (S : Fin 4097 → EReal) (f : ℕ → ℝ) (hS : ∀ n, S n = ((∑ u ∈ Finset.range n.val, f u : ℝ) : EReal))
    (P : Prop) (inst : Decidable P) (hP : P ↔ k ≤ t.val) (hlt : P → t.val - k < 4097) (z : EReal) (hz : z = 0) :
    (@dite EReal P inst (fun h => S ⟨t.val - k, hlt h⟩) fun _ => z) = ((∑ u ∈ Finset.range (t.val + 1 - (k + 1)), f u : ℝ) : EReal) := by
  by_cases h : P
  · rw [dif_pos h, hS, show t.val + 1 - (k + 1) = t.val - k by omega]
  · rw [dif_neg h, hz, show t.val + 1 - (k + 1) = 0 by have := mt hP.mpr h; omega, Finset.sum_range_zero, EReal.coe_zero]

omit hA in
theorem slot (V0 : Valuation τ sig (Elt Ideal)) (g g' : Fin 4) (x y y' : Fin 128) (hg : g.val = g'.val) (hy : y.val = y'.val) : (args V0).pw (ix4 0 g x y) = (args V0).pw (ix4 0 g' x y') := by
  obtain rfl := Fin.ext hg; obtain rfl := Fin.ext hy; rfl

omit hA in
theorem term (A : Args) (w k : ℕ) (b : Fin 8) (t : Fin 4096) (j j' : Fin 512) (hj : j.val = j'.val) (S : Fin 4097 → EReal)
    (hS : ∀ n, S n = ((∑ u ∈ Finset.range n.val, xR A b u j : ℝ) : EReal)) (P : Prop) (inst : Decidable P) (hP : P ↔ k ≤ t.val) (hlt : P → t.val - k < 4097)
    (z : EReal) (hz : z = 0) (c : EReal) (hc : c = ((w : ℝ) : EReal)) (hw : w = k + 1) (hn : 1 + t.val < 4097) :
    Ideal.div (S ⟨1 + t.val, hn⟩ - (@dite EReal P inst (fun h => S ⟨t.val - k, hlt h⟩) fun _ => z)) (min (((t.val + 1 : ℕ) : ℝ) : EReal) c) - ((xR A b t.val j : ℝ) : EReal)
      = ((mR A w b t.val j' : ℝ) : EReal) := by
  obtain rfl := Fin.ext hj
  refine pooled A w (by omega) b t.val j _ _ c ?_ ?_ hc
  · refine (hS _).trans ?_
    show ((∑ u ∈ Finset.range (1 + t.val), xR A b u j : ℝ) : EReal) = _
    rw [Nat.add_comm]
  · rw [hw]; exact delayed k b t 0 S _ hS P inst hP hlt z hz

theorem pools (b : Fin 8) (t : Fin 4096) (j : Fin 512) : res_main_v87 V0 (ix3 b t j) =
    ∑ x : Fin 128, ((mR (args V0) (2 ^ (j.val / 128 + 1)) b t.val ⟨128 * (j.val / 128) + x.val, by omega⟩ : ℝ) : EReal)
      * (args V0).pw (ix4 0 ⟨j.val / 128, by omega⟩ x ⟨j.val % 128, by omega⟩) := by
  pointwise [res_main_v87]
  simp only [xin hA, count]
  change @Eq EReal _ _
  by_cases h0 : j.val < 128
  · rw [dif_pos h0]
    refine Finset.sum_congr rfl fun x _ => congrArg₂ (fun a c : EReal => a * c) ?_ ((weights V0 _ _ _).trans (slot V0 _ _ x _ _ (by show (0 : ℕ) = j.val / 128; omega) (by show j.val = j.val % 128; omega)))
    refine (term (args V0) (2 ^ (j.val / 128 + 1)) 1 b t _ ⟨128 * (j.val / 128) + x.val, by omega⟩ (by show x.val = 128 * (j.val / 128) + x.val; omega)
      (fun n => res_main_v27 V0 (ix3 b n x)) (fun n => v27 hA b n x) _ _ ?_ (fun h => by have := t.isLt; omega) _ zero_int _
      (by rw [two, show j.val / 128 = 0 by omega]; norm_num) (by rw [show j.val / 128 = 0 by omega]; rfl) _)
    refine ⟨fun h => (h (1 : Fin 3)).1, fun h a => ?_⟩
    match (a : Fin 3) with
    | ⟨0, _⟩ => exact ⟨Nat.zero_le _, Nat.mod_one _, by show (b.val - 0) / 1 < 8; omega⟩
    | ⟨1, _⟩ => exact ⟨h, Nat.mod_one _, by show (t.val - 1) / 1 < 4097; omega⟩
    | ⟨2, _⟩ => exact ⟨Nat.zero_le _, Nat.mod_one _, by show (x.val - 0) / 1 < 128; omega⟩
  rw [dif_neg h0]
  by_cases h1 : j.val < 256
  · rw [dif_pos (by omega)]
    refine Finset.sum_congr rfl fun x _ => congrArg₂ (fun a c : EReal => a * c) ?_ ((weights V0 _ _ _).trans (slot V0 _ _ x _ _ (by show (1 : ℕ) = j.val / 128; omega) (by show j.val - 128 = j.val % 128; omega)))
    refine (term (args V0) (2 ^ (j.val / 128 + 1)) 3 b t _ ⟨128 * (j.val / 128) + x.val, by omega⟩ (by show 128 + x.val = 128 * (j.val / 128) + x.val; omega)
      (fun n => res_main_v42 V0 (ix3 b n x)) (fun n => v42 hA b n x) _ _ ?_ (fun h => by have := t.isLt; omega) _ zero_int _
      (by rw [four, show j.val / 128 = 1 by omega]; norm_num) (by rw [show j.val / 128 = 1 by omega]; rfl) _)
    refine ⟨fun h => (h (1 : Fin 3)).1, fun h a => ?_⟩
    match (a : Fin 3) with
    | ⟨0, _⟩ => exact ⟨Nat.zero_le _, Nat.mod_one _, by show (b.val - 0) / 1 < 8; omega⟩
    | ⟨1, _⟩ => exact ⟨h, Nat.mod_one _, by show (t.val - 3) / 1 < 4097; omega⟩
    | ⟨2, _⟩ => exact ⟨Nat.zero_le _, Nat.mod_one _, by show (x.val - 0) / 1 < 128; omega⟩
  rw [dif_neg (by omega)]
  by_cases h2 : j.val < 384
  · rw [dif_pos (by omega)]
    refine Finset.sum_congr rfl fun x _ => congrArg₂ (fun a c : EReal => a * c) ?_ ((weights V0 _ _ _).trans (slot V0 _ _ x _ _ (by show (2 : ℕ) = j.val / 128; omega) (by show j.val - 128 - 128 = j.val % 128; omega)))
    refine (term (args V0) (2 ^ (j.val / 128 + 1)) 7 b t _ ⟨128 * (j.val / 128) + x.val, by omega⟩ (by show 256 + x.val = 128 * (j.val / 128) + x.val; omega)
      (fun n => res_main_v57 V0 (ix3 b n x)) (fun n => v57 hA b n x) _ _ ?_ (fun h => by have := t.isLt; omega) _ zero_int _
      (by rw [eight, show j.val / 128 = 2 by omega]; norm_num) (by rw [show j.val / 128 = 2 by omega]; rfl) _)
    refine ⟨fun h => (h (1 : Fin 3)).1, fun h a => ?_⟩
    match (a : Fin 3) with
    | ⟨0, _⟩ => exact ⟨Nat.zero_le _, Nat.mod_one _, by show (b.val - 0) / 1 < 8; omega⟩
    | ⟨1, _⟩ => exact ⟨h, Nat.mod_one _, by show (t.val - 7) / 1 < 4097; omega⟩
    | ⟨2, _⟩ => exact ⟨Nat.zero_le _, Nat.mod_one _, by show (x.val - 0) / 1 < 128; omega⟩
  · rw [dif_neg (by omega)]
    refine Finset.sum_congr rfl fun x _ => congrArg₂ (fun a c : EReal => a * c) ?_ ((weights V0 _ _ _).trans (slot V0 _ _ x _ _ (by show (3 : ℕ) = j.val / 128; omega) (by show j.val - 128 - 128 - 128 = j.val % 128; omega)))
    refine (term (args V0) (2 ^ (j.val / 128 + 1)) 15 b t _ ⟨128 * (j.val / 128) + x.val, by omega⟩ (by show 384 + x.val = 128 * (j.val / 128) + x.val; omega)
      (fun n => res_main_v72 V0 (ix3 b n x)) (fun n => v72 hA b n x) _ _ ?_ (fun h => by have := t.isLt; omega) _ zero_int _
      (by rw [sixteen, show j.val / 128 = 3 by omega]; norm_num) (by rw [show j.val / 128 = 3 by omega]; rfl) _)
    refine ⟨fun h => (h (1 : Fin 3)).1, fun h a => ?_⟩
    match (a : Fin 3) with
    | ⟨0, _⟩ => exact ⟨Nat.zero_le _, Nat.mod_one _, by show (b.val - 0) / 1 < 8; omega⟩
    | ⟨1, _⟩ => exact ⟨h, Nat.mod_one _, by show (t.val - 15) / 1 < 4097; omega⟩
    | ⟨2, _⟩ => exact ⟨Nat.zero_le _, Nat.mod_one _, by show (x.val - 0) / 1 < 128; omega⟩

/-- The row before normalisation. -/
theorem pre (b : Fin 8) (t : Fin 4096) (d : Fin 1024) : res_main_v162 V0 (ix3 b t d) = pS (args V0) b t d := by
  pointwise [res_main_v162]
  unfold pS
  congr 1
  rw [Fin.sum_univ_add (a := 512) (b := 512) (fun c : Fin (512 + 512) => cS (args V0) b t c * (args V0).wo (ix3 0 c d))]
  congr 1
  · refine Finset.sum_congr rfl fun x _ => ?_
    rw [cS, dif_pos (by show x.val < 512; exact x.isLt), yS, ← pools hA]
    rfl
  · refine Finset.sum_congr rfl fun x _ => ?_
    have e : (Fin.natAdd 512 x).val - 512 = x.val := by show 512 + x.val - 512 = x.val; omega
    rw [cS, dif_neg (by show ¬ 512 + x.val < 512; omega)]
    simp only [heads hA, gcol]
    unfold hS gS
    simp only [pr_real hA, e, Ideal.logistic_coe, sigm]
    rfl

theorem mean (b : Fin 8) (t : Fin 4096) (z : Fin 1) : res_main_v168 V0 (ix3 b t z) = meanS (pS (args V0) b t) := by
  pointwise [res_main_v168, meanS]
  simp only [pre hA]

theorem cent (b : Fin 8) (t : Fin 4096) (d : Fin 1024) : res_main_v170 V0 (ix3 b t d) = centS (pS (args V0) b t) d := by
  pointwise [res_main_v170, centS]
  rw [pre hA, mean hA]

variable (V0) in
/-- The reference's result term. -/
theorem result : addf (mulf (mulf (subf (res_main_v162 V0) (broadcastInDim S8x4096x1024 ![0, 1, 2] bcast_S8x4096x1_S8x4096x1024_0_1_2 (res_main_v168 V0))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v170 V0) (res_main_v170 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (shapeCast _ (V0 (Proc.devRef .tc main_arg7)) shapeCasts_S1x1024_S1024)))) (broadcastInDim S8x4096x1024 ![0, 1, 2] bcast_S1x1x1024_S8x4096x1024_0_1_2 (broadcastInDim S1x1x1024 ![2] bcast_S1024_S1x1x1024_2 (shapeCast _ (V0 (Proc.devRef .tc main_arg8)) shapeCasts_S1x1024_S1024)))
    = fun y : S8x4096x1024.Idx => rS (args V0) (y 0) (y 1) (y 2) := by
  funext y
  obtain ⟨b, t, d, rfl⟩ : ∃ (b : Fin 8) (t : Fin 4096) (d : Fin 1024), y = ix3 b t d := ⟨y 0, y 1, y 2, eq_ix3 y⟩
  show _ = rS (args V0) b t d
  unfold rS normS
  pointwise [meanS]
  simp only [pre hA, mean hA, cent hA]
  rfl

end Cert.Reference2Ideal.Mix

end
-- ==== Proof.lean ====
/- The claims about the feed-forward call and the mixer call, assembled. Of each: both kernel frames from the one run
   written for the ideal program over any float values, the reference's frame from its run, and the equation of the two
   result arrays, which are both one whole-sequence formula of the arguments, `Ffn.RES` (Ffn/Seq.lean) and `Mix.rS`
   (Mix/Spec.lean). -/
module

public import proofs.«01_k».proof.Defs
public import proofs.«01_k».proof.Proof.Gen.Kernel
public import proofs.«01_k».proof.Proof.Gen.Kernel2
public import proofs.«01_k».proof.Proof.Gen.KernelIdeal.Value
public import proofs.«01_k».proof.Proof.Gen.ReferenceIdeal.Run
public import proofs.«01_k».proof.Proof.Ffn.Fold
public import proofs.«01_k».proof.Proof.Ffn.Ref
public import proofs.«01_k».proof.Proof.Mix.Frame
public import proofs.«01_k».proof.Proof.Mix.Track
public import proofs.«01_k».proof.Proof.Mix.Pre
public import proofs.«01_k».proof.Proof.Mix.RefB
public import proofs.«01_k».proof.Proof.Gen.Reference2Ideal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed has the text of its ideal program, so the ideal program's run over machine floats is its run. -/
theorem frame_Kernel : quiescent_Kernel := fun m ρ _ =>
  cast (by sl_kernel_rfl) (Cert.KernelIdeal.Gen.frame (F := Bits) m ρ)

/-- The reference terminates, leaves its arguments and declares no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same array over the extended reals. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Ffn.result, Cert.KernelIdeal.Ffn.result]
  obtain ⟨h0, h1, h2, h3, h4, h5, h6⟩ := hagree c
  show Cert.KernelIdeal.Ffn.RES (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  rw [h0, h1, h2, h3, h4, h5, h6]

/-- The mixer as printed has the text of its ideal program, so the ideal program's run over machine floats is its run. -/
theorem frame_Kernel2 : quiescent_Kernel2 := fun m ρ _ =>
  cast (by sl_kernel_rfl) (Cert.Kernel2Ideal.Mix.frame_run (F := Bits) m ρ)

/-- The mixer's reference terminates, leaves its arguments and declares no semaphore. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The mixer and its reference compute the same array over the extended reals, of finite x, w_in and hgrn_lb. -/
theorem algebraic_Kernel2Ideal_Reference2Ideal : algebraic_Kernel2Ideal_Reference2Ideal_pre_finite2 (hPre_finite2 := Cert.Kernel2Ideal.Mix.pre_facts) := by
  intro m ρ m' ρ' hpre hagree
  have hA := Cert.Kernel2Ideal.Mix.args_finite m hpre
  refine ⟨_, Cert.Kernel2Ideal.Mix.Track.value_run m ρ hA, ?_⟩
  refine (θ_run Cert.Reference2Ideal.defs _ _).mono (fun _ h c => ⟨?_, (h c).2⟩) (Cert.Reference2Ideal.Value.run (F := Ideal) m' ρ')
  have e : Cert.Reference2Ideal.Mix.args (StableHlo.launchContents m' c) = Cert.Kernel2Ideal.Mix.Track.args m c := by
    obtain ⟨h0, h1, h2, h3, h4, h5, h6, h7, h8⟩ := hagree c
    exact Cert.Kernel2Ideal.Mix.Args.mk.injEq .. |>.mpr ⟨h0, h1, h2, h3, h4, h5, h6, h7, h8⟩
  rw [(h c).1, Cert.Reference2Ideal.Mix.result _ (e ▸ hA c), e]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel2Ideal.Mix.pre_facts,
  frame_Kernel, fun m ρ _ => Cert.KernelIdeal.Gen.frame m ρ, quiescent_ReferenceIdeal,
  frame_Kernel2, fun m ρ _ => Cert.Kernel2Ideal.Mix.frame_run m ρ, fun m ρ _ => Cert.Kernel2Ideal.Mix.frame_run m ρ,
  quiescent_Reference2Ideal, fun m ρ _ => quiescent_Reference2Ideal m ρ trivial,
  (trivial : preserves_Kernel_KernelIdeal), algebraic_KernelIdeal_ReferenceIdeal, (trivial : preserves_Kernel2_Kernel2Ideal),
  algebraic_Kernel2Ideal_Reference2Ideal⟩

end Cert.Proof

end
